-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v28_0)) (v1 : (c : Dev Cert.Kernel3Ideal.nD) → Buf (Elt Ideal) ((c.tc : Thread Cert.Kernel3Ideal.nD Cert.Kernel3Ideal.τ).loc Cert.Kernel3Ideal.main_v28_1)) (v2 : (c : Dev Cert.Kernel3Ideal.nD) → Buf (Elt Ideal) ((c.tc : Thread Cert.Kernel3Ideal.nD Cert.Kernel3Ideal.τ).loc Cert.Kernel3Ideal.main_v28_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v28_0) = v0 c
          ∧ r.2.mem ((c.tc : Thread Cert.Kernel3Ideal.nD Cert.Kernel3Ideal.τ).loc Cert.Kernel3Ideal.main_v28_1) = v1 c
          ∧ r.2.mem ((c.tc : Thread Cert.Kernel3Ideal.nD Cert.Kernel3Ideal.τ).loc Cert.Kernel3Ideal.main_v28_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v70) = v0 c
          ∧ r.2.mem ((c.tc : Thread Cert.Reference3Ideal.nD Cert.Reference3Ideal.τ).loc Cert.Reference3Ideal.main_v71) = v1 c
          ∧ r.2.mem ((c.tc : Thread Cert.Reference3Ideal.nD Cert.Reference3Ideal.τ).loc Cert.Reference3Ideal.main_v72) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v11_0)) (v1 : (c : Dev Cert.Kernel4Ideal.nD) → Buf (Elt Ideal) ((c.tc : Thread Cert.Kernel4Ideal.nD Cert.Kernel4Ideal.τ).loc Cert.Kernel4Ideal.main_v11_1)) (v2 : (c : Dev Cert.Kernel4Ideal.nD) → Buf (Elt Ideal) ((c.tc : Thread Cert.Kernel4Ideal.nD Cert.Kernel4Ideal.τ).loc Cert.Kernel4Ideal.main_v11_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_v11_1) = v1 c
          ∧ r.2.mem ((c.tc : Thread Cert.Kernel4Ideal.nD Cert.Kernel4Ideal.τ).loc Cert.Kernel4Ideal.main_v11_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_v37) = v1 c
          ∧ r.2.mem ((c.tc : Thread Cert.Reference4Ideal.nD Cert.Reference4Ideal.τ).loc Cert.Reference4Ideal.main_v40) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v28_0)) (v1 : (c : Dev Cert.Kernel5Ideal.nD) → Buf (Elt Ideal) ((c.tc : Thread Cert.Kernel5Ideal.nD Cert.Kernel5Ideal.τ).loc Cert.Kernel5Ideal.main_v28_1)) (v2 : (c : Dev Cert.Kernel5Ideal.nD) → Buf (Elt Ideal) ((c.tc : Thread Cert.Kernel5Ideal.nD Cert.Kernel5Ideal.τ).loc Cert.Kernel5Ideal.main_v28_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v28_0) = v0 c
          ∧ r.2.mem ((c.tc : Thread Cert.Kernel5Ideal.nD Cert.Kernel5Ideal.τ).loc Cert.Kernel5Ideal.main_v28_1) = v1 c
          ∧ r.2.mem ((c.tc : Thread Cert.Kernel5Ideal.nD Cert.Kernel5Ideal.τ).loc Cert.Kernel5Ideal.main_v28_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v71) = v0 c
          ∧ r.2.mem ((c.tc : Thread Cert.Reference5Ideal.nD Cert.Reference5Ideal.τ).loc Cert.Reference5Ideal.main_v45) = v1 c
          ∧ r.2.mem ((c.tc : Thread Cert.Reference5Ideal.nD Cert.Reference5Ideal.τ).loc Cert.Reference5Ideal.main_v46) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)) (v2 : (c : Dev Cert.Kernel9Ideal.nD) → Buf (Elt Ideal) ((c.tc : Thread Cert.Kernel9Ideal.nD Cert.Kernel9Ideal.τ).loc Cert.Kernel9Ideal.main_v4_2)) (v3 : (c : Dev Cert.Kernel9Ideal.nD) → Buf (Elt Ideal) ((c.tc : Thread Cert.Kernel9Ideal.nD Cert.Kernel9Ideal.τ).loc Cert.Kernel9Ideal.main_v4_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_v4_2) = v2 c
          ∧ r.2.mem ((c.tc : Thread Cert.Kernel9Ideal.nD Cert.Kernel9Ideal.τ).loc Cert.Kernel9Ideal.main_v4_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v27) = v1 c
          ∧ r.2.mem ((c.tc : Thread Cert.Reference9Ideal.nD Cert.Reference9Ideal.τ).loc Cert.Reference9Ideal.main_v8) = v2 c
          ∧ r.2.mem ((c.tc : Thread Cert.Reference9Ideal.nD Cert.Reference9Ideal.τ).loc Cert.Reference9Ideal.main_v14) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)) (v3 : (c : Dev Cert.Kernel10Ideal.nD) → Buf (Elt Ideal) ((c.tc : Thread Cert.Kernel10Ideal.nD Cert.Kernel10Ideal.τ).loc Cert.Kernel10Ideal.main_v4_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_v4_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_v27) = v1 c
          ∧ r.2.mem ((c.tc : Thread Cert.Reference10Ideal.nD Cert.Reference10Ideal.τ).loc Cert.Reference10Ideal.main_v8) = v2 c
          ∧ r.2.mem ((c.tc : Thread Cert.Reference10Ideal.nD Cert.Reference10Ideal.τ).loc Cert.Reference10Ideal.main_v14) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)) (v2 : (c : Dev Cert.Kernel11Ideal.nD) → Buf (Elt Ideal) ((c.tc : Thread Cert.Kernel11Ideal.nD Cert.Kernel11Ideal.τ).loc Cert.Kernel11Ideal.main_v1_2)) (v3 : (c : Dev Cert.Kernel11Ideal.nD) → Buf (Elt Ideal) ((c.tc : Thread Cert.Kernel11Ideal.nD Cert.Kernel11Ideal.τ).loc Cert.Kernel11Ideal.main_v1_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_v1_2) = v2 c
          ∧ r.2.mem ((c.tc : Thread Cert.Kernel11Ideal.nD Cert.Kernel11Ideal.τ).loc Cert.Kernel11Ideal.main_v1_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_v24) = v1 c
          ∧ r.2.mem ((c.tc : Thread Cert.Reference11Ideal.nD Cert.Reference11Ideal.τ).loc Cert.Reference11Ideal.main_v5) = v2 c
          ∧ r.2.mem ((c.tc : Thread Cert.Reference11Ideal.nD Cert.Reference11Ideal.τ).loc Cert.Reference11Ideal.main_v11) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)) (v2 : (c : Dev Cert.Kernel12Ideal.nD) → Buf (Elt Ideal) ((c.tc : Thread Cert.Kernel12Ideal.nD Cert.Kernel12Ideal.τ).loc Cert.Kernel12Ideal.main_v1_2)) (v3 : (c : Dev Cert.Kernel12Ideal.nD) → Buf (Elt Ideal) ((c.tc : Thread Cert.Kernel12Ideal.nD Cert.Kernel12Ideal.τ).loc Cert.Kernel12Ideal.main_v1_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_v1_2) = v2 c
          ∧ r.2.mem ((c.tc : Thread Cert.Kernel12Ideal.nD Cert.Kernel12Ideal.τ).loc Cert.Kernel12Ideal.main_v1_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_v30) = v1 c
          ∧ r.2.mem ((c.tc : Thread Cert.Reference12Ideal.nD Cert.Reference12Ideal.τ).loc Cert.Reference12Ideal.main_v11) = v2 c
          ∧ r.2.mem ((c.tc : Thread Cert.Reference12Ideal.nD Cert.Reference12Ideal.τ).loc Cert.Reference12Ideal.main_v17) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)) (v3 : (c : Dev Cert.Kernel13Ideal.nD) → Buf (Elt Ideal) ((c.tc : Thread Cert.Kernel13Ideal.nD Cert.Kernel13Ideal.τ).loc Cert.Kernel13Ideal.main_v1_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_v1_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_v30) = v1 c
          ∧ r.2.mem ((c.tc : Thread Cert.Reference13Ideal.nD Cert.Reference13Ideal.τ).loc Cert.Reference13Ideal.main_v11) = v2 c
          ∧ r.2.mem ((c.tc : Thread Cert.Reference13Ideal.nD Cert.Reference13Ideal.τ).loc Cert.Reference13Ideal.main_v17) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)) (v3 : (c : Dev Cert.Kernel14Ideal.nD) → Buf (Elt Ideal) ((c.tc : Thread Cert.Kernel14Ideal.nD Cert.Kernel14Ideal.τ).loc Cert.Kernel14Ideal.main_v1_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_v1_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_v30) = v1 c
          ∧ r.2.mem ((c.tc : Thread Cert.Reference14Ideal.nD Cert.Reference14Ideal.τ).loc Cert.Reference14Ideal.main_v11) = v2 c
          ∧ r.2.mem ((c.tc : Thread Cert.Reference14Ideal.nD Cert.Reference14Ideal.τ).loc Cert.Reference14Ideal.main_v17) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)) (v2 : (c : Dev Cert.Kernel15Ideal.nD) → Buf (Elt Ideal) ((c.tc : Thread Cert.Kernel15Ideal.nD Cert.Kernel15Ideal.τ).loc Cert.Kernel15Ideal.main_v1_2)) (v3 : (c : Dev Cert.Kernel15Ideal.nD) → Buf (Elt Ideal) ((c.tc : Thread Cert.Kernel15Ideal.nD Cert.Kernel15Ideal.τ).loc Cert.Kernel15Ideal.main_v1_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_v1_2) = v2 c
          ∧ r.2.mem ((c.tc : Thread Cert.Kernel15Ideal.nD Cert.Kernel15Ideal.τ).loc Cert.Kernel15Ideal.main_v1_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_v30) = v1 c
          ∧ r.2.mem ((c.tc : Thread Cert.Reference15Ideal.nD Cert.Reference15Ideal.τ).loc Cert.Reference15Ideal.main_v11) = v2 c
          ∧ r.2.mem ((c.tc : Thread Cert.Reference15Ideal.nD Cert.Reference15Ideal.τ).loc Cert.Reference15Ideal.main_v17) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)) (v2 : (c : Dev Cert.Kernel16Ideal.nD) → Buf (Elt Ideal) ((c.tc : Thread Cert.Kernel16Ideal.nD Cert.Kernel16Ideal.τ).loc Cert.Kernel16Ideal.main_v1_2)) (v3 : (c : Dev Cert.Kernel16Ideal.nD) → Buf (Elt Ideal) ((c.tc : Thread Cert.Kernel16Ideal.nD Cert.Kernel16Ideal.τ).loc Cert.Kernel16Ideal.main_v1_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_v1_2) = v2 c
          ∧ r.2.mem ((c.tc : Thread Cert.Kernel16Ideal.nD Cert.Kernel16Ideal.τ).loc Cert.Kernel16Ideal.main_v1_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_arg0) = v0 c
          ∧ r.2.mem ((c.tc : Thread Cert.Reference16Ideal.nD Cert.Reference16Ideal.τ).loc Cert.Reference16Ideal.main_v23) = v1 c
          ∧ r.2.mem ((c.tc : Thread Cert.Reference16Ideal.nD Cert.Reference16Ideal.τ).loc Cert.Reference16Ideal.main_v4) = v2 c
          ∧ r.2.mem ((c.tc : Thread Cert.Reference16Ideal.nD Cert.Reference16Ideal.τ).loc Cert.Reference16Ideal.main_v10) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Pre_finite.lean ====
abbrev S1x8192x1024 : Shape := ⟨3, ![1, 8192, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩

class Facts : Prop where
  bcast_S_S1x8192x1024 : S_.BroadcastsInDim S1x8192x1024 (![] : Fin 0 → Fin S1x8192x1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S5632 : S_.BroadcastsInDim S5632 (![] : Fin 0 → Fin S5632.rank)
  bcast_S_S2816x1024 : S_.BroadcastsInDim S2816x1024 (![] : Fin 0 → Fin S2816x1024.rank)

variable [Facts]

def fn {F : FTy → Type} [FloatOps F] (main_arg0 : FVec F S1x8192x1024 .f32) (main_arg1 : FVec F S1024x5632 .f32) (main_arg2 : FVec F S3x5632 .f32) (main_arg3 : FVec F S5632 .f32) (main_arg4 : FVec F S2816x1024 .f32) (main_arg5 : FVec F S1x8192x1024 .f32) : IVec S1x8192x1024 1 × IVec S1024x5632 1 × IVec S3x5632 1 × IVec S5632 1 × IVec S2816x1024 1 × IVec S1x8192x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S3x5632 .f32 := Host.absf main_arg2
  let main_cst_1 : FVec F S_ .f32 := constant S_ .f32 0x7F800000#32
  let main_v7 : FVec F S3x5632 .f32 := broadcastInDim S3x5632 ![] bcast_S_S3x5632 main_cst_1
  let main_v8 : IVec S3x5632 1 := cmpf .olt main_v6 main_v7
  let main_v9 : FVec F S5632 .f32 := Host.absf main_arg3
  let main_cst_2 : FVec F S_ .f32 := constant S_ .f32 0x7F800000#32
  let main_v10 : FVec F S5632 .f32 := broadcastInDim S5632 ![] bcast_S_S5632 main_cst_2
  let main_v11 : IVec S5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S1x8192x1024 .f32 := Host.absf main_arg5
  let main_cst_4 : FVec F S_ .f32 := constant S_ .f32 0x7F800000#32
  let main_v16 : FVec F S1x8192x1024 .f32 := broadcastInDim S1x8192x1024 ![] bcast_S_S1x8192x1024 main_cst_4
  let main_v17 : IVec S1x8192x1024 1 := cmpf .olt main_v15 main_v16
  (main_v2, main_v5, main_v8, main_v11, main_v14, main_v17)
-- ==== Pre_finite3.lean ====
abbrev S1x8192x1024 : Shape := ⟨3, ![1, 8192, 1024]⟩
abbrev S1024 : Shape := ⟨1, ![1024]⟩
abbrev S1024x5632 : Shape := ⟨2, ![1024, 5632]⟩
abbrev S1x8192x5632 : Shape := ⟨3, ![1, 8192, 5632]⟩
abbrev S_ : Shape := ⟨0, ![]⟩

class Facts : Prop where
  bcast_S_S1x8192x1024 : S_.BroadcastsInDim S1x8192x1024 (![] : Fin 0 → Fin S1x8192x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S1x8192x5632 : S_.BroadcastsInDim S1x8192x5632 (![] : Fin 0 → Fin S1x8192x5632.rank)

variable [Facts]

def fn {F : FTy → Type} [FloatOps F] (main_arg0 : FVec F S1x8192x1024 .f32) (main_arg1 : FVec F S1024 .f32) (main_arg2 : FVec F S1024 .f32) (main_arg3 : FVec F S1024x5632 .f32) (main_arg4 : FVec F S1x8192x5632 .f32) (main_arg5 : FVec F S1x8192x1024 .f32) : IVec S1x8192x1024 1 × IVec S1024 1 × IVec S1024x5632 1 × IVec S1x8192x5632 1 × IVec S1x8192x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg3
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S1x8192x5632 .f32 := Host.absf main_arg4
  let main_cst_2 : FVec F S_ .f32 := constant S_ .f32 0x7F800000#32
  let main_v10 : FVec F S1x8192x5632 .f32 := broadcastInDim S1x8192x5632 ![] bcast_S_S1x8192x5632 main_cst_2
  let main_v11 : IVec S1x8192x5632 1 := cmpf .olt main_v9 main_v10
  let main_v12 : FVec F S1x8192x1024 .f32 := Host.absf main_arg5
  let main_cst_3 : FVec F S_ .f32 := constant S_ .f32 0x7F800000#32
  let main_v13 : FVec F S1x8192x1024 .f32 := broadcastInDim S1x8192x1024 ![] bcast_S_S1x8192x1024 main_cst_3
  let main_v14 : IVec S1x8192x1024 1 := cmpf .olt main_v12 main_v13
  (main_v2, main_v5, main_v8, main_v11, main_v14)
-- ==== Kernel.lean ====
abbrev S1x8192x1024 : Shape := ⟨3, ![1, 8192, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S4x1x704x1024 : Shape := ⟨4, ![4, 1, 704, 1024]⟩
abbrev S3x8x704 : Shape := ⟨3, ![3, 8, 704]⟩
abbrev S8x3x704 : Shape := ⟨3, ![8, 3, 704]⟩
abbrev S8x1x704 : Shape := ⟨3, ![8, 1, 704]⟩
abbrev S_ : Shape := ⟨0, ![]⟩
abbrev S8x8x704 : Shape := ⟨3, ![8, 8, 704]⟩
abbrev S1x8192x5632 : Shape := ⟨3, ![1, 8192, 5632]⟩
abbrev S1x2x5632 : Shape := ⟨3, ![1, 2, 5632]⟩
abbrev S1x8194x5632 : Shape := ⟨3, ![1, 8194, 5632]⟩
abbrev S1x5632 : Shape := ⟨2, ![1, 5632]⟩
abbrev S1x1x5632 : Shape := ⟨3, ![1, 1, 5632]⟩
abbrev S8192x2x4x704 : Shape := ⟨4, ![8192, 2, 4, 704]⟩
abbrev S4x2x8192x704 : Shape := ⟨4, ![4, 2, 8192, 704]⟩
abbrev S4x2x8x704 : Shape := ⟨4, ![4, 2, 8, 704]⟩
abbrev S1x1024x1024 : Shape := ⟨3, ![1, 1024, 1024]⟩
abbrev S1x2x1024x704 : Shape := ⟨4, ![1, 2, 1024, 704]⟩
abbrev S1x1x704x1024 : Shape := ⟨4, ![1, 1, 704, 1024]⟩
abbrev S1x8x704 : Shape := ⟨3, ![1, 8, 704]⟩
abbrev S1x2x8x704 : Shape := ⟨4, ![1, 2, 8, 704]⟩
abbrev S2x8x704 : Shape := ⟨3, ![2, 8, 704]⟩
abbrev S704x1024 : Shape := ⟨2, ![704, 1024]⟩
abbrev S2x5x128x384 : Shape := ⟨4, ![2, 5, 128, 384]⟩
abbrev S1024x1024 : Shape := ⟨2, ![1024, 1024]⟩
abbrev S1024x704 : Shape := ⟨2, ![1024, 704]⟩
abbrev S1x1x1024x704 : Shape := ⟨4, ![1, 1, 1024, 704]⟩
abbrev S8x704 : Shape := ⟨2, ![8, 704]⟩
abbrev S1032x704 : Shape := ⟨2, ![1032, 704]⟩
abbrev S1x1x704 : Shape := ⟨3, ![1, 1, 704]⟩
abbrev S1x704 : Shape := ⟨2, ![1, 704]⟩
abbrev S1x1x128x384 : Shape := ⟨4, ![1, 1, 128, 384]⟩
abbrev S128x384 : Shape := ⟨2, ![128, 384]⟩
abbrev S1x1x1024x128 : Shape := ⟨4, ![1, 1, 1024, 128]⟩
abbrev S1024x128 : Shape := ⟨2, ![1024, 128]⟩
abbrev S1024x384 : Shape := ⟨2, ![1024, 384]⟩
abbrev S1x1x8x704 : Shape := ⟨4, ![1, 1, 8, 704]⟩
abbrev S704 : Shape := ⟨1, ![704]⟩
abbrev S1x1x1024x64 : Shape := ⟨4, ![1, 1, 1024, 64]⟩
abbrev S1024x64 : Shape := ⟨2, ![1024, 64]⟩
abbrev S64 : Shape := ⟨1, ![64]⟩
abbrev S1x64 : Shape := ⟨2, ![1, 64]⟩
abbrev S8x64 : Shape := ⟨2, ![8, 64]⟩
abbrev S1x1x8x64 : Shape := ⟨4, ![1, 1, 8, 64]⟩
abbrev S128x128 : Shape := ⟨2, ![128, 128]⟩
abbrev S128 : Shape := ⟨1, ![128]⟩
abbrev S1x128 : Shape := ⟨2, ![1, 128]⟩
abbrev S1x1x1x128 : Shape := ⟨4, ![1, 1, 1, 128]⟩

abbrev nBuf : Space → Nat
  | .hbm => 57
  | .vmem => 21
  | .smem => 0
  | _ => 0

abbrev bufTy : (tb : Table) → Fin (tcTables nBuf tb) → BufTy
  | .hbm, ⟨0, _⟩ => ⟨S1x8192x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1x8192x1024, .f32⟩
  | .hbm, ⟨6, _⟩ => ⟨S2816x1024, .bf16⟩
  | .hbm, ⟨7, _⟩ => ⟨S4x1x704x1024, .bf16⟩
  | .hbm, ⟨8, _⟩ => ⟨S3x8x704, .f32⟩
  | .hbm, ⟨9, _⟩ => ⟨S8x3x704, .f32⟩
  | .hbm, ⟨10, _⟩ => ⟨S8x1x704, .f32⟩
  | .hbm, ⟨11, _⟩ => ⟨S_, .i32⟩
  | .hbm, ⟨12, _⟩ => ⟨S_, .f32⟩
  | .hbm, ⟨13, _⟩ => ⟨S8x8x704, .f32⟩
  | .hbm, ⟨14, _⟩ => ⟨S_, .i32⟩
  | .hbm, ⟨15, _⟩ => ⟨S_, .f32⟩
  | .hbm, ⟨16, _⟩ => ⟨S8x8x704, .f32⟩
  | .hbm, ⟨17, _⟩ => ⟨S8x8x704, .f32⟩
  | .hbm, ⟨18, _⟩ => ⟨S1x8192x5632, .f32⟩
  | .hbm, ⟨19, _⟩ => ⟨S_, .f32⟩
  | .hbm, ⟨20, _⟩ => ⟨S1x2x5632, .f32⟩
  | .hbm, ⟨21, _⟩ => ⟨S1x8194x5632, .f32⟩
  | .hbm, ⟨22, _⟩ => ⟨S1x8192x5632, .f32⟩
  | .hbm, ⟨23, _⟩ => ⟨S1x5632, .f32⟩
  | .hbm, ⟨24, _⟩ => ⟨S5632, .f32⟩
  | .hbm, ⟨25, _⟩ => ⟨S1x1x5632, .f32⟩
  | .hbm, ⟨26, _⟩ => ⟨S1x8192x5632, .f32⟩
  | .hbm, ⟨27, _⟩ => ⟨S1x8192x5632, .f32⟩
  | .hbm, ⟨28, _⟩ => ⟨S_, .f32⟩
  | .hbm, ⟨29, _⟩ => ⟨S1x8192x5632, .f32⟩
  | .hbm, ⟨30, _⟩ => ⟨S1x8192x5632, .f32⟩
  | .hbm, ⟨31, _⟩ => ⟨S1x8192x5632, .f32⟩
  | .hbm, ⟨32, _⟩ => ⟨S1x5632, .f32⟩
  | .hbm, ⟨33, _⟩ => ⟨S5632, .f32⟩
  | .hbm, ⟨34, _⟩ => ⟨S1x1x5632, .f32⟩
  | .hbm, ⟨35, _⟩ => ⟨S1x8192x5632, .f32⟩
  | .hbm, ⟨36, _⟩ => ⟨S1x8192x5632, .f32⟩
  | .hbm, ⟨37, _⟩ => ⟨S1x8192x5632, .f32⟩
  | .hbm, ⟨38, _⟩ => ⟨S1x8192x5632, .f32⟩
  | .hbm, ⟨39, _⟩ => ⟨S1x5632, .f32⟩
  | .hbm, ⟨40, _⟩ => ⟨S5632, .f32⟩
  | .hbm, ⟨41, _⟩ => ⟨S1x1x5632, .f32⟩
  | .hbm, ⟨42, _⟩ => ⟨S1x8192x5632, .f32⟩
  | .hbm, ⟨43, _⟩ => ⟨S1x8192x5632, .f32⟩
  | .hbm, ⟨44, _⟩ => ⟨S1x8192x5632, .f32⟩
  | .hbm, ⟨45, _⟩ => ⟨S1x1x5632, .f32⟩
  | .hbm, ⟨46, _⟩ => ⟨S1x8192x5632, .f32⟩
  | .hbm, ⟨47, _⟩ => ⟨S1x8192x5632, .f32⟩
  | .hbm, ⟨48, _⟩ => ⟨S8192x2x4x704, .f32⟩
  | .hbm, ⟨49, _⟩ => ⟨S4x2x8192x704, .f32⟩
  | .hbm, ⟨50, _⟩ => ⟨S4x2x8192x704, .bf16⟩
  | .hbm, ⟨51, _⟩ => ⟨S8192x2x4x704, .f32⟩
  | .hbm, ⟨52, _⟩ => ⟨S4x2x8192x704, .f32⟩
  | .hbm, ⟨53, _⟩ => ⟨S4x2x8192x704, .bf16⟩
  | .hbm, ⟨54, _⟩ => ⟨S4x2x8192x704, .bf16⟩
  | .hbm, ⟨55, _⟩ => ⟨S4x1x704x1024, .bf16⟩
  | .hbm, ⟨56, _⟩ => ⟨S4x2x8x704, .f32⟩
  | .local _ .vmem, ⟨0, _⟩ => ⟨S1x1024x1024, .f32⟩
  | .local _ .vmem, ⟨1, _⟩ => ⟨S1x1024x1024, .f32⟩
  | .local _ .vmem, ⟨2, _⟩ => ⟨S1x2x1024x704, .bf16⟩
  | .local _ .vmem, ⟨3, _⟩ => ⟨S1x2x1024x704, .bf16⟩
  | .local _ .vmem, ⟨4, _⟩ => ⟨S1x2x1024x704, .bf16⟩
  | .local _ .vmem, ⟨5, _⟩ => ⟨S1x2x1024x704, .bf16⟩
  | .local _ .vmem, ⟨6, _⟩ => ⟨S1x1x704x1024, .bf16⟩
  | .local _ .vmem, ⟨7, _⟩ => ⟨S1x1x704x1024, .bf16⟩
  | .local _ .vmem, ⟨8, _⟩ => ⟨S1x8x704, .f32⟩
  | .local _ .vmem, ⟨9, _⟩ => ⟨S1x8x704, .f32⟩
  | .local _ .vmem, ⟨10, _⟩ => ⟨S1x8x704, .f32⟩
  | .local _ .vmem, ⟨11, _⟩ => ⟨S1x8x704, .f32⟩
  | .local _ .vmem, ⟨12, _⟩ => ⟨S1x2x1024x704, .bf16⟩
  | .local _ .vmem, ⟨13, _⟩ => ⟨S1x2x1024x704, .bf16⟩
  | .local _ .vmem, ⟨14, _⟩ => ⟨S1x1x704x1024, .bf16⟩
  | .local _ .vmem, ⟨15, _⟩ => ⟨S1x1x704x1024, .bf16⟩
  | .local _ .vmem, ⟨16, _⟩ => ⟨S1x2x8x704, .f32⟩
  | .local _ .vmem, ⟨17, _⟩ => ⟨S1x2x8x704, .f32⟩
  | .local _ .vmem, ⟨18, _⟩ => ⟨S2x8x704, .f32⟩
  | .local _ .vmem, ⟨19, _⟩ => ⟨S704x1024, .f32⟩
  | .local _ .vmem, ⟨20, _⟩ => ⟨S2x5x128x384, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_c_0 : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42_0 : Ref sig .tc := ⟨.hbm, 54, rfl⟩
abbrev main_v42_1 : Ref sig .tc := ⟨.hbm, 55, rfl⟩
abbrev main_v42_2 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v340 : BitVec 1 := Scalar.cmpi .eq arg1 c7_i32
  let v341 : BitVec 32 := Scalar.extui v340
  let c0_i32_243 : BitVec 32 := 0#32
  let v342 : BitVec 1 := Scalar.cmpi .ne v341 c0_i32_243
  v342

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_2 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2x8x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S1x8192x1024 : Shape := ⟨3, ![1, 8192, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x8192x5632 : Shape := ⟨3, ![1, 8192, 5632]⟩
abbrev S_ : Shape := ⟨0, ![]⟩
abbrev S1x2x5632 : Shape := ⟨3, ![1, 2, 5632]⟩
abbrev S1x8194x5632 : Shape := ⟨3, ![1, 8194, 5632]⟩
abbrev S1x5632 : Shape := ⟨2, ![1, 5632]⟩
abbrev S1x1x5632 : Shape := ⟨3, ![1, 1, 5632]⟩
abbrev S1x8192x2816 : Shape := ⟨3, ![1, 8192, 2816]⟩
abbrev S1024x2816 : Shape := ⟨2, ![1024, 2816]⟩
abbrev S8192x2x4x704 : Shape := ⟨4, ![8192, 2, 4, 704]⟩
abbrev S4x2x8192x704 : Shape := ⟨4, ![4, 2, 8192, 704]⟩
abbrev S4x1x704x1024 : Shape := ⟨4, ![4, 1, 704, 1024]⟩
abbrev S4x5632 : Shape := ⟨2, ![4, 5632]⟩
abbrev S8x5632 : Shape := ⟨2, ![8, 5632]⟩
abbrev S8x2x4x704 : Shape := ⟨4, ![8, 2, 4, 704]⟩
abbrev S4x2x8x704 : Shape := ⟨4, ![4, 2, 8, 704]⟩

abbrev nBuf : Space → Nat
  | .hbm => 126
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1x8192x1024, .f32⟩
  | .hbm, ⟨6, _⟩ => ⟨S1x8192x5632, .f32⟩
  | .hbm, ⟨7, _⟩ => ⟨S_, .f32⟩
  | .hbm, ⟨8, _⟩ => ⟨S1x2x5632, .f32⟩
  | .hbm, ⟨9, _⟩ => ⟨S1x8194x5632, .f32⟩
  | .hbm, ⟨10, _⟩ => ⟨S_, .f32⟩
  | .hbm, ⟨11, _⟩ => ⟨S1x2x5632, .f32⟩
  | .hbm, ⟨12, _⟩ => ⟨S1x8192x5632, .f32⟩
  | .hbm, ⟨13, _⟩ => ⟨S1x5632, .f32⟩
  | .hbm, ⟨14, _⟩ => ⟨S5632, .f32⟩
  | .hbm, ⟨15, _⟩ => ⟨S1x1x5632, .f32⟩
  | .hbm, ⟨16, _⟩ => ⟨S1x8192x5632, .f32⟩
  | .hbm, ⟨17, _⟩ => ⟨S1x8192x5632, .f32⟩
  | .hbm, ⟨18, _⟩ => ⟨S_, .f32⟩
  | .hbm, ⟨19, _⟩ => ⟨S1x8192x5632, .f32⟩
  | .hbm, ⟨20, _⟩ => ⟨S1x8192x5632, .f32⟩
  | .hbm, ⟨21, _⟩ => ⟨S1x8192x5632, .f32⟩
  | .hbm, ⟨22, _⟩ => ⟨S1x5632, .f32⟩
  | .hbm, ⟨23, _⟩ => ⟨S5632, .f32⟩
  | .hbm, ⟨24, _⟩ => ⟨S1x1x5632, .f32⟩
  | .hbm, ⟨25, _⟩ => ⟨S1x8192x5632, .f32⟩
  | .hbm, ⟨26, _⟩ => ⟨S1x8192x5632, .f32⟩
  | .hbm, ⟨27, _⟩ => ⟨S1x8192x5632, .f32⟩
  | .hbm, ⟨28, _⟩ => ⟨S1x8192x5632, .f32⟩
  | .hbm, ⟨29, _⟩ => ⟨S1x5632, .f32⟩
  | .hbm, ⟨30, _⟩ => ⟨S5632, .f32⟩
  | .hbm, ⟨31, _⟩ => ⟨S1x1x5632, .f32⟩
  | .hbm, ⟨32, _⟩ => ⟨S1x8192x5632, .f32⟩
  | .hbm, ⟨33, _⟩ => ⟨S1x8192x5632, .f32⟩
  | .hbm, ⟨34, _⟩ => ⟨S1x8192x5632, .f32⟩
  | .hbm, ⟨35, _⟩ => ⟨S1x1x5632, .f32⟩
  | .hbm, ⟨36, _⟩ => ⟨S1x8192x5632, .f32⟩
  | .hbm, ⟨37, _⟩ => ⟨S1x8192x5632, .f32⟩
  | .hbm, ⟨38, _⟩ => ⟨S1x8192x2816, .f32⟩
  | .hbm, ⟨39, _⟩ => ⟨S1x8192x2816, .f32⟩
  | .hbm, ⟨40, _⟩ => ⟨S1x8192x2816, .f32⟩
  | .hbm, ⟨41, _⟩ => ⟨S1x8192x2816, .f32⟩
  | .hbm, ⟨42, _⟩ => ⟨S_, .f32⟩
  | .hbm, ⟨43, _⟩ => ⟨S1x8192x2816, .f32⟩
  | .hbm, ⟨44, _⟩ => ⟨S1x8192x2816, .f32⟩
  | .hbm, ⟨45, _⟩ => ⟨S_, .f32⟩
  | .hbm, ⟨46, _⟩ => ⟨S1x8192x2816, .f32⟩
  | .hbm, ⟨47, _⟩ => ⟨S1x8192x2816, .f32⟩
  | .hbm, ⟨48, _⟩ => ⟨S_, .f32⟩
  | .hbm, ⟨49, _⟩ => ⟨S1x8192x2816, .f32⟩
  | .hbm, ⟨50, _⟩ => ⟨S1x8192x2816, .f32⟩
  | .hbm, ⟨51, _⟩ => ⟨S1x8192x2816, .f32⟩
  | .hbm, ⟨52, _⟩ => ⟨S1x8192x2816, .f32⟩
  | .hbm, ⟨53, _⟩ => ⟨S1x8192x2816, .f32⟩
  | .hbm, ⟨54, _⟩ => ⟨S1x8192x1024, .f32⟩
  | .hbm, ⟨55, _⟩ => ⟨S1024x2816, .f32⟩
  | .hbm, ⟨56, _⟩ => ⟨S2816x1024, .f32⟩
  | .hbm, ⟨57, _⟩ => ⟨S1x8192x2816, .f32⟩
  | .hbm, ⟨58, _⟩ => ⟨S1x8192x2816, .f32⟩
  | .hbm, ⟨59, _⟩ => ⟨S1x8192x2816, .f32⟩
  | .hbm, ⟨60, _⟩ => ⟨S1x8192x2816, .f32⟩
  | .hbm, ⟨61, _⟩ => ⟨S1x8192x2816, .f32⟩
  | .hbm, ⟨62, _⟩ => ⟨S1x8192x2816, .f32⟩
  | .hbm, ⟨63, _⟩ => ⟨S1x8192x2816, .f32⟩
  | .hbm, ⟨64, _⟩ => ⟨S1x8192x5632, .f32⟩
  | .hbm, ⟨65, _⟩ => ⟨S_, .f32⟩
  | .hbm, ⟨66, _⟩ => ⟨S1x5632, .f32⟩
  | .hbm, ⟨67, _⟩ => ⟨S1x1x5632, .f32⟩
  | .hbm, ⟨68, _⟩ => ⟨S_, .f32⟩
  | .hbm, ⟨69, _⟩ => ⟨S5632, .f32⟩
  | .hbm, ⟨70, _⟩ => ⟨S1x8192x5632, .f32⟩
  | .hbm, ⟨71, _⟩ => ⟨S_, .f32⟩
  | .hbm, ⟨72, _⟩ => ⟨S1x5632, .f32⟩
  | .hbm, ⟨73, _⟩ => ⟨S1x1x5632, .f32⟩
  | .hbm, ⟨74, _⟩ => ⟨S1x8192x5632, .f32⟩
  | .hbm, ⟨75, _⟩ => ⟨S1x8192x5632, .f32⟩
  | .hbm, ⟨76, _⟩ => ⟨S_, .f32⟩
  | .hbm, ⟨77, _⟩ => ⟨S5632, .f32⟩
  | .hbm, ⟨78, _⟩ => ⟨S1x5632, .f32⟩
  | .hbm, ⟨79, _⟩ => ⟨S_, .f32⟩
  | .hbm, ⟨80, _⟩ => ⟨S3x5632, .f32⟩
  | .hbm, ⟨81, _⟩ => ⟨S_, .f32⟩
  | .hbm, ⟨82, _⟩ => ⟨S1x8194x5632, .f32⟩
  | .hbm, ⟨83, _⟩ => ⟨S1x8192x5632, .f32⟩
  | .hbm, ⟨84, _⟩ => ⟨S_, .f32⟩
  | .hbm, ⟨85, _⟩ => ⟨S1x5632, .f32⟩
  | .hbm, ⟨86, _⟩ => ⟨S1x1x5632, .f32⟩
  | .hbm, ⟨87, _⟩ => ⟨S1x8192x5632, .f32⟩
  | .hbm, ⟨88, _⟩ => ⟨S1x8192x5632, .f32⟩
  | .hbm, ⟨89, _⟩ => ⟨S_, .f32⟩
  | .hbm, ⟨90, _⟩ => ⟨S5632, .f32⟩
  | .hbm, ⟨91, _⟩ => ⟨S1x5632, .f32⟩
  | .hbm, ⟨92, _⟩ => ⟨S_, .f32⟩
  | .hbm, ⟨93, _⟩ => ⟨S3x5632, .f32⟩
  | .hbm, ⟨94, _⟩ => ⟨S3x5632, .f32⟩
  | .hbm, ⟨95, _⟩ => ⟨S_, .f32⟩
  | .hbm, ⟨96, _⟩ => ⟨S1x8194x5632, .f32⟩
  | .hbm, ⟨97, _⟩ => ⟨S1x8194x5632, .f32⟩
  | .hbm, ⟨98, _⟩ => ⟨S1x8192x5632, .f32⟩
  | .hbm, ⟨99, _⟩ => ⟨S_, .f32⟩
  | .hbm, ⟨100, _⟩ => ⟨S1x5632, .f32⟩
  | .hbm, ⟨101, _⟩ => ⟨S1x1x5632, .f32⟩
  | .hbm, ⟨102, _⟩ => ⟨S1x8192x5632, .f32⟩
  | .hbm, ⟨103, _⟩ => ⟨S1x8192x5632, .f32⟩
  | .hbm, ⟨104, _⟩ => ⟨S_, .f32⟩
  | .hbm, ⟨105, _⟩ => ⟨S5632, .f32⟩
  | .hbm, ⟨106, _⟩ => ⟨S1x5632, .f32⟩
  | .hbm, ⟨107, _⟩ => ⟨S_, .f32⟩
  | .hbm, ⟨108, _⟩ => ⟨S3x5632, .f32⟩
  | .hbm, ⟨109, _⟩ => ⟨S3x5632, .f32⟩
  | .hbm, ⟨110, _⟩ => ⟨S_, .f32⟩
  | .hbm, ⟨111, _⟩ => ⟨S1x8194x5632, .f32⟩
  | .hbm, ⟨112, _⟩ => ⟨S1x8194x5632, .f32⟩
  | .hbm, ⟨113, _⟩ => ⟨S1x2x5632, .f32⟩
  | .hbm, ⟨114, _⟩ => ⟨S1x8192x5632, .f32⟩
  | .hbm, ⟨115, _⟩ => ⟨S8192x2x4x704, .f32⟩
  | .hbm, ⟨116, _⟩ => ⟨S4x2x8192x704, .f32⟩
  | .hbm, ⟨117, _⟩ => ⟨S4x2x8192x704, .bf16⟩
  | .hbm, ⟨118, _⟩ => ⟨S4x1x704x1024, .f32⟩
  | .hbm, ⟨119, _⟩ => ⟨S4x1x704x1024, .bf16⟩
  | .hbm, ⟨120, _⟩ => ⟨S1x5632, .f32⟩
  | .hbm, ⟨121, _⟩ => ⟨S_, .f32⟩
  | .hbm, ⟨122, _⟩ => ⟨S4x5632, .f32⟩
  | .hbm, ⟨123, _⟩ => ⟨S8x5632, .f32⟩
  | .hbm, ⟨124, _⟩ => ⟨S8x2x4x704, .f32⟩
  | .hbm, ⟨125, _⟩ => ⟨S4x2x8x704, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v31_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v31_1 : Ref sig .tc := ⟨.hbm, 51, rfl⟩
abbrev main_v31_0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v39 : Ref sig .tc := ⟨.hbm, 63, rfl⟩
abbrev main_v40 : Ref sig .tc := ⟨.hbm, 64, rfl⟩
abbrev main_cst_2 : Ref sig .tc := ⟨.hbm, 65, rfl⟩
abbrev main_v41 : Ref sig .tc := ⟨.hbm, 66, rfl⟩
abbrev main_v42 : Ref sig .tc := ⟨.hbm, 67, rfl⟩
abbrev main_cst_3 : Ref sig .tc := ⟨.hbm, 68, rfl⟩
abbrev main_v43 : Ref sig .tc := ⟨.hbm, 69, rfl⟩
abbrev main_v44 : Ref sig .tc := ⟨.hbm, 70, rfl⟩
abbrev main_cst_4 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_5 : Ref sig .tc := ⟨.hbm, 76, rfl⟩
abbrev main_v49 : Ref sig .tc := ⟨.hbm, 77, rfl⟩
abbrev main_v50 : Ref sig .tc := ⟨.hbm, 78, rfl⟩
abbrev main_cst_6 : Ref sig .tc := ⟨.hbm, 79, rfl⟩
abbrev main_v51 : Ref sig .tc := ⟨.hbm, 80, rfl⟩
abbrev main_cst_7 : Ref sig .tc := ⟨.hbm, 81, rfl⟩
abbrev main_v52 : Ref sig .tc := ⟨.hbm, 82, rfl⟩
abbrev main_v53 : Ref sig .tc := ⟨.hbm, 83, rfl⟩
abbrev main_cst_8 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_9 : Ref sig .tc := ⟨.hbm, 89, rfl⟩
abbrev main_v58 : Ref sig .tc := ⟨.hbm, 90, rfl⟩
abbrev main_v59 : Ref sig .tc := ⟨.hbm, 91, rfl⟩
abbrev main_cst_10 : Ref sig .tc := ⟨.hbm, 92, rfl⟩
abbrev main_v60 : Ref sig .tc := ⟨.hbm, 93, rfl⟩
abbrev main_v61 : Ref sig .tc := ⟨.hbm, 94, rfl⟩
abbrev main_cst_11 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_12 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_13 : Ref sig .tc := ⟨.hbm, 104, rfl⟩
abbrev main_v69 : Ref sig .tc := ⟨.hbm, 105, rfl⟩
abbrev main_v70 : Ref sig .tc := ⟨.hbm, 106, rfl⟩
abbrev main_cst_14 : Ref sig .tc := ⟨.hbm, 107, rfl⟩
abbrev main_v71 : Ref sig .tc := ⟨.hbm, 108, rfl⟩
abbrev main_v72 : Ref sig .tc := ⟨.hbm, 109, rfl⟩
abbrev main_cst_15 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_16 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩

abbrev nD : Nat := 1
abbrev τ : Topo := Topo.v7x

variable {F : FTy → Type} [FloatOps F]
-- ==== Kernel2.lean ====
abbrev S1x8192x1024 : Shape := ⟨3, ![1, 8192, 1024]⟩
abbrev S1024x5632 : Shape := ⟨2, ![1024, 5632]⟩
abbrev S1x8192x5632 : Shape := ⟨3, ![1, 8192, 5632]⟩
abbrev S8192x2x4x704 : Shape := ⟨4, ![8192, 2, 4, 704]⟩
abbrev S4x2x8192x704 : Shape := ⟨4, ![4, 2, 8192, 704]⟩
abbrev S8x8192x704 : Shape := ⟨3, ![8, 8192, 704]⟩
abbrev S1x8x1024x704 : Shape := ⟨4, ![1, 8, 1024, 704]⟩
abbrev S1x4096x1024 : Shape := ⟨3, ![1, 4096, 1024]⟩
abbrev S1x4096x704 : Shape := ⟨3, ![1, 4096, 704]⟩
abbrev S1x1x1024x704 : Shape := ⟨4, ![1, 1, 1024, 704]⟩
abbrev S1024x704 : Shape := ⟨2, ![1024, 704]⟩
abbrev S4096x1024 : Shape := ⟨2, ![4096, 1024]⟩
abbrev S4096x704 : Shape := ⟨2, ![4096, 704]⟩

abbrev nBuf : Space → Nat
  | .hbm => 9
  | .vmem => 7
  | .smem => 0
  | _ => 0

abbrev bufTy : (tb : Table) → Fin (tcTables nBuf tb) → BufTy
  | .hbm, ⟨0, _⟩ => ⟨S1x8192x1024, .f32⟩
  | .hbm, ⟨1, _⟩ => ⟨S1024x5632, .f32⟩
  | .hbm, ⟨2, _⟩ => ⟨S1x8192x5632, .f32⟩
  | .hbm, ⟨3, _⟩ => ⟨S1x8192x1024, .bf16⟩
  | .hbm, ⟨4, _⟩ => ⟨S8192x2x4x704, .f32⟩
  | .hbm, ⟨5, _⟩ => ⟨S4x2x8192x704, .f32⟩
  | .hbm, ⟨6, _⟩ => ⟨S4x2x8192x704, .bf16⟩
  | .hbm, ⟨7, _⟩ => ⟨S8x8192x704, .bf16⟩
  | .hbm, ⟨8, _⟩ => ⟨S1x8x1024x704, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S1x4096x704, .bf16⟩
  | .local _ .vmem, ⟨3, _⟩ => ⟨S1x4096x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1024x704, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.muli c4_i32 v26
  let v28 : BitVec 32 := Scalar.addi v16 v27
  let c0_i32_10 : BitVec 32 := 0#32
  let c0_i32_11 : BitVec 32 := 0#32
  let c0_i32_12 : BitVec 32 := 0#32
  ![arg0.toNat, v28.toNat, c0_i32_10.toNat, c0_i32_11.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S1x8192x1024 : Shape := ⟨3, ![1, 8192, 1024]⟩
abbrev S1024x5632 : Shape := ⟨2, ![1024, 5632]⟩
abbrev S1x8192x5632 : Shape := ⟨3, ![1, 8192, 5632]⟩
abbrev S5632x1024 : Shape := ⟨2, ![5632, 1024]⟩
abbrev S1024x8x704 : Shape := ⟨3, ![1024, 8, 704]⟩
abbrev S8x1024x704 : Shape := ⟨3, ![8, 1024, 704]⟩
abbrev S1x8x1024x704 : Shape := ⟨4, ![1, 8, 1024, 704]⟩

abbrev nBuf : Space → Nat
  | .hbm => 10
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x5632, .f32⟩
  | .hbm, ⟨2, _⟩ => ⟨S1x8192x5632, .f32⟩
  | .hbm, ⟨3, _⟩ => ⟨S1x8192x5632, .f32⟩
  | .hbm, ⟨4, _⟩ => ⟨S5632x1024, .f32⟩
  | .hbm, ⟨5, _⟩ => ⟨S1024x5632, .f32⟩
  | .hbm, ⟨6, _⟩ => ⟨S1024x8x704, .f32⟩
  | .hbm, ⟨7, _⟩ => ⟨S8x1024x704, .f32⟩
  | .hbm, ⟨8, _⟩ => ⟨S1x8x1024x704, .f32⟩
  | .hbm, ⟨9, _⟩ => ⟨S1x8x1024x704, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S1x8192x1024 : Shape := ⟨3, ![1, 8192, 1024]⟩
abbrev S1024 : Shape := ⟨1, ![1024]⟩
abbrev S1024x5632 : Shape := ⟨2, ![1024, 5632]⟩
abbrev S1x8192x5632 : Shape := ⟨3, ![1, 8192, 5632]⟩
abbrev S_ : Shape := ⟨0, ![]⟩
abbrev S1x8192 : Shape := ⟨2, ![1, 8192]⟩
abbrev S1x8192x1 : Shape := ⟨3, ![1, 8192, 1]⟩
abbrev S8192x1 : Shape := ⟨2, ![8192, 1]⟩
abbrev S8192x2x4x704 : Shape := ⟨4, ![8192, 2, 4, 704]⟩
abbrev S4x2x8192x704 : Shape := ⟨4, ![4, 2, 8192, 704]⟩
abbrev S8x8192x704 : Shape := ⟨3, ![8, 8192, 704]⟩
abbrev S1024x8x704 : Shape := ⟨3, ![1024, 8, 704]⟩
abbrev S8x1024x704 : Shape := ⟨3, ![8, 1024, 704]⟩
abbrev S1x8x1024x704 : Shape := ⟨4, ![1, 8, 1024, 704]⟩
abbrev S1x1024 : Shape := ⟨2, ![1, 1024]⟩
abbrev S8x256x704 : Shape := ⟨3, ![8, 256, 704]⟩
abbrev S1x256x1024 : Shape := ⟨3, ![1, 256, 1024]⟩
abbrev S256x1 : Shape := ⟨2, ![256, 1]⟩
abbrev S1x256x704 : Shape := ⟨3, ![1, 256, 704]⟩
abbrev S256x704 : Shape := ⟨2, ![256, 704]⟩
abbrev S1x1x1024x704 : Shape := ⟨4, ![1, 1, 1024, 704]⟩
abbrev S1024x704 : Shape := ⟨2, ![1024, 704]⟩
abbrev S256x1024 : Shape := ⟨2, ![256, 1024]⟩
abbrev S256 : Shape := ⟨1, ![256]⟩

abbrev nBuf : Space → Nat
  | .hbm => 42
  | .vmem => 14
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S1x8192x5632, .f32⟩
  | .hbm, ⟨5, _⟩ => ⟨S1x8192x1024, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S1x8192x1024, .f32⟩
  | .hbm, ⟨13, _⟩ => ⟨S1x8192x1024, .f32⟩
  | .hbm, ⟨14, _⟩ => ⟨S1x8192x1024, .f32⟩
  | .hbm, ⟨15, _⟩ => ⟨S_, .f32⟩
  | .hbm, ⟨16, _⟩ => ⟨S1x8192, .f32⟩
  | .hbm, ⟨17, _⟩ => ⟨S1x8192x1, .f32⟩
  | .hbm, ⟨18, _⟩ => ⟨S_, .f32⟩
  | .hbm, ⟨19, _⟩ => ⟨S1x8192x1, .f32⟩
  | .hbm, ⟨20, _⟩ => ⟨S1x8192x1, .f32⟩
  | .hbm, ⟨21, _⟩ => ⟨S_, .f32⟩
  | .hbm, ⟨22, _⟩ => ⟨S1x8192x1, .f32⟩
  | .hbm, ⟨23, _⟩ => ⟨S1x8192x1, .f32⟩
  | .hbm, ⟨24, _⟩ => ⟨S1x8192x1, .f32⟩
  | .hbm, ⟨25, _⟩ => ⟨S1x8192x1024, .f32⟩
  | .hbm, ⟨26, _⟩ => ⟨S1x8192x1024, .f32⟩
  | .hbm, ⟨27, _⟩ => ⟨S1x8192x1024, .f32⟩
  | .hbm, ⟨28, _⟩ => ⟨S1x8192x1024, .f32⟩
  | .hbm, ⟨29, _⟩ => ⟨S8192x1, .f32⟩
  | .hbm, ⟨30, _⟩ => ⟨S8192x2x4x704, .f32⟩
  | .hbm, ⟨31, _⟩ => ⟨S4x2x8192x704, .f32⟩
  | .hbm, ⟨32, _⟩ => ⟨S4x2x8192x704, .bf16⟩
  | .hbm, ⟨33, _⟩ => ⟨S8x8192x704, .bf16⟩
  | .hbm, ⟨34, _⟩ => ⟨S1024x5632, .bf16⟩
  | .hbm, ⟨35, _⟩ => ⟨S1024x8x704, .bf16⟩
  | .hbm, ⟨36, _⟩ => ⟨S8x1024x704, .bf16⟩
  | .hbm, ⟨37, _⟩ => ⟨S1x8x1024x704, .bf16⟩
  | .hbm, ⟨38, _⟩ => ⟨S1x1024, .f32⟩
  | .hbm, ⟨39, _⟩ => ⟨S1x8192x1024, .f32⟩
  | .hbm, ⟨40, _⟩ => ⟨S1x1024, .f32⟩
  | .hbm, ⟨41, _⟩ => ⟨S1x1024, .f32⟩
  | .local _ .vmem, ⟨0, _⟩ => ⟨S8x256x704, .bf16⟩
  | .local _ .vmem, ⟨1, _⟩ => ⟨S8x256x704, .bf16⟩
  | .local _ .vmem, ⟨2, _⟩ => ⟨S1x8x1024x704, .bf16⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S256x1, .f32⟩
  | .local _ .vmem, ⟨8, _⟩ => ⟨S256x1, .f32⟩
  | .local _ .vmem, ⟨9, _⟩ => ⟨S1x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x1024, .f32⟩
  | .local _ .vmem, ⟨13, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28_0 : Ref sig .tc := ⟨.hbm, 39, rfl⟩
abbrev main_v28_1 : Ref sig .tc := ⟨.hbm, 40, rfl⟩
abbrev main_v28_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v84 : BitVec 1 := Scalar.cmpi .eq arg0 c0_i32
  let v85 : BitVec 32 := Scalar.extui v84
  let c0_i32_75 : BitVec 32 := 0#32
  let v86 : BitVec 1 := Scalar.cmpi .ne v85 c0_i32_75
  v86

def k0_cond2 (i : grid0.Coords) : BitVec 1 :=
  let arg0 : BitVec 32 := BitVec.ofNat 32 (i 0).val
  let c0_i32_76 : BitVec 32 := 0#32
  let v87 : BitVec 1 := Scalar.cmpi .sgt arg0 c0_i32_76
  let v88 : BitVec 32 := Scalar.extui v87
  let c0_i32_77 : BitVec 32 := 0#32
  let v89 : BitVec 1 := Scalar.cmpi .ne v88 c0_i32_77
  v89

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S1x8192x1024 : Shape := ⟨3, ![1, 8192, 1024]⟩
abbrev S1024 : Shape := ⟨1, ![1024]⟩
abbrev S1024x5632 : Shape := ⟨2, ![1024, 5632]⟩
abbrev S1x8192x5632 : Shape := ⟨3, ![1, 8192, 5632]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x1024 : Shape := ⟨2, ![1, 1024]⟩
abbrev S8192 : Shape := ⟨1, ![8192]⟩

abbrev nBuf : Space → Nat
  | .hbm => 99
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S1x8192x5632, .f32⟩
  | .hbm, ⟨5, _⟩ => ⟨S1x8192x1024, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S1x8192x1024, .f32⟩
  | .hbm, ⟨13, _⟩ => ⟨S1x8192x1024, .f32⟩
  | .hbm, ⟨14, _⟩ => ⟨S1x8192x1024, .f32⟩
  | .hbm, ⟨15, _⟩ => ⟨S_, .f32⟩
  | .hbm, ⟨16, _⟩ => ⟨S1x8192x1024, .f32⟩
  | .hbm, ⟨17, _⟩ => ⟨S1x8192x1024, .f32⟩
  | .hbm, ⟨18, _⟩ => ⟨S_, .f32⟩
  | .hbm, ⟨19, _⟩ => ⟨S1x8192, .f32⟩
  | .hbm, ⟨20, _⟩ => ⟨S1x8192x1, .f32⟩
  | .hbm, ⟨21, _⟩ => ⟨S_, .f32⟩
  | .hbm, ⟨22, _⟩ => ⟨S1x8192x1, .f32⟩
  | .hbm, ⟨23, _⟩ => ⟨S1x8192x1, .f32⟩
  | .hbm, ⟨24, _⟩ => ⟨S1x8192x1024, .f32⟩
  | .hbm, ⟨25, _⟩ => ⟨S1x8192x1024, .f32⟩
  | .hbm, ⟨26, _⟩ => ⟨S_, .f32⟩
  | .hbm, ⟨27, _⟩ => ⟨S1x8192x1, .f32⟩
  | .hbm, ⟨28, _⟩ => ⟨S1x8192x1, .f32⟩
  | .hbm, ⟨29, _⟩ => ⟨S1x8192x1, .f32⟩
  | .hbm, ⟨30, _⟩ => ⟨S1x8192x1, .f32⟩
  | .hbm, ⟨31, _⟩ => ⟨S_, .f32⟩
  | .hbm, ⟨32, _⟩ => ⟨S1x8192x1, .f32⟩
  | .hbm, ⟨33, _⟩ => ⟨S1x8192x1, .f32⟩
  | .hbm, ⟨34, _⟩ => ⟨S1x8192x1024, .f32⟩
  | .hbm, ⟨35, _⟩ => ⟨S1x8192x1024, .f32⟩
  | .hbm, ⟨36, _⟩ => ⟨S1x1x1024, .f32⟩
  | .hbm, ⟨37, _⟩ => ⟨S1x8192x1024, .f32⟩
  | .hbm, ⟨38, _⟩ => ⟨S1x8192x1024, .f32⟩
  | .hbm, ⟨39, _⟩ => ⟨S1x1x1024, .f32⟩
  | .hbm, ⟨40, _⟩ => ⟨S1x8192x1024, .f32⟩
  | .hbm, ⟨41, _⟩ => ⟨S1x8192x1024, .f32⟩
  | .hbm, ⟨42, _⟩ => ⟨S1x8192x5632, .f32⟩
  | .hbm, ⟨43, _⟩ => ⟨S_, .f32⟩
  | .hbm, ⟨44, _⟩ => ⟨S1x8192x1024, .f32⟩
  | .hbm, ⟨45, _⟩ => ⟨S1x8192x1024, .f32⟩
  | .hbm, ⟨46, _⟩ => ⟨S_, .f32⟩
  | .hbm, ⟨47, _⟩ => ⟨S1x8192x1024, .f32⟩
  | .hbm, ⟨48, _⟩ => ⟨S1x8192x1024, .f32⟩
  | .hbm, ⟨49, _⟩ => ⟨S1x8192x1024, .f32⟩
  | .hbm, ⟨50, _⟩ => ⟨S1x8192x1024, .f32⟩
  | .hbm, ⟨51, _⟩ => ⟨S_, .f32⟩
  | .hbm, ⟨52, _⟩ => ⟨S1x1024, .f32⟩
  | .hbm, ⟨53, _⟩ => ⟨S1x1x1024, .f32⟩
  | .hbm, ⟨54, _⟩ => ⟨S_, .f32⟩
  | .hbm, ⟨55, _⟩ => ⟨S1024, .f32⟩
  | .hbm, ⟨56, _⟩ => ⟨S1x8192x1024, .f32⟩
  | .hbm, ⟨57, _⟩ => ⟨S_, .f32⟩
  | .hbm, ⟨58, _⟩ => ⟨S1x1024, .f32⟩
  | .hbm, ⟨59, _⟩ => ⟨S1x1x1024, .f32⟩
  | .hbm, ⟨60, _⟩ => ⟨S1x8192x1024, .f32⟩
  | .hbm, ⟨61, _⟩ => ⟨S1x8192x1024, .f32⟩
  | .hbm, ⟨62, _⟩ => ⟨S_, .f32⟩
  | .hbm, ⟨63, _⟩ => ⟨S1024, .f32⟩
  | .hbm, ⟨64, _⟩ => ⟨S1x8192x1024, .f32⟩
  | .hbm, ⟨65, _⟩ => ⟨S_, .f32⟩
  | .hbm, ⟨66, _⟩ => ⟨S1x8192, .f32⟩
  | .hbm, ⟨67, _⟩ => ⟨S1x8192x1, .f32⟩
  | .hbm, ⟨68, _⟩ => ⟨S1x8192x1024, .f32⟩
  | .hbm, ⟨69, _⟩ => ⟨S1x8192x1024, .f32⟩
  | .hbm, ⟨70, _⟩ => ⟨S1x8192x1, .f32⟩
  | .hbm, ⟨71, _⟩ => ⟨S1x8192x1024, .f32⟩
  | .hbm, ⟨72, _⟩ => ⟨S_, .f32⟩
  | .hbm, ⟨73, _⟩ => ⟨S1x8192, .f32⟩
  | .hbm, ⟨74, _⟩ => ⟨S1x8192x1, .f32⟩
  | .hbm, ⟨75, _⟩ => ⟨S_, .f32⟩
  | .hbm, ⟨76, _⟩ => ⟨S1x8192x1, .f32⟩
  | .hbm, ⟨77, _⟩ => ⟨S1x8192x1, .f32⟩
  | .hbm, ⟨78, _⟩ => ⟨S_, .f32⟩
  | .hbm, ⟨79, _⟩ => ⟨S8192, .f32⟩
  | .hbm, ⟨80, _⟩ => ⟨S1x8192, .f32⟩
  | .hbm, ⟨81, _⟩ => ⟨S1x8192x1024, .f32⟩
  | .hbm, ⟨82, _⟩ => ⟨S1x8192x1024, .f32⟩
  | .hbm, ⟨83, _⟩ => ⟨S1x8192x1024, .f32⟩
  | .hbm, ⟨84, _⟩ => ⟨S_, .f32⟩
  | .hbm, ⟨85, _⟩ => ⟨S1x8192, .f32⟩
  | .hbm, ⟨86, _⟩ => ⟨S1x8192x1, .f32⟩
  | .hbm, ⟨87, _⟩ => ⟨S1x8192x1024, .f32⟩
  | .hbm, ⟨88, _⟩ => ⟨S1x8192x1, .f32⟩
  | .hbm, ⟨89, _⟩ => ⟨S_, .f32⟩
  | .hbm, ⟨90, _⟩ => ⟨S1x8192x1, .f32⟩
  | .hbm, ⟨91, _⟩ => ⟨S1x8192x1, .f32⟩
  | .hbm, ⟨92, _⟩ => ⟨S_, .f32⟩
  | .hbm, ⟨93, _⟩ => ⟨S8192, .f32⟩
  | .hbm, ⟨94, _⟩ => ⟨S1x8192, .f32⟩
  | .hbm, ⟨95, _⟩ => ⟨S1x8192x1024, .f32⟩
  | .hbm, ⟨96, _⟩ => ⟨S1x8192x1024, .f32⟩
  | .hbm, ⟨97, _⟩ => ⟨S1x1024, .f32⟩
  | .hbm, ⟨98, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_cst_15 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_16 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_17 : Ref sig .tc := ⟨.hbm, 89, rfl⟩
abbrev main_v65 : Ref sig .tc := ⟨.hbm, 90, rfl⟩
abbrev main_v66 : Ref sig .tc := ⟨.hbm, 91, rfl⟩
abbrev main_cst_18 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]
-- ==== Kernel4.lean ====
abbrev S1x8192x1024 : Shape := ⟨3, ![1, 8192, 1024]⟩
abbrev S1024x5632 : Shape := ⟨2, ![1024, 5632]⟩
abbrev S3x5632 : Shape := ⟨2, ![3, 5632]⟩
abbrev S5632 : Shape := ⟨1, ![5632]⟩
abbrev S3x8x704 : Shape := ⟨3, ![3, 8, 704]⟩
abbrev S8x3x704 : Shape := ⟨3, ![8, 3, 704]⟩
abbrev S8x1x704 : Shape := ⟨3, ![8, 1, 704]⟩
abbrev S_ : Shape := ⟨0, ![]⟩
abbrev S8x8x704 : Shape := ⟨3, ![8, 8, 704]⟩
abbrev S1024x8x704 : Shape := ⟨3, ![1024, 8, 704]⟩
abbrev S8x1024x704 : Shape := ⟨3, ![8, 1024, 704]⟩
abbrev S1x8x1024x704 : Shape := ⟨4, ![1, 8, 1024, 704]⟩
abbrev S4x2x8192x704 : Shape := ⟨4, ![4, 2, 8192, 704]⟩
abbrev S4x8192x704 : Shape := ⟨3, ![4, 8192, 704]⟩
abbrev S1x1024x1024 : Shape := ⟨3, ![1, 1024, 1024]⟩
abbrev S1x1x1024x704 : Shape := ⟨4, ![1, 1, 1024, 704]⟩
abbrev S1x8x704 : Shape := ⟨3, ![1, 8, 704]⟩
abbrev S1x2x1024x704 : Shape := ⟨4, ![1, 2, 1024, 704]⟩
abbrev S1x1024x704 : Shape := ⟨3, ![1, 1024, 704]⟩
abbrev S2x8x704 : Shape := ⟨3, ![2, 8, 704]⟩
abbrev S1024x1024 : Shape := ⟨2, ![1024, 1024]⟩
abbrev S1024x704 : Shape := ⟨2, ![1024, 704]⟩
abbrev S8x704 : Shape := ⟨2, ![8, 704]⟩
abbrev S1032x704 : Shape := ⟨2, ![1032, 704]⟩
abbrev S1x1x704 : Shape := ⟨3, ![1, 1, 704]⟩
abbrev S1x704 : Shape := ⟨2, ![1, 704]⟩

abbrev nBuf : Space → Nat
  | .hbm => 22
  | .vmem => 17
  | .smem => 0
  | _ => 0

abbrev bufTy : (tb : Table) → Fin (tcTables nBuf tb) → BufTy
  | .hbm, ⟨0, _⟩ => ⟨S1x8192x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S3x8x704, .f32⟩
  | .hbm, ⟨5, _⟩ => ⟨S8x3x704, .f32⟩
  | .hbm, ⟨6, _⟩ => ⟨S8x1x704, .f32⟩
  | .hbm, ⟨7, _⟩ => ⟨S_, .i32⟩
  | .hbm, ⟨8, _⟩ => ⟨S_, .f32⟩
  | .hbm, ⟨9, _⟩ => ⟨S8x8x704, .f32⟩
  | .hbm, ⟨10, _⟩ => ⟨S_, .i32⟩
  | .hbm, ⟨11, _⟩ => ⟨S_, .f32⟩
  | .hbm, ⟨12, _⟩ => ⟨S8x8x704, .f32⟩
  | .hbm, ⟨13, _⟩ => ⟨S8x8x704, .f32⟩
  | .hbm, ⟨14, _⟩ => ⟨S1x8192x1024, .bf16⟩
  | .hbm, ⟨15, _⟩ => ⟨S1024x5632, .bf16⟩
  | .hbm, ⟨16, _⟩ => ⟨S1024x8x704, .bf16⟩
  | .hbm, ⟨17, _⟩ => ⟨S8x1024x704, .bf16⟩
  | .hbm, ⟨18, _⟩ => ⟨S1x8x1024x704, .bf16⟩
  | .hbm, ⟨19, _⟩ => ⟨S4x2x8192x704, .bf16⟩
  | .hbm, ⟨20, _⟩ => ⟨S4x2x8192x704, .bf16⟩
  | .hbm, ⟨21, _⟩ => ⟨S4x8192x704, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1x1024x704, .bf16⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x8x704, .f32⟩
  | .local _ .vmem, ⟨7, _⟩ => ⟨S1x8x704, .f32⟩
  | .local _ .vmem, ⟨8, _⟩ => ⟨S1x8x704, .f32⟩
  | .local _ .vmem, ⟨9, _⟩ => ⟨S1x8x704, .f32⟩
  | .local _ .vmem, ⟨10, _⟩ => ⟨S1x2x1024x704, .bf16⟩
  | .local _ .vmem, ⟨11, _⟩ => ⟨S1x2x1024x704, .bf16⟩
  | .local _ .vmem, ⟨12, _⟩ => ⟨S1x2x1024x704, .bf16⟩
  | .local _ .vmem, ⟨13, _⟩ => ⟨S1x2x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S2x8x704, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  let c0_i32_3 : BitVec 32 := 0#32
  ![c0_i32_0.toNat, v0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S1x8192x1024 : Shape := ⟨3, ![1, 8192, 1024]⟩
abbrev S1024x5632 : Shape := ⟨2, ![1024, 5632]⟩
abbrev S3x5632 : Shape := ⟨2, ![3, 5632]⟩
abbrev S5632 : Shape := ⟨1, ![5632]⟩
abbrev S1x8192x5632 : Shape := ⟨3, ![1, 8192, 5632]⟩
abbrev S_ : Shape := ⟨0, ![]⟩
abbrev S1x2x5632 : Shape := ⟨3, ![1, 2, 5632]⟩
abbrev S1x8194x5632 : Shape := ⟨3, ![1, 8194, 5632]⟩
abbrev S1x5632 : Shape := ⟨2, ![1, 5632]⟩
abbrev S1x1x5632 : Shape := ⟨3, ![1, 1, 5632]⟩
abbrev S1x8192x2816 : Shape := ⟨3, ![1, 8192, 2816]⟩
abbrev S8192x2x4x704 : Shape := ⟨4, ![8192, 2, 4, 704]⟩
abbrev S4x2x8192x704 : Shape := ⟨4, ![4, 2, 8192, 704]⟩
abbrev S8192x4x704 : Shape := ⟨3, ![8192, 4, 704]⟩
abbrev S4x8192x704 : Shape := ⟨3, ![4, 8192, 704]⟩

abbrev nBuf : Space → Nat
  | .hbm => 55
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S1x8192x5632, .f32⟩
  | .hbm, ⟨5, _⟩ => ⟨S_, .f32⟩
  | .hbm, ⟨6, _⟩ => ⟨S1x2x5632, .f32⟩
  | .hbm, ⟨7, _⟩ => ⟨S1x8194x5632, .f32⟩
  | .hbm, ⟨8, _⟩ => ⟨S1x8192x5632, .f32⟩
  | .hbm, ⟨9, _⟩ => ⟨S1x5632, .f32⟩
  | .hbm, ⟨10, _⟩ => ⟨S5632, .f32⟩
  | .hbm, ⟨11, _⟩ => ⟨S1x1x5632, .f32⟩
  | .hbm, ⟨12, _⟩ => ⟨S1x8192x5632, .f32⟩
  | .hbm, ⟨13, _⟩ => ⟨S1x8192x5632, .f32⟩
  | .hbm, ⟨14, _⟩ => ⟨S_, .f32⟩
  | .hbm, ⟨15, _⟩ => ⟨S1x8192x5632, .f32⟩
  | .hbm, ⟨16, _⟩ => ⟨S1x8192x5632, .f32⟩
  | .hbm, ⟨17, _⟩ => ⟨S1x8192x5632, .f32⟩
  | .hbm, ⟨18, _⟩ => ⟨S1x5632, .f32⟩
  | .hbm, ⟨19, _⟩ => ⟨S5632, .f32⟩
  | .hbm, ⟨20, _⟩ => ⟨S1x1x5632, .f32⟩
  | .hbm, ⟨21, _⟩ => ⟨S1x8192x5632, .f32⟩
  | .hbm, ⟨22, _⟩ => ⟨S1x8192x5632, .f32⟩
  | .hbm, ⟨23, _⟩ => ⟨S1x8192x5632, .f32⟩
  | .hbm, ⟨24, _⟩ => ⟨S1x8192x5632, .f32⟩
  | .hbm, ⟨25, _⟩ => ⟨S1x5632, .f32⟩
  | .hbm, ⟨26, _⟩ => ⟨S5632, .f32⟩
  | .hbm, ⟨27, _⟩ => ⟨S1x1x5632, .f32⟩
  | .hbm, ⟨28, _⟩ => ⟨S1x8192x5632, .f32⟩
  | .hbm, ⟨29, _⟩ => ⟨S1x8192x5632, .f32⟩
  | .hbm, ⟨30, _⟩ => ⟨S1x8192x5632, .f32⟩
  | .hbm, ⟨31, _⟩ => ⟨S1x1x5632, .f32⟩
  | .hbm, ⟨32, _⟩ => ⟨S1x8192x5632, .f32⟩
  | .hbm, ⟨33, _⟩ => ⟨S1x8192x5632, .f32⟩
  | .hbm, ⟨34, _⟩ => ⟨S1x8192x2816, .f32⟩
  | .hbm, ⟨35, _⟩ => ⟨S1x8192x2816, .f32⟩
  | .hbm, ⟨36, _⟩ => ⟨S1x8192x2816, .f32⟩
  | .hbm, ⟨37, _⟩ => ⟨S1x8192x2816, .f32⟩
  | .hbm, ⟨38, _⟩ => ⟨S_, .f32⟩
  | .hbm, ⟨39, _⟩ => ⟨S1x8192x2816, .f32⟩
  | .hbm, ⟨40, _⟩ => ⟨S1x8192x2816, .f32⟩
  | .hbm, ⟨41, _⟩ => ⟨S_, .f32⟩
  | .hbm, ⟨42, _⟩ => ⟨S1x8192x2816, .f32⟩
  | .hbm, ⟨43, _⟩ => ⟨S1x8192x2816, .f32⟩
  | .hbm, ⟨44, _⟩ => ⟨S1x8192x2816, .f32⟩
  | .hbm, ⟨45, _⟩ => ⟨S1x8192x2816, .f32⟩
  | .hbm, ⟨46, _⟩ => ⟨S8192x2x4x704, .f32⟩
  | .hbm, ⟨47, _⟩ => ⟨S4x2x8192x704, .f32⟩
  | .hbm, ⟨48, _⟩ => ⟨S4x2x8192x704, .bf16⟩
  | .hbm, ⟨49, _⟩ => ⟨S8192x2x4x704, .f32⟩
  | .hbm, ⟨50, _⟩ => ⟨S4x2x8192x704, .f32⟩
  | .hbm, ⟨51, _⟩ => ⟨S4x2x8192x704, .bf16⟩
  | .hbm, ⟨52, _⟩ => ⟨S8192x4x704, .f32⟩
  | .hbm, ⟨53, _⟩ => ⟨S4x8192x704, .f32⟩
  | .hbm, ⟨54, _⟩ => ⟨S4x8192x704, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel5.lean ====
abbrev S1x8192x2816 : Shape := ⟨3, ![1, 8192, 2816]⟩
abbrev S1x8192x1024 : Shape := ⟨3, ![1, 8192, 1024]⟩
abbrev S1024 : Shape := ⟨1, ![1024]⟩
abbrev S2816x1024 : Shape := ⟨2, ![2816, 1024]⟩
abbrev S_ : Shape := ⟨0, ![]⟩
abbrev S1x8192 : Shape := ⟨2, ![1, 8192]⟩
abbrev S1x8192x1 : Shape := ⟨3, ![1, 8192, 1]⟩
abbrev S8192x1 : Shape := ⟨2, ![8192, 1]⟩
abbrev S8192x4x704 : Shape := ⟨3, ![8192, 4, 704]⟩
abbrev S4x8192x704 : Shape := ⟨3, ![4, 8192, 704]⟩
abbrev S4x1x704x1024 : Shape := ⟨4, ![4, 1, 704, 1024]⟩
abbrev S1x1024 : Shape := ⟨2, ![1, 1024]⟩
abbrev S4x512x704 : Shape := ⟨3, ![4, 512, 704]⟩
abbrev S1x512x1024 : Shape := ⟨3, ![1, 512, 1024]⟩
abbrev S512x1 : Shape := ⟨2, ![512, 1]⟩
abbrev S1x512x704 : Shape := ⟨3, ![1, 512, 704]⟩
abbrev S512x704 : Shape := ⟨2, ![512, 704]⟩
abbrev S1x1x704x1024 : Shape := ⟨4, ![1, 1, 704, 1024]⟩
abbrev S704x1024 : Shape := ⟨2, ![704, 1024]⟩
abbrev S512x1024 : Shape := ⟨2, ![512, 1024]⟩
abbrev S512 : Shape := ⟨1, ![512]⟩

abbrev nBuf : Space → Nat
  | .hbm => 43
  | .vmem => 15
  | .smem => 0
  | _ => 0

abbrev bufTy : (tb : Table) → Fin (tcTables nBuf tb) → BufTy
  | .hbm, ⟨0, _⟩ => ⟨S1x8192x2816, .f32⟩
  | .hbm, ⟨1, _⟩ => ⟨S1x8192x1024, .f32⟩
  | .hbm, ⟨2, _⟩ => ⟨S1024, .f32⟩
  | .hbm, ⟨3, _⟩ => ⟨S1024, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1x8192, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S1x8192x1024, .f32⟩
  | .hbm, ⟨14, _⟩ => ⟨S1x8192x1024, .f32⟩
  | .hbm, ⟨15, _⟩ => ⟨S1x8192x1024, .f32⟩
  | .hbm, ⟨16, _⟩ => ⟨S_, .f32⟩
  | .hbm, ⟨17, _⟩ => ⟨S1x8192, .f32⟩
  | .hbm, ⟨18, _⟩ => ⟨S1x8192x1, .f32⟩
  | .hbm, ⟨19, _⟩ => ⟨S_, .f32⟩
  | .hbm, ⟨20, _⟩ => ⟨S1x8192x1, .f32⟩
  | .hbm, ⟨21, _⟩ => ⟨S1x8192x1, .f32⟩
  | .hbm, ⟨22, _⟩ => ⟨S_, .f32⟩
  | .hbm, ⟨23, _⟩ => ⟨S1x8192x1, .f32⟩
  | .hbm, ⟨24, _⟩ => ⟨S1x8192x1, .f32⟩
  | .hbm, ⟨25, _⟩ => ⟨S1x8192x1, .f32⟩
  | .hbm, ⟨26, _⟩ => ⟨S1x8192x1024, .f32⟩
  | .hbm, ⟨27, _⟩ => ⟨S1x8192x1024, .f32⟩
  | .hbm, ⟨28, _⟩ => ⟨S1x8192x1024, .f32⟩
  | .hbm, ⟨29, _⟩ => ⟨S1x8192x1024, .f32⟩
  | .hbm, ⟨30, _⟩ => ⟨S8192x1, .f32⟩
  | .hbm, ⟨31, _⟩ => ⟨S8192x4x704, .f32⟩
  | .hbm, ⟨32, _⟩ => ⟨S4x8192x704, .f32⟩
  | .hbm, ⟨33, _⟩ => ⟨S4x8192x704, .bf16⟩
  | .hbm, ⟨34, _⟩ => ⟨S2816x1024, .bf16⟩
  | .hbm, ⟨35, _⟩ => ⟨S4x1x704x1024, .bf16⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x8192x1024, .bf16⟩
  | .hbm, ⟨41, _⟩ => ⟨S1x8192x1024, .f32⟩
  | .hbm, ⟨42, _⟩ => ⟨S8192x1, .f32⟩
  | .local _ .vmem, ⟨0, _⟩ => ⟨S4x512x704, .bf16⟩
  | .local _ .vmem, ⟨1, _⟩ => ⟨S4x512x704, .bf16⟩
  | .local _ .vmem, ⟨2, _⟩ => ⟨S4x1x704x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .f32⟩
  | .local _ .vmem, ⟨12, _⟩ => ⟨S1x512x1024, .f32⟩
  | .local _ .vmem, ⟨13, _⟩ => ⟨S512x1, .f32⟩
  | .local _ .vmem, ⟨14, _⟩ => ⟨S512x1, .f32⟩
  | _, _ => ⟨S1x8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28_0 : Ref sig .tc := ⟨.hbm, 40, rfl⟩
abbrev main_v28_1 : Ref sig .tc := ⟨.hbm, 41, rfl⟩
abbrev main_v28_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S1x8192x2816 : Shape := ⟨3, ![1, 8192, 2816]⟩
abbrev S1x8192x1024 : Shape := ⟨3, ![1, 8192, 1024]⟩
abbrev S1024 : Shape := ⟨1, ![1024]⟩
abbrev S2816x1024 : Shape := ⟨2, ![2816, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S8192x1 : Shape := ⟨2, ![8192, 1]⟩

abbrev nBuf : Space → Nat
  | .hbm => 95
  | .vmem => 0
  | .smem => 0
  | _ => 0

abbrev bufTy : (tb : Table) → Fin (tcTables nBuf tb) → BufTy
  | .hbm, ⟨0, _⟩ => ⟨S1x8192x2816, .f32⟩
  | .hbm, ⟨1, _⟩ => ⟨S1x8192x1024, .f32⟩
  | .hbm, ⟨2, _⟩ => ⟨S1024, .f32⟩
  | .hbm, ⟨3, _⟩ => ⟨S1024, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1x8192, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S1x8192x1024, .f32⟩
  | .hbm, ⟨14, _⟩ => ⟨S1x8192x1024, .f32⟩
  | .hbm, ⟨15, _⟩ => ⟨S1x8192x1024, .f32⟩
  | .hbm, ⟨16, _⟩ => ⟨S_, .f32⟩
  | .hbm, ⟨17, _⟩ => ⟨S1x8192, .f32⟩
  | .hbm, ⟨18, _⟩ => ⟨S1x8192x1, .f32⟩
  | .hbm, ⟨19, _⟩ => ⟨S_, .f32⟩
  | .hbm, ⟨20, _⟩ => ⟨S1x8192x1, .f32⟩
  | .hbm, ⟨21, _⟩ => ⟨S1x8192x1, .f32⟩
  | .hbm, ⟨22, _⟩ => ⟨S1x8192x1024, .f32⟩
  | .hbm, ⟨23, _⟩ => ⟨S1x8192x1024, .f32⟩
  | .hbm, ⟨24, _⟩ => ⟨S_, .f32⟩
  | .hbm, ⟨25, _⟩ => ⟨S1x8192x1, .f32⟩
  | .hbm, ⟨26, _⟩ => ⟨S1x8192x1, .f32⟩
  | .hbm, ⟨27, _⟩ => ⟨S1x8192x1, .f32⟩
  | .hbm, ⟨28, _⟩ => ⟨S1x8192x1024, .f32⟩
  | .hbm, ⟨29, _⟩ => ⟨S1x8192x1024, .f32⟩
  | .hbm, ⟨30, _⟩ => ⟨S1x1x1024, .f32⟩
  | .hbm, ⟨31, _⟩ => ⟨S1x8192x1024, .f32⟩
  | .hbm, ⟨32, _⟩ => ⟨S1x8192x1024, .f32⟩
  | .hbm, ⟨33, _⟩ => ⟨S1x1x1024, .f32⟩
  | .hbm, ⟨34, _⟩ => ⟨S1x8192x1024, .f32⟩
  | .hbm, ⟨35, _⟩ => ⟨S1x8192x1024, .f32⟩
  | .hbm, ⟨36, _⟩ => ⟨S_, .f32⟩
  | .hbm, ⟨37, _⟩ => ⟨S1x8192x1024, .f32⟩
  | .hbm, ⟨38, _⟩ => ⟨S1x8192x1024, .f32⟩
  | .hbm, ⟨39, _⟩ => ⟨S1x8192x1024, .f32⟩
  | .hbm, ⟨40, _⟩ => ⟨S1x8192x1024, .f32⟩
  | .hbm, ⟨41, _⟩ => ⟨S_, .f32⟩
  | .hbm, ⟨42, _⟩ => ⟨S1x8192, .f32⟩
  | .hbm, ⟨43, _⟩ => ⟨S1x8192x1, .f32⟩
  | .hbm, ⟨44, _⟩ => ⟨S_, .f32⟩
  | .hbm, ⟨45, _⟩ => ⟨S1x8192x1, .f32⟩
  | .hbm, ⟨46, _⟩ => ⟨S1x8192x1, .f32⟩
  | .hbm, ⟨47, _⟩ => ⟨S1x8192x1024, .f32⟩
  | .hbm, ⟨48, _⟩ => ⟨S1x8192x1024, .f32⟩
  | .hbm, ⟨49, _⟩ => ⟨S1x8192x1024, .f32⟩
  | .hbm, ⟨50, _⟩ => ⟨S_, .f32⟩
  | .hbm, ⟨51, _⟩ => ⟨S1x8192, .f32⟩
  | .hbm, ⟨52, _⟩ => ⟨S1x8192x1, .f32⟩
  | .hbm, ⟨53, _⟩ => ⟨S_, .f32⟩
  | .hbm, ⟨54, _⟩ => ⟨S1x8192x1, .f32⟩
  | .hbm, ⟨55, _⟩ => ⟨S1x8192x1, .f32⟩
  | .hbm, ⟨56, _⟩ => ⟨S_, .f32⟩
  | .hbm, ⟨57, _⟩ => ⟨S1x8192x1, .f32⟩
  | .hbm, ⟨58, _⟩ => ⟨S1x8192x1, .f32⟩
  | .hbm, ⟨59, _⟩ => ⟨S1x8192x1, .f32⟩
  | .hbm, ⟨60, _⟩ => ⟨S1x8192x1024, .f32⟩
  | .hbm, ⟨61, _⟩ => ⟨S1x8192x1024, .f32⟩
  | .hbm, ⟨62, _⟩ => ⟨S1x8192x1024, .f32⟩
  | .hbm, ⟨63, _⟩ => ⟨S1x8192x1024, .f32⟩
  | .hbm, ⟨64, _⟩ => ⟨S8192x1, .f32⟩
  | .hbm, ⟨65, _⟩ => ⟨S_, .f32⟩
  | .hbm, ⟨66, _⟩ => ⟨S1x8192, .f32⟩
  | .hbm, ⟨67, _⟩ => ⟨S1x8192x1, .f32⟩
  | .hbm, ⟨68, _⟩ => ⟨S_, .f32⟩
  | .hbm, ⟨69, _⟩ => ⟨S1x8192x1, .f32⟩
  | .hbm, ⟨70, _⟩ => ⟨S1x8192x1, .f32⟩
  | .hbm, ⟨71, _⟩ => ⟨S1x8192x1024, .f32⟩
  | .hbm, ⟨72, _⟩ => ⟨S1x8192x1024, .f32⟩
  | .hbm, ⟨73, _⟩ => ⟨S1x8192x1024, .f32⟩
  | .hbm, ⟨74, _⟩ => ⟨S_, .f32⟩
  | .hbm, ⟨75, _⟩ => ⟨S1x8192, .f32⟩
  | .hbm, ⟨76, _⟩ => ⟨S1x8192x1, .f32⟩
  | .hbm, ⟨77, _⟩ => ⟨S_, .f32⟩
  | .hbm, ⟨78, _⟩ => ⟨S1x8192x1, .f32⟩
  | .hbm, ⟨79, _⟩ => ⟨S1x8192x1, .f32⟩
  | .hbm, ⟨80, _⟩ => ⟨S1x8192x1024, .f32⟩
  | .hbm, ⟨81, _⟩ => ⟨S1x8192x1024, .f32⟩
  | .hbm, ⟨82, _⟩ => ⟨S_, .f32⟩
  | .hbm, ⟨83, _⟩ => ⟨S1x8192x1, .f32⟩
  | .hbm, ⟨84, _⟩ => ⟨S1x8192x1, .f32⟩
  | .hbm, ⟨85, _⟩ => ⟨S1x8192x1, .f32⟩
  | .hbm, ⟨86, _⟩ => ⟨S1x8192x1024, .f32⟩
  | .hbm, ⟨87, _⟩ => ⟨S1x8192x1024, .f32⟩
  | .hbm, ⟨88, _⟩ => ⟨S1x1x1024, .f32⟩
  | .hbm, ⟨89, _⟩ => ⟨S1x8192x1024, .f32⟩
  | .hbm, ⟨90, _⟩ => ⟨S1x8192x1024, .f32⟩
  | .hbm, ⟨91, _⟩ => ⟨S1x1x1024, .f32⟩
  | .hbm, ⟨92, _⟩ => ⟨S1x8192x1024, .f32⟩
  | .hbm, ⟨93, _⟩ => ⟨S1x8192x1024, .f32⟩
  | .hbm, ⟨94, _⟩ => ⟨S1x8192x1024, .bf16⟩
  | _, _ => ⟨S1x8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_14 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩

abbrev nD : Nat := 1
abbrev τ : Topo := Topo.v7x

variable {F : FTy → Type} [FloatOps F]
-- ==== Kernel6.lean ====
abbrev S1x8192x1024 : Shape := ⟨3, ![1, 8192, 1024]⟩
abbrev S1024x4096 : Shape := ⟨2, ![1024, 4096]⟩
abbrev S1x8192x4096 : Shape := ⟨3, ![1, 8192, 4096]⟩
abbrev S8192x8x512 : Shape := ⟨3, ![8192, 8, 512]⟩
abbrev S8x8192x512 : Shape := ⟨3, ![8, 8192, 512]⟩
abbrev S1024x8x512 : Shape := ⟨3, ![1024, 8, 512]⟩
abbrev S8x1024x512 : Shape := ⟨3, ![8, 1024, 512]⟩
abbrev S1x8x1024x512 : Shape := ⟨4, ![1, 8, 1024, 512]⟩
abbrev S8x256x512 : Shape := ⟨3, ![8, 256, 512]⟩
abbrev S1x256x1024 : Shape := ⟨3, ![1, 256, 1024]⟩
abbrev S1x256x512 : Shape := ⟨3, ![1, 256, 512]⟩
abbrev S256x512 : Shape := ⟨2, ![256, 512]⟩
abbrev S1x1x1024x512 : Shape := ⟨4, ![1, 1, 1024, 512]⟩
abbrev S1024x512 : Shape := ⟨2, ![1024, 512]⟩
abbrev S256x1024 : Shape := ⟨2, ![256, 1024]⟩

abbrev nBuf : Space → Nat
  | .hbm => 12
  | .vmem => 7
  | .smem => 0
  | _ => 0

abbrev bufTy : (tb : Table) → Fin (tcTables nBuf tb) → BufTy
  | .hbm, ⟨0, _⟩ => ⟨S1x8192x1024, .f32⟩
  | .hbm, ⟨1, _⟩ => ⟨S1024x4096, .f32⟩
  | .hbm, ⟨2, _⟩ => ⟨S1x8192x4096, .f32⟩
  | .hbm, ⟨3, _⟩ => ⟨S1x8192x1024, .f32⟩
  | .hbm, ⟨4, _⟩ => ⟨S8192x8x512, .f32⟩
  | .hbm, ⟨5, _⟩ => ⟨S8x8192x512, .f32⟩
  | .hbm, ⟨6, _⟩ => ⟨S8x8192x512, .bf16⟩
  | .hbm, ⟨7, _⟩ => ⟨S1024x4096, .bf16⟩
  | .hbm, ⟨8, _⟩ => ⟨S1024x8x512, .bf16⟩
  | .hbm, ⟨9, _⟩ => ⟨S8x1024x512, .bf16⟩
  | .hbm, ⟨10, _⟩ => ⟨S1x8x1024x512, .bf16⟩
  | .hbm, ⟨11, _⟩ => ⟨S1x8192x1024, .f32⟩
  | .local _ .vmem, ⟨0, _⟩ => ⟨S8x256x512, .bf16⟩
  | .local _ .vmem, ⟨1, _⟩ => ⟨S8x256x512, .bf16⟩
  | .local _ .vmem, ⟨2, _⟩ => ⟨S1x8x1024x512, .bf16⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S1x8192x1024 : Shape := ⟨3, ![1, 8192, 1024]⟩
abbrev S1024x4096 : Shape := ⟨2, ![1024, 4096]⟩
abbrev S1x8192x4096 : Shape := ⟨3, ![1, 8192, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x4096, .f32⟩
  | .hbm, ⟨2, _⟩ => ⟨S1x8192x4096, .f32⟩
  | .hbm, ⟨3, _⟩ => ⟨S1x8192x1024, .f32⟩
  | .hbm, ⟨4, _⟩ => ⟨S1x8192x4096, .f32⟩
  | .hbm, ⟨5, _⟩ => ⟨S_, .f32⟩
  | .hbm, ⟨6, _⟩ => ⟨S1x8192x1024, .f32⟩
  | .hbm, ⟨7, _⟩ => ⟨S1x8192x1024, .f32⟩
  | .hbm, ⟨8, _⟩ => ⟨S_, .f32⟩
  | .hbm, ⟨9, _⟩ => ⟨S1x8192x1024, .f32⟩
  | .hbm, ⟨10, _⟩ => ⟨S1x8192x1024, .f32⟩
  | .hbm, ⟨11, _⟩ => ⟨S1x8192x1024, .f32⟩
  | .hbm, ⟨12, _⟩ => ⟨S1x8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel7.lean ====
abbrev S1x8192x1024 : Shape := ⟨3, ![1, 8192, 1024]⟩
abbrev S1024x4096 : Shape := ⟨2, ![1024, 4096]⟩
abbrev S1x8192x4096 : Shape := ⟨3, ![1, 8192, 4096]⟩
abbrev S8192x8x512 : Shape := ⟨3, ![8192, 8, 512]⟩
abbrev S8x8192x512 : Shape := ⟨3, ![8, 8192, 512]⟩
abbrev S1x8x1024x512 : Shape := ⟨4, ![1, 8, 1024, 512]⟩
abbrev S1x4096x1024 : Shape := ⟨3, ![1, 4096, 1024]⟩
abbrev S1x4096x512 : Shape := ⟨3, ![1, 4096, 512]⟩
abbrev S1x1x1024x512 : Shape := ⟨4, ![1, 1, 1024, 512]⟩
abbrev S1024x512 : Shape := ⟨2, ![1024, 512]⟩
abbrev S4096x1024 : Shape := ⟨2, ![4096, 1024]⟩
abbrev S4096x512 : Shape := ⟨2, ![4096, 512]⟩

abbrev nBuf : Space → Nat
  | .hbm => 8
  | .vmem => 7
  | .smem => 0
  | _ => 0

abbrev bufTy : (tb : Table) → Fin (tcTables nBuf tb) → BufTy
  | .hbm, ⟨0, _⟩ => ⟨S1x8192x1024, .f32⟩
  | .hbm, ⟨1, _⟩ => ⟨S1024x4096, .f32⟩
  | .hbm, ⟨2, _⟩ => ⟨S1x8192x4096, .f32⟩
  | .hbm, ⟨3, _⟩ => ⟨S1x8192x1024, .bf16⟩
  | .hbm, ⟨4, _⟩ => ⟨S8192x8x512, .f32⟩
  | .hbm, ⟨5, _⟩ => ⟨S8x8192x512, .f32⟩
  | .hbm, ⟨6, _⟩ => ⟨S8x8192x512, .bf16⟩
  | .hbm, ⟨7, _⟩ => ⟨S1x8x1024x512, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x1x1024x512, .bf16⟩
  | .local _ .vmem, ⟨5, _⟩ => ⟨S1x1x1024x512, .bf16⟩
  | .local _ .vmem, ⟨6, _⟩ => ⟨S1024x512, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S1x8192x1024 : Shape := ⟨3, ![1, 8192, 1024]⟩
abbrev S1024x4096 : Shape := ⟨2, ![1024, 4096]⟩
abbrev S1x8192x4096 : Shape := ⟨3, ![1, 8192, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S1x8x1024x512 : Shape := ⟨4, ![1, 8, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x4096, .f32⟩
  | .hbm, ⟨2, _⟩ => ⟨S1x8192x4096, .f32⟩
  | .hbm, ⟨3, _⟩ => ⟨S1x8192x4096, .f32⟩
  | .hbm, ⟨4, _⟩ => ⟨S4096x1024, .f32⟩
  | .hbm, ⟨5, _⟩ => ⟨S1024x4096, .f32⟩
  | .hbm, ⟨6, _⟩ => ⟨S1024x8x512, .f32⟩
  | .hbm, ⟨7, _⟩ => ⟨S8x1024x512, .f32⟩
  | .hbm, ⟨8, _⟩ => ⟨S1x8x1024x512, .f32⟩
  | .hbm, ⟨9, _⟩ => ⟨S1x8x1024x512, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S1x8192x1024 : Shape := ⟨3, ![1, 8192, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S1x8x1024x512 : Shape := ⟨4, ![1, 8, 1024, 512]⟩
abbrev S8x8192x512 : Shape := ⟨3, ![8, 8192, 512]⟩
abbrev S1x512x1024 : Shape := ⟨3, ![1, 512, 1024]⟩
abbrev S8x512x512 : Shape := ⟨3, ![8, 512, 512]⟩
abbrev S512x1024 : Shape := ⟨2, ![512, 1024]⟩
abbrev S1x1x1024x512 : Shape := ⟨4, ![1, 1, 1024, 512]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 8
  | .vmem => 5
  | .smem => 0
  | _ => 0

abbrev bufTy : (tb : Table) → Fin (tcTables nBuf tb) → BufTy
  | .hbm, ⟨0, _⟩ => ⟨S1x8192x1024, .f32⟩
  | .hbm, ⟨1, _⟩ => ⟨S1024x4096, .f32⟩
  | .hbm, ⟨2, _⟩ => ⟨S1x8192x1024, .bf16⟩
  | .hbm, ⟨3, _⟩ => ⟨S1024x4096, .bf16⟩
  | .hbm, ⟨4, _⟩ => ⟨S1024x8x512, .bf16⟩
  | .hbm, ⟨5, _⟩ => ⟨S8x1024x512, .bf16⟩
  | .hbm, ⟨6, _⟩ => ⟨S1x8x1024x512, .bf16⟩
  | .hbm, ⟨7, _⟩ => ⟨S8x8192x512, .f32⟩
  | .local _ .vmem, ⟨0, _⟩ => ⟨S1x512x1024, .bf16⟩
  | .local _ .vmem, ⟨1, _⟩ => ⟨S1x512x1024, .bf16⟩
  | .local _ .vmem, ⟨2, _⟩ => ⟨S1x8x1024x512, .bf16⟩
  | .local _ .vmem, ⟨3, _⟩ => ⟨S8x512x512, .f32⟩
  | .local _ .vmem, ⟨4, _⟩ => ⟨S8x512x512, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S1x8192x1024 : Shape := ⟨3, ![1, 8192, 1024]⟩
abbrev S1024x4096 : Shape := ⟨2, ![1024, 4096]⟩
abbrev S1x8192x4096 : Shape := ⟨3, ![1, 8192, 4096]⟩
abbrev S8192x8x512 : Shape := ⟨3, ![8192, 8, 512]⟩
abbrev S8x8192x512 : Shape := ⟨3, ![8, 8192, 512]⟩

abbrev nBuf : Space → Nat
  | .hbm => 5
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x4096, .f32⟩
  | .hbm, ⟨2, _⟩ => ⟨S1x8192x4096, .f32⟩
  | .hbm, ⟨3, _⟩ => ⟨S8192x8x512, .f32⟩
  | .hbm, ⟨4, _⟩ => ⟨S8x8192x512, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S8x1024x512 : Shape := ⟨3, ![8, 1024, 512]⟩
abbrev S1x1024x512 : Shape := ⟨3, ![1, 1024, 512]⟩
abbrev S1024x512 : Shape := ⟨2, ![1024, 512]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 12
  | .vmem => 16
  | .smem => 0
  | _ => 0

abbrev bufTy : (tb : Table) → Fin (tcTables nBuf tb) → BufTy
  | .hbm, ⟨0, _⟩ => ⟨S8x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S8x1024x512, .bf16⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .local _ .vmem, ⟨0, _⟩ => ⟨S8x256x512, .bf16⟩
  | .local _ .vmem, ⟨1, _⟩ => ⟨S8x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S8x1024x512 : Shape := ⟨3, ![8, 1024, 512]⟩
abbrev S1x1024x512 : Shape := ⟨3, ![1, 1024, 512]⟩
abbrev S1024x512 : Shape := ⟨2, ![1024, 512]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S_, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S_, .f32⟩
  | .hbm, ⟨17, _⟩ => ⟨S1024x512, .f32⟩
  | .hbm, ⟨18, _⟩ => ⟨S1024x512, .f32⟩
  | .hbm, ⟨19, _⟩ => ⟨S1024x512, .f32⟩
  | .hbm, ⟨20, _⟩ => ⟨S_, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S_, .f32⟩
  | .hbm, ⟨28, _⟩ => ⟨S1024x512, .f32⟩
  | .hbm, ⟨29, _⟩ => ⟨S1024x512, .f32⟩
  | .hbm, ⟨30, _⟩ => ⟨S1024x512, .f32⟩
  | .hbm, ⟨31, _⟩ => ⟨S_, .f32⟩
  | .hbm, ⟨32, _⟩ => ⟨S1024x512, .f32⟩
  | .hbm, ⟨33, _⟩ => ⟨S1024x512, .f32⟩
  | .hbm, ⟨34, _⟩ => ⟨S1024x512, .f32⟩
  | .hbm, ⟨35, _⟩ => ⟨S_, .f32⟩
  | .hbm, ⟨36, _⟩ => ⟨S1024x512, .f32⟩
  | .hbm, ⟨37, _⟩ => ⟨S1024x512, .f32⟩
  | .hbm, ⟨38, _⟩ => ⟨S1024x512, .f32⟩
  | .hbm, ⟨39, _⟩ => ⟨S_, .f32⟩
  | .hbm, ⟨40, _⟩ => ⟨S1024x512, .f32⟩
  | .hbm, ⟨41, _⟩ => ⟨S1024x512, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel10.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .bf16⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference10Ideal.lean ====
abbrev S8x128x1024 : Shape := ⟨3, ![8, 128, 1024]⟩
abbrev S1x128x1024 : Shape := ⟨3, ![1, 128, 1024]⟩
abbrev S128x1024 : Shape := ⟨2, ![128, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel11.lean ====
abbrev S8x128x512 : Shape := ⟨3, ![8, 128, 512]⟩
abbrev S128x512 : Shape := ⟨2, ![128, 512]⟩
abbrev S1x128x512 : Shape := ⟨3, ![1, 128, 512]⟩

abbrev nBuf : Space → Nat
  | .hbm => 9
  | .vmem => 8
  | .smem => 0
  | _ => 0

abbrev bufTy : (tb : Table) → Fin (tcTables nBuf tb) → BufTy
  | .hbm, ⟨0, _⟩ => ⟨S8x128x512, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S8x128x512, .bf16⟩
  | .hbm, ⟨5, _⟩ => ⟨S128x512, .f32⟩
  | .hbm, ⟨6, _⟩ => ⟨S128x512, .f32⟩
  | .hbm, ⟨7, _⟩ => ⟨S128x512, .f32⟩
  | .hbm, ⟨8, _⟩ => ⟨S128x512, .f32⟩
  | .local _ .vmem, ⟨0, _⟩ => ⟨S8x128x512, .bf16⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | _, _ => ⟨S8x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference11Ideal.lean ====
abbrev S8x128x512 : Shape := ⟨3, ![8, 128, 512]⟩
abbrev S128x512 : Shape := ⟨2, ![128, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x128x512, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S_, .f32⟩
  | .hbm, ⟨5, _⟩ => ⟨S128x512, .f32⟩
  | .hbm, ⟨6, _⟩ => ⟨S_, .f32⟩
  | .hbm, ⟨7, _⟩ => ⟨S128x512, .f32⟩
  | .hbm, ⟨8, _⟩ => ⟨S128x512, .f32⟩
  | .hbm, ⟨9, _⟩ => ⟨S_, .f32⟩
  | .hbm, ⟨10, _⟩ => ⟨S128x512, .f32⟩
  | .hbm, ⟨11, _⟩ => ⟨S128x512, .f32⟩
  | .hbm, ⟨12, _⟩ => ⟨S128x512, .f32⟩
  | .hbm, ⟨13, _⟩ => ⟨S_, .f32⟩
  | .hbm, ⟨14, _⟩ => ⟨S128x512, .f32⟩
  | .hbm, ⟨15, _⟩ => ⟨S128x512, .f32⟩
  | .hbm, ⟨16, _⟩ => ⟨S128x512, .f32⟩
  | .hbm, ⟨17, _⟩ => ⟨S_, .f32⟩
  | .hbm, ⟨18, _⟩ => ⟨S128x512, .f32⟩
  | .hbm, ⟨19, _⟩ => ⟨S128x512, .f32⟩
  | .hbm, ⟨20, _⟩ => ⟨S128x512, .f32⟩
  | .hbm, ⟨21, _⟩ => ⟨S_, .f32⟩
  | .hbm, ⟨22, _⟩ => ⟨S128x512, .f32⟩
  | .hbm, ⟨23, _⟩ => ⟨S128x512, .f32⟩
  | .hbm, ⟨24, _⟩ => ⟨S_, .f32⟩
  | .hbm, ⟨25, _⟩ => ⟨S128x512, .f32⟩
  | .hbm, ⟨26, _⟩ => ⟨S128x512, .f32⟩
  | .hbm, ⟨27, _⟩ => ⟨S128x512, .f32⟩
  | .hbm, ⟨28, _⟩ => ⟨S_, .f32⟩
  | .hbm, ⟨29, _⟩ => ⟨S128x512, .f32⟩
  | .hbm, ⟨30, _⟩ => ⟨S128x512, .f32⟩
  | .hbm, ⟨31, _⟩ => ⟨S128x512, .f32⟩
  | .hbm, ⟨32, _⟩ => ⟨S_, .f32⟩
  | .hbm, ⟨33, _⟩ => ⟨S128x512, .f32⟩
  | .hbm, ⟨34, _⟩ => ⟨S128x512, .f32⟩
  | .hbm, ⟨35, _⟩ => ⟨S128x512, .f32⟩
  | .hbm, ⟨36, _⟩ => ⟨S_, .f32⟩
  | .hbm, ⟨37, _⟩ => ⟨S128x512, .f32⟩
  | .hbm, ⟨38, _⟩ => ⟨S128x512, .f32⟩
  | _, _ => ⟨S8x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel12.lean ====
abbrev S8x1024x704 : Shape := ⟨3, ![8, 1024, 704]⟩
abbrev S2x1024x704 : Shape := ⟨3, ![2, 1024, 704]⟩
abbrev S1024x704 : Shape := ⟨2, ![1024, 704]⟩
abbrev S8x128x704 : Shape := ⟨3, ![8, 128, 704]⟩
abbrev S1x128x704 : Shape := ⟨3, ![1, 128, 704]⟩
abbrev S128x704 : Shape := ⟨2, ![128, 704]⟩

abbrev nBuf : Space → Nat
  | .hbm => 9
  | .vmem => 16
  | .smem => 0
  | _ => 0

abbrev bufTy : (tb : Table) → Fin (tcTables nBuf tb) → BufTy
  | .hbm, ⟨0, _⟩ => ⟨S8x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S8x1024x704, .bf16⟩
  | .hbm, ⟨5, _⟩ => ⟨S1024x704, .f32⟩
  | .hbm, ⟨6, _⟩ => ⟨S1024x704, .f32⟩
  | .hbm, ⟨7, _⟩ => ⟨S1024x704, .f32⟩
  | .hbm, ⟨8, _⟩ => ⟨S1024x704, .f32⟩
  | .local _ .vmem, ⟨0, _⟩ => ⟨S8x128x704, .bf16⟩
  | .local _ .vmem, ⟨1, _⟩ => ⟨S8x128x704, .bf16⟩
  | .local _ .vmem, ⟨2, _⟩ => ⟨S1x128x704, .f32⟩
  | .local _ .vmem, ⟨3, _⟩ => ⟨S1x128x704, .f32⟩
  | .local _ .vmem, ⟨4, _⟩ => ⟨S1x128x704, .f32⟩
  | .local _ .vmem, ⟨5, _⟩ => ⟨S1x128x704, .f32⟩
  | .local _ .vmem, ⟨6, _⟩ => ⟨S1x128x704, .f32⟩
  | .local _ .vmem, ⟨7, _⟩ => ⟨S1x128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | .local _ .vmem, ⟨14, _⟩ => ⟨S128x704, .f32⟩
  | .local _ .vmem, ⟨15, _⟩ => ⟨S128x704, .f32⟩
  | _, _ => ⟨S8x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S8x1024x704 : Shape := ⟨3, ![8, 1024, 704]⟩
abbrev S2x1024x704 : Shape := ⟨3, ![2, 1024, 704]⟩
abbrev S1x1024x704 : Shape := ⟨3, ![1, 1024, 704]⟩
abbrev S1024x704 : Shape := ⟨2, ![1024, 704]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S1x1024x704, .f32⟩
  | .hbm, ⟨5, _⟩ => ⟨S1024x704, .f32⟩
  | .hbm, ⟨6, _⟩ => ⟨S1x1024x704, .f32⟩
  | .hbm, ⟨7, _⟩ => ⟨S1024x704, .f32⟩
  | .hbm, ⟨8, _⟩ => ⟨S1x1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S_, .f32⟩
  | .hbm, ⟨13, _⟩ => ⟨S1024x704, .f32⟩
  | .hbm, ⟨14, _⟩ => ⟨S1024x704, .f32⟩
  | .hbm, ⟨15, _⟩ => ⟨S_, .f32⟩
  | .hbm, ⟨16, _⟩ => ⟨S1024x704, .f32⟩
  | .hbm, ⟨17, _⟩ => ⟨S1024x704, .f32⟩
  | .hbm, ⟨18, _⟩ => ⟨S1024x704, .f32⟩
  | .hbm, ⟨19, _⟩ => ⟨S_, .f32⟩
  | .hbm, ⟨20, _⟩ => ⟨S1024x704, .f32⟩
  | .hbm, ⟨21, _⟩ => ⟨S1024x704, .f32⟩
  | .hbm, ⟨22, _⟩ => ⟨S1024x704, .f32⟩
  | .hbm, ⟨23, _⟩ => ⟨S_, .f32⟩
  | .hbm, ⟨24, _⟩ => ⟨S1024x704, .f32⟩
  | .hbm, ⟨25, _⟩ => ⟨S1024x704, .f32⟩
  | .hbm, ⟨26, _⟩ => ⟨S1024x704, .f32⟩
  | .hbm, ⟨27, _⟩ => ⟨S_, .f32⟩
  | .hbm, ⟨28, _⟩ => ⟨S1024x704, .f32⟩
  | .hbm, ⟨29, _⟩ => ⟨S1024x704, .f32⟩
  | .hbm, ⟨30, _⟩ => ⟨S_, .f32⟩
  | .hbm, ⟨31, _⟩ => ⟨S1024x704, .f32⟩
  | .hbm, ⟨32, _⟩ => ⟨S1024x704, .f32⟩
  | .hbm, ⟨33, _⟩ => ⟨S1024x704, .f32⟩
  | .hbm, ⟨34, _⟩ => ⟨S_, .f32⟩
  | .hbm, ⟨35, _⟩ => ⟨S1024x704, .f32⟩
  | .hbm, ⟨36, _⟩ => ⟨S1024x704, .f32⟩
  | .hbm, ⟨37, _⟩ => ⟨S1024x704, .f32⟩
  | .hbm, ⟨38, _⟩ => ⟨S_, .f32⟩
  | .hbm, ⟨39, _⟩ => ⟨S1024x704, .f32⟩
  | .hbm, ⟨40, _⟩ => ⟨S1024x704, .f32⟩
  | .hbm, ⟨41, _⟩ => ⟨S1024x704, .f32⟩
  | .hbm, ⟨42, _⟩ => ⟨S_, .f32⟩
  | .hbm, ⟨43, _⟩ => ⟨S1024x704, .f32⟩
  | .hbm, ⟨44, _⟩ => ⟨S1024x704, .f32⟩
  | _, _ => ⟨S8x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel13.lean ====
abbrev S8x1024x704 : Shape := ⟨3, ![8, 1024, 704]⟩
abbrev S2x1024x704 : Shape := ⟨3, ![2, 1024, 704]⟩
abbrev S1024x704 : Shape := ⟨2, ![1024, 704]⟩
abbrev S8x128x704 : Shape := ⟨3, ![8, 128, 704]⟩
abbrev S1x128x704 : Shape := ⟨3, ![1, 128, 704]⟩
abbrev S128x704 : Shape := ⟨2, ![128, 704]⟩

abbrev nBuf : Space → Nat
  | .hbm => 9
  | .vmem => 16
  | .smem => 0
  | _ => 0

abbrev bufTy : (tb : Table) → Fin (tcTables nBuf tb) → BufTy
  | .hbm, ⟨0, _⟩ => ⟨S8x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S8x1024x704, .bf16⟩
  | .hbm, ⟨5, _⟩ => ⟨S1024x704, .f32⟩
  | .hbm, ⟨6, _⟩ => ⟨S1024x704, .f32⟩
  | .hbm, ⟨7, _⟩ => ⟨S1024x704, .f32⟩
  | .hbm, ⟨8, _⟩ => ⟨S1024x704, .f32⟩
  | .local _ .vmem, ⟨0, _⟩ => ⟨S8x128x704, .bf16⟩
  | .local _ .vmem, ⟨1, _⟩ => ⟨S8x128x704, .bf16⟩
  | .local _ .vmem, ⟨2, _⟩ => ⟨S1x128x704, .f32⟩
  | .local _ .vmem, ⟨3, _⟩ => ⟨S1x128x704, .f32⟩
  | .local _ .vmem, ⟨4, _⟩ => ⟨S1x128x704, .f32⟩
  | .local _ .vmem, ⟨5, _⟩ => ⟨S1x128x704, .f32⟩
  | .local _ .vmem, ⟨6, _⟩ => ⟨S1x128x704, .f32⟩
  | .local _ .vmem, ⟨7, _⟩ => ⟨S1x128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | .local _ .vmem, ⟨14, _⟩ => ⟨S128x704, .f32⟩
  | .local _ .vmem, ⟨15, _⟩ => ⟨S128x704, .f32⟩
  | _, _ => ⟨S8x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S8x1024x704 : Shape := ⟨3, ![8, 1024, 704]⟩
abbrev S2x1024x704 : Shape := ⟨3, ![2, 1024, 704]⟩
abbrev S1x1024x704 : Shape := ⟨3, ![1, 1024, 704]⟩
abbrev S1024x704 : Shape := ⟨2, ![1024, 704]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S1x1024x704, .f32⟩
  | .hbm, ⟨5, _⟩ => ⟨S1024x704, .f32⟩
  | .hbm, ⟨6, _⟩ => ⟨S1x1024x704, .f32⟩
  | .hbm, ⟨7, _⟩ => ⟨S1024x704, .f32⟩
  | .hbm, ⟨8, _⟩ => ⟨S1x1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S_, .f32⟩
  | .hbm, ⟨13, _⟩ => ⟨S1024x704, .f32⟩
  | .hbm, ⟨14, _⟩ => ⟨S1024x704, .f32⟩
  | .hbm, ⟨15, _⟩ => ⟨S_, .f32⟩
  | .hbm, ⟨16, _⟩ => ⟨S1024x704, .f32⟩
  | .hbm, ⟨17, _⟩ => ⟨S1024x704, .f32⟩
  | .hbm, ⟨18, _⟩ => ⟨S1024x704, .f32⟩
  | .hbm, ⟨19, _⟩ => ⟨S_, .f32⟩
  | .hbm, ⟨20, _⟩ => ⟨S1024x704, .f32⟩
  | .hbm, ⟨21, _⟩ => ⟨S1024x704, .f32⟩
  | .hbm, ⟨22, _⟩ => ⟨S1024x704, .f32⟩
  | .hbm, ⟨23, _⟩ => ⟨S_, .f32⟩
  | .hbm, ⟨24, _⟩ => ⟨S1024x704, .f32⟩
  | .hbm, ⟨25, _⟩ => ⟨S1024x704, .f32⟩
  | .hbm, ⟨26, _⟩ => ⟨S1024x704, .f32⟩
  | .hbm, ⟨27, _⟩ => ⟨S_, .f32⟩
  | .hbm, ⟨28, _⟩ => ⟨S1024x704, .f32⟩
  | .hbm, ⟨29, _⟩ => ⟨S1024x704, .f32⟩
  | .hbm, ⟨30, _⟩ => ⟨S_, .f32⟩
  | .hbm, ⟨31, _⟩ => ⟨S1024x704, .f32⟩
  | .hbm, ⟨32, _⟩ => ⟨S1024x704, .f32⟩
  | .hbm, ⟨33, _⟩ => ⟨S1024x704, .f32⟩
  | .hbm, ⟨34, _⟩ => ⟨S_, .f32⟩
  | .hbm, ⟨35, _⟩ => ⟨S1024x704, .f32⟩
  | .hbm, ⟨36, _⟩ => ⟨S1024x704, .f32⟩
  | .hbm, ⟨37, _⟩ => ⟨S1024x704, .f32⟩
  | .hbm, ⟨38, _⟩ => ⟨S_, .f32⟩
  | .hbm, ⟨39, _⟩ => ⟨S1024x704, .f32⟩
  | .hbm, ⟨40, _⟩ => ⟨S1024x704, .f32⟩
  | .hbm, ⟨41, _⟩ => ⟨S1024x704, .f32⟩
  | .hbm, ⟨42, _⟩ => ⟨S_, .f32⟩
  | .hbm, ⟨43, _⟩ => ⟨S1024x704, .f32⟩
  | .hbm, ⟨44, _⟩ => ⟨S1024x704, .f32⟩
  | _, _ => ⟨S8x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel14.lean ====
abbrev S8x352x1024 : Shape := ⟨3, ![8, 352, 1024]⟩
abbrev S2x352x1024 : Shape := ⟨3, ![2, 352, 1024]⟩
abbrev S352x1024 : Shape := ⟨2, ![352, 1024]⟩
abbrev S8x32x1024 : Shape := ⟨3, ![8, 32, 1024]⟩
abbrev S1x32x1024 : Shape := ⟨3, ![1, 32, 1024]⟩
abbrev S32x1024 : Shape := ⟨2, ![32, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S8x352x1024, .bf16⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S8x352x1024 : Shape := ⟨3, ![8, 352, 1024]⟩
abbrev S2x352x1024 : Shape := ⟨3, ![2, 352, 1024]⟩
abbrev S1x352x1024 : Shape := ⟨3, ![1, 352, 1024]⟩
abbrev S352x1024 : Shape := ⟨2, ![352, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S1x352x1024, .f32⟩
  | .hbm, ⟨5, _⟩ => ⟨S352x1024, .f32⟩
  | .hbm, ⟨6, _⟩ => ⟨S1x352x1024, .f32⟩
  | .hbm, ⟨7, _⟩ => ⟨S352x1024, .f32⟩
  | .hbm, ⟨8, _⟩ => ⟨S1x352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S_, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S352x1024, .f32⟩
  | .hbm, ⟨23, _⟩ => ⟨S_, .f32⟩
  | .hbm, ⟨24, _⟩ => ⟨S352x1024, .f32⟩
  | .hbm, ⟨25, _⟩ => ⟨S352x1024, .f32⟩
  | .hbm, ⟨26, _⟩ => ⟨S352x1024, .f32⟩
  | .hbm, ⟨27, _⟩ => ⟨S_, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | .hbm, ⟨37, _⟩ => ⟨S352x1024, .f32⟩
  | .hbm, ⟨38, _⟩ => ⟨S_, .f32⟩
  | .hbm, ⟨39, _⟩ => ⟨S352x1024, .f32⟩
  | .hbm, ⟨40, _⟩ => ⟨S352x1024, .f32⟩
  | .hbm, ⟨41, _⟩ => ⟨S352x1024, .f32⟩
  | .hbm, ⟨42, _⟩ => ⟨S_, .f32⟩
  | .hbm, ⟨43, _⟩ => ⟨S352x1024, .f32⟩
  | .hbm, ⟨44, _⟩ => ⟨S352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel15.lean ====
abbrev S8x352x1024 : Shape := ⟨3, ![8, 352, 1024]⟩
abbrev S2x352x1024 : Shape := ⟨3, ![2, 352, 1024]⟩
abbrev S352x1024 : Shape := ⟨2, ![352, 1024]⟩
abbrev S8x32x1024 : Shape := ⟨3, ![8, 32, 1024]⟩
abbrev S1x32x1024 : Shape := ⟨3, ![1, 32, 1024]⟩
abbrev S32x1024 : Shape := ⟨2, ![32, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S8x352x1024, .bf16⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S8x352x1024 : Shape := ⟨3, ![8, 352, 1024]⟩
abbrev S2x352x1024 : Shape := ⟨3, ![2, 352, 1024]⟩
abbrev S1x352x1024 : Shape := ⟨3, ![1, 352, 1024]⟩
abbrev S352x1024 : Shape := ⟨2, ![352, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S1x352x1024, .f32⟩
  | .hbm, ⟨5, _⟩ => ⟨S352x1024, .f32⟩
  | .hbm, ⟨6, _⟩ => ⟨S1x352x1024, .f32⟩
  | .hbm, ⟨7, _⟩ => ⟨S352x1024, .f32⟩
  | .hbm, ⟨8, _⟩ => ⟨S1x352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S_, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S352x1024, .f32⟩
  | .hbm, ⟨23, _⟩ => ⟨S_, .f32⟩
  | .hbm, ⟨24, _⟩ => ⟨S352x1024, .f32⟩
  | .hbm, ⟨25, _⟩ => ⟨S352x1024, .f32⟩
  | .hbm, ⟨26, _⟩ => ⟨S352x1024, .f32⟩
  | .hbm, ⟨27, _⟩ => ⟨S_, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | .hbm, ⟨37, _⟩ => ⟨S352x1024, .f32⟩
  | .hbm, ⟨38, _⟩ => ⟨S_, .f32⟩
  | .hbm, ⟨39, _⟩ => ⟨S352x1024, .f32⟩
  | .hbm, ⟨40, _⟩ => ⟨S352x1024, .f32⟩
  | .hbm, ⟨41, _⟩ => ⟨S352x1024, .f32⟩
  | .hbm, ⟨42, _⟩ => ⟨S_, .f32⟩
  | .hbm, ⟨43, _⟩ => ⟨S352x1024, .f32⟩
  | .hbm, ⟨44, _⟩ => ⟨S352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel16.lean ====
abbrev S224x128 : Shape := ⟨2, ![224, 128]⟩
abbrev S1x224x128 : Shape := ⟨3, ![1, 224, 128]⟩
abbrev S1x32x128 : Shape := ⟨3, ![1, 32, 128]⟩
abbrev S32x128 : Shape := ⟨2, ![32, 128]⟩

abbrev nBuf : Space → Nat
  | .hbm => 9
  | .vmem => 16
  | .smem => 0
  | _ => 0

abbrev bufTy : (tb : Table) → Fin (tcTables nBuf tb) → BufTy
  | .hbm, ⟨0, _⟩ => ⟨S224x128, .f32⟩
  | .hbm, ⟨1, _⟩ => ⟨S224x128, .f32⟩
  | .hbm, ⟨2, _⟩ => ⟨S224x128, .f32⟩
  | .hbm, ⟨3, _⟩ => ⟨S224x128, .f32⟩
  | .hbm, ⟨4, _⟩ => ⟨S1x224x128, .f32⟩
  | .hbm, ⟨5, _⟩ => ⟨S224x128, .f32⟩
  | .hbm, ⟨6, _⟩ => ⟨S224x128, .f32⟩
  | .hbm, ⟨7, _⟩ => ⟨S224x128, .f32⟩
  | .hbm, ⟨8, _⟩ => ⟨S224x128, .f32⟩
  | .local _ .vmem, ⟨0, _⟩ => ⟨S1x32x128, .f32⟩
  | .local _ .vmem, ⟨1, _⟩ => ⟨S1x32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | .local _ .vmem, ⟨14, _⟩ => ⟨S32x128, .f32⟩
  | .local _ .vmem, ⟨15, _⟩ => ⟨S32x128, .f32⟩
  | _, _ => ⟨S224x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![7], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S224x128 : Shape := ⟨2, ![224, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S224x128, .f32⟩
  | .hbm, ⟨1, _⟩ => ⟨S224x128, .f32⟩
  | .hbm, ⟨2, _⟩ => ⟨S224x128, .f32⟩
  | .hbm, ⟨3, _⟩ => ⟨S224x128, .f32⟩
  | .hbm, ⟨4, _⟩ => ⟨S_, .f32⟩
  | .hbm, ⟨5, _⟩ => ⟨S224x128, .f32⟩
  | .hbm, ⟨6, _⟩ => ⟨S224x128, .f32⟩
  | .hbm, ⟨7, _⟩ => ⟨S_, .f32⟩
  | .hbm, ⟨8, _⟩ => ⟨S224x128, .f32⟩
  | .hbm, ⟨9, _⟩ => ⟨S224x128, .f32⟩
  | .hbm, ⟨10, _⟩ => ⟨S224x128, .f32⟩
  | .hbm, ⟨11, _⟩ => ⟨S_, .f32⟩
  | .hbm, ⟨12, _⟩ => ⟨S224x128, .f32⟩
  | .hbm, ⟨13, _⟩ => ⟨S224x128, .f32⟩
  | .hbm, ⟨14, _⟩ => ⟨S224x128, .f32⟩
  | .hbm, ⟨15, _⟩ => ⟨S_, .f32⟩
  | .hbm, ⟨16, _⟩ => ⟨S224x128, .f32⟩
  | .hbm, ⟨17, _⟩ => ⟨S224x128, .f32⟩
  | .hbm, ⟨18, _⟩ => ⟨S224x128, .f32⟩
  | .hbm, ⟨19, _⟩ => ⟨S_, .f32⟩
  | .hbm, ⟨20, _⟩ => ⟨S224x128, .f32⟩
  | .hbm, ⟨21, _⟩ => ⟨S224x128, .f32⟩
  | .hbm, ⟨22, _⟩ => ⟨S_, .f32⟩
  | .hbm, ⟨23, _⟩ => ⟨S224x128, .f32⟩
  | .hbm, ⟨24, _⟩ => ⟨S224x128, .f32⟩
  | .hbm, ⟨25, _⟩ => ⟨S224x128, .f32⟩
  | .hbm, ⟨26, _⟩ => ⟨S_, .f32⟩
  | .hbm, ⟨27, _⟩ => ⟨S224x128, .f32⟩
  | .hbm, ⟨28, _⟩ => ⟨S224x128, .f32⟩
  | .hbm, ⟨29, _⟩ => ⟨S224x128, .f32⟩
  | .hbm, ⟨30, _⟩ => ⟨S_, .f32⟩
  | .hbm, ⟨31, _⟩ => ⟨S224x128, .f32⟩
  | .hbm, ⟨32, _⟩ => ⟨S224x128, .f32⟩
  | .hbm, ⟨33, _⟩ => ⟨S224x128, .f32⟩
  | .hbm, ⟨34, _⟩ => ⟨S_, .f32⟩
  | .hbm, ⟨35, _⟩ => ⟨S224x128, .f32⟩
  | .hbm, ⟨36, _⟩ => ⟨S224x128, .f32⟩
  | _, _ => ⟨S224x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S8x464x128 : Shape := ⟨3, ![8, 464, 128]⟩
abbrev S464x128 : Shape := ⟨2, ![464, 128]⟩
abbrev S1x464x128 : Shape := ⟨3, ![1, 464, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x464x128, .f32⟩
  | .hbm, ⟨1, _⟩ => ⟨S464x128, .f32⟩
  | .local _ .vmem, ⟨0, _⟩ => ⟨S8x464x128, .f32⟩
  | .local _ .vmem, ⟨1, _⟩ => ⟨S464x128, .f32⟩
  | _, _ => ⟨S8x464x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x464x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S464x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference17Ideal.lean ====
abbrev S8x464x128 : Shape := ⟨3, ![8, 464, 128]⟩
abbrev S_ : Shape := ⟨0, ![]⟩
abbrev S464x128 : Shape := ⟨2, ![464, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x464x128, .f32⟩
  | .hbm, ⟨1, _⟩ => ⟨S_, .f32⟩
  | .hbm, ⟨2, _⟩ => ⟨S464x128, .f32⟩
  | _, _ => ⟨S8x464x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Gate.Spec.lean ====
module
public import Idealize.ShloMosaic.Lib.Pointwise
@[expose] public section

/-!
# The gated feed-forward's gradient as a formula

The arrays as functions of tokens and columns. The 5632 columns of the convolution are the two halves of the gate, each of
four parts of 704 columns.
-/

noncomputable section
namespace Cert.Spec
open Idealize.ShloMosaic

/-- The convolution's input. -/
def uOf (h : Fin 8192 → Fin 1024 → EReal) (w : Fin 1024 → Fin 5632 → EReal) (t : Fin 8192) (j : Fin 5632) : EReal :=
  ∑ k : Fin 1024, h t k * w k j

/-- The row `k` tokens before, zeros before the first token. -/
def back (u : Fin 8192 → Fin 5632 → EReal) (k : ℕ) (t : Fin 8192) (j : Fin 5632) : EReal :=
  if t.val < k then 0 else u ⟨t.val - k, by omega⟩ j

/-- The row `k` tokens after, zeros after the last token. -/
def ahead (d : Fin 8192 → Fin 5632 → EReal) (k : ℕ) (t : Fin 8192) (j : Fin 5632) : EReal :=
  if h : t.val + k < 8192 then d ⟨t.val + k, h⟩ j else 0

/-- The causal convolution of width three. -/
def convOf (u : Fin 8192 → Fin 5632 → EReal) (cw : Fin 3 → Fin 5632 → EReal) (cb : Fin 5632 → EReal) (t : Fin 8192) (j : Fin 5632) : EReal :=
  back u 2 t j * cw 0 j + back u 1 t j * cw 1 j + u t j * cw 2 j + cb j

/-- The logistic function. -/
def sg (a : EReal) : EReal := Ideal.div 1 (1 + Ideal.exp (0 - a))

/-- The column of the first half that belongs to column `y`. -/
def colA (y : Fin 2816) : Fin 5632 := ⟨y.val, by omega⟩
/-- The column of the second half that belongs to column `y`. -/
def colB (y : Fin 2816) : Fin 5632 := ⟨2816 + y.val, by omega⟩

/-- The gradient of the gate's product. -/
def dactOf (dy : Fin 8192 → Fin 1024 → EReal) (wo : Fin 2816 → Fin 1024 → EReal) (t : Fin 8192) (y : Fin 2816) : EReal :=
  ∑ k : Fin 1024, dy t k * wo y k

/-- The gradient of the gate's first half. -/
def daOf (c : Fin 8192 → Fin 5632 → EReal) (dact : Fin 8192 → Fin 2816 → EReal) (t : Fin 8192) (y : Fin 2816) : EReal :=
  dact t y * c t (colB y) * (sg (c t (colA y)) * (1 + c t (colA y) * (1 - sg (c t (colA y)))))

/-- The gradient of the gate's second half. -/
def dbOf (c : Fin 8192 → Fin 5632 → EReal) (dact : Fin 8192 → Fin 2816 → EReal) (t : Fin 8192) (y : Fin 2816) : EReal :=
  dact t y * (c t (colA y) * sg (c t (colA y)))

/-- The gradient of the convolution's output. -/
def dcOf (c : Fin 8192 → Fin 5632 → EReal) (dact : Fin 8192 → Fin 2816 → EReal) (t : Fin 8192) (j : Fin 5632) : EReal :=
  if h : j.val < 2816 then daOf c dact t ⟨j.val, h⟩ else dbOf c dact t ⟨j.val - 2816, by omega⟩

/-- The gradient of the convolution's input. -/
def duOf (cw : Fin 3 → Fin 5632 → EReal) (d : Fin 8192 → Fin 5632 → EReal) (t : Fin 8192) (j : Fin 5632) : EReal :=
  cw 2 j * d t j + cw 1 j * ahead d 1 t j + cw 0 j * ahead d 2 t j

/-- The gradient of the output weights. -/
def dwoOf (c : Fin 8192 → Fin 5632 → EReal) (dy : Fin 8192 → Fin 1024 → EReal) (y : Fin 2816) (k : Fin 1024) : EReal :=
  ∑ t : Fin 8192, c t (colA y) * sg (c t (colA y)) * c t (colB y) * dy t k

/-- The gradients of the convolution's weights (rows 0, 1, 2) and bias (row 3), zeros below. -/
def dcwOf (u d : Fin 8192 → Fin 5632 → EReal) (i : Fin 8) (j : Fin 5632) : EReal :=
  if i = 0 then ∑ t : Fin 8192, ahead d 2 t j * u t j
  else if i = 1 then ∑ t : Fin 8192, ahead d 1 t j * u t j
  else if i = 2 then ∑ t : Fin 8192, d t j * u t j
  else if i = 3 then ∑ t : Fin 8192, d t j
  else 0

/-- The column of half `s`, part `p`, lane `x`. -/
def col (s : Fin 2) (p : Fin 4) (x : Fin 704) : Fin 5632 := ⟨s.val * 2816 + p.val * 704 + x.val, by omega⟩
/-- The column in a half of part `p`, lane `x`. -/
def hcol (p : Fin 4) (x : Fin 704) : Fin 2816 := ⟨p.val * 704 + x.val, by omega⟩

end Cert.Spec
-- ==== Proof.Gate.Pieces.lean ====
module
public import proofs.«01_k».proof.Proof.Gen.KernelIdeal.Value
public import Idealize.ShloMosaic.Lib.Pipeline.ValueKit
public import Idealize.ShloMosaic.Lib.Pointwise
@[expose] public section

/-!
# What a list of stores leaves at one index

The body stores some buffers piece by piece, and some of the pieces overlap. The lemmas here read such a list at one
index, newest piece first: either the index is in the piece and the piece's payload decides, or it is outside and the
rest of the list decides.
-/

noncomputable section
namespace Cert.KernelIdeal.Hand
open Idealize.ShloMosaic

/-- Every index of a rank-2 array is given by its two coordinates. -/
theorem exists_ix2 {n0 n1 : ℕ} (i : (⟨2, ![n0, n1]⟩ : Shape).Idx) : ∃ a b, i = ix2 a b := by
  refine ⟨i 0, i 1, funext fun d => ?_⟩
  match d with | ⟨0, _⟩ => rfl | ⟨1, _⟩ => rfl

/-- Every index of a rank-3 array is given by its three coordinates. -/
theorem exists_ix3 {n0 n1 n2 : ℕ} (i : (⟨3, ![n0, n1, n2]⟩ : Shape).Idx) : ∃ a b c, i = ix3 a b c := by
  refine ⟨i 0, i 1, i 2, funext fun d => ?_⟩
  match d with | ⟨0, _⟩ => rfl | ⟨1, _⟩ => rfl | ⟨2, _⟩ => rfl

/-- Every index of a rank-4 array is given by its four coordinates. -/
theorem exists_ix4 {n0 n1 n2 n3 : ℕ} (i : (⟨4, ![n0, n1, n2, n3]⟩ : Shape).Idx) : ∃ a b c d, i = ix4 a b c d := by
  refine ⟨i 0, i 1, i 2, i 3, funext fun d => ?_⟩
  match d with | ⟨0, _⟩ => rfl | ⟨1, _⟩ => rfl | ⟨2, _⟩ => rfl | ⟨3, _⟩ => rfl

/-- At one index the newest piece decides where it holds the index, the rest of the list where it does not. -/
theorem canon_case {s : Shape} {e : EltTy} {off size : Fin s.rank → ℕ} (inb : ∀ a, off a + size a ≤ s.size a)
    (w : (Rect.unit (s := s) off size inb).shape.Idx → Elt Ideal e) (L : List (View.Piece (Elt Ideal) s e)) (y : s.Idx) (v : Elt Ideal e)
    (hit : ∀ x : (Rect.unit (s := s) off size inb).shape.Idx, (∀ a, (y a).val = off a + (x a).val) → w x = v)
    (miss : ¬(∀ a, off a ≤ (y a).val ∧ (y a).val < off a + size a) → View.canon L y = v) :
    View.canon (⟨Rect.unit off size inb, w⟩ :: L) y = v := by
  by_cases h : ∀ a, off a ≤ (y a).val ∧ (y a).val < off a + size a
  · obtain ⟨x, hx⟩ := (Rect.unit (s := s) off size inb).exists_idx_of_mem (Rect.mem_set_unit.mpr h)
    rw [← hx]
    refine (View.canon_cons_emb _ w L x).trans (hit x fun a => ?_)
    rw [← hx]
    show off a + 1 * (x a).val = _
    omega
  · rw [View.canon_cons_of_not_mem _ _ (fun hy => h ((Rect.mem_set_unit (inb := inb)).mp hy))]
    exact miss h

/-- `canon_case` of a rank-3 buffer, the index given by its coordinates. -/
theorem canon_case3 {n0 n1 n2 o0 o1 o2 z0 z1 z2 : ℕ} {e : EltTy}
    (inb : ∀ a, (![o0, o1, o2] : Fin 3 → ℕ) a + (![z0, z1, z2] : Fin 3 → ℕ) a ≤ (⟨3, ![n0, n1, n2]⟩ : Shape).size a)
    (w : (⟨3, ![z0, z1, z2]⟩ : Shape).Idx → Elt Ideal e) (L : List (View.Piece (Elt Ideal) ⟨3, ![n0, n1, n2]⟩ e))
    (a : Fin n0) (b : Fin n1) (c : Fin n2) (v : Elt Ideal e)
    (hit : ∀ (a' : Fin z0) (b' : Fin z1) (c' : Fin z2), a.val = o0 + a'.val → b.val = o1 + b'.val → c.val = o2 + c'.val → w (ix3 a' b' c') = v)
    (miss : ¬((o0 ≤ a.val ∧ a.val < o0 + z0) ∧ (o1 ≤ b.val ∧ b.val < o1 + z1) ∧ (o2 ≤ c.val ∧ c.val < o2 + z2)) →
      View.canon L (ix3 a b c) = v) :
    View.canon (⟨Rect.unit (s := ⟨3, ![n0, n1, n2]⟩) ![o0, o1, o2] ![z0, z1, z2] inb, w⟩ :: L) (ix3 a b c) = v := by
  refine canon_case (s := ⟨3, ![n0, n1, n2]⟩) inb w L (ix3 a b c) v (fun x hx => ?_) fun h => miss fun ⟨h0, h1, h2⟩ => h fun d => ?_
  · have hxe : x = ix3 (n0 := z0) (n1 := z1) (n2 := z2) (x 0) (x 1) (x 2) := by
      funext d; match d with | ⟨0, _⟩ => rfl | ⟨1, _⟩ => rfl | ⟨2, _⟩ => rfl
    rw [hxe]
    exact hit _ _ _ (hx 0) (hx 1) (hx 2)
  · match d with | ⟨0, _⟩ => exact h0 | ⟨1, _⟩ => exact h1 | ⟨2, _⟩ => exact h2

/-- `canon_case` of a rank-4 buffer, the index given by its coordinates. -/
theorem canon_case4 {n0 n1 n2 n3 o0 o1 o2 o3 z0 z1 z2 z3 : ℕ} {e : EltTy}
    (inb : ∀ a, (![o0, o1, o2, o3] : Fin 4 → ℕ) a + (![z0, z1, z2, z3] : Fin 4 → ℕ) a ≤ (⟨4, ![n0, n1, n2, n3]⟩ : Shape).size a)
    (w : (⟨4, ![z0, z1, z2, z3]⟩ : Shape).Idx → Elt Ideal e) (L : List (View.Piece (Elt Ideal) ⟨4, ![n0, n1, n2, n3]⟩ e))
    (a : Fin n0) (b : Fin n1) (c : Fin n2) (d : Fin n3) (v : Elt Ideal e)
    (hit : ∀ (a' : Fin z0) (b' : Fin z1) (c' : Fin z2) (d' : Fin z3), a.val = o0 + a'.val → b.val = o1 + b'.val → c.val = o2 + c'.val →
      d.val = o3 + d'.val → w (ix4 a' b' c' d') = v)
    (miss : ¬((o0 ≤ a.val ∧ a.val < o0 + z0) ∧ (o1 ≤ b.val ∧ b.val < o1 + z1) ∧ (o2 ≤ c.val ∧ c.val < o2 + z2) ∧ (o3 ≤ d.val ∧ d.val < o3 + z3)) →
      View.canon L (ix4 a b c d) = v) :
    View.canon (⟨Rect.unit (s := ⟨4, ![n0, n1, n2, n3]⟩) ![o0, o1, o2, o3] ![z0, z1, z2, z3] inb, w⟩ :: L) (ix4 a b c d) = v := by
  refine canon_case (s := ⟨4, ![n0, n1, n2, n3]⟩) inb w L (ix4 a b c d) v (fun x hx => ?_) fun h => miss fun ⟨h0, h1, h2, h3⟩ => h fun k => ?_
  · have hxe : x = ix4 (n0 := z0) (n1 := z1) (n2 := z2) (n3 := z3) (x 0) (x 1) (x 2) (x 3) := by
      funext k; match k with | ⟨0, _⟩ => rfl | ⟨1, _⟩ => rfl | ⟨2, _⟩ => rfl | ⟨3, _⟩ => rfl
    rw [hxe]
    exact hit _ _ _ _ (hx 0) (hx 1) (hx 2) (hx 3)
  · match k with | ⟨0, _⟩ => exact h0 | ⟨1, _⟩ => exact h1 | ⟨2, _⟩ => exact h2 | ⟨3, _⟩ => exact h3

end Cert.KernelIdeal.Hand
-- ==== Proof.Gate.Pay.lean ====
module
public import proofs.«01_k».proof.Proof.Gen.KernelIdeal.Value
public import Idealize.ShloMosaic.Lib.Pipeline.ValueKit
public import Idealize.ShloMosaic.Lib.Pointwise
@[expose] public section

/-!
# The values the body stores, element by element

Each lemma gives one stored payload at one index as arithmetic on the elements of the arrays it is computed from. `E0`
is the gradient of the convolution's output on a block, `E1` and `E2` are the rows one and two further down.
-/

set_option maxRecDepth 16384
noncomputable section
namespace Cert.KernelIdeal.Hand
open Cert.KernelIdeal Cert.KernelIdeal.Gen Idealize.ShloMosaic Idealize.ShloMosaic.TcCoe Idealize.SL.Sem

/-- Row `r + k` of a block of 1024 rows that eight further rows follow. -/
def below (D : FVec Ideal S1024x704 .f32) (ca : FVec Ideal S1x8x704 .f32) (k : ℕ) (r : Fin 1024) (x : Fin 704) : EReal :=
  if h : r.val + k < 1024 then D (ix2 ⟨r.val + k, h⟩ x)
  else if h' : r.val + k - 1024 < 8 then ca (ix3 0 ⟨r.val + k - 1024, h'⟩ x) else 0

/-- A rotation by 1031 of the 1032 rows brings the next row. -/
theorem pay83_apply (D : FVec Ideal S1024x704 .f32) (ca : FVec Ideal S1x8x704 .f32) (r : Fin 1024) (x : Fin 704) :
    k0_pay83 D ca (ix2 r x) = below D ca 1 r x := by
  have hr : (r.val + 1032 - 1031) % 1032 = r.val + 1 := by omega
  pointwise [k0_pay83, k0_pay82, below]
  simp only [hr]
  by_cases h1 : r.val + 1 < 1024
  · rw [dif_pos h1, dif_pos h1]
  · rw [dif_neg h1, dif_neg h1, dif_pos (by omega)]

/-- A rotation by 1030 of the 1032 rows brings the row after the next. -/
theorem pay84_apply (D : FVec Ideal S1024x704 .f32) (ca : FVec Ideal S1x8x704 .f32) (r : Fin 1024) (x : Fin 704) :
    k0_pay84 D ca (ix2 r x) = below D ca 2 r x := by
  have hr : (r.val + 1032 - 1030) % 1032 = r.val + 2 := by omega
  pointwise [k0_pay84, k0_pay82, below]
  simp only [hr]
  by_cases h1 : r.val + 2 < 1024
  · rw [dif_pos h1, dif_pos h1]
  · rw [dif_neg h1, dif_neg h1, dif_pos (by omega)]

/-- `pay83_apply` for the first half. -/
theorem pay64_apply (a b c d : FVec Ideal S1024x704 .f32) (ca : FVec Ideal S1x8x704 .f32) (r : Fin 1024) (x : Fin 704) :
    k0_pay64 a b c d ca (ix2 r x) = below (k0_pay61 a b c d) ca 1 r x := by
  have hr : (r.val + 1032 - 1031) % 1032 = r.val + 1 := by omega
  pointwise [k0_pay64, k0_pay63, below]
  simp only [hr]
  by_cases h1 : r.val + 1 < 1024
  · rw [dif_pos h1, dif_pos h1]
  · rw [dif_neg h1, dif_neg h1, dif_pos (by omega)]

/-- `pay84_apply` for the first half. -/
theorem pay65_apply (a b c d : FVec Ideal S1024x704 .f32) (ca : FVec Ideal S1x8x704 .f32) (r : Fin 1024) (x : Fin 704) :
    k0_pay65 a b c d ca (ix2 r x) = below (k0_pay61 a b c d) ca 2 r x := by
  have hr : (r.val + 1032 - 1030) % 1032 = r.val + 2 := by omega
  pointwise [k0_pay65, k0_pay63, below]
  simp only [hr]
  by_cases h1 : r.val + 2 < 1024
  · rw [dif_pos h1, dif_pos h1]
  · rw [dif_neg h1, dif_neg h1, dif_pos (by omega)]

/-- The gradient of the convolution's input on one block: three taps, the later rows first. -/
theorem pay85_apply (E0 E1 E2 : FVec Ideal S1024x704 .f32) (w2 w1 w0 : FVec Ideal S1x1x704 .f32) (r : Fin 1024) (x : Fin 704) :
    k0_pay85 E0 E1 E2 w2 w1 w0 (ix4 0 0 r x) =
      w2 (ix3 0 0 x) * E0 (ix2 r x) + w1 (ix3 0 0 x) * E1 (ix2 r x) + w0 (ix3 0 0 x) * E2 (ix2 r x) := by
  pointwise [k0_pay85]

/-- `pay85_apply` for the first half. -/
theorem pay66_apply (a b c d : FVec Ideal S1024x704 .f32) (ca : FVec Ideal S1x8x704 .f32) (w2 w1 w0 : FVec Ideal S1x1x704 .f32)
    (r : Fin 1024) (x : Fin 704) :
    k0_pay66 a b c d ca w2 w1 w0 (ix4 0 0 r x) =
      w2 (ix3 0 0 x) * k0_pay61 a b c d (ix2 r x) + w1 (ix3 0 0 x) * k0_pay64 a b c d ca (ix2 r x)
        + w0 (ix3 0 0 x) * k0_pay65 a b c d ca (ix2 r x) := by
  pointwise [k0_pay66]

/-- The rows carried over: the first eight of the block. -/
theorem pay86_apply (D : FVec Ideal S1024x704 .f32) (r : Fin 8) (x : Fin 704) :
    k0_pay86 D (ix3 0 r x) = D (ix2 ⟨r.val, by omega⟩ x) := by
  pointwise [k0_pay86]

/-- `pay86_apply` for the first half. -/
theorem pay68_apply (a b c d : FVec Ideal S1024x704 .f32) (r : Fin 8) (x : Fin 704) :
    k0_pay68 (k0_pay67 a b c d) (ix3 0 r x) = k0_pay61 a b c d (ix2 ⟨r.val, by omega⟩ x) := by
  pointwise [k0_pay68, k0_pay67]

/-- The gradient of the gate's product on one block: one output row times one row of the weights. -/
theorem pay54_apply (dy : FVec Ideal S1x1024x1024 .f32) (w : FVec Ideal S1x1x704x1024 .bf16) (r : Fin 1024) (x : Fin 704) :
    k0_pay54 dy w (ix2 r x) = ∑ k : Fin 1024, dy (ix3 0 r k) * w (ix4 0 0 x k) := by
  pointwise [k0_pay54, k0_pay53]

/-- The two multiplicative halves' gradient: first half. -/
theorem pay61_apply (da : FVec Ideal S1024x704 .f32) (A B : FVec Ideal S1x1x1024x704 .bf16) (r : Fin 1024) (x : Fin 704) :
    k0_pay61 da (k0_pay55 A) (k0_pay56 B) (k0_pay57 A) (ix2 r x) =
      da (ix2 r x) * B (ix4 0 0 r x) * (Ideal.div 1 (1 + Ideal.exp (0 - A (ix4 0 0 r x))) *
        (1 + A (ix4 0 0 r x) * (1 - Ideal.div 1 (1 + Ideal.exp (0 - A (ix4 0 0 r x)))))) := by
  pointwise [k0_pay61, k0_pay55, k0_pay56, k0_pay57]

/-- Second half. -/
theorem pay62_apply (da : FVec Ideal S1024x704 .f32) (A : FVec Ideal S1x1x1024x704 .bf16) (r : Fin 1024) (x : Fin 704) :
    k0_pay62 da (k0_pay58 A) (ix2 r x) =
      da (ix2 r x) * (A (ix4 0 0 r x) * Ideal.div 1 (1 + Ideal.exp (0 - A (ix4 0 0 r x)))) := by
  pointwise [k0_pay62, k0_pay58, k0_pay57, k0_pay55]

/-- The output weights' gradient: what was summed before, and the block's product. -/
theorem pay60_apply (dy : FVec Ideal S1x1024x1024 .f32) (A B : FVec Ideal S1x1x1024x704 .bf16) (p : Vec Ideal S704x1024 .f32)
    (x : Fin 704) (k : Fin 1024) :
    k0_pay60 (k0_pay59 dy A B p) (ix2 x k) = p (ix2 x k) + ∑ r : Fin 1024,
      A (ix4 0 0 r x) * Ideal.div 1 (1 + Ideal.exp (0 - A (ix4 0 0 r x))) * B (ix4 0 0 r x) * dy (ix3 0 r k) := by
  pointwise [k0_pay60, k0_pay59, k0_pay58, k0_pay57, k0_pay56, k0_pay55, k0_pay53]

/-- The output weights' gradient as it is written. -/
theorem pay6_apply (p : FVec Ideal S704x1024 .f32) (x : Fin 704) (k : Fin 1024) :
    @Eq EReal (k0_pay6 (F := Ideal) p (ix4 0 0 x k)) (p (ix2 x k)) := by
  pointwise [k0_pay6]

/-- The three arrays side by side on the 128 lanes from `128 * j`. -/
def lanes3 (E0 E1 E2 : FVec Ideal S1024x704 .f32) (j : Fin 5) (r : Fin 1024) (q : Fin 384) : EReal :=
  if q.val < 128 then E0 (ix2 r ⟨128 * j.val + q.val % 128, by omega⟩)
  else if q.val < 256 then E1 (ix2 r ⟨128 * j.val + q.val % 128, by omega⟩)
  else E2 (ix2 r ⟨128 * j.val + q.val % 128, by omega⟩)

/-- The product of the block's inputs with the shifted gradients: half 0, lanes from 0. -/
theorem pay72_apply (E0 E1 E2 : FVec Ideal S1024x704 .f32) (g : FVec Ideal S1x1x128x384 .f32) (u : FVec Ideal S1x1x1024x128 .bf16)
    (l : Fin 128) (q : Fin 384) :
    k0_pay72 E0 E1 E2 g u (ix4 0 0 l q) =
      g (ix4 0 0 l q) + ∑ r : Fin 1024, u (ix4 0 0 r l) * lanes3 E0 E1 E2 0 r q := by
  pointwise [k0_pay72, k0_pay69, k0_pay70, k0_pay71]
  refine congrArg (g (ix4 0 0 l q) + ·) (Finset.sum_congr rfl fun r _ => congrArg (u (ix4 0 0 r l) * ·) ?_)
  unfold lanes3
  by_cases h1 : q.val < 128
  · rw [dif_pos h1, if_pos h1]
    exact congrArg (fun z => E0 (ix2 r z)) (Fin.ext (by show q.val = 128 * 0 + q.val % 128; omega))
  · rw [dif_neg h1, if_neg h1]
    by_cases h2 : q.val < 256
    · rw [dif_pos (by omega), if_pos h2]
      exact congrArg (fun z => E1 (ix2 r z)) (Fin.ext (by show (q.val - 128) = 128 * 0 + q.val % 128; omega))
    · rw [dif_neg (by omega), if_neg h2]
      exact congrArg (fun z => E2 (ix2 r z)) (Fin.ext (by show (q.val - 128 - 128) = 128 * 0 + q.val % 128; omega))

/-- The product of the block's inputs with the shifted gradients: half 0, lanes from 128. -/
theorem pay74_apply (E0 E1 E2 : FVec Ideal S1024x704 .f32) (g : FVec Ideal S1x1x128x384 .f32) (u : FVec Ideal S1x1x1024x128 .bf16)
    (l : Fin 128) (q : Fin 384) :
    k0_pay74 (k0_pay73 E0 E1 E2 g u) (ix4 0 0 l q) =
      g (ix4 0 0 l q) + ∑ r : Fin 1024, u (ix4 0 0 r l) * lanes3 E0 E1 E2 1 r q := by
  pointwise [k0_pay74, k0_pay73, k0_pay69, k0_pay70, k0_pay71]
  refine congrArg (g (ix4 0 0 l q) + ·) (Finset.sum_congr rfl fun r _ => congrArg (u (ix4 0 0 r l) * ·) ?_)
  unfold lanes3
  by_cases h1 : q.val < 128
  · rw [dif_pos h1, if_pos h1]
    exact congrArg (fun z => E0 (ix2 r z)) (Fin.ext (by show 128 + q.val = 128 * 1 + q.val % 128; omega))
  · rw [dif_neg h1, if_neg h1]
    by_cases h2 : q.val < 256
    · rw [dif_pos (by omega), if_pos h2]
      exact congrArg (fun z => E1 (ix2 r z)) (Fin.ext (by show 128 + (q.val - 128) = 128 * 1 + q.val % 128; omega))
    · rw [dif_neg (by omega), if_neg h2]
      exact congrArg (fun z => E2 (ix2 r z)) (Fin.ext (by show 128 + (q.val - 128 - 128) = 128 * 1 + q.val % 128; omega))

/-- The product of the block's inputs with the shifted gradients: half 0, lanes from 256. -/
theorem pay75_apply (E0 E1 E2 : FVec Ideal S1024x704 .f32) (g : FVec Ideal S1x1x128x384 .f32) (u : FVec Ideal S1x1x1024x128 .bf16)
    (l : Fin 128) (q : Fin 384) :
    k0_pay75 (k0_pay69 E0) (k0_pay70 E1) (k0_pay71 E2) g u (ix4 0 0 l q) =
      g (ix4 0 0 l q) + ∑ r : Fin 1024, u (ix4 0 0 r l) * lanes3 E0 E1 E2 2 r q := by
  pointwise [k0_pay75, k0_pay69, k0_pay70, k0_pay71]
  refine congrArg (g (ix4 0 0 l q) + ·) (Finset.sum_congr rfl fun r _ => congrArg (u (ix4 0 0 r l) * ·) ?_)
  unfold lanes3
  by_cases h1 : q.val < 128
  · rw [dif_pos h1, if_pos h1]
    exact congrArg (fun z => E0 (ix2 r z)) (Fin.ext (by show 256 + q.val = 128 * 2 + q.val % 128; omega))
  · rw [dif_neg h1, if_neg h1]
    by_cases h2 : q.val < 256
    · rw [dif_pos (by omega), if_pos h2]
      exact congrArg (fun z => E1 (ix2 r z)) (Fin.ext (by show 256 + (q.val - 128) = 128 * 2 + q.val % 128; omega))
    · rw [dif_neg (by omega), if_neg h2]
      exact congrArg (fun z => E2 (ix2 r z)) (Fin.ext (by show 256 + (q.val - 128 - 128) = 128 * 2 + q.val % 128; omega))

/-- The product of the block's inputs with the shifted gradients: half 0, lanes from 384. -/
theorem pay76_apply (E0 E1 E2 : FVec Ideal S1024x704 .f32) (g : FVec Ideal S1x1x128x384 .f32) (u : FVec Ideal S1x1x1024x128 .bf16)
    (l : Fin 128) (q : Fin 384) :
    k0_pay76 (k0_pay69 E0) (k0_pay70 E1) (k0_pay71 E2) g u (ix4 0 0 l q) =
      g (ix4 0 0 l q) + ∑ r : Fin 1024, u (ix4 0 0 r l) * lanes3 E0 E1 E2 3 r q := by
  pointwise [k0_pay76, k0_pay69, k0_pay70, k0_pay71]
  refine congrArg (g (ix4 0 0 l q) + ·) (Finset.sum_congr rfl fun r _ => congrArg (u (ix4 0 0 r l) * ·) ?_)
  unfold lanes3
  by_cases h1 : q.val < 128
  · rw [dif_pos h1, if_pos h1]
    exact congrArg (fun z => E0 (ix2 r z)) (Fin.ext (by show 384 + q.val = 128 * 3 + q.val % 128; omega))
  · rw [dif_neg h1, if_neg h1]
    by_cases h2 : q.val < 256
    · rw [dif_pos (by omega), if_pos h2]
      exact congrArg (fun z => E1 (ix2 r z)) (Fin.ext (by show 384 + (q.val - 128) = 128 * 3 + q.val % 128; omega))
    · rw [dif_neg (by omega), if_neg h2]
      exact congrArg (fun z => E2 (ix2 r z)) (Fin.ext (by show 384 + (q.val - 128 - 128) = 128 * 3 + q.val % 128; omega))

/-- The product of the block's inputs with the shifted gradients: half 0, lanes from 512. -/
theorem pay77_apply (E0 E1 E2 : FVec Ideal S1024x704 .f32) (g : FVec Ideal S1x1x128x384 .f32) (u : FVec Ideal S1x1x1024x128 .bf16)
    (l : Fin 128) (q : Fin 384) :
    k0_pay77 (k0_pay69 E0) (k0_pay70 E1) (k0_pay71 E2) g u (ix4 0 0 l q) =
      g (ix4 0 0 l q) + ∑ r : Fin 1024, u (ix4 0 0 r l) * lanes3 E0 E1 E2 4 r q := by
  pointwise [k0_pay77, k0_pay69, k0_pay70, k0_pay71]
  refine congrArg (g (ix4 0 0 l q) + ·) (Finset.sum_congr rfl fun r _ => congrArg (u (ix4 0 0 r l) * ·) ?_)
  unfold lanes3
  by_cases h1 : q.val < 128
  · rw [dif_pos h1, if_pos h1]
    exact congrArg (fun z => E0 (ix2 r z)) (Fin.ext (by show 512 + q.val = 128 * 4 + q.val % 128; omega))
  · rw [dif_neg h1, if_neg h1]
    by_cases h2 : q.val < 256
    · rw [dif_pos (by omega), if_pos h2]
      exact congrArg (fun z => E1 (ix2 r z)) (Fin.ext (by show 512 + (q.val - 128) = 128 * 4 + q.val % 128; omega))
    · rw [dif_neg (by omega), if_neg h2]
      exact congrArg (fun z => E2 (ix2 r z)) (Fin.ext (by show 512 + (q.val - 128 - 128) = 128 * 4 + q.val % 128; omega))

/-- The product of the block's inputs with the shifted gradients: half 1, lanes from 0. -/
theorem pay93_apply (E0 E1 E2 : FVec Ideal S1024x704 .f32) (g : FVec Ideal S1x1x128x384 .f32) (u : FVec Ideal S1x1x1024x128 .bf16)
    (l : Fin 128) (q : Fin 384) :
    k0_pay93 (k0_pay90 g) (k0_pay91 u) (k0_pay92 E0 E1 E2) (constant S128x384 FTy.f32 0#32) (ix4 0 0 l q) =
      g (ix4 0 0 l q) + ∑ r : Fin 1024, u (ix4 0 0 r l) * lanes3 E0 E1 E2 0 r q := by
  pointwise [k0_pay93, k0_pay90, k0_pay91, k0_pay92, k0_pay87, k0_pay88, k0_pay89]
  refine congrArg (g (ix4 0 0 l q) + ·) (Finset.sum_congr rfl fun r _ => congrArg (u (ix4 0 0 r l) * ·) ?_)
  unfold lanes3
  by_cases h1 : q.val < 128
  · rw [dif_pos h1, if_pos h1]
    exact congrArg (fun z => E0 (ix2 r z)) (Fin.ext (by show q.val = 128 * 0 + q.val % 128; omega))
  · rw [dif_neg h1, if_neg h1]
    by_cases h2 : q.val < 256
    · rw [dif_pos (by omega), if_pos h2]
      exact congrArg (fun z => E1 (ix2 r z)) (Fin.ext (by show (q.val - 128) = 128 * 0 + q.val % 128; omega))
    · rw [dif_neg (by omega), if_neg h2]
      exact congrArg (fun z => E2 (ix2 r z)) (Fin.ext (by show (q.val - 128 - 128) = 128 * 0 + q.val % 128; omega))

/-- The product of the block's inputs with the shifted gradients: half 1, lanes from 128. -/
theorem pay94_apply (E0 E1 E2 : FVec Ideal S1024x704 .f32) (g : FVec Ideal S1x1x128x384 .f32) (u : FVec Ideal S1x1x1024x128 .bf16)
    (l : Fin 128) (q : Fin 384) :
    k0_pay94 (k0_pay87 E0) (k0_pay88 E1) (k0_pay89 E2) g u (ix4 0 0 l q) =
      g (ix4 0 0 l q) + ∑ r : Fin 1024, u (ix4 0 0 r l) * lanes3 E0 E1 E2 1 r q := by
  pointwise [k0_pay94, k0_pay87, k0_pay88, k0_pay89]
  refine congrArg (g (ix4 0 0 l q) + ·) (Finset.sum_congr rfl fun r _ => congrArg (u (ix4 0 0 r l) * ·) ?_)
  unfold lanes3
  by_cases h1 : q.val < 128
  · rw [dif_pos h1, if_pos h1]
    exact congrArg (fun z => E0 (ix2 r z)) (Fin.ext (by show 128 + q.val = 128 * 1 + q.val % 128; omega))
  · rw [dif_neg h1, if_neg h1]
    by_cases h2 : q.val < 256
    · rw [dif_pos (by omega), if_pos h2]
      exact congrArg (fun z => E1 (ix2 r z)) (Fin.ext (by show 128 + (q.val - 128) = 128 * 1 + q.val % 128; omega))
    · rw [dif_neg (by omega), if_neg h2]
      exact congrArg (fun z => E2 (ix2 r z)) (Fin.ext (by show 128 + (q.val - 128 - 128) = 128 * 1 + q.val % 128; omega))

/-- The product of the block's inputs with the shifted gradients: half 1, lanes from 256. -/
theorem pay96_apply (E0 E1 E2 : FVec Ideal S1024x704 .f32) (g : FVec Ideal S1x1x128x384 .f32) (u : FVec Ideal S1x1x1024x128 .bf16)
    (l : Fin 128) (q : Fin 384) :
    k0_pay96 (k0_pay95 (k0_pay87 E0) (k0_pay88 E1) (k0_pay89 E2) g u) (ix4 0 0 l q) =
      g (ix4 0 0 l q) + ∑ r : Fin 1024, u (ix4 0 0 r l) * lanes3 E0 E1 E2 2 r q := by
  pointwise [k0_pay96, k0_pay95, k0_pay87, k0_pay88, k0_pay89]
  refine congrArg (g (ix4 0 0 l q) + ·) (Finset.sum_congr rfl fun r _ => congrArg (u (ix4 0 0 r l) * ·) ?_)
  unfold lanes3
  by_cases h1 : q.val < 128
  · rw [dif_pos h1, if_pos h1]
    exact congrArg (fun z => E0 (ix2 r z)) (Fin.ext (by show 256 + q.val = 128 * 2 + q.val % 128; omega))
  · rw [dif_neg h1, if_neg h1]
    by_cases h2 : q.val < 256
    · rw [dif_pos (by omega), if_pos h2]
      exact congrArg (fun z => E1 (ix2 r z)) (Fin.ext (by show 256 + (q.val - 128) = 128 * 2 + q.val % 128; omega))
    · rw [dif_neg (by omega), if_neg h2]
      exact congrArg (fun z => E2 (ix2 r z)) (Fin.ext (by show 256 + (q.val - 128 - 128) = 128 * 2 + q.val % 128; omega))

/-- The product of the block's inputs with the shifted gradients: half 1, lanes from 384. -/
theorem pay97_apply (E0 E1 E2 : FVec Ideal S1024x704 .f32) (g : FVec Ideal S1x1x128x384 .f32) (u : FVec Ideal S1x1x1024x128 .bf16)
    (l : Fin 128) (q : Fin 384) :
    k0_pay97 (k0_pay87 E0) (k0_pay88 E1) (k0_pay89 E2) g u (ix4 0 0 l q) =
      g (ix4 0 0 l q) + ∑ r : Fin 1024, u (ix4 0 0 r l) * lanes3 E0 E1 E2 3 r q := by
  pointwise [k0_pay97, k0_pay87, k0_pay88, k0_pay89]
  refine congrArg (g (ix4 0 0 l q) + ·) (Finset.sum_congr rfl fun r _ => congrArg (u (ix4 0 0 r l) * ·) ?_)
  unfold lanes3
  by_cases h1 : q.val < 128
  · rw [dif_pos h1, if_pos h1]
    exact congrArg (fun z => E0 (ix2 r z)) (Fin.ext (by show 384 + q.val = 128 * 3 + q.val % 128; omega))
  · rw [dif_neg h1, if_neg h1]
    by_cases h2 : q.val < 256
    · rw [dif_pos (by omega), if_pos h2]
      exact congrArg (fun z => E1 (ix2 r z)) (Fin.ext (by show 384 + (q.val - 128) = 128 * 3 + q.val % 128; omega))
    · rw [dif_neg (by omega), if_neg h2]
      exact congrArg (fun z => E2 (ix2 r z)) (Fin.ext (by show 384 + (q.val - 128 - 128) = 128 * 3 + q.val % 128; omega))

/-- The product of the block's inputs with the shifted gradients: half 1, lanes from 512. -/
theorem pay98_apply (E0 E1 E2 : FVec Ideal S1024x704 .f32) (g : FVec Ideal S1x1x128x384 .f32) (u : FVec Ideal S1x1x1024x128 .bf16)
    (l : Fin 128) (q : Fin 384) :
    k0_pay98 (k0_pay87 E0) (k0_pay88 E1) (k0_pay89 E2) g u (ix4 0 0 l q) =
      g (ix4 0 0 l q) + ∑ r : Fin 1024, u (ix4 0 0 r l) * lanes3 E0 E1 E2 4 r q := by
  pointwise [k0_pay98, k0_pay87, k0_pay88, k0_pay89]
  refine congrArg (g (ix4 0 0 l q) + ·) (Finset.sum_congr rfl fun r _ => congrArg (u (ix4 0 0 r l) * ·) ?_)
  unfold lanes3
  by_cases h1 : q.val < 128
  · rw [dif_pos h1, if_pos h1]
    exact congrArg (fun z => E0 (ix2 r z)) (Fin.ext (by show 512 + q.val = 128 * 4 + q.val % 128; omega))
  · rw [dif_neg h1, if_neg h1]
    by_cases h2 : q.val < 256
    · rw [dif_pos (by omega), if_pos h2]
      exact congrArg (fun z => E1 (ix2 r z)) (Fin.ext (by show 512 + (q.val - 128) = 128 * 4 + q.val % 128; omega))
    · rw [dif_neg (by omega), if_neg h2]
      exact congrArg (fun z => E2 (ix2 r z)) (Fin.ext (by show 512 + (q.val - 128 - 128) = 128 * 4 + q.val % 128; omega))

/-- Choosing by comparing a row number with a constant. -/
theorem select_row {e : FTy} (l : Fin 8) (k : Fin 8) (a b : Ideal e) :
    Scalar.select (IntOp.cmpi CmpIPredicate.eq (BitVec.ofNat 32 l.val) (BitVec.ofNat 32 k.val)) a b = if l = k then a else b := by
  have h : ∀ l k : Fin 8, IntOp.cmpi CmpIPredicate.eq (BitVec.ofNat 32 l.val) (BitVec.ofNat 32 k.val) = if l = k then 1#1 else 0#1 := by decide
  rw [h]
  split_ifs <;> rfl

/-- Half 0: row 3 of the small results collects the sum of the gradients. -/
theorem pay78_apply (E0 : FVec Ideal S1024x704 .f32) (p : FVec Ideal S1x1x8x704 .f32) (i : Fin 8) (x : Fin 704) :
    k0_pay78 E0 (iota Kind.tc S8x704 32 [0] iota_S8x704_d0_w32) p (ix4 0 0 i x) =
      p (ix4 0 0 i x) + if i = 3 then ∑ r : Fin 1024, E0 (ix2 r x) else 0 := by
  pointwise [k0_pay78]
  exact congrArg (p (ix4 0 0 i x) + ·) (select_row i 3 _ _)

/-- Half 1: row 3 of the small results collects the sum of the gradients. -/
theorem pay99_apply (E0 : FVec Ideal S1024x704 .f32) (p : FVec Ideal S1x1x8x704 .f32) (i : Fin 8) (x : Fin 704) :
    k0_pay99 E0 (iota Kind.tc S8x704 32 [0] iota_S8x704_d0_w32) p (ix4 0 0 i x) =
      p (ix4 0 0 i x) + if i = 3 then ∑ r : Fin 1024, E0 (ix2 r x) else 0 := by
  pointwise [k0_pay99]
  exact congrArg (p (ix4 0 0 i x) + ·) (select_row i 3 _ _)

/-- What rows 0, 1 and 2 of the small results collect on the last 64 lanes: the sums of inputs times shifted gradients. -/
def tail3 (E0 E1 E2 : FVec Ideal S1024x704 .f32) (u : FVec Ideal S1x1x1024x64 .bf16) (i : Fin 8) (q : Fin 64) : EReal :=
  if i = 0 then ∑ r : Fin 1024, E2 (ix2 r ⟨640 + q.val, by omega⟩) * u (ix4 0 0 r q)
  else if i = 1 then ∑ r : Fin 1024, E1 (ix2 r ⟨640 + q.val, by omega⟩) * u (ix4 0 0 r q)
  else if i = 2 then ∑ r : Fin 1024, E0 (ix2 r ⟨640 + q.val, by omega⟩) * u (ix4 0 0 r q)
  else 0

/-- Half 0, the last 64 lanes. -/
theorem pay81_apply (E0 E1 E2 : FVec Ideal S1024x704 .f32) (u : FVec Ideal S1x1x1024x64 .bf16) (p : FVec Ideal S1x1x8x64 .f32) (i : Fin 8) (q : Fin 64) :
    k0_pay81 E0 (iota Kind.tc S8x704 32 [0] iota_S8x704_d0_w32) E1 (k0_pay79 u) (k0_pay80 E2 u) p (ix4 0 0 i q) =
      p (ix4 0 0 i q) + tail3 E0 E1 E2 u i q := by
  pointwise [k0_pay81, k0_pay80, k0_pay79]
  refine congrArg (p (ix4 0 0 i q) + ·) ?_
  unfold tail3
  refine (select_row i 0 _ _).trans ?_
  refine congrArg (fun z => ite (i = 0) _ z) ?_
  refine (select_row i 1 _ _).trans ?_
  refine congrArg (fun z => ite (i = 1) _ z) ?_
  exact select_row i 2 _ _

/-- Half 1, the last 64 lanes. -/
theorem pay1_apply (E0 E1 E2 : FVec Ideal S1024x704 .f32) (u : FVec Ideal S1x1x1024x64 .bf16) (p : FVec Ideal S1x1x8x64 .f32) (i : Fin 8) (q : Fin 64) :
    k0_pay1 (k0_pay101 E2 u) (k0_pay102 E1 u) (k0_pay103 E0 u) (k0_pay104 (iota Kind.tc S8x704 32 [0] iota_S8x704_d0_w32)) (k0_pay105 p)
        (k0_pay106 (iota Kind.tc S8x704 32 [0] iota_S8x704_d0_w32)) (k0_pay107 (iota Kind.tc S8x704 32 [0] iota_S8x704_d0_w32)) 2#32 (ix4 0 0 i q) =
      p (ix4 0 0 i q) + tail3 E0 E1 E2 u i q := by
  pointwise [k0_pay1, k0_pay100, k0_pay101, k0_pay102, k0_pay103, k0_pay104, k0_pay105, k0_pay106, k0_pay107]
  refine congrArg (p (ix4 0 0 i q) + ·) ?_
  unfold tail3
  refine (select_row i 0 _ _).trans ?_
  refine congrArg (fun z => ite (i = 0) _ z) ?_
  refine (select_row i 1 _ _).trans ?_
  refine congrArg (fun z => ite (i = 1) _ z) ?_
  exact select_row i 2 _ _

/-- A sum of which only one term is kept. -/
theorem sum_eye (f : Fin 128 → EReal) (l : Fin 128) :
    (∑ k : Fin 128, Scalar.select (IntOp.andi (IntOp.cmpi CmpIPredicate.sge (BitVec.ofNat 32 k.val) (BitVec.ofNat 32 l.val))
      (IntOp.cmpi CmpIPredicate.sle (BitVec.ofNat 32 k.val) (BitVec.ofNat 32 l.val))) (f k) 0) = f l := by
  have h : ∀ k l : Fin 128, IntOp.andi (IntOp.cmpi CmpIPredicate.sge (BitVec.ofNat 32 k.val) (BitVec.ofNat 32 l.val))
      (IntOp.cmpi CmpIPredicate.sle (BitVec.ofNat 32 k.val) (BitVec.ofNat 32 l.val)) = if k = l then 1#1 else 0#1 := by decide +kernel
  have hs : ∀ k : Fin 128, Scalar.select (if k = l then 1#1 else 0#1) (f k) 0 = if k = l then f k else 0 := fun k => by split_ifs <;> rfl
  simp only [h, hs, Finset.sum_ite_eq', Finset.mem_univ, if_true]

/-- Half 0, lanes from 0: tap 0 of the kernel's gradient is the diagonal of the collected product. -/
theorem pay9_apply (G : FVec Ideal S1x1x128x384 .f32) (l : Fin 128) :
    k0_pay9 G (ix4 0 0 0 l) = G (ix4 0 0 l ⟨256 + l.val, by omega⟩) := by
  pointwise [k0_pay9, k0_pay7, k0_pay2, k0_pay8, k0_pay13, k0_pay17, k0_pay21, k0_pay22, k0_pay26, k0_pay31, k0_pay36, k0_pay40, k0_pay45]
  exact sum_eye (fun k => G (ix4 0 0 k ⟨256 + l.val, by omega⟩)) l

/-- Half 0, lanes from 0: tap 1 of the kernel's gradient is the diagonal of the collected product. -/
theorem pay10_apply (G : FVec Ideal S1x1x128x384 .f32) (l : Fin 128) :
    k0_pay10 G (ix4 0 0 0 l) = G (ix4 0 0 l ⟨128 + l.val, by omega⟩) := by
  pointwise [k0_pay10, k0_pay7, k0_pay2, k0_pay8, k0_pay13, k0_pay17, k0_pay21, k0_pay22, k0_pay26, k0_pay31, k0_pay36, k0_pay40, k0_pay45]
  exact sum_eye (fun k => G (ix4 0 0 k ⟨128 + l.val, by omega⟩)) l

/-- Half 0, lanes from 0: tap 2 of the kernel's gradient is the diagonal of the collected product. -/
theorem pay12_apply (G : FVec Ideal S1x1x128x384 .f32) (l : Fin 128) :
    k0_pay12 (k0_pay11 G) (ix4 0 0 0 l) = G (ix4 0 0 l ⟨l.val, by omega⟩) := by
  pointwise [k0_pay11, k0_pay12, k0_pay7, k0_pay2, k0_pay8, k0_pay13, k0_pay17, k0_pay21, k0_pay22, k0_pay26, k0_pay31, k0_pay36, k0_pay40, k0_pay45]
  exact sum_eye (fun k => G (ix4 0 0 k ⟨l.val, by omega⟩)) l

/-- Half 0, lanes from 128: tap 0 of the kernel's gradient is the diagonal of the collected product. -/
theorem pay14_apply (G : FVec Ideal S1x1x128x384 .f32) (l : Fin 128) :
    k0_pay14 k0_pay7 G (ix4 0 0 0 l) = G (ix4 0 0 l ⟨256 + l.val, by omega⟩) := by
  pointwise [k0_pay14, k0_pay7, k0_pay7, k0_pay2, k0_pay8, k0_pay13, k0_pay17, k0_pay21, k0_pay22, k0_pay26, k0_pay31, k0_pay36, k0_pay40, k0_pay45]
  exact sum_eye (fun k => G (ix4 0 0 k ⟨256 + l.val, by omega⟩)) l

/-- Half 0, lanes from 128: tap 1 of the kernel's gradient is the diagonal of the collected product. -/
theorem pay15_apply (G : FVec Ideal S1x1x128x384 .f32) (l : Fin 128) :
    k0_pay15 k0_pay7 G (ix4 0 0 0 l) = G (ix4 0 0 l ⟨128 + l.val, by omega⟩) := by
  pointwise [k0_pay15, k0_pay7, k0_pay7, k0_pay2, k0_pay8, k0_pay13, k0_pay17, k0_pay21, k0_pay22, k0_pay26, k0_pay31, k0_pay36, k0_pay40, k0_pay45]
  exact sum_eye (fun k => G (ix4 0 0 k ⟨128 + l.val, by omega⟩)) l

/-- Half 0, lanes from 128: tap 2 of the kernel's gradient is the diagonal of the collected product. -/
theorem pay16_apply (G : FVec Ideal S1x1x128x384 .f32) (l : Fin 128) :
    k0_pay16 k0_pay7 G (ix4 0 0 0 l) = G (ix4 0 0 l ⟨l.val, by omega⟩) := by
  pointwise [k0_pay16, k0_pay7, k0_pay7, k0_pay2, k0_pay8, k0_pay13, k0_pay17, k0_pay21, k0_pay22, k0_pay26, k0_pay31, k0_pay36, k0_pay40, k0_pay45]
  exact sum_eye (fun k => G (ix4 0 0 k ⟨l.val, by omega⟩)) l

/-- Half 0, lanes from 256: tap 0 of the kernel's gradient is the diagonal of the collected product. -/
theorem pay18_apply (G : FVec Ideal S1x1x128x384 .f32) (l : Fin 128) :
    k0_pay18 k0_pay7 G (ix4 0 0 0 l) = G (ix4 0 0 l ⟨256 + l.val, by omega⟩) := by
  pointwise [k0_pay18, k0_pay7, k0_pay7, k0_pay2, k0_pay8, k0_pay13, k0_pay17, k0_pay21, k0_pay22, k0_pay26, k0_pay31, k0_pay36, k0_pay40, k0_pay45]
  exact sum_eye (fun k => G (ix4 0 0 k ⟨256 + l.val, by omega⟩)) l

/-- Half 0, lanes from 256: tap 1 of the kernel's gradient is the diagonal of the collected product. -/
theorem pay19_apply (G : FVec Ideal S1x1x128x384 .f32) (l : Fin 128) :
    k0_pay19 k0_pay7 G (ix4 0 0 0 l) = G (ix4 0 0 l ⟨128 + l.val, by omega⟩) := by
  pointwise [k0_pay19, k0_pay7, k0_pay7, k0_pay2, k0_pay8, k0_pay13, k0_pay17, k0_pay21, k0_pay22, k0_pay26, k0_pay31, k0_pay36, k0_pay40, k0_pay45]
  exact sum_eye (fun k => G (ix4 0 0 k ⟨128 + l.val, by omega⟩)) l

/-- Half 0, lanes from 256: tap 2 of the kernel's gradient is the diagonal of the collected product. -/
theorem pay20_apply (G : FVec Ideal S1x1x128x384 .f32) (l : Fin 128) :
    k0_pay20 k0_pay7 G (ix4 0 0 0 l) = G (ix4 0 0 l ⟨l.val, by omega⟩) := by
  pointwise [k0_pay20, k0_pay7, k0_pay7, k0_pay2, k0_pay8, k0_pay13, k0_pay17, k0_pay21, k0_pay22, k0_pay26, k0_pay31, k0_pay36, k0_pay40, k0_pay45]
  exact sum_eye (fun k => G (ix4 0 0 k ⟨l.val, by omega⟩)) l

/-- Half 0, lanes from 384: tap 0 of the kernel's gradient is the diagonal of the collected product. -/
theorem pay23_apply (G : FVec Ideal S1x1x128x384 .f32) (l : Fin 128) :
    k0_pay23 k0_pay7 (k0_pay22 G) (FloatOps.ofBits FTy.f32 0#32) (ix4 0 0 0 l) = G (ix4 0 0 l ⟨256 + l.val, by omega⟩) := by
  pointwise [k0_pay22, k0_pay23, k0_pay7, k0_pay7, k0_pay2, k0_pay8, k0_pay13, k0_pay17, k0_pay21, k0_pay22, k0_pay26, k0_pay31, k0_pay36, k0_pay40, k0_pay45]
  exact sum_eye (fun k => G (ix4 0 0 k ⟨256 + l.val, by omega⟩)) l

/-- Half 0, lanes from 384: tap 1 of the kernel's gradient is the diagonal of the collected product. -/
theorem pay24_apply (G : FVec Ideal S1x1x128x384 .f32) (l : Fin 128) :
    k0_pay24 k0_pay7 (k0_pay21 G) (ix4 0 0 0 l) = G (ix4 0 0 l ⟨128 + l.val, by omega⟩) := by
  pointwise [k0_pay21, k0_pay24, k0_pay7, k0_pay7, k0_pay2, k0_pay8, k0_pay13, k0_pay17, k0_pay21, k0_pay22, k0_pay26, k0_pay31, k0_pay36, k0_pay40, k0_pay45]
  exact sum_eye (fun k => G (ix4 0 0 k ⟨128 + l.val, by omega⟩)) l

/-- Half 0, lanes from 384: tap 2 of the kernel's gradient is the diagonal of the collected product. -/
theorem pay25_apply (G : FVec Ideal S1x1x128x384 .f32) (l : Fin 128) :
    k0_pay25 k0_pay7 (k0_pay21 G) (ix4 0 0 0 l) = G (ix4 0 0 l ⟨l.val, by omega⟩) := by
  pointwise [k0_pay21, k0_pay25, k0_pay7, k0_pay7, k0_pay2, k0_pay8, k0_pay13, k0_pay17, k0_pay21, k0_pay22, k0_pay26, k0_pay31, k0_pay36, k0_pay40, k0_pay45]
  exact sum_eye (fun k => G (ix4 0 0 k ⟨l.val, by omega⟩)) l

/-- Half 0, lanes from 512: tap 0 of the kernel's gradient is the diagonal of the collected product. -/
theorem pay28_apply (G : FVec Ideal S1x1x128x384 .f32) (l : Fin 128) :
    k0_pay28 (k0_pay27 k0_pay7 G) (ix4 0 0 0 l) = G (ix4 0 0 l ⟨256 + l.val, by omega⟩) := by
  pointwise [k0_pay27, k0_pay28, k0_pay7, k0_pay7, k0_pay2, k0_pay8, k0_pay13, k0_pay17, k0_pay21, k0_pay22, k0_pay26, k0_pay31, k0_pay36, k0_pay40, k0_pay45]
  exact sum_eye (fun k => G (ix4 0 0 k ⟨256 + l.val, by omega⟩)) l

/-- Half 0, lanes from 512: tap 1 of the kernel's gradient is the diagonal of the collected product. -/
theorem pay29_apply (G : FVec Ideal S1x1x128x384 .f32) (l : Fin 128) :
    k0_pay29 k0_pay7 (k0_pay26 G) (ix4 0 0 0 l) = G (ix4 0 0 l ⟨128 + l.val, by omega⟩) := by
  pointwise [k0_pay26, k0_pay29, k0_pay7, k0_pay7, k0_pay2, k0_pay8, k0_pay13, k0_pay17, k0_pay21, k0_pay22, k0_pay26, k0_pay31, k0_pay36, k0_pay40, k0_pay45]
  exact sum_eye (fun k => G (ix4 0 0 k ⟨128 + l.val, by omega⟩)) l

/-- Half 0, lanes from 512: tap 2 of the kernel's gradient is the diagonal of the collected product. -/
theorem pay30_apply (G : FVec Ideal S1x1x128x384 .f32) (l : Fin 128) :
    k0_pay30 k0_pay7 (k0_pay26 G) (ix4 0 0 0 l) = G (ix4 0 0 l ⟨l.val, by omega⟩) := by
  pointwise [k0_pay26, k0_pay30, k0_pay7, k0_pay7, k0_pay2, k0_pay8, k0_pay13, k0_pay17, k0_pay21, k0_pay22, k0_pay26, k0_pay31, k0_pay36, k0_pay40, k0_pay45]
  exact sum_eye (fun k => G (ix4 0 0 k ⟨l.val, by omega⟩)) l

/-- Half 1, lanes from 0: tap 0 of the kernel's gradient is the diagonal of the collected product. -/
theorem pay32_apply (G : FVec Ideal S1x1x128x384 .f32) (l : Fin 128) :
    k0_pay32 k0_pay7 G (ix4 0 0 0 l) = G (ix4 0 0 l ⟨256 + l.val, by omega⟩) := by
  pointwise [k0_pay32, k0_pay7, k0_pay7, k0_pay2, k0_pay8, k0_pay13, k0_pay17, k0_pay21, k0_pay22, k0_pay26, k0_pay31, k0_pay36, k0_pay40, k0_pay45]
  exact sum_eye (fun k => G (ix4 0 0 k ⟨256 + l.val, by omega⟩)) l

/-- Half 1, lanes from 0: tap 1 of the kernel's gradient is the diagonal of the collected product. -/
theorem pay34_apply (G : FVec Ideal S1x1x128x384 .f32) (l : Fin 128) :
    k0_pay34 (k0_pay33 k0_pay7 G) (ix4 0 0 0 l) = G (ix4 0 0 l ⟨128 + l.val, by omega⟩) := by
  pointwise [k0_pay33, k0_pay34, k0_pay7, k0_pay7, k0_pay2, k0_pay8, k0_pay13, k0_pay17, k0_pay21, k0_pay22, k0_pay26, k0_pay31, k0_pay36, k0_pay40, k0_pay45]
  exact sum_eye (fun k => G (ix4 0 0 k ⟨128 + l.val, by omega⟩)) l

/-- Half 1, lanes from 0: tap 2 of the kernel's gradient is the diagonal of the collected product. -/
theorem pay35_apply (G : FVec Ideal S1x1x128x384 .f32) (l : Fin 128) :
    k0_pay35 k0_pay7 (k0_pay31 G) (ix4 0 0 0 l) = G (ix4 0 0 l ⟨l.val, by omega⟩) := by
  pointwise [k0_pay31, k0_pay35, k0_pay7, k0_pay7, k0_pay2, k0_pay8, k0_pay13, k0_pay17, k0_pay21, k0_pay22, k0_pay26, k0_pay31, k0_pay36, k0_pay40, k0_pay45]
  exact sum_eye (fun k => G (ix4 0 0 k ⟨l.val, by omega⟩)) l

/-- Half 1, lanes from 128: tap 0 of the kernel's gradient is the diagonal of the collected product. -/
theorem pay37_apply (G : FVec Ideal S1x1x128x384 .f32) (l : Fin 128) :
    k0_pay37 k0_pay7 G (ix4 0 0 0 l) = G (ix4 0 0 l ⟨256 + l.val, by omega⟩) := by
  pointwise [k0_pay37, k0_pay7, k0_pay7, k0_pay2, k0_pay8, k0_pay13, k0_pay17, k0_pay21, k0_pay22, k0_pay26, k0_pay31, k0_pay36, k0_pay40, k0_pay45]
  exact sum_eye (fun k => G (ix4 0 0 k ⟨256 + l.val, by omega⟩)) l

/-- Half 1, lanes from 128: tap 1 of the kernel's gradient is the diagonal of the collected product. -/
theorem pay38_apply (G : FVec Ideal S1x1x128x384 .f32) (l : Fin 128) :
    k0_pay38 k0_pay7 G (ix4 0 0 0 l) = G (ix4 0 0 l ⟨128 + l.val, by omega⟩) := by
  pointwise [k0_pay38, k0_pay7, k0_pay7, k0_pay2, k0_pay8, k0_pay13, k0_pay17, k0_pay21, k0_pay22, k0_pay26, k0_pay31, k0_pay36, k0_pay40, k0_pay45]
  exact sum_eye (fun k => G (ix4 0 0 k ⟨128 + l.val, by omega⟩)) l

/-- Half 1, lanes from 128: tap 2 of the kernel's gradient is the diagonal of the collected product. -/
theorem pay39_apply (G : FVec Ideal S1x1x128x384 .f32) (l : Fin 128) :
    k0_pay39 k0_pay7 (k0_pay36 G) (ix4 0 0 0 l) = G (ix4 0 0 l ⟨l.val, by omega⟩) := by
  pointwise [k0_pay36, k0_pay39, k0_pay7, k0_pay7, k0_pay2, k0_pay8, k0_pay13, k0_pay17, k0_pay21, k0_pay22, k0_pay26, k0_pay31, k0_pay36, k0_pay40, k0_pay45]
  exact sum_eye (fun k => G (ix4 0 0 k ⟨l.val, by omega⟩)) l

/-- Half 1, lanes from 256: tap 0 of the kernel's gradient is the diagonal of the collected product. -/
theorem pay41_apply (G : FVec Ideal S1x1x128x384 .f32) (l : Fin 128) :
    k0_pay41 k0_pay7 G (ix4 0 0 0 l) = G (ix4 0 0 l ⟨256 + l.val, by omega⟩) := by
  pointwise [k0_pay41, k0_pay7, k0_pay7, k0_pay2, k0_pay8, k0_pay13, k0_pay17, k0_pay21, k0_pay22, k0_pay26, k0_pay31, k0_pay36, k0_pay40, k0_pay45]
  exact sum_eye (fun k => G (ix4 0 0 k ⟨256 + l.val, by omega⟩)) l

/-- Half 1, lanes from 256: tap 1 of the kernel's gradient is the diagonal of the collected product. -/
theorem pay42_apply (G : FVec Ideal S1x1x128x384 .f32) (l : Fin 128) :
    k0_pay42 k0_pay7 G (ix4 0 0 0 l) = G (ix4 0 0 l ⟨128 + l.val, by omega⟩) := by
  pointwise [k0_pay42, k0_pay7, k0_pay7, k0_pay2, k0_pay8, k0_pay13, k0_pay17, k0_pay21, k0_pay22, k0_pay26, k0_pay31, k0_pay36, k0_pay40, k0_pay45]
  exact sum_eye (fun k => G (ix4 0 0 k ⟨128 + l.val, by omega⟩)) l

/-- Half 1, lanes from 256: tap 2 of the kernel's gradient is the diagonal of the collected product. -/
theorem pay44_apply (G : FVec Ideal S1x1x128x384 .f32) (l : Fin 128) :
    k0_pay44 (k0_pay43 k0_pay7 G) (ix4 0 0 0 l) = G (ix4 0 0 l ⟨l.val, by omega⟩) := by
  pointwise [k0_pay43, k0_pay44, k0_pay7, k0_pay7, k0_pay2, k0_pay8, k0_pay13, k0_pay17, k0_pay21, k0_pay22, k0_pay26, k0_pay31, k0_pay36, k0_pay40, k0_pay45]
  exact sum_eye (fun k => G (ix4 0 0 k ⟨l.val, by omega⟩)) l

/-- Half 1, lanes from 384: tap 0 of the kernel's gradient is the diagonal of the collected product. -/
theorem pay46_apply (G : FVec Ideal S1x1x128x384 .f32) (l : Fin 128) :
    k0_pay46 k0_pay7 G (ix4 0 0 0 l) = G (ix4 0 0 l ⟨256 + l.val, by omega⟩) := by
  pointwise [k0_pay46, k0_pay7, k0_pay7, k0_pay2, k0_pay8, k0_pay13, k0_pay17, k0_pay21, k0_pay22, k0_pay26, k0_pay31, k0_pay36, k0_pay40, k0_pay45]
  exact sum_eye (fun k => G (ix4 0 0 k ⟨256 + l.val, by omega⟩)) l

/-- Half 1, lanes from 384: tap 1 of the kernel's gradient is the diagonal of the collected product. -/
theorem pay47_apply (G : FVec Ideal S1x1x128x384 .f32) (l : Fin 128) :
    k0_pay47 k0_pay7 G (ix4 0 0 0 l) = G (ix4 0 0 l ⟨128 + l.val, by omega⟩) := by
  pointwise [k0_pay47, k0_pay7, k0_pay7, k0_pay2, k0_pay8, k0_pay13, k0_pay17, k0_pay21, k0_pay22, k0_pay26, k0_pay31, k0_pay36, k0_pay40, k0_pay45]
  exact sum_eye (fun k => G (ix4 0 0 k ⟨128 + l.val, by omega⟩)) l

/-- Half 1, lanes from 384: tap 2 of the kernel's gradient is the diagonal of the collected product. -/
theorem pay48_apply (G : FVec Ideal S1x1x128x384 .f32) (l : Fin 128) :
    k0_pay48 k0_pay7 G (ix4 0 0 0 l) = G (ix4 0 0 l ⟨l.val, by omega⟩) := by
  pointwise [k0_pay48, k0_pay7, k0_pay7, k0_pay2, k0_pay8, k0_pay13, k0_pay17, k0_pay21, k0_pay22, k0_pay26, k0_pay31, k0_pay36, k0_pay40, k0_pay45]
  exact sum_eye (fun k => G (ix4 0 0 k ⟨l.val, by omega⟩)) l

/-- Half 1, lanes from 512: tap 0 of the kernel's gradient is the diagonal of the collected product. -/
theorem pay3_apply (G : FVec Ideal S1x1x128x384 .f32) (l : Fin 128) :
    k0_pay3 k0_pay7 G (ix4 0 0 0 l) = G (ix4 0 0 l ⟨256 + l.val, by omega⟩) := by
  pointwise [k0_pay3, k0_pay7, k0_pay7, k0_pay2, k0_pay8, k0_pay13, k0_pay17, k0_pay21, k0_pay22, k0_pay26, k0_pay31, k0_pay36, k0_pay40, k0_pay45]
  exact sum_eye (fun k => G (ix4 0 0 k ⟨256 + l.val, by omega⟩)) l

/-- Half 1, lanes from 512: tap 1 of the kernel's gradient is the diagonal of the collected product. -/
theorem pay4_apply (G : FVec Ideal S1x1x128x384 .f32) (l : Fin 128) :
    k0_pay4 k0_pay7 G (ix4 0 0 0 l) = G (ix4 0 0 l ⟨128 + l.val, by omega⟩) := by
  pointwise [k0_pay4, k0_pay7, k0_pay7, k0_pay2, k0_pay8, k0_pay13, k0_pay17, k0_pay21, k0_pay22, k0_pay26, k0_pay31, k0_pay36, k0_pay40, k0_pay45]
  exact sum_eye (fun k => G (ix4 0 0 k ⟨128 + l.val, by omega⟩)) l

/-- Half 1, lanes from 512: tap 2 of the kernel's gradient is the diagonal of the collected product. -/
theorem pay5_apply (G : FVec Ideal S1x1x128x384 .f32) (l : Fin 128) :
    k0_pay5 k0_pay7 G (ix4 0 0 0 l) = G (ix4 0 0 l ⟨l.val, by omega⟩) := by
  pointwise [k0_pay5, k0_pay7, k0_pay7, k0_pay2, k0_pay8, k0_pay13, k0_pay17, k0_pay21, k0_pay22, k0_pay26, k0_pay31, k0_pay36, k0_pay40, k0_pay45]
  exact sum_eye (fun k => G (ix4 0 0 k ⟨l.val, by omega⟩)) l

/-- A fill with zeros. -/
theorem pay49_apply (y : S2x8x704.Idx) : k0_pay49 (F := Ideal) y = 0 := by
  pointwise [k0_pay49]

/-- A fill with zeros. -/
theorem pay50_apply (y : S704x1024.Idx) : k0_pay50 (F := Ideal) y = 0 := by
  pointwise [k0_pay50]

/-- A fill with zeros. -/
theorem pay51_apply (y : S2x5x128x384.Idx) : k0_pay51 (F := Ideal) y = 0 := by
  pointwise [k0_pay51]

/-- A fill with zeros. -/
theorem pay52_apply (y : S1x2x8x704.Idx) : k0_pay52 (F := Ideal) y = 0 := by
  pointwise [k0_pay52]

end Cert.KernelIdeal.Hand
-- ==== Proof.Gate.Steps.lean ====
module
public import proofs.«01_k».proof.Proof.Gate.Pieces
public import proofs.«01_k».proof.Proof.Gate.Pay
public import Idealize.ShloMosaic.Lib.Pipeline.ReadBack
@[expose] public section

/-!
# One grid point of the gate's backward kernel

What each buffer holds after one grid point, in terms of the point's blocks and of what the buffers held before.
-/

set_option maxRecDepth 16384
noncomputable section
namespace Cert.KernelIdeal.Hand
open Cert.KernelIdeal Cert.KernelIdeal.Gen Idealize.ShloMosaic Idealize.ShloMosaic.TcCoe Idealize.SL.Sem
variable (m : (ℓ : Loc nD τ sig) → Buf (Elt Ideal) ℓ)

/-- The logistic function as the kernel writes it. -/
def sg (a : EReal) : EReal := Ideal.div 1 (1 + Ideal.exp (0 - a))

/-- The output's gradient on the block of a point. -/
def bDy (c : Dev nD) (t : Fin cfg0.N) (r k : Fin 1024) : EReal := iblk m c 0 t (ix3 0 r k)
/-- The convolution's input on the block of a point, by half. -/
def bU (c : Dev nD) (t : Fin cfg0.N) (s : Fin 2) (r : Fin 1024) (x : Fin 704) : EReal := iblk m c 1 t (ix4 0 s r x)
/-- The convolution's output on the block of a point, by half. -/
def bC (c : Dev nD) (t : Fin cfg0.N) (s : Fin 2) (r : Fin 1024) (x : Fin 704) : EReal := iblk m c 2 t (ix4 0 s r x)
/-- The output weights on the block of a point. -/
def bW (c : Dev nD) (t : Fin cfg0.N) (x : Fin 704) (k : Fin 1024) : EReal := iblk m c 3 t (ix4 0 0 x k)
/-- The convolution's weights on the block of a point, by half. -/
def bK (c : Dev nD) (t : Fin cfg0.N) (s : Fin 2) (i : Fin 8) (x : Fin 704) : EReal :=
  if s = 0 then iblk m c 4 t (ix3 0 i x) else iblk m c 5 t (ix3 0 i x)

/-- The gradient of the gate's product on the block of a point. -/
def dact (c : Dev nD) (t : Fin cfg0.N) (r : Fin 1024) (x : Fin 704) : EReal := ∑ k : Fin 1024, bDy m c t r k * bW m c t x k

/-- The gradient of the convolution's output on the block of a point, by half. -/
def dcv (c : Dev nD) (t : Fin cfg0.N) (s : Fin 2) (r : Fin 1024) (x : Fin 704) : EReal :=
  if s = 0 then dact m c t r x * bC m c t 1 r x * (sg (bC m c t 0 r x) * (1 + bC m c t 0 r x * (1 - sg (bC m c t 0 r x))))
  else dact m c t r x * (bC m c t 0 r x * sg (bC m c t 0 r x))

/-- `dcv` as an array. -/
def E (c : Dev nD) (t : Fin cfg0.N) (s : Fin 2) : FVec Ideal S1024x704 .f32 := fun i => dcv m c t s (i 0) (i 1)

/-- The point before. -/
def pred (t : Fin cfg0.N) : Fin cfg0.N := ⟨t.val - 1, lt_of_le_of_lt (Nat.sub_le _ _) t.isLt⟩

/-- The carried rows a point finds: zeros at the first point of a run, else the first rows of the block before. -/
def car (c : Dev nD) (t : Fin cfg0.N) : Vec Ideal S2x8x704 .f32 := fun i =>
  if t.val % 8 = 0 then 0 else dcv m c (pred t) (i 0) ⟨(i 1).val, lt_of_lt_of_le (i 1).isLt (by decide)⟩ (i 2)

/-- The carried rows of one half. -/
def carH (c : Dev nD) (t : Fin cfg0.N) (s : Fin 2) : FVec Ideal S1x8x704 .f32 := fun i => car m c t (ix3 s (i 1) (i 2))

/-- `dcv` shifted up by `k` rows, the carried rows following the block. -/
def En (c : Dev nD) (t : Fin cfg0.N) (s : Fin 2) (k : ℕ) : FVec Ideal S1024x704 .f32 := fun i =>
  below (E m c t s) (carH m c t s) k (i 0) (i 1)

/-- What the running sums hold before a point: zeros at the first point of a run. -/
def acc0 (c : Dev nD) (t : Fin cfg0.N) : Vec Ideal S704x1024 .f32 := fun i =>
  if t.val % 8 = 0 then 0 else (outsAt0 m c (pred t).val (pred t).isLt).2.2.2.2.1 i
@[inherit_doc acc0]
def gac0 (c : Dev nD) (t : Fin cfg0.N) : Vec Ideal S2x5x128x384 .f32 := fun i =>
  if t.val % 8 = 0 then 0 else (outsAt0 m c (pred t).val (pred t).isLt).2.2.2.2.2 i
@[inherit_doc acc0]
def dcw0 (c : Dev nD) (t : Fin cfg0.N) : Vec Ideal S1x2x8x704 .f32 := fun i =>
  if t.val % 8 = 0 then 0 else (outsAt0 m c (pred t).val (pred t).isLt).2.2.1 i

/-! ## The point's values under their names -/

theorem E0_eq (c : Dev nD) (t : Fin cfg0.N) :
    k0_pay61 (F := Ideal) (k0_pay54 (iblk m c 0 t) (iblk m c 3 t))
      (k0_pay55 (View.ld (Val := Elt Ideal) (S := S1x2x1024x704) (e' := .bf16) (iblk m c 2 t) (Rect.unit ![0, 0, 0, 0] ![1, 1, 1024, 704] inb_S1x2x1024x704_S1x1x1024x704_0_0_0_0)))
      (k0_pay56 (View.ld (Val := Elt Ideal) (S := S1x2x1024x704) (e' := .bf16) (iblk m c 2 t) (Rect.unit ![0, 1, 0, 0] ![1, 1, 1024, 704] inb_S1x2x1024x704_S1x1x1024x704_0_1_0_0)))
      (k0_pay57 (View.ld (Val := Elt Ideal) (S := S1x2x1024x704) (e' := .bf16) (iblk m c 2 t) (Rect.unit ![0, 0, 0, 0] ![1, 1, 1024, 704] inb_S1x2x1024x704_S1x1x1024x704_0_0_0_0)))
      = E m c t 0 := by
  funext i
  obtain ⟨r, x, rfl⟩ := exists_ix2 i
  rw [pay61_apply, pay54_apply]
  pointwise [E, dcv, dact, bC, bDy, bW, sg]

theorem E1_eq (c : Dev nD) (t : Fin cfg0.N) :
    k0_pay62 (F := Ideal) (k0_pay54 (iblk m c 0 t) (iblk m c 3 t))
      (k0_pay58 (View.ld (Val := Elt Ideal) (S := S1x2x1024x704) (e' := .bf16) (iblk m c 2 t) (Rect.unit ![0, 0, 0, 0] ![1, 1, 1024, 704] inb_S1x2x1024x704_S1x1x1024x704_0_0_0_0)))
      = E m c t 1 := by
  funext i
  obtain ⟨r, x, rfl⟩ := exists_ix2 i
  rw [pay62_apply, pay54_apply]
  pointwise [E, dcv, dact, bC, bDy, bW, sg]

theorem ld_car0 (c : Dev nD) (t : Fin cfg0.N) :
    View.ld (car m c t) (Rect.unit ![0, 0, 0] ![1, 8, 704] inb_S2x8x704_S1x8x704_0_0_0) = carH m c t 0 := by
  funext i
  obtain ⟨a, r, x, rfl⟩ := exists_ix3 i
  pointwise [carH]

theorem ld_car1 (c : Dev nD) (t : Fin cfg0.N) :
    View.ld (car m c t) (Rect.unit ![1, 0, 0] ![1, 8, 704] inb_S2x8x704_S1x8x704_1_0_0) = carH m c t 1 := by
  funext i
  obtain ⟨a, r, x, rfl⟩ := exists_ix3 i
  pointwise [carH]

theorem En01_eq (c : Dev nD) (t : Fin cfg0.N) :
    k0_pay64 (F := Ideal) (k0_pay54 (iblk m c 0 t) (iblk m c 3 t))
      (k0_pay55 (View.ld (Val := Elt Ideal) (S := S1x2x1024x704) (e' := .bf16) (iblk m c 2 t) (Rect.unit ![0, 0, 0, 0] ![1, 1, 1024, 704] inb_S1x2x1024x704_S1x1x1024x704_0_0_0_0)))
      (k0_pay56 (View.ld (Val := Elt Ideal) (S := S1x2x1024x704) (e' := .bf16) (iblk m c 2 t) (Rect.unit ![0, 1, 0, 0] ![1, 1, 1024, 704] inb_S1x2x1024x704_S1x1x1024x704_0_1_0_0)))
      (k0_pay57 (View.ld (Val := Elt Ideal) (S := S1x2x1024x704) (e' := .bf16) (iblk m c 2 t) (Rect.unit ![0, 0, 0, 0] ![1, 1, 1024, 704] inb_S1x2x1024x704_S1x1x1024x704_0_0_0_0)))
      (carH m c t 0) = En m c t 0 1 := by
  funext i
  obtain ⟨r, x, rfl⟩ := exists_ix2 i
  rw [pay64_apply, E0_eq]
  rfl

theorem En02_eq (c : Dev nD) (t : Fin cfg0.N) :
    k0_pay65 (F := Ideal) (k0_pay54 (iblk m c 0 t) (iblk m c 3 t))
      (k0_pay55 (View.ld (Val := Elt Ideal) (S := S1x2x1024x704) (e' := .bf16) (iblk m c 2 t) (Rect.unit ![0, 0, 0, 0] ![1, 1, 1024, 704] inb_S1x2x1024x704_S1x1x1024x704_0_0_0_0)))
      (k0_pay56 (View.ld (Val := Elt Ideal) (S := S1x2x1024x704) (e' := .bf16) (iblk m c 2 t) (Rect.unit ![0, 1, 0, 0] ![1, 1, 1024, 704] inb_S1x2x1024x704_S1x1x1024x704_0_1_0_0)))
      (k0_pay57 (View.ld (Val := Elt Ideal) (S := S1x2x1024x704) (e' := .bf16) (iblk m c 2 t) (Rect.unit ![0, 0, 0, 0] ![1, 1, 1024, 704] inb_S1x2x1024x704_S1x1x1024x704_0_0_0_0)))
      (carH m c t 0) = En m c t 0 2 := by
  funext i
  obtain ⟨r, x, rfl⟩ := exists_ix2 i
  rw [pay65_apply, E0_eq]
  rfl

theorem En11_eq (c : Dev nD) (t : Fin cfg0.N) : k0_pay83 (F := Ideal) (E m c t 1) (carH m c t 1) = En m c t 1 1 := by
  funext i
  obtain ⟨r, x, rfl⟩ := exists_ix2 i
  rw [pay83_apply]
  rfl

theorem En12_eq (c : Dev nD) (t : Fin cfg0.N) : k0_pay84 (F := Ideal) (E m c t 1) (carH m c t 1) = En m c t 1 2 := by
  funext i
  obtain ⟨r, x, rfl⟩ := exists_ix2 i
  rw [pay84_apply]
  rfl

/-! ## What the buffers held before, under its names -/

theorem acc0_fill (c : Dev nD) (t : Fin cfg0.N) (h0 : t.val % 8 = 0) : k0_pay50 (F := Ideal) = acc0 m c t := by
  funext i
  rw [pay50_apply, acc0, if_pos h0]

theorem gac0_fill (c : Dev nD) (t : Fin cfg0.N) (h0 : t.val % 8 = 0) : k0_pay51 (F := Ideal) = gac0 m c t := by
  funext i
  rw [pay51_apply, gac0, if_pos h0]

theorem dcw0_fill (c : Dev nD) (t : Fin cfg0.N) (h0 : t.val % 8 = 0) : k0_pay52 (F := Ideal) = dcw0 m c t := by
  funext i
  rw [pay52_apply, dcw0, if_pos h0]

theorem car_fill (c : Dev nD) (t : Fin cfg0.N) (h0 : t.val % 8 = 0) : k0_pay49 (F := Ideal) = car m c t := by
  funext i
  rw [pay49_apply, car, if_pos h0]

theorem acc0_prev (c : Dev nD) (t : Fin cfg0.N) (h0 : ¬t.val % 8 = 0) (h : t.val - 1 < cfg0.N) :
    (outsAt0 m c (t.val - 1) h).2.2.2.2.1 = acc0 m c t := by
  funext i
  rw [acc0, if_neg h0]
  rfl

theorem gac0_prev (c : Dev nD) (t : Fin cfg0.N) (h0 : ¬t.val % 8 = 0) (h : t.val - 1 < cfg0.N) :
    (outsAt0 m c (t.val - 1) h).2.2.2.2.2 = gac0 m c t := by
  funext i
  rw [gac0, if_neg h0]
  rfl

theorem dcw0_prev (c : Dev nD) (t : Fin cfg0.N) (h0 : ¬t.val % 8 = 0) (h : t.val - 1 < cfg0.N) :
    (outsAt0 m c (t.val - 1) h).2.2.1 = dcw0 m c t := by
  funext i
  rw [dcw0, if_neg h0]
  rfl

/-- The rows a point carries over to the next are the first of its block. -/
theorem car_point (c : Dev nD) (t : Fin cfg0.N) (h1 : ¬t.val % 8 = 7) (s : Fin 2) (r : Fin 8) (x : Fin 704) :
    (outsAt0 m c t.val t.isLt).2.2.2.1 (ix3 s r x) = dcv m c t s ⟨r.val, by omega⟩ x := by
  by_cases h0 : t.val % 8 = 0
  · rw [outsAt0_A m c t h0 h1]
    frame_open
    simp (disch := decide) only [↓ View.readCov_skip, ↓ View.readCov_cons_toLoadRect, ↓ View.readCov_fill]
    frame_out
    refine canon_case3 _ _ _ _ _ _ _ (fun a b d ha hb hd => ?_) fun n0 => ?_
    · obtain rfl : a = 0 := Subsingleton.elim _ _
      obtain rfl : s = 1 := Fin.ext (by omega)
      obtain rfl : b = r := Fin.ext (by omega)
      obtain rfl : d = x := Fin.ext (by omega)
      rw [pay86_apply, E1_eq]
      rfl
    · refine canon_case3 _ _ _ _ _ _ _ (fun a b d ha hb hd => ?_) fun n1 => absurd (by omega) n1
      obtain rfl : a = 0 := Subsingleton.elim _ _
      obtain rfl : s = 0 := Fin.ext (by omega)
      obtain rfl : b = r := Fin.ext (by omega)
      obtain rfl : d = x := Fin.ext (by omega)
      rw [pay68_apply, E0_eq]
      rfl
  · rw [outsAt0_B m c t h0 h1]
    frame_open
    simp (disch := decide) only [↓ View.readCov_skip, ↓ View.readCov_cons_toLoadRect, ↓ View.readCov_fill]
    frame_out
    refine canon_case3 _ _ _ _ _ _ _ (fun a b d ha hb hd => ?_) fun n0 => ?_
    · obtain rfl : a = 0 := Subsingleton.elim _ _
      obtain rfl : s = 1 := Fin.ext (by omega)
      obtain rfl : b = r := Fin.ext (by omega)
      obtain rfl : d = x := Fin.ext (by omega)
      rw [pay86_apply, E1_eq]
      rfl
    · refine canon_case3 _ _ _ _ _ _ _ (fun a b d ha hb hd => ?_) fun n1 => absurd (by omega) n1
      obtain rfl : a = 0 := Subsingleton.elim _ _
      obtain rfl : s = 0 := Fin.ext (by omega)
      obtain rfl : b = r := Fin.ext (by omega)
      obtain rfl : d = x := Fin.ext (by omega)
      rw [pay68_apply, E0_eq]
      rfl

theorem car_prev (c : Dev nD) (t : Fin cfg0.N) (h0 : ¬t.val % 8 = 0) (h : t.val - 1 < cfg0.N) :
    (outsAt0 m c (t.val - 1) h).2.2.2.1 = car m c t := by
  funext i
  obtain ⟨s, r, x, rfl⟩ := exists_ix3 i
  rw [car, if_neg h0]
  exact car_point m c (pred t) (by show ¬(t.val - 1) % 8 = 7; omega) s r x

/-! ## The outputs' steps -/

/-- The gradient of the convolution's input at a point: three taps over the point's rows and the two below. -/
def duT (c : Dev nD) (t : Fin cfg0.N) (s : Fin 2) (r : Fin 1024) (x : Fin 704) : EReal :=
  bK m c t s 2 x * E m c t s (ix2 r x) + bK m c t s 1 x * En m c t s 1 (ix2 r x) + bK m c t s 0 x * En m c t s 2 (ix2 r x)

/-- What a point writes of the gradient of the convolution's input. -/
theorem du_point (c : Dev nD) (t : Fin cfg0.N) (s : Fin 2) (r : Fin 1024) (x : Fin 704) :
    (outsAt0 m c t.val t.isLt).1 (ix4 0 s r x) = duT m c t s r x := by
  by_cases h0 : t.val % 8 = 0
  on_goal 2 => by_cases h1 : t.val % 8 = 7
  on_goal 1 =>
    rw [outsAt0_A m c t h0 (by omega)]
    frame_open
    simp (disch := decide) only [↓ View.readCov_skip, ↓ View.readCov_cons_toLoadRect, ↓ View.readCov_fill]
    frame_out
    simp only [car_fill m c t h0]
  on_goal 2 =>
    rw [outsAt0_C m c t h0 h1]
    frame_open
    simp (disch := decide) only [↓ View.readCov_skip, ↓ View.readCov_cons_toLoadRect, ↓ View.readCov_fill]
    frame_out
    simp only [read_unread_whole, car_prev m c t h0]
  on_goal 3 =>
    rw [outsAt0_B m c t h0 h1]
    frame_open
    simp (disch := decide) only [↓ View.readCov_skip, ↓ View.readCov_cons_toLoadRect, ↓ View.readCov_fill]
    frame_out
    simp only [read_unread_whole, car_prev m c t h0]
  all_goals
    refine canon_case4 _ _ _ _ _ _ _ _ (fun a b d e ha hb hd he => ?_) fun n0 => ?_
    · obtain rfl : a = 0 := Subsingleton.elim _ _
      obtain rfl : b = 0 := Subsingleton.elim _ _
      obtain rfl : s = 1 := Fin.ext (by omega)
      obtain rfl : d = r := Fin.ext (by omega)
      obtain rfl : e = x := Fin.ext (by omega)
      rw [pay85_apply]
      simp only [ld_car1, E1_eq, En11_eq, En12_eq]
      pointwise [duT, bK]
    · refine canon_case4 _ _ _ _ _ _ _ _ (fun a b d e ha hb hd he => ?_) fun n1 => absurd (by omega) n1
      obtain rfl : a = 0 := Subsingleton.elim _ _
      obtain rfl : b = 0 := Subsingleton.elim _ _
      obtain rfl : s = 0 := Fin.ext (by omega)
      obtain rfl : d = r := Fin.ext (by omega)
      obtain rfl : e = x := Fin.ext (by omega)
      rw [pay66_apply]
      simp only [ld_car0, E0_eq, En01_eq, En02_eq]
      pointwise [duT, bK]

/-- What a point adds to the gradient of the output weights. -/
def accT (c : Dev nD) (t : Fin cfg0.N) (x : Fin 704) (k : Fin 1024) : EReal :=
  ∑ r : Fin 1024, bC m c t 0 r x * sg (bC m c t 0 r x) * bC m c t 1 r x * bDy m c t r k

theorem acc_point (c : Dev nD) (t : Fin cfg0.N) (h1 : ¬t.val % 8 = 7) (x : Fin 704) (k : Fin 1024) :
    (outsAt0 m c t.val t.isLt).2.2.2.2.1 (ix2 x k) = acc0 m c t (ix2 x k) + accT m c t x k := by
  by_cases h0 : t.val % 8 = 0
  · rw [outsAt0_A m c t h0 h1]
    frame_out
    rw [acc0_fill m c t h0, pay60_apply]
    pointwise [accT, bC, bDy, sg]
  · rw [outsAt0_B m c t h0 h1]
    frame_out
    rw [read_unread_whole, acc0_prev m c t h0, pay60_apply]
    pointwise [accT, bC, bDy, sg]

theorem dwo_point (c : Dev nD) (t : Fin cfg0.N) (h1 : t.val % 8 = 7) (x : Fin 704) (k : Fin 1024) :
    @Eq EReal ((outsAt0 m c t.val t.isLt).2.1 (ix4 0 0 x k)) (acc0 m c t (ix2 x k) + accT m c t x k) := by
  have h0 : ¬t.val % 8 = 0 := by omega
  rw [outsAt0_C m c t h0 h1]
  frame_out
  rw [read_unread_whole, acc0_prev m c t h0]
  refine (pay6_apply _ x k).trans ?_
  rw [pay60_apply]
  pointwise [accT, bC, bDy, sg]

end Cert.KernelIdeal.Hand
-- ==== Proof.Gate.Gacc.lean ====
module
public import proofs.«01_k».proof.Proof.Gate.Steps
@[expose] public section

/-!
# The kernel-gradient products of one grid point

A point adds, for each half and each group of 128 lanes, the product of the inputs with the gradients and their two
shifts.
-/

set_option maxRecDepth 16384
noncomputable section
namespace Cert.KernelIdeal.Hand
open Cert.KernelIdeal Cert.KernelIdeal.Gen Idealize.ShloMosaic Idealize.ShloMosaic.TcCoe Idealize.SL.Sem
variable (m : (ℓ : Loc nD τ sig) → Buf (Elt Ideal) ℓ)

/-- What a point adds to the collected product: half `s`, lane group `j`. -/
def gacT (c : Dev nD) (t : Fin cfg0.N) (s : Fin 2) (j : Fin 5) (l : Fin 128) (q : Fin 384) : EReal :=
  ∑ r : Fin 1024, bU m c t s r ⟨128 * j.val + l.val, by omega⟩ * lanes3 (E m c t s) (En m c t s 1) (En m c t s 2) j r q

theorem gac_point (c : Dev nD) (t : Fin cfg0.N) (h1 : ¬t.val % 8 = 7) (s : Fin 2) (j : Fin 5) (l : Fin 128) (q : Fin 384) :
    (outsAt0 m c t.val t.isLt).2.2.2.2.2 (ix4 s j l q) = gac0 m c t (ix4 s j l q) + gacT m c t s j l q := by
  by_cases h0 : t.val % 8 = 0
  on_goal 1 =>
    rw [outsAt0_A m c t h0 h1]
    frame_open
    simp (disch := decide) only [↓ View.readCov_skip, ↓ View.readCov_cons_toLoadRect, ↓ View.readCov_fill]
    frame_out
    simp only [car_fill m c t h0, gac0_fill m c t h0, ld_car0, ld_car1, E0_eq, E1_eq, En01_eq, En02_eq, En11_eq, En12_eq]
  on_goal 2 =>
    rw [outsAt0_B m c t h0 h1]
    frame_open
    simp (disch := decide) only [↓ View.readCov_skip, ↓ View.readCov_cons_toLoadRect, ↓ View.readCov_fill]
    frame_out
    simp only [read_unread_whole, car_prev m c t h0, gac0_prev m c t h0, ld_car0, ld_car1, E0_eq, E1_eq, En01_eq, En02_eq, En11_eq, En12_eq]
  all_goals
    refine canon_case4 _ _ _ _ _ _ _ _ (fun a b d e ha hb hd he => ?_) fun n0 => ?_
    · obtain rfl : a = 0 := Subsingleton.elim _ _
      obtain rfl : b = 0 := Subsingleton.elim _ _
      obtain rfl : s = 1 := Fin.ext (by omega)
      obtain rfl : j = 4 := Fin.ext (by omega)
      obtain rfl : d = l := Fin.ext (by omega)
      obtain rfl : e = q := Fin.ext (by omega)
      rw [pay98_apply]
      pointwise [gacT, bU]
    refine canon_case4 _ _ _ _ _ _ _ _ (fun a b d e ha hb hd he => ?_) fun n1 => ?_
    · obtain rfl : a = 0 := Subsingleton.elim _ _
      obtain rfl : b = 0 := Subsingleton.elim _ _
      obtain rfl : s = 1 := Fin.ext (by omega)
      obtain rfl : j = 3 := Fin.ext (by omega)
      obtain rfl : d = l := Fin.ext (by omega)
      obtain rfl : e = q := Fin.ext (by omega)
      rw [pay97_apply]
      pointwise [gacT, bU]
    refine canon_case4 _ _ _ _ _ _ _ _ (fun a b d e ha hb hd he => ?_) fun n2 => ?_
    · obtain rfl : a = 0 := Subsingleton.elim _ _
      obtain rfl : b = 0 := Subsingleton.elim _ _
      obtain rfl : s = 1 := Fin.ext (by omega)
      obtain rfl : j = 2 := Fin.ext (by omega)
      obtain rfl : d = l := Fin.ext (by omega)
      obtain rfl : e = q := Fin.ext (by omega)
      rw [pay96_apply]
      pointwise [gacT, bU]
    refine canon_case4 _ _ _ _ _ _ _ _ (fun a b d e ha hb hd he => ?_) fun n3 => ?_
    · obtain rfl : a = 0 := Subsingleton.elim _ _
      obtain rfl : b = 0 := Subsingleton.elim _ _
      obtain rfl : s = 1 := Fin.ext (by omega)
      obtain rfl : j = 1 := Fin.ext (by omega)
      obtain rfl : d = l := Fin.ext (by omega)
      obtain rfl : e = q := Fin.ext (by omega)
      rw [pay94_apply]
      pointwise [gacT, bU]
    refine canon_case4 _ _ _ _ _ _ _ _ (fun a b d e ha hb hd he => ?_) fun n4 => ?_
    · obtain rfl : a = 0 := Subsingleton.elim _ _
      obtain rfl : b = 0 := Subsingleton.elim _ _
      obtain rfl : s = 1 := Fin.ext (by omega)
      obtain rfl : j = 0 := Fin.ext (by omega)
      obtain rfl : d = l := Fin.ext (by omega)
      obtain rfl : e = q := Fin.ext (by omega)
      rw [pay93_apply]
      pointwise [gacT, bU]
    refine canon_case4 _ _ _ _ _ _ _ _ (fun a b d e ha hb hd he => ?_) fun n5 => ?_
    · obtain rfl : a = 0 := Subsingleton.elim _ _
      obtain rfl : b = 0 := Subsingleton.elim _ _
      obtain rfl : s = 0 := Fin.ext (by omega)
      obtain rfl : j = 4 := Fin.ext (by omega)
      obtain rfl : d = l := Fin.ext (by omega)
      obtain rfl : e = q := Fin.ext (by omega)
      rw [pay77_apply]
      pointwise [gacT, bU]
    refine canon_case4 _ _ _ _ _ _ _ _ (fun a b d e ha hb hd he => ?_) fun n6 => ?_
    · obtain rfl : a = 0 := Subsingleton.elim _ _
      obtain rfl : b = 0 := Subsingleton.elim _ _
      obtain rfl : s = 0 := Fin.ext (by omega)
      obtain rfl : j = 3 := Fin.ext (by omega)
      obtain rfl : d = l := Fin.ext (by omega)
      obtain rfl : e = q := Fin.ext (by omega)
      rw [pay76_apply]
      pointwise [gacT, bU]
    refine canon_case4 _ _ _ _ _ _ _ _ (fun a b d e ha hb hd he => ?_) fun n7 => ?_
    · obtain rfl : a = 0 := Subsingleton.elim _ _
      obtain rfl : b = 0 := Subsingleton.elim _ _
      obtain rfl : s = 0 := Fin.ext (by omega)
      obtain rfl : j = 2 := Fin.ext (by omega)
      obtain rfl : d = l := Fin.ext (by omega)
      obtain rfl : e = q := Fin.ext (by omega)
      rw [pay75_apply]
      pointwise [gacT, bU]
    refine canon_case4 _ _ _ _ _ _ _ _ (fun a b d e ha hb hd he => ?_) fun n8 => ?_
    · obtain rfl : a = 0 := Subsingleton.elim _ _
      obtain rfl : b = 0 := Subsingleton.elim _ _
      obtain rfl : s = 0 := Fin.ext (by omega)
      obtain rfl : j = 1 := Fin.ext (by omega)
      obtain rfl : d = l := Fin.ext (by omega)
      obtain rfl : e = q := Fin.ext (by omega)
      rw [pay74_apply]
      pointwise [gacT, bU]
    refine canon_case4 _ _ _ _ _ _ _ _ (fun a b d e ha hb hd he => ?_) fun n9 => ?_
    · obtain rfl : a = 0 := Subsingleton.elim _ _
      obtain rfl : b = 0 := Subsingleton.elim _ _
      obtain rfl : s = 0 := Fin.ext (by omega)
      obtain rfl : j = 0 := Fin.ext (by omega)
      obtain rfl : d = l := Fin.ext (by omega)
      obtain rfl : e = q := Fin.ext (by omega)
      rw [pay72_apply]
      pointwise [gacT, bU]
    exfalso
    have hs : s.val = 0 ∨ s.val = 1 := by omega
    have hj : j.val = 0 ∨ j.val = 1 ∨ j.val = 2 ∨ j.val = 3 ∨ j.val = 4 := by omega
    rcases hs with hs | hs <;> rcases hj with hj | hj | hj | hj | hj <;>
      simp only [hs, hj] at n0 n1 n2 n3 n4 n5 n6 n7 n8 n9 <;> omega

end Cert.KernelIdeal.Hand
-- ==== Proof.Gate.Small.lean ====
module
public import proofs.«01_k».proof.Proof.Gate.Gacc
@[expose] public section

/-!
# The small results of one grid point

Row 3 of each half collects the sum of the gradients. Rows 0, 1 and 2 collect, on the last 64 lanes, the sums of inputs
times shifted gradients; on the other lanes they are written once, at the last point of a run, from the diagonals of the
collected products.
-/

set_option maxRecDepth 16384
noncomputable section
namespace Cert.KernelIdeal.Hand
open Cert.KernelIdeal Cert.KernelIdeal.Gen Idealize.ShloMosaic Idealize.ShloMosaic.TcCoe Idealize.SL.Sem
variable (m : (ℓ : Loc nD τ sig) → Buf (Elt Ideal) ℓ)

/-- The sum over a point's rows of the gradient. -/
def sumT (c : Dev nD) (t : Fin cfg0.N) (s : Fin 2) (i : Fin 8) (x : Fin 704) : EReal :=
  if i = 3 then ∑ r : Fin 1024, E m c t s (ix2 r x) else 0

/-- The sums over a point's rows of shifted gradients times inputs, by tap. -/
def rowT (c : Dev nD) (t : Fin cfg0.N) (s : Fin 2) (i : Fin 8) (x : Fin 704) : EReal :=
  if i = 0 then ∑ r : Fin 1024, En m c t s 2 (ix2 r x) * bU m c t s r x
  else if i = 1 then ∑ r : Fin 1024, En m c t s 1 (ix2 r x) * bU m c t s r x
  else if i = 2 then ∑ r : Fin 1024, E m c t s (ix2 r x) * bU m c t s r x
  else 0

/-- The small results after a point that is not the last of its run. -/
def dcwS (c : Dev nD) (t : Fin cfg0.N) (s : Fin 2) (i : Fin 8) (x : Fin 704) : EReal :=
  dcw0 m c t (ix4 0 s i x) + sumT m c t s i x + if 640 ≤ x.val then rowT m c t s i x else 0

/-- The small results where the last point writes a diagonal. -/
def diagT (c : Dev nD) (t : Fin cfg0.N) (s : Fin 2) (j : Fin 5) (l : Fin 128) (k : Fin 3) : EReal :=
  gac0 m c t (ix4 s j l ⟨128 * k.val + l.val, by omega⟩) + gacT m c t s j l ⟨128 * k.val + l.val, by omega⟩

/-- The small results after the last point of a run. -/
def dcwL (c : Dev nD) (t : Fin cfg0.N) (s : Fin 2) (i : Fin 8) (x : Fin 704) : EReal :=
  if h : i.val < 3 ∧ x.val < 640 then
    diagT m c t s ⟨x.val / 128, by omega⟩ ⟨x.val % 128, by omega⟩ ⟨2 - i.val, by omega⟩
  else dcwS m c t s i x

theorem tail_rowT (c : Dev nD) (t : Fin cfg0.N) (s : Fin 2) (u : FVec Ideal S1x1x1024x64 .bf16) (i : Fin 8) (x : Fin 704) (q : Fin 64)
    (hx : x.val = 640 + q.val) (hu : ∀ r, u (ix4 0 0 r q) = bU m c t s r ⟨640 + q.val, by omega⟩) :
    tail3 (E m c t s) (En m c t s 1) (En m c t s 2) u i q = rowT m c t s i x := by
  have hq : (⟨640 + q.val, by omega⟩ : Fin 704) = x := Fin.ext hx.symm
  simp only [tail3, rowT, hu, hq]

theorem dcw_pointA (c : Dev nD) (t : Fin cfg0.N) (h0 : t.val % 8 = 0) (h1 : ¬t.val % 8 = 7) (s : Fin 2) (i : Fin 8) (x : Fin 704) :
    (outsAt0 m c t.val t.isLt).2.2.1 (ix4 0 s i x) = dcwS m c t s i x := by
  rw [outsAt0_A m c t h0 h1]
  frame_open
  simp (disch := decide) only [↓ View.readCov_skip, ↓ View.readCov_cons_toLoadRect, ↓ View.readCov_fill]
  frame_out
  simp only [car_fill m c t h0, gac0_fill m c t h0, dcw0_fill m c t h0, ld_car0, ld_car1, E0_eq, E1_eq, En01_eq, En02_eq, En11_eq, En12_eq]
  refine canon_case4 _ _ _ _ _ _ _ _ (fun a b d e ha hb hd he => ?_) fun n0 => ?_
  · obtain rfl : a = 0 := Subsingleton.elim _ _
    obtain rfl : b = 0 := Subsingleton.elim _ _
    obtain rfl : s = 1 := Fin.ext (by omega)
    obtain rfl : d = i := Fin.ext (by omega)
    rw [pay1_apply, tail_rowT m c t 1 _ d x e he (fun r => by pointwise [bU])]
    rw [dcwS, if_pos (show 640 ≤ x.val by omega)]
    refine congrArg (· + rowT m c t 1 d x) ?_
    rw [View.readCov_eq_canon']
    have hi : (Rect.unit (s := S1x2x8x704) ![0, 1, 0, 640] ![1, 1, 8, 64] inb_S1x2x8x704_S1x1x8x64_0_1_0_640).toLoadRect.idx
        (ix4 (n0 := 1) (n1 := 1) (n2 := 8) (n3 := 64) 0 0 d e) = ix4 (n0 := 1) (n1 := 2) (n2 := 8) (n3 := 704) 0 1 d x := by
      funext k
      match k with
      | ⟨0, _⟩ => rfl
      | ⟨1, _⟩ => rfl
      | ⟨2, _⟩ => exact Fin.ext (by show 0 + 1 * d.val = d.val; omega)
      | ⟨3, _⟩ => exact Fin.ext (by show 640 + 1 * e.val = x.val; omega)
    refine (congrArg _ hi).trans ?_
    refine canon_case4 _ _ _ _ _ _ _ _ (fun a b d' e' ha hb hd he => ?_) fun k0 => absurd (by omega) k0
    obtain rfl : a = 0 := Subsingleton.elim _ _
    obtain rfl : b = 0 := Subsingleton.elim _ _
    obtain rfl : d' = d := Fin.ext (by omega)
    obtain rfl : e' = x := Fin.ext (by omega)
    rw [pay99_apply]
    pointwise [sumT]
  refine canon_case4 _ _ _ _ _ _ _ _ (fun a b d e ha hb hd he => ?_) fun n1 => ?_
  · obtain rfl : a = 0 := Subsingleton.elim _ _
    obtain rfl : b = 0 := Subsingleton.elim _ _
    obtain rfl : s = 1 := Fin.ext (by omega)
    obtain rfl : d = i := Fin.ext (by omega)
    obtain rfl : e = x := Fin.ext (by omega)
    rw [dcwS, if_neg (show ¬640 ≤ e.val by omega), add_zero, pay99_apply]
    pointwise [sumT]
  refine canon_case4 _ _ _ _ _ _ _ _ (fun a b d e ha hb hd he => ?_) fun n2 => ?_
  · obtain rfl : a = 0 := Subsingleton.elim _ _
    obtain rfl : b = 0 := Subsingleton.elim _ _
    obtain rfl : s = 0 := Fin.ext (by omega)
    obtain rfl : d = i := Fin.ext (by omega)
    rw [pay81_apply, tail_rowT m c t 0 _ d x e he (fun r => by pointwise [bU])]
    rw [dcwS, if_pos (show 640 ≤ x.val by omega)]
    refine congrArg (· + rowT m c t 0 d x) ?_
    rw [View.readCov_eq_canon']
    have hi : (Rect.unit (s := S1x2x8x704) ![0, 0, 0, 640] ![1, 1, 8, 64] inb_S1x2x8x704_S1x1x8x64_0_0_0_640).toLoadRect.idx
        (ix4 (n0 := 1) (n1 := 1) (n2 := 8) (n3 := 64) 0 0 d e) = ix4 (n0 := 1) (n1 := 2) (n2 := 8) (n3 := 704) 0 0 d x := by
      funext k
      match k with
      | ⟨0, _⟩ => rfl
      | ⟨1, _⟩ => rfl
      | ⟨2, _⟩ => exact Fin.ext (by show 0 + 1 * d.val = d.val; omega)
      | ⟨3, _⟩ => exact Fin.ext (by show 640 + 1 * e.val = x.val; omega)
    refine (congrArg _ hi).trans ?_
    refine canon_case4 _ _ _ _ _ _ _ _ (fun a b d' e' ha hb hd he => ?_) fun k0 => absurd (by omega) k0
    obtain rfl : a = 0 := Subsingleton.elim _ _
    obtain rfl : b = 0 := Subsingleton.elim _ _
    obtain rfl : d' = d := Fin.ext (by omega)
    obtain rfl : e' = x := Fin.ext (by omega)
    rw [pay78_apply]
    pointwise [sumT]
  refine canon_case4 _ _ _ _ _ _ _ _ (fun a b d e ha hb hd he => ?_) fun n3 => ?_
  · obtain rfl : a = 0 := Subsingleton.elim _ _
    obtain rfl : b = 0 := Subsingleton.elim _ _
    obtain rfl : s = 0 := Fin.ext (by omega)
    obtain rfl : d = i := Fin.ext (by omega)
    obtain rfl : e = x := Fin.ext (by omega)
    rw [dcwS, if_neg (show ¬640 ≤ e.val by omega), add_zero, pay78_apply]
    pointwise [sumT]
  exfalso
  have hs : s.val = 0 ∨ s.val = 1 := by omega
  rcases hs with hs | hs <;> simp only [hs] at n1 n3 <;> omega

theorem dcw_pointB (c : Dev nD) (t : Fin cfg0.N) (h0 : ¬t.val % 8 = 0) (h1 : ¬t.val % 8 = 7) (s : Fin 2) (i : Fin 8) (x : Fin 704) :
    (outsAt0 m c t.val t.isLt).2.2.1 (ix4 0 s i x) = dcwS m c t s i x := by
  rw [outsAt0_B m c t h0 h1]
  frame_open
  simp (disch := decide) only [↓ View.readCov_skip, ↓ View.readCov_cons_toLoadRect, ↓ View.readCov_fill]
  frame_out
  simp only [read_unread_whole, car_prev m c t h0, gac0_prev m c t h0, dcw0_prev m c t h0, ld_car0, ld_car1, E0_eq, E1_eq, En01_eq, En02_eq, En11_eq, En12_eq]
  refine canon_case4 _ _ _ _ _ _ _ _ (fun a b d e ha hb hd he => ?_) fun n0 => ?_
  · obtain rfl : a = 0 := Subsingleton.elim _ _
    obtain rfl : b = 0 := Subsingleton.elim _ _
    obtain rfl : s = 1 := Fin.ext (by omega)
    obtain rfl : d = i := Fin.ext (by omega)
    rw [pay1_apply, tail_rowT m c t 1 _ d x e he (fun r => by pointwise [bU])]
    rw [dcwS, if_pos (show 640 ≤ x.val by omega)]
    refine congrArg (· + rowT m c t 1 d x) ?_
    rw [View.readCov_eq_canon']
    have hi : (Rect.unit (s := S1x2x8x704) ![0, 1, 0, 640] ![1, 1, 8, 64] inb_S1x2x8x704_S1x1x8x64_0_1_0_640).toLoadRect.idx
        (ix4 (n0 := 1) (n1 := 1) (n2 := 8) (n3 := 64) 0 0 d e) = ix4 (n0 := 1) (n1 := 2) (n2 := 8) (n3 := 704) 0 1 d x := by
      funext k
      match k with
      | ⟨0, _⟩ => rfl
      | ⟨1, _⟩ => rfl
      | ⟨2, _⟩ => exact Fin.ext (by show 0 + 1 * d.val = d.val; omega)
      | ⟨3, _⟩ => exact Fin.ext (by show 640 + 1 * e.val = x.val; omega)
    refine (congrArg _ hi).trans ?_
    refine canon_case4 _ _ _ _ _ _ _ _ (fun a b d' e' ha hb hd he => ?_) fun k0 => absurd (by omega) k0
    obtain rfl : a = 0 := Subsingleton.elim _ _
    obtain rfl : b = 0 := Subsingleton.elim _ _
    obtain rfl : d' = d := Fin.ext (by omega)
    obtain rfl : e' = x := Fin.ext (by omega)
    rw [pay99_apply]
    pointwise [sumT]
  refine canon_case4 _ _ _ _ _ _ _ _ (fun a b d e ha hb hd he => ?_) fun n1 => ?_
  · obtain rfl : a = 0 := Subsingleton.elim _ _
    obtain rfl : b = 0 := Subsingleton.elim _ _
    obtain rfl : s = 1 := Fin.ext (by omega)
    obtain rfl : d = i := Fin.ext (by omega)
    obtain rfl : e = x := Fin.ext (by omega)
    rw [dcwS, if_neg (show ¬640 ≤ e.val by omega), add_zero, pay99_apply]
    pointwise [sumT]
  refine canon_case4 _ _ _ _ _ _ _ _ (fun a b d e ha hb hd he => ?_) fun n2 => ?_
  · obtain rfl : a = 0 := Subsingleton.elim _ _
    obtain rfl : b = 0 := Subsingleton.elim _ _
    obtain rfl : s = 0 := Fin.ext (by omega)
    obtain rfl : d = i := Fin.ext (by omega)
    rw [pay81_apply, tail_rowT m c t 0 _ d x e he (fun r => by pointwise [bU])]
    rw [dcwS, if_pos (show 640 ≤ x.val by omega)]
    refine congrArg (· + rowT m c t 0 d x) ?_
    rw [View.readCov_eq_canon']
    have hi : (Rect.unit (s := S1x2x8x704) ![0, 0, 0, 640] ![1, 1, 8, 64] inb_S1x2x8x704_S1x1x8x64_0_0_0_640).toLoadRect.idx
        (ix4 (n0 := 1) (n1 := 1) (n2 := 8) (n3 := 64) 0 0 d e) = ix4 (n0 := 1) (n1 := 2) (n2 := 8) (n3 := 704) 0 0 d x := by
      funext k
      match k with
      | ⟨0, _⟩ => rfl
      | ⟨1, _⟩ => rfl
      | ⟨2, _⟩ => exact Fin.ext (by show 0 + 1 * d.val = d.val; omega)
      | ⟨3, _⟩ => exact Fin.ext (by show 640 + 1 * e.val = x.val; omega)
    refine (congrArg _ hi).trans ?_
    refine canon_case4 _ _ _ _ _ _ _ _ (fun a b d' e' ha hb hd he => ?_) fun k0 => absurd (by omega) k0
    obtain rfl : a = 0 := Subsingleton.elim _ _
    obtain rfl : b = 0 := Subsingleton.elim _ _
    obtain rfl : d' = d := Fin.ext (by omega)
    obtain rfl : e' = x := Fin.ext (by omega)
    rw [pay78_apply]
    pointwise [sumT]
  refine canon_case4 _ _ _ _ _ _ _ _ (fun a b d e ha hb hd he => ?_) fun n3 => ?_
  · obtain rfl : a = 0 := Subsingleton.elim _ _
    obtain rfl : b = 0 := Subsingleton.elim _ _
    obtain rfl : s = 0 := Fin.ext (by omega)
    obtain rfl : d = i := Fin.ext (by omega)
    obtain rfl : e = x := Fin.ext (by omega)
    rw [dcwS, if_neg (show ¬640 ≤ e.val by omega), add_zero, pay78_apply]
    pointwise [sumT]
  exfalso
  have hs : s.val = 0 ∨ s.val = 1 := by omega
  rcases hs with hs | hs <;> simp only [hs] at n1 n3 <;> omega

end Cert.KernelIdeal.Hand
-- ==== Proof.Gate.SmallLast.lean ====
module
public import proofs.«01_k».proof.Proof.Gate.Small
@[expose] public section

/-!
# The small results at the last point of a run
-/

set_option maxRecDepth 16384
noncomputable section
namespace Cert.KernelIdeal.Hand
open Cert.KernelIdeal Cert.KernelIdeal.Gen Idealize.ShloMosaic Idealize.ShloMosaic.TcCoe Idealize.SL.Sem
variable (m : (ℓ : Loc nD τ sig) → Buf (Elt Ideal) ℓ)

/-- The written diagonal, at the lane's group and place in it. -/
theorem dcwL_diag (c : Dev nD) (t : Fin cfg0.N) (s : Fin 2) (i : Fin 8) (x : Fin 704) (j : Fin 5) (l : Fin 128) (k : Fin 3)
    (hx : x.val = 128 * j.val + l.val) (hk : k.val + i.val = 2) : dcwL m c t s i x = diagT m c t s j l k := by
  have h : i.val < 3 ∧ x.val < 640 := by omega
  have hj : (⟨x.val / 128, by omega⟩ : Fin 5) = j := Fin.ext (by show x.val / 128 = j.val; omega)
  have hl : (⟨x.val % 128, by omega⟩ : Fin 128) = l := Fin.ext (by show x.val % 128 = l.val; omega)
  have hk' : (⟨2 - i.val, by omega⟩ : Fin 3) = k := Fin.ext (by show 2 - i.val = k.val; omega)
  rw [dcwL, dif_pos h, hj, hl, hk']

set_option maxHeartbeats 1000000 in
/-- The small results the last point of a run leaves. -/
theorem dcw_pointL (c : Dev nD) (t : Fin cfg0.N) (h1 : t.val % 8 = 7) (s : Fin 2) (i : Fin 8) (x : Fin 704) :
    (outsAt0 m c t.val t.isLt).2.2.1 (ix4 0 s i x) = dcwL m c t s i x := by
  have h0 : ¬t.val % 8 = 0 := by omega
  rw [outsAt0_C m c t h0 h1]
  frame_open
  simp (disch := decide) only [↓ View.readCov_skip, ↓ View.readCov_cons_toLoadRect, ↓ View.readCov_fill]
  frame_out
  simp only [read_unread_whole, car_prev m c t h0, gac0_prev m c t h0, dcw0_prev m c t h0, ld_car0, ld_car1, E0_eq, E1_eq, En01_eq, En02_eq, En11_eq, En12_eq]
  have hs2 : s.val < 2 := s.isLt
  have hi8 : i.val < 8 := i.isLt
  by_cases hL : i.val < 3 ∧ x.val < 640
  · obtain ⟨hi, hx⟩ := hL
    obtain ⟨K, hK⟩ : ∃ K, K = 15 * s.val + 3 * (x.val / 128) + i.val := ⟨_, rfl⟩
    have g30 : K < 30 := by omega
    refine canon_case4 _ _ _ _ _ _ _ _ (fun a b d e ha hb hd he => ?_) fun n => ?_
    · clear g30 hK hx hi hs2 hi8
      obtain rfl : a = 0 := Subsingleton.elim _ _
      obtain rfl : b = 0 := Subsingleton.elim _ _
      obtain rfl : d = 0 := Subsingleton.elim _ _
      obtain rfl : s = 1 := Fin.ext hb
      obtain rfl : i = 2 := Fin.ext hd
      rw [dcwL_diag m c t 1 2 x 4 e 0 he rfl, pay5_apply, pay98_apply]
      pointwise [diagT, gacT, bU]
    have g29 : K < 29 := by
      by_contra h
      exact n ⟨⟨by omega, by omega⟩, ⟨by omega, by omega⟩, ⟨by omega, by omega⟩, by omega, by omega⟩
    clear g30 n
    refine canon_case4 _ _ _ _ _ _ _ _ (fun a b d e ha hb hd he => ?_) fun n => ?_
    · clear g29 hK hx hi hs2 hi8
      obtain rfl : a = 0 := Subsingleton.elim _ _
      obtain rfl : b = 0 := Subsingleton.elim _ _
      obtain rfl : d = 0 := Subsingleton.elim _ _
      obtain rfl : s = 1 := Fin.ext hb
      obtain rfl : i = 1 := Fin.ext hd
      rw [dcwL_diag m c t 1 1 x 4 e 1 he rfl, pay4_apply, pay98_apply]
      pointwise [diagT, gacT, bU]
    have g28 : K < 28 := by
      by_contra h
      exact n ⟨⟨by omega, by omega⟩, ⟨by omega, by omega⟩, ⟨by omega, by omega⟩, by omega, by omega⟩
    clear g29 n
    refine canon_case4 _ _ _ _ _ _ _ _ (fun a b d e ha hb hd he => ?_) fun n => ?_
    · clear g28 hK hx hi hs2 hi8
      obtain rfl : a = 0 := Subsingleton.elim _ _
      obtain rfl : b = 0 := Subsingleton.elim _ _
      obtain rfl : d = 0 := Subsingleton.elim _ _
      obtain rfl : s = 1 := Fin.ext hb
      obtain rfl : i = 0 := Fin.ext hd
      rw [dcwL_diag m c t 1 0 x 4 e 2 he rfl, pay3_apply, pay98_apply]
      pointwise [diagT, gacT, bU]
    have g27 : K < 27 := by
      by_contra h
      exact n ⟨⟨by omega, by omega⟩, ⟨by omega, by omega⟩, ⟨by omega, by omega⟩, by omega, by omega⟩
    clear g28 n
    refine canon_case4 _ _ _ _ _ _ _ _ (fun a b d e ha hb hd he => ?_) fun n => ?_
    · clear g27 hK hx hi hs2 hi8
      obtain rfl : a = 0 := Subsingleton.elim _ _
      obtain rfl : b = 0 := Subsingleton.elim _ _
      obtain rfl : d = 0 := Subsingleton.elim _ _
      obtain rfl : s = 1 := Fin.ext hb
      obtain rfl : i = 2 := Fin.ext hd
      rw [dcwL_diag m c t 1 2 x 3 e 0 he rfl, pay48_apply, pay97_apply]
      pointwise [diagT, gacT, bU]
    have g26 : K < 26 := by
      by_contra h
      exact n ⟨⟨by omega, by omega⟩, ⟨by omega, by omega⟩, ⟨by omega, by omega⟩, by omega, by omega⟩
    clear g27 n
    refine canon_case4 _ _ _ _ _ _ _ _ (fun a b d e ha hb hd he => ?_) fun n => ?_
    · clear g26 hK hx hi hs2 hi8
      obtain rfl : a = 0 := Subsingleton.elim _ _
      obtain rfl : b = 0 := Subsingleton.elim _ _
      obtain rfl : d = 0 := Subsingleton.elim _ _
      obtain rfl : s = 1 := Fin.ext hb
      obtain rfl : i = 1 := Fin.ext hd
      rw [dcwL_diag m c t 1 1 x 3 e 1 he rfl, pay47_apply, pay97_apply]
      pointwise [diagT, gacT, bU]
    have g25 : K < 25 := by
      by_contra h
      exact n ⟨⟨by omega, by omega⟩, ⟨by omega, by omega⟩, ⟨by omega, by omega⟩, by omega, by omega⟩
    clear g26 n
    refine canon_case4 _ _ _ _ _ _ _ _ (fun a b d e ha hb hd he => ?_) fun n => ?_
    · clear g25 hK hx hi hs2 hi8
      obtain rfl : a = 0 := Subsingleton.elim _ _
      obtain rfl : b = 0 := Subsingleton.elim _ _
      obtain rfl : d = 0 := Subsingleton.elim _ _
      obtain rfl : s = 1 := Fin.ext hb
      obtain rfl : i = 0 := Fin.ext hd
      rw [dcwL_diag m c t 1 0 x 3 e 2 he rfl, pay46_apply, pay97_apply]
      pointwise [diagT, gacT, bU]
    have g24 : K < 24 := by
      by_contra h
      exact n ⟨⟨by omega, by omega⟩, ⟨by omega, by omega⟩, ⟨by omega, by omega⟩, by omega, by omega⟩
    clear g25 n
    refine canon_case4 _ _ _ _ _ _ _ _ (fun a b d e ha hb hd he => ?_) fun n => ?_
    · clear g24 hK hx hi hs2 hi8
      obtain rfl : a = 0 := Subsingleton.elim _ _
      obtain rfl : b = 0 := Subsingleton.elim _ _
      obtain rfl : d = 0 := Subsingleton.elim _ _
      obtain rfl : s = 1 := Fin.ext hb
      obtain rfl : i = 2 := Fin.ext hd
      rw [dcwL_diag m c t 1 2 x 2 e 0 he rfl, pay44_apply, pay96_apply]
      pointwise [diagT, gacT, bU]
    have g23 : K < 23 := by
      by_contra h
      exact n ⟨⟨by omega, by omega⟩, ⟨by omega, by omega⟩, ⟨by omega, by omega⟩, by omega, by omega⟩
    clear g24 n
    refine canon_case4 _ _ _ _ _ _ _ _ (fun a b d e ha hb hd he => ?_) fun n => ?_
    · clear g23 hK hx hi hs2 hi8
      obtain rfl : a = 0 := Subsingleton.elim _ _
      obtain rfl : b = 0 := Subsingleton.elim _ _
      obtain rfl : d = 0 := Subsingleton.elim _ _
      obtain rfl : s = 1 := Fin.ext hb
      obtain rfl : i = 1 := Fin.ext hd
      rw [dcwL_diag m c t 1 1 x 2 e 1 he rfl, pay42_apply, pay96_apply]
      pointwise [diagT, gacT, bU]
    have g22 : K < 22 := by
      by_contra h
      exact n ⟨⟨by omega, by omega⟩, ⟨by omega, by omega⟩, ⟨by omega, by omega⟩, by omega, by omega⟩
    clear g23 n
    refine canon_case4 _ _ _ _ _ _ _ _ (fun a b d e ha hb hd he => ?_) fun n => ?_
    · clear g22 hK hx hi hs2 hi8
      obtain rfl : a = 0 := Subsingleton.elim _ _
      obtain rfl : b = 0 := Subsingleton.elim _ _
      obtain rfl : d = 0 := Subsingleton.elim _ _
      obtain rfl : s = 1 := Fin.ext hb
      obtain rfl : i = 0 := Fin.ext hd
      rw [dcwL_diag m c t 1 0 x 2 e 2 he rfl, pay41_apply, pay96_apply]
      pointwise [diagT, gacT, bU]
    have g21 : K < 21 := by
      by_contra h
      exact n ⟨⟨by omega, by omega⟩, ⟨by omega, by omega⟩, ⟨by omega, by omega⟩, by omega, by omega⟩
    clear g22 n
    refine canon_case4 _ _ _ _ _ _ _ _ (fun a b d e ha hb hd he => ?_) fun n => ?_
    · clear g21 hK hx hi hs2 hi8
      obtain rfl : a = 0 := Subsingleton.elim _ _
      obtain rfl : b = 0 := Subsingleton.elim _ _
      obtain rfl : d = 0 := Subsingleton.elim _ _
      obtain rfl : s = 1 := Fin.ext hb
      obtain rfl : i = 2 := Fin.ext hd
      rw [dcwL_diag m c t 1 2 x 1 e 0 he rfl, pay39_apply, pay94_apply]
      pointwise [diagT, gacT, bU]
    have g20 : K < 20 := by
      by_contra h
      exact n ⟨⟨by omega, by omega⟩, ⟨by omega, by omega⟩, ⟨by omega, by omega⟩, by omega, by omega⟩
    clear g21 n
    refine canon_case4 _ _ _ _ _ _ _ _ (fun a b d e ha hb hd he => ?_) fun n => ?_
    · clear g20 hK hx hi hs2 hi8
      obtain rfl : a = 0 := Subsingleton.elim _ _
      obtain rfl : b = 0 := Subsingleton.elim _ _
      obtain rfl : d = 0 := Subsingleton.elim _ _
      obtain rfl : s = 1 := Fin.ext hb
      obtain rfl : i = 1 := Fin.ext hd
      rw [dcwL_diag m c t 1 1 x 1 e 1 he rfl, pay38_apply, pay94_apply]
      pointwise [diagT, gacT, bU]
    have g19 : K < 19 := by
      by_contra h
      exact n ⟨⟨by omega, by omega⟩, ⟨by omega, by omega⟩, ⟨by omega, by omega⟩, by omega, by omega⟩
    clear g20 n
    refine canon_case4 _ _ _ _ _ _ _ _ (fun a b d e ha hb hd he => ?_) fun n => ?_
    · clear g19 hK hx hi hs2 hi8
      obtain rfl : a = 0 := Subsingleton.elim _ _
      obtain rfl : b = 0 := Subsingleton.elim _ _
      obtain rfl : d = 0 := Subsingleton.elim _ _
      obtain rfl : s = 1 := Fin.ext hb
      obtain rfl : i = 0 := Fin.ext hd
      rw [dcwL_diag m c t 1 0 x 1 e 2 he rfl, pay37_apply, pay94_apply]
      pointwise [diagT, gacT, bU]
    have g18 : K < 18 := by
      by_contra h
      exact n ⟨⟨by omega, by omega⟩, ⟨by omega, by omega⟩, ⟨by omega, by omega⟩, by omega, by omega⟩
    clear g19 n
    refine canon_case4 _ _ _ _ _ _ _ _ (fun a b d e ha hb hd he => ?_) fun n => ?_
    · clear g18 hK hx hi hs2 hi8
      obtain rfl : a = 0 := Subsingleton.elim _ _
      obtain rfl : b = 0 := Subsingleton.elim _ _
      obtain rfl : d = 0 := Subsingleton.elim _ _
      obtain rfl : s = 1 := Fin.ext hb
      obtain rfl : i = 2 := Fin.ext hd
      rw [dcwL_diag m c t 1 2 x 0 e 0 he rfl, pay35_apply, pay93_apply]
      pointwise [diagT, gacT, bU]
    have g17 : K < 17 := by
      by_contra h
      exact n ⟨⟨by omega, by omega⟩, ⟨by omega, by omega⟩, ⟨by omega, by omega⟩, by omega, by omega⟩
    clear g18 n
    refine canon_case4 _ _ _ _ _ _ _ _ (fun a b d e ha hb hd he => ?_) fun n => ?_
    · clear g17 hK hx hi hs2 hi8
      obtain rfl : a = 0 := Subsingleton.elim _ _
      obtain rfl : b = 0 := Subsingleton.elim _ _
      obtain rfl : d = 0 := Subsingleton.elim _ _
      obtain rfl : s = 1 := Fin.ext hb
      obtain rfl : i = 1 := Fin.ext hd
      rw [dcwL_diag m c t 1 1 x 0 e 1 he rfl, pay34_apply, pay93_apply]
      pointwise [diagT, gacT, bU]
    have g16 : K < 16 := by
      by_contra h
      exact n ⟨⟨by omega, by omega⟩, ⟨by omega, by omega⟩, ⟨by omega, by omega⟩, by omega, by omega⟩
    clear g17 n
    refine canon_case4 _ _ _ _ _ _ _ _ (fun a b d e ha hb hd he => ?_) fun n => ?_
    · clear g16 hK hx hi hs2 hi8
      obtain rfl : a = 0 := Subsingleton.elim _ _
      obtain rfl : b = 0 := Subsingleton.elim _ _
      obtain rfl : d = 0 := Subsingleton.elim _ _
      obtain rfl : s = 1 := Fin.ext hb
      obtain rfl : i = 0 := Fin.ext hd
      rw [dcwL_diag m c t 1 0 x 0 e 2 he rfl, pay32_apply, pay93_apply]
      pointwise [diagT, gacT, bU]
    have g15 : K < 15 := by
      by_contra h
      exact n ⟨⟨by omega, by omega⟩, ⟨by omega, by omega⟩, ⟨by omega, by omega⟩, by omega, by omega⟩
    clear g16 n
    refine canon_case4 _ _ _ _ _ _ _ _ (fun a b d e ha hb hd he => ?_) fun n => ?_
    · clear g15 hK hx hi hs2 hi8
      obtain rfl : a = 0 := Subsingleton.elim _ _
      obtain rfl : b = 0 := Subsingleton.elim _ _
      obtain rfl : d = 0 := Subsingleton.elim _ _
      obtain rfl : s = 0 := Fin.ext hb
      obtain rfl : i = 2 := Fin.ext hd
      rw [dcwL_diag m c t 0 2 x 4 e 0 he rfl, pay30_apply, pay77_apply]
      pointwise [diagT, gacT, bU]
    have g14 : K < 14 := by
      by_contra h
      exact n ⟨⟨by omega, by omega⟩, ⟨by omega, by omega⟩, ⟨by omega, by omega⟩, by omega, by omega⟩
    clear g15 n
    refine canon_case4 _ _ _ _ _ _ _ _ (fun a b d e ha hb hd he => ?_) fun n => ?_
    · clear g14 hK hx hi hs2 hi8
      obtain rfl : a = 0 := Subsingleton.elim _ _
      obtain rfl : b = 0 := Subsingleton.elim _ _
      obtain rfl : d = 0 := Subsingleton.elim _ _
      obtain rfl : s = 0 := Fin.ext hb
      obtain rfl : i = 1 := Fin.ext hd
      rw [dcwL_diag m c t 0 1 x 4 e 1 he rfl, pay29_apply, pay77_apply]
      pointwise [diagT, gacT, bU]
    have g13 : K < 13 := by
      by_contra h
      exact n ⟨⟨by omega, by omega⟩, ⟨by omega, by omega⟩, ⟨by omega, by omega⟩, by omega, by omega⟩
    clear g14 n
    refine canon_case4 _ _ _ _ _ _ _ _ (fun a b d e ha hb hd he => ?_) fun n => ?_
    · clear g13 hK hx hi hs2 hi8
      obtain rfl : a = 0 := Subsingleton.elim _ _
      obtain rfl : b = 0 := Subsingleton.elim _ _
      obtain rfl : d = 0 := Subsingleton.elim _ _
      obtain rfl : s = 0 := Fin.ext hb
      obtain rfl : i = 0 := Fin.ext hd
      rw [dcwL_diag m c t 0 0 x 4 e 2 he rfl, pay28_apply, pay77_apply]
      pointwise [diagT, gacT, bU]
    have g12 : K < 12 := by
      by_contra h
      exact n ⟨⟨by omega, by omega⟩, ⟨by omega, by omega⟩, ⟨by omega, by omega⟩, by omega, by omega⟩
    clear g13 n
    refine canon_case4 _ _ _ _ _ _ _ _ (fun a b d e ha hb hd he => ?_) fun n => ?_
    · clear g12 hK hx hi hs2 hi8
      obtain rfl : a = 0 := Subsingleton.elim _ _
      obtain rfl : b = 0 := Subsingleton.elim _ _
      obtain rfl : d = 0 := Subsingleton.elim _ _
      obtain rfl : s = 0 := Fin.ext hb
      obtain rfl : i = 2 := Fin.ext hd
      rw [dcwL_diag m c t 0 2 x 3 e 0 he rfl, pay25_apply, pay76_apply]
      pointwise [diagT, gacT, bU]
    have g11 : K < 11 := by
      by_contra h
      exact n ⟨⟨by omega, by omega⟩, ⟨by omega, by omega⟩, ⟨by omega, by omega⟩, by omega, by omega⟩
    clear g12 n
    refine canon_case4 _ _ _ _ _ _ _ _ (fun a b d e ha hb hd he => ?_) fun n => ?_
    · clear g11 hK hx hi hs2 hi8
      obtain rfl : a = 0 := Subsingleton.elim _ _
      obtain rfl : b = 0 := Subsingleton.elim _ _
      obtain rfl : d = 0 := Subsingleton.elim _ _
      obtain rfl : s = 0 := Fin.ext hb
      obtain rfl : i = 1 := Fin.ext hd
      rw [dcwL_diag m c t 0 1 x 3 e 1 he rfl, pay24_apply, pay76_apply]
      pointwise [diagT, gacT, bU]
    have g10 : K < 10 := by
      by_contra h
      exact n ⟨⟨by omega, by omega⟩, ⟨by omega, by omega⟩, ⟨by omega, by omega⟩, by omega, by omega⟩
    clear g11 n
    refine canon_case4 _ _ _ _ _ _ _ _ (fun a b d e ha hb hd he => ?_) fun n => ?_
    · clear g10 hK hx hi hs2 hi8
      obtain rfl : a = 0 := Subsingleton.elim _ _
      obtain rfl : b = 0 := Subsingleton.elim _ _
      obtain rfl : d = 0 := Subsingleton.elim _ _
      obtain rfl : s = 0 := Fin.ext hb
      obtain rfl : i = 0 := Fin.ext hd
      rw [dcwL_diag m c t 0 0 x 3 e 2 he rfl, pay23_apply, pay76_apply]
      pointwise [diagT, gacT, bU]
    have g9 : K < 9 := by
      by_contra h
      exact n ⟨⟨by omega, by omega⟩, ⟨by omega, by omega⟩, ⟨by omega, by omega⟩, by omega, by omega⟩
    clear g10 n
    refine canon_case4 _ _ _ _ _ _ _ _ (fun a b d e ha hb hd he => ?_) fun n => ?_
    · clear g9 hK hx hi hs2 hi8
      obtain rfl : a = 0 := Subsingleton.elim _ _
      obtain rfl : b = 0 := Subsingleton.elim _ _
      obtain rfl : d = 0 := Subsingleton.elim _ _
      obtain rfl : s = 0 := Fin.ext hb
      obtain rfl : i = 2 := Fin.ext hd
      rw [dcwL_diag m c t 0 2 x 2 e 0 he rfl, pay20_apply, pay75_apply]
      pointwise [diagT, gacT, bU]
    have g8 : K < 8 := by
      by_contra h
      exact n ⟨⟨by omega, by omega⟩, ⟨by omega, by omega⟩, ⟨by omega, by omega⟩, by omega, by omega⟩
    clear g9 n
    refine canon_case4 _ _ _ _ _ _ _ _ (fun a b d e ha hb hd he => ?_) fun n => ?_
    · clear g8 hK hx hi hs2 hi8
      obtain rfl : a = 0 := Subsingleton.elim _ _
      obtain rfl : b = 0 := Subsingleton.elim _ _
      obtain rfl : d = 0 := Subsingleton.elim _ _
      obtain rfl : s = 0 := Fin.ext hb
      obtain rfl : i = 1 := Fin.ext hd
      rw [dcwL_diag m c t 0 1 x 2 e 1 he rfl, pay19_apply, pay75_apply]
      pointwise [diagT, gacT, bU]
    have g7 : K < 7 := by
      by_contra h
      exact n ⟨⟨by omega, by omega⟩, ⟨by omega, by omega⟩, ⟨by omega, by omega⟩, by omega, by omega⟩
    clear g8 n
    refine canon_case4 _ _ _ _ _ _ _ _ (fun a b d e ha hb hd he => ?_) fun n => ?_
    · clear g7 hK hx hi hs2 hi8
      obtain rfl : a = 0 := Subsingleton.elim _ _
      obtain rfl : b = 0 := Subsingleton.elim _ _
      obtain rfl : d = 0 := Subsingleton.elim _ _
      obtain rfl : s = 0 := Fin.ext hb
      obtain rfl : i = 0 := Fin.ext hd
      rw [dcwL_diag m c t 0 0 x 2 e 2 he rfl, pay18_apply, pay75_apply]
      pointwise [diagT, gacT, bU]
    have g6 : K < 6 := by
      by_contra h
      exact n ⟨⟨by omega, by omega⟩, ⟨by omega, by omega⟩, ⟨by omega, by omega⟩, by omega, by omega⟩
    clear g7 n
    refine canon_case4 _ _ _ _ _ _ _ _ (fun a b d e ha hb hd he => ?_) fun n => ?_
    · clear g6 hK hx hi hs2 hi8
      obtain rfl : a = 0 := Subsingleton.elim _ _
      obtain rfl : b = 0 := Subsingleton.elim _ _
      obtain rfl : d = 0 := Subsingleton.elim _ _
      obtain rfl : s = 0 := Fin.ext hb
      obtain rfl : i = 2 := Fin.ext hd
      rw [dcwL_diag m c t 0 2 x 1 e 0 he rfl, pay16_apply, pay74_apply]
      pointwise [diagT, gacT, bU]
    have g5 : K < 5 := by
      by_contra h
      exact n ⟨⟨by omega, by omega⟩, ⟨by omega, by omega⟩, ⟨by omega, by omega⟩, by omega, by omega⟩
    clear g6 n
    refine canon_case4 _ _ _ _ _ _ _ _ (fun a b d e ha hb hd he => ?_) fun n => ?_
    · clear g5 hK hx hi hs2 hi8
      obtain rfl : a = 0 := Subsingleton.elim _ _
      obtain rfl : b = 0 := Subsingleton.elim _ _
      obtain rfl : d = 0 := Subsingleton.elim _ _
      obtain rfl : s = 0 := Fin.ext hb
      obtain rfl : i = 1 := Fin.ext hd
      rw [dcwL_diag m c t 0 1 x 1 e 1 he rfl, pay15_apply, pay74_apply]
      pointwise [diagT, gacT, bU]
    have g4 : K < 4 := by
      by_contra h
      exact n ⟨⟨by omega, by omega⟩, ⟨by omega, by omega⟩, ⟨by omega, by omega⟩, by omega, by omega⟩
    clear g5 n
    refine canon_case4 _ _ _ _ _ _ _ _ (fun a b d e ha hb hd he => ?_) fun n => ?_
    · clear g4 hK hx hi hs2 hi8
      obtain rfl : a = 0 := Subsingleton.elim _ _
      obtain rfl : b = 0 := Subsingleton.elim _ _
      obtain rfl : d = 0 := Subsingleton.elim _ _
      obtain rfl : s = 0 := Fin.ext hb
      obtain rfl : i = 0 := Fin.ext hd
      rw [dcwL_diag m c t 0 0 x 1 e 2 he rfl, pay14_apply, pay74_apply]
      pointwise [diagT, gacT, bU]
    have g3 : K < 3 := by
      by_contra h
      exact n ⟨⟨by omega, by omega⟩, ⟨by omega, by omega⟩, ⟨by omega, by omega⟩, by omega, by omega⟩
    clear g4 n
    refine canon_case4 _ _ _ _ _ _ _ _ (fun a b d e ha hb hd he => ?_) fun n => ?_
    · clear g3 hK hx hi hs2 hi8
      obtain rfl : a = 0 := Subsingleton.elim _ _
      obtain rfl : b = 0 := Subsingleton.elim _ _
      obtain rfl : d = 0 := Subsingleton.elim _ _
      obtain rfl : s = 0 := Fin.ext hb
      obtain rfl : i = 2 := Fin.ext hd
      rw [dcwL_diag m c t 0 2 x 0 e 0 he rfl, pay12_apply, pay72_apply]
      pointwise [diagT, gacT, bU]
    have g2 : K < 2 := by
      by_contra h
      exact n ⟨⟨by omega, by omega⟩, ⟨by omega, by omega⟩, ⟨by omega, by omega⟩, by omega, by omega⟩
    clear g3 n
    refine canon_case4 _ _ _ _ _ _ _ _ (fun a b d e ha hb hd he => ?_) fun n => ?_
    · clear g2 hK hx hi hs2 hi8
      obtain rfl : a = 0 := Subsingleton.elim _ _
      obtain rfl : b = 0 := Subsingleton.elim _ _
      obtain rfl : d = 0 := Subsingleton.elim _ _
      obtain rfl : s = 0 := Fin.ext hb
      obtain rfl : i = 1 := Fin.ext hd
      rw [dcwL_diag m c t 0 1 x 0 e 1 he rfl, pay10_apply, pay72_apply]
      pointwise [diagT, gacT, bU]
    have g1 : K < 1 := by
      by_contra h
      exact n ⟨⟨by omega, by omega⟩, ⟨by omega, by omega⟩, ⟨by omega, by omega⟩, by omega, by omega⟩
    clear g2 n
    refine canon_case4 _ _ _ _ _ _ _ _ (fun a b d e ha hb hd he => ?_) fun n => ?_
    · clear g1 hK hx hi hs2 hi8
      obtain rfl : a = 0 := Subsingleton.elim _ _
      obtain rfl : b = 0 := Subsingleton.elim _ _
      obtain rfl : d = 0 := Subsingleton.elim _ _
      obtain rfl : s = 0 := Fin.ext hb
      obtain rfl : i = 0 := Fin.ext hd
      rw [dcwL_diag m c t 0 0 x 0 e 2 he rfl, pay9_apply, pay72_apply]
      pointwise [diagT, gacT, bU]
    have g0 : K < 0 := by
      by_contra h
      exact n ⟨⟨by omega, by omega⟩, ⟨by omega, by omega⟩, ⟨by omega, by omega⟩, by omega, by omega⟩
    clear g1 n
    omega
  refine canon_case4 _ _ _ _ _ _ _ _ (fun a b d e ha hb hd he => absurd (show i.val < 3 ∧ x.val < 640 by omega) hL) fun _ => ?_
  refine canon_case4 _ _ _ _ _ _ _ _ (fun a b d e ha hb hd he => absurd (show i.val < 3 ∧ x.val < 640 by omega) hL) fun _ => ?_
  refine canon_case4 _ _ _ _ _ _ _ _ (fun a b d e ha hb hd he => absurd (show i.val < 3 ∧ x.val < 640 by omega) hL) fun _ => ?_
  refine canon_case4 _ _ _ _ _ _ _ _ (fun a b d e ha hb hd he => absurd (show i.val < 3 ∧ x.val < 640 by omega) hL) fun _ => ?_
  refine canon_case4 _ _ _ _ _ _ _ _ (fun a b d e ha hb hd he => absurd (show i.val < 3 ∧ x.val < 640 by omega) hL) fun _ => ?_
  refine canon_case4 _ _ _ _ _ _ _ _ (fun a b d e ha hb hd he => absurd (show i.val < 3 ∧ x.val < 640 by omega) hL) fun _ => ?_
  refine canon_case4 _ _ _ _ _ _ _ _ (fun a b d e ha hb hd he => absurd (show i.val < 3 ∧ x.val < 640 by omega) hL) fun _ => ?_
  refine canon_case4 _ _ _ _ _ _ _ _ (fun a b d e ha hb hd he => absurd (show i.val < 3 ∧ x.val < 640 by omega) hL) fun _ => ?_
  refine canon_case4 _ _ _ _ _ _ _ _ (fun a b d e ha hb hd he => absurd (show i.val < 3 ∧ x.val < 640 by omega) hL) fun _ => ?_
  refine canon_case4 _ _ _ _ _ _ _ _ (fun a b d e ha hb hd he => absurd (show i.val < 3 ∧ x.val < 640 by omega) hL) fun _ => ?_
  refine canon_case4 _ _ _ _ _ _ _ _ (fun a b d e ha hb hd he => absurd (show i.val < 3 ∧ x.val < 640 by omega) hL) fun _ => ?_
  refine canon_case4 _ _ _ _ _ _ _ _ (fun a b d e ha hb hd he => absurd (show i.val < 3 ∧ x.val < 640 by omega) hL) fun _ => ?_
  refine canon_case4 _ _ _ _ _ _ _ _ (fun a b d e ha hb hd he => absurd (show i.val < 3 ∧ x.val < 640 by omega) hL) fun _ => ?_
  refine canon_case4 _ _ _ _ _ _ _ _ (fun a b d e ha hb hd he => absurd (show i.val < 3 ∧ x.val < 640 by omega) hL) fun _ => ?_
  refine canon_case4 _ _ _ _ _ _ _ _ (fun a b d e ha hb hd he => absurd (show i.val < 3 ∧ x.val < 640 by omega) hL) fun _ => ?_
  refine canon_case4 _ _ _ _ _ _ _ _ (fun a b d e ha hb hd he => absurd (show i.val < 3 ∧ x.val < 640 by omega) hL) fun _ => ?_
  refine canon_case4 _ _ _ _ _ _ _ _ (fun a b d e ha hb hd he => absurd (show i.val < 3 ∧ x.val < 640 by omega) hL) fun _ => ?_
  refine canon_case4 _ _ _ _ _ _ _ _ (fun a b d e ha hb hd he => absurd (show i.val < 3 ∧ x.val < 640 by omega) hL) fun _ => ?_
  refine canon_case4 _ _ _ _ _ _ _ _ (fun a b d e ha hb hd he => absurd (show i.val < 3 ∧ x.val < 640 by omega) hL) fun _ => ?_
  refine canon_case4 _ _ _ _ _ _ _ _ (fun a b d e ha hb hd he => absurd (show i.val < 3 ∧ x.val < 640 by omega) hL) fun _ => ?_
  refine canon_case4 _ _ _ _ _ _ _ _ (fun a b d e ha hb hd he => absurd (show i.val < 3 ∧ x.val < 640 by omega) hL) fun _ => ?_
  refine canon_case4 _ _ _ _ _ _ _ _ (fun a b d e ha hb hd he => absurd (show i.val < 3 ∧ x.val < 640 by omega) hL) fun _ => ?_
  refine canon_case4 _ _ _ _ _ _ _ _ (fun a b d e ha hb hd he => absurd (show i.val < 3 ∧ x.val < 640 by omega) hL) fun _ => ?_
  refine canon_case4 _ _ _ _ _ _ _ _ (fun a b d e ha hb hd he => absurd (show i.val < 3 ∧ x.val < 640 by omega) hL) fun _ => ?_
  refine canon_case4 _ _ _ _ _ _ _ _ (fun a b d e ha hb hd he => absurd (show i.val < 3 ∧ x.val < 640 by omega) hL) fun _ => ?_
  refine canon_case4 _ _ _ _ _ _ _ _ (fun a b d e ha hb hd he => absurd (show i.val < 3 ∧ x.val < 640 by omega) hL) fun _ => ?_
  refine canon_case4 _ _ _ _ _ _ _ _ (fun a b d e ha hb hd he => absurd (show i.val < 3 ∧ x.val < 640 by omega) hL) fun _ => ?_
  refine canon_case4 _ _ _ _ _ _ _ _ (fun a b d e ha hb hd he => absurd (show i.val < 3 ∧ x.val < 640 by omega) hL) fun _ => ?_
  refine canon_case4 _ _ _ _ _ _ _ _ (fun a b d e ha hb hd he => absurd (show i.val < 3 ∧ x.val < 640 by omega) hL) fun _ => ?_
  refine canon_case4 _ _ _ _ _ _ _ _ (fun a b d e ha hb hd he => absurd (show i.val < 3 ∧ x.val < 640 by omega) hL) fun _ => ?_
  rw [dcwL, dif_neg hL]
  refine canon_case4 _ _ _ _ _ _ _ _ (fun a b d e ha hb hd he => ?_) fun n30 => ?_
  · obtain rfl : a = 0 := Subsingleton.elim _ _
    obtain rfl : b = 0 := Subsingleton.elim _ _
    obtain rfl : s = 1 := Fin.ext (by omega)
    obtain rfl : d = i := Fin.ext (by omega)
    rw [pay1_apply, tail_rowT m c t 1 _ d x e he (fun r => by pointwise [bU])]
    rw [dcwS, if_pos (show 640 ≤ x.val by omega)]
    refine congrArg (· + rowT m c t 1 d x) ?_
    rw [View.readCov_eq_canon']
    have hi : (Rect.unit (s := S1x2x8x704) ![0, 1, 0, 640] ![1, 1, 8, 64] inb_S1x2x8x704_S1x1x8x64_0_1_0_640).toLoadRect.idx
        (ix4 (n0 := 1) (n1 := 1) (n2 := 8) (n3 := 64) 0 0 d e) = ix4 (n0 := 1) (n1 := 2) (n2 := 8) (n3 := 704) 0 1 d x := by
      funext k
      match k with
      | ⟨0, _⟩ => rfl
      | ⟨1, _⟩ => rfl
      | ⟨2, _⟩ => exact Fin.ext (by show 0 + 1 * d.val = d.val; omega)
      | ⟨3, _⟩ => exact Fin.ext (by show 640 + 1 * e.val = x.val; omega)
    refine (congrArg _ hi).trans ?_
    refine canon_case4 _ _ _ _ _ _ _ _ (fun a b d' e' ha hb hd he => ?_) fun k0 => absurd (by omega) k0
    obtain rfl : a = 0 := Subsingleton.elim _ _
    obtain rfl : b = 0 := Subsingleton.elim _ _
    obtain rfl : d' = d := Fin.ext (by omega)
    obtain rfl : e' = x := Fin.ext (by omega)
    rw [pay99_apply]
    pointwise [sumT]
  refine canon_case4 _ _ _ _ _ _ _ _ (fun a b d e ha hb hd he => ?_) fun n31 => ?_
  · obtain rfl : a = 0 := Subsingleton.elim _ _
    obtain rfl : b = 0 := Subsingleton.elim _ _
    obtain rfl : s = 1 := Fin.ext (by omega)
    obtain rfl : d = i := Fin.ext (by omega)
    obtain rfl : e = x := Fin.ext (by omega)
    rw [dcwS, if_neg (show ¬640 ≤ e.val by omega), add_zero, pay99_apply]
    pointwise [sumT]
  refine canon_case4 _ _ _ _ _ _ _ _ (fun a b d e ha hb hd he => ?_) fun n32 => ?_
  · obtain rfl : a = 0 := Subsingleton.elim _ _
    obtain rfl : b = 0 := Subsingleton.elim _ _
    obtain rfl : s = 0 := Fin.ext (by omega)
    obtain rfl : d = i := Fin.ext (by omega)
    rw [pay81_apply, tail_rowT m c t 0 _ d x e he (fun r => by pointwise [bU])]
    rw [dcwS, if_pos (show 640 ≤ x.val by omega)]
    refine congrArg (· + rowT m c t 0 d x) ?_
    rw [View.readCov_eq_canon']
    have hi : (Rect.unit (s := S1x2x8x704) ![0, 0, 0, 640] ![1, 1, 8, 64] inb_S1x2x8x704_S1x1x8x64_0_0_0_640).toLoadRect.idx
        (ix4 (n0 := 1) (n1 := 1) (n2 := 8) (n3 := 64) 0 0 d e) = ix4 (n0 := 1) (n1 := 2) (n2 := 8) (n3 := 704) 0 0 d x := by
      funext k
      match k with
      | ⟨0, _⟩ => rfl
      | ⟨1, _⟩ => rfl
      | ⟨2, _⟩ => exact Fin.ext (by show 0 + 1 * d.val = d.val; omega)
      | ⟨3, _⟩ => exact Fin.ext (by show 640 + 1 * e.val = x.val; omega)
    refine (congrArg _ hi).trans ?_
    refine canon_case4 _ _ _ _ _ _ _ _ (fun a b d' e' ha hb hd he => ?_) fun k0 => absurd (by omega) k0
    obtain rfl : a = 0 := Subsingleton.elim _ _
    obtain rfl : b = 0 := Subsingleton.elim _ _
    obtain rfl : d' = d := Fin.ext (by omega)
    obtain rfl : e' = x := Fin.ext (by omega)
    rw [pay78_apply]
    pointwise [sumT]
  refine canon_case4 _ _ _ _ _ _ _ _ (fun a b d e ha hb hd he => ?_) fun n33 => ?_
  · obtain rfl : a = 0 := Subsingleton.elim _ _
    obtain rfl : b = 0 := Subsingleton.elim _ _
    obtain rfl : s = 0 := Fin.ext (by omega)
    obtain rfl : d = i := Fin.ext (by omega)
    obtain rfl : e = x := Fin.ext (by omega)
    rw [dcwS, if_neg (show ¬640 ≤ e.val by omega), add_zero, pay78_apply]
    pointwise [sumT]
  exfalso
  have hs : s.val = 0 ∨ s.val = 1 := by omega
  rcases hs with hs | hs <;> simp only [hs] at n31 n33 <;> omega

end Cert.KernelIdeal.Hand
-- ==== Proof.Gate.Host.lean ====
module
public import proofs.«01_k».proof.Proof.Gate.Spec
public import proofs.«01_k».proof.Proof.Gate.SmallLast
@[expose] public section

/-!
# What the host code leaves for the call
-/

set_option maxRecDepth 16384
noncomputable section
namespace Cert.KernelIdeal.Hand
open Cert.KernelIdeal Cert.KernelIdeal.Gen Idealize.ShloMosaic Idealize.ShloMosaic.TcCoe Idealize.SL.Sem
variable (m : (ℓ : Loc nD τ sig) → Buf (Elt Ideal) ℓ)

/-- The arguments as functions of tokens and columns. -/
def aH (c : Dev nD) (t : Fin 8192) (k : Fin 1024) : EReal := m ((c : Thread nD τ).loc main_arg0) (ix3 0 t k)
@[inherit_doc aH]
def aWI (c : Dev nD) (k : Fin 1024) (j : Fin 5632) : EReal := m ((c : Thread nD τ).loc main_arg1) (ix2 k j)
@[inherit_doc aH]
def aCW (c : Dev nD) (i : Fin 3) (j : Fin 5632) : EReal := m ((c : Thread nD τ).loc main_arg2) (ix2 i j)
@[inherit_doc aH]
def aCB (c : Dev nD) (j : Fin 5632) : EReal := m ((c : Thread nD τ).loc main_arg3) (ix1 j)
@[inherit_doc aH]
def aWO (c : Dev nD) (y : Fin 2816) (k : Fin 1024) : EReal := m ((c : Thread nD τ).loc main_arg4) (ix2 y k)
@[inherit_doc aH]
def aDy (c : Dev nD) (t : Fin 8192) (k : Fin 1024) : EReal := m ((c : Thread nD τ).loc main_arg5) (ix3 0 t k)

/-- The convolution's input and output. -/
def aU (c : Dev nD) : Fin 8192 → Fin 5632 → EReal := Spec.uOf (aH m c) (aWI m c)
@[inherit_doc aU]
def aC (c : Dev nD) : Fin 8192 → Fin 5632 → EReal := Spec.convOf (aU m c) (aCW m c) (aCB m c)

/-- The output weights, by part. -/
theorem V1_eq (c : Dev nD) (p : Fin 4) (x : Fin 704) (k : Fin 1024) :
    @Eq EReal (V m c main_v1 (ix4 p 0 x k)) (aWO m c (Spec.hcol p x) k) := by
  unfold V
  simp only [List.flatten_cons, List.flatten_nil, List.append_nil, hostOps0, hostOps0_1, hostOps0_2, hostOps0_3, hostOps0_4, List.cons_append, List.nil_append, StableHlo.after_cons, StableHlo.after_nil]
  after_results_simp
  pointwise [aWO, Spec.hcol]

/-- The convolution's input, by part and half. -/
theorem V38_eq (c : Dev nD) (p : Fin 4) (s : Fin 2) (t : Fin 8192) (x : Fin 704) :
    @Eq EReal (V m c main_v38 (ix4 p s t x)) (aU m c t (Spec.col s p x)) := by
  unfold V
  simp only [List.flatten_cons, List.flatten_nil, List.append_nil, hostOps0, hostOps0_1, hostOps0_2, hostOps0_3, hostOps0_4, List.cons_append, List.nil_append, StableHlo.after_cons, StableHlo.after_nil]
  after_results_simp
  pointwise [aU, Spec.uOf, aH, aWI, Spec.col]

/-- The convolution's output, by part and half. -/
theorem V41_eq (c : Dev nD) (p : Fin 4) (s : Fin 2) (t : Fin 8192) (x : Fin 704) :
    @Eq EReal (V m c main_v41 (ix4 p s t x)) (aC m c t (Spec.col s p x)) := by
  unfold V
  simp only [List.flatten_cons, List.flatten_nil, List.append_nil, hostOps0, hostOps0_1, hostOps0_2, hostOps0_3, hostOps0_4, List.cons_append, List.nil_append, StableHlo.after_cons, StableHlo.after_nil]
  after_results_simp
  after_results_loop
  pointwise [aC, Spec.convOf, Spec.back, aU, Spec.uOf, aH, aWI, aCW, aCB, Spec.col]
  simp only [show 1 + t.val < 2 ↔ t.val < 1 by omega, show 1 + t.val - 2 = t.val - 1 by omega, dite_eq_ite]
  rfl

/-- The convolution's weights, in eight parts (the first four of the first half). -/
theorem V7_eq (c : Dev nD) (p : Fin 8) (k : Fin 3) (x : Fin 704) :
    @Eq EReal (V m c main_v7 (ix3 p ⟨k.val, by omega⟩ x)) (aCW m c k ⟨p.val * 704 + x.val, by omega⟩) := by
  unfold V
  simp only [List.flatten_cons, List.flatten_nil, List.append_nil, hostOps0, hostOps0_1, hostOps0_2, hostOps0_3, hostOps0_4, List.cons_append, List.nil_append, StableHlo.after_cons, StableHlo.after_nil]
  after_results_simp
  simp only [StableHlo.TRef.toBuf, StableHlo.TRef.ofBuf, cast_eq]
  pointwise [aCW]
  rw [dif_neg (fun h => h.1)]
  have h0 : FloatOps.sitofp (F := Ideal) FTy.f32 (0#32 : BitVec 32) = (0 : EReal) := by simp [FloatOps.sitofp]
  rw [h0]
  exact add_zero _

end Cert.KernelIdeal.Hand
-- ==== Proof.Gate.Blocks.lean ====
module
public import proofs.«01_k».proof.Proof.Gate.Host
@[expose] public section

/-!
# The blocks as parts of the arrays
-/

set_option maxRecDepth 16384
noncomputable section
namespace Cert.KernelIdeal.Hand
open Cert.KernelIdeal Cert.KernelIdeal.Gen Idealize.ShloMosaic Idealize.ShloMosaic.TcCoe Idealize.SL.Sem
variable (m : (ℓ : Loc nD τ sig) → Buf (Elt Ideal) ℓ)

/-- The part of columns a grid point computes. -/
def part (t : Fin cfg0.N) : Fin 4 := ⟨t.val / 8, by have h := lt_of_lt_of_eq t.isLt (show cfg0.N = 32 from N_0); omega⟩

/-- The token of row `r` at a grid point: a run takes the blocks of tokens from the last to the first. -/
def tok (t : Fin cfg0.N) (r : Fin 1024) : Fin 8192 := ⟨(7 - t.val % 8) * 1024 + r.val, by omega⟩

theorem idx : ∀ t : Fin cfg0.N,
    win0_0.index t = ![0, 7 - t.val % 8, 0] ∧ win0_1.index t = ![t.val / 8, 0, 7 - t.val % 8, 0] ∧
    win0_2.index t = ![t.val / 8, 0, 7 - t.val % 8, 0] ∧ win0_3.index t = ![t.val / 8, 0, 0, 0] ∧
    win0_4.index t = ![t.val / 8, 0, 0] ∧ win0_5.index t = ![t.val / 8 + 4, 0, 0] ∧
    win0_6.index t = ![t.val / 8, 0, 7 - t.val % 8, 0] ∧ win0_7.index t = ![t.val / 8, 0, 0, 0] ∧
    win0_8.index t = ![t.val / 8, 0, 0, 0] :=
  (by decide +kernel : ∀ t : Fin grid0.N, _)

theorem bDy_eq (c : Dev nD) (t : Fin cfg0.N) (r k : Fin 1024) : bDy m c t r k = aDy m c (tok t r) k := by
  unfold bDy aDy
  blk_ext [iblk, V, idx t, tok]

theorem bW_eq (c : Dev nD) (t : Fin cfg0.N) (x : Fin 704) (k : Fin 1024) : bW m c t x k = aWO m c (Spec.hcol (part t) x) k := by
  refine Eq.trans ?_ (V1_eq m c (part t) x k)
  unfold bW
  blk_ext [iblk, idx t, part]

theorem bU_eq (c : Dev nD) (t : Fin cfg0.N) (s : Fin 2) (r : Fin 1024) (x : Fin 704) :
    bU m c t s r x = aU m c (tok t r) (Spec.col s (part t) x) := by
  refine Eq.trans ?_ (V38_eq m c (part t) s (tok t r) x)
  unfold bU
  blk_ext [iblk, idx t, part, tok]

theorem bC_eq (c : Dev nD) (t : Fin cfg0.N) (s : Fin 2) (r : Fin 1024) (x : Fin 704) :
    bC m c t s r x = aC m c (tok t r) (Spec.col s (part t) x) := by
  refine Eq.trans ?_ (V41_eq m c (part t) s (tok t r) x)
  unfold bC
  blk_ext [iblk, idx t, part, tok]

theorem bK_eq (c : Dev nD) (t : Fin cfg0.N) (s : Fin 2) (k : Fin 3) (x : Fin 704) :
    bK m c t s ⟨k.val, by omega⟩ x = aCW m c k (Spec.col s (part t) x) := by
  unfold bK
  split
  · rename_i h
    subst h
    refine Eq.trans ?_ ((V7_eq m c ⟨(part t).val, by omega⟩ k x).trans (congrArg _ (Fin.ext ?_)))
    · blk_ext [iblk, idx t, part]
    · simp [Spec.col]
  · obtain rfl : s = 1 := by omega
    refine Eq.trans ?_ ((V7_eq m c ⟨(part t).val + 4, by omega⟩ k x).trans (congrArg _ (Fin.ext ?_)))
    · blk_ext [iblk, idx t, part]
    · simp [Spec.col]; omega

end Cert.KernelIdeal.Hand
-- ==== Proof.Gate.Runs.lean ====
module
public import proofs.«01_k».proof.Proof.Gate.Blocks
@[expose] public section

/-!
# Sums over a run

A run of eight points takes the eight blocks of tokens from the last to the first; what it collects is a sum over all
tokens.
-/

set_option maxRecDepth 16384
noncomputable section
namespace Cert.KernelIdeal.Hand
open Cert.KernelIdeal Cert.KernelIdeal.Gen Idealize.ShloMosaic Idealize.ShloMosaic.TcCoe Idealize.SL.Sem
variable (m : (ℓ : Loc nD τ sig) → Buf (Elt Ideal) ℓ)

theorem N32 : cfg0.N = 32 := N_0

/-- The `k`-th point of the run that ends with `t`. -/
def nth (t : Fin cfg0.N) (h : t.val % 8 = 7) (k : ℕ) (hk : k < 8) : Fin cfg0.N :=
  ⟨t.val - 7 + k, by have := t.isLt; omega⟩

theorem sum_rev (F : Fin 8192 → EReal) :
    ∑ i : Fin 8, ∑ r : Fin 1024, F ⟨(7 - i.val) * 1024 + r.val, by omega⟩ = ∑ l : Fin 8192, F l := by
  rw [← Equiv.sum_comp Fin.revPerm]
  refine Fin.sum_mul_add_congr (fun i r hl => congrArg F (Fin.ext ?_)) (by decide)
  show (7 - (Fin.rev i).val) * 1024 + r.val = i.val * 1024 + r.val
  rw [Fin.val_rev]
  omega

/-- What is collected from zero over a run is the sum over all tokens. -/
theorem run_sum (S T : Fin cfg0.N → EReal) (F : Fin 8192 → EReal) (t : Fin cfg0.N) (h : t.val % 8 = 7)
    (h0 : ∀ u : Fin cfg0.N, u.val % 8 = 0 → S u = 0)
    (hs : ∀ u : Fin cfg0.N, ¬u.val % 8 = 0 → S u = S (pred u) + T (pred u))
    (hT : ∀ u : Fin cfg0.N, part u = part t → T u = ∑ r : Fin 1024, F (tok u r)) :
    S t + T t = ∑ l : Fin 8192, F l := by
  have hN := t.isLt
  have key : ∀ (k : ℕ) (hk : k < 8), S (nth t h k hk) = ∑ i : Fin k, T (nth t h i.val (by omega)) := by
    intro k
    induction k with
    | zero =>
      intro hk
      rw [h0 _ (by show (t.val - 7 + 0) % 8 = 0; omega)]
      rfl
    | succ k ih =>
      intro hk
      have hp : pred (nth t h (k + 1) hk) = nth t h k (by omega) := Fin.ext (by show t.val - 7 + (k + 1) - 1 = t.val - 7 + k; omega)
      rw [hs _ (by show ¬(t.val - 7 + (k + 1)) % 8 = 0; omega), hp, ih (by omega), Fin.sum_univ_castSucc]
      rfl
  have ht : t = nth t h 7 (by omega) := Fin.ext (by show t.val = t.val - 7 + 7; omega)
  have h8 : S t + T t = ∑ i : Fin 8, T (nth t h i.val i.isLt) := by
    rw [Fin.sum_univ_castSucc (n := 7)]
    refine congrArg₂ (· + ·) ((congrArg S ht).trans (key 7 (by omega))) (congrArg T ht)
  rw [h8, ← sum_rev]
  refine Finset.sum_congr rfl fun i _ => ?_
  rw [hT _ (Fin.ext (by show (t.val - 7 + i.val) / 8 = t.val / 8; omega))]
  refine Finset.sum_congr rfl fun r _ => congrArg F (Fin.ext ?_)
  show (7 - (t.val - 7 + i.val) % 8) * 1024 + r.val = (7 - i.val) * 1024 + r.val
  omega

/-! ## The point's gradients as parts of the arrays -/

/-- The gradient of the convolution's output as an array. -/
def aD (c : Dev nD) : Fin 8192 → Fin 5632 → EReal := Spec.dcOf (aC m c) (Spec.dactOf (aDy m c) (aWO m c))

theorem dact_eq (c : Dev nD) (t : Fin cfg0.N) (r : Fin 1024) (x : Fin 704) :
    dact m c t r x = Spec.dactOf (aDy m c) (aWO m c) (tok t r) (Spec.hcol (part t) x) := by
  unfold dact Spec.dactOf
  exact Finset.sum_congr rfl fun k _ => by rw [bDy_eq, bW_eq]

theorem dcv_eq (c : Dev nD) (t : Fin cfg0.N) (s : Fin 2) (r : Fin 1024) (x : Fin 704) :
    dcv m c t s r x = aD m c (tok t r) (Spec.col s (part t) x) := by
  have hA : Spec.colA (Spec.hcol (part t) x) = Spec.col 0 (part t) x := Fin.ext (by simp [Spec.colA, Spec.hcol, Spec.col])
  have hB : Spec.colB (Spec.hcol (part t) x) = Spec.col 1 (part t) x := Fin.ext (by simp [Spec.colB, Spec.hcol, Spec.col]; omega)
  unfold dcv aD Spec.dcOf
  rw [dact_eq, bC_eq, bC_eq]
  split
  · rename_i h
    subst h
    have hc : (Spec.col 0 (part t) x).val < 2816 := by simp [Spec.col]; omega
    rw [dif_pos hc]
    have hy : (⟨(Spec.col 0 (part t) x).val, hc⟩ : Fin 2816) = Spec.hcol (part t) x := Fin.ext (by simp [Spec.col, Spec.hcol])
    rw [hy, Spec.daOf, hA, hB]
    rfl
  · obtain rfl : s = 1 := by omega
    have hc : ¬(Spec.col 1 (part t) x).val < 2816 := by simp [Spec.col]; omega
    rw [dif_neg hc]
    have hy : (⟨(Spec.col 1 (part t) x).val - 2816, by omega⟩ : Fin 2816) = Spec.hcol (part t) x :=
      Fin.ext (by simp [Spec.col, Spec.hcol]; omega)
    rw [hy, Spec.dbOf, hA]
    rfl

theorem E_eq (c : Dev nD) (t : Fin cfg0.N) (s : Fin 2) (r : Fin 1024) (x : Fin 704) :
    E m c t s (ix2 r x) = aD m c (tok t r) (Spec.col s (part t) x) := dcv_eq m c t s r x

theorem En_eq (c : Dev nD) (t : Fin cfg0.N) (s : Fin 2) (k : ℕ) (hk : k ≤ 2) (r : Fin 1024) (x : Fin 704) :
    En m c t s k (ix2 r x) = Spec.ahead (aD m c) k (tok t r) (Spec.col s (part t) x) := by
  have hN := t.isLt
  show below (E m c t s) (carH m c t s) k r x = _
  unfold below Spec.ahead
  have htk : (tok t r).val = (7 - t.val % 8) * 1024 + r.val := rfl
  by_cases h : r.val + k < 1024
  · rw [dif_pos h, dif_pos (by rw [htk]; omega), E_eq]
    exact congrArg (fun l => aD m c l _) (Fin.ext (by show (7 - t.val % 8) * 1024 + (r.val + k) = (7 - t.val % 8) * 1024 + r.val + k; omega))
  · rw [dif_neg h, dif_pos (by omega)]
    show car m c t (ix3 s _ x) = _
    unfold car
    by_cases h0 : t.val % 8 = 0
    · rw [if_pos h0, dif_neg (by rw [htk]; omega)]
    · rw [if_neg h0, dif_pos (by rw [htk]; omega)]
      refine (dcv_eq m c (pred t) s _ x).trans ?_
      have hp : part (pred t) = part t := Fin.ext (by show (t.val - 1) / 8 = t.val / 8; omega)
      rw [hp]
      refine congrArg (fun l => aD m c l _) (Fin.ext ?_)
      show (7 - (t.val - 1) % 8) * 1024 + (r.val + k - 1024) = (7 - t.val % 8) * 1024 + r.val + k
      omega

/-! ## The results -/

theorem du_eq (c : Dev nD) (t : Fin cfg0.N) (s : Fin 2) (r : Fin 1024) (x : Fin 704) :
    duT m c t s r x = Spec.duOf (aCW m c) (aD m c) (tok t r) (Spec.col s (part t) x) := by
  unfold duT Spec.duOf
  rw [E_eq, En_eq m c t s 1 (by omega), En_eq m c t s 2 (by omega)]
  exact congrArg₂ (· + ·) (congrArg₂ (· + ·) (congrArg (· * _) (bK_eq m c t s 2 x)) (congrArg (· * _) (bK_eq m c t s 1 x)))
    (congrArg (· * _) (bK_eq m c t s 0 x))

theorem dwo_eq (c : Dev nD) (t : Fin cfg0.N) (h1 : t.val % 8 = 7) (x : Fin 704) (k : Fin 1024) :
    acc0 m c t (ix2 x k) + accT m c t x k = Spec.dwoOf (aC m c) (aDy m c) (Spec.hcol (part t) x) k := by
  refine run_sum (fun u => acc0 m c u (ix2 x k)) (fun u => accT m c u x k) _ t h1 (fun u hu => if_pos hu) (fun u hu => ?_) fun u hu => ?_
  · refine Eq.trans (if_neg hu) ?_
    exact acc_point m c (pred u) (by show ¬(u.val - 1) % 8 = 7; have := u.isLt; omega) x k
  · unfold accT
    refine Finset.sum_congr rfl fun r _ => ?_
    have hA : Spec.colA (Spec.hcol (part t) x) = Spec.col 0 (part t) x := Fin.ext (by simp [Spec.colA, Spec.hcol, Spec.col])
    have hB : Spec.colB (Spec.hcol (part t) x) = Spec.col 1 (part t) x := Fin.ext (by simp [Spec.colB, Spec.hcol, Spec.col]; omega)
    rw [bC_eq, bC_eq, bDy_eq, hu, hA, hB]
    rfl

theorem gacT_eq (c : Dev nD) (t : Fin cfg0.N) (s : Fin 2) (j : Fin 5) (l : Fin 128) (k : Fin 3) (i : Fin 8) (x : Fin 704)
    (hx : x.val = 128 * j.val + l.val) (hk : k.val + i.val = 2) :
    gacT m c t s j l ⟨128 * k.val + l.val, by omega⟩ = rowT m c t s i x := by
  have e1 : (128 * k.val + l.val) % 128 = l.val := by omega
  have e2 : (⟨128 * j.val + (128 * k.val + l.val) % 128, by omega⟩ : Fin 704) = x := Fin.ext (by show 128 * j.val + (128 * k.val + l.val) % 128 = x.val; omega)
  have e3 : (⟨128 * j.val + l.val, by omega⟩ : Fin 704) = x := Fin.ext hx.symm
  unfold gacT lanes3 rowT
  simp only [e2, e3]
  have hk3 : k.val = 0 ∨ k.val = 1 ∨ k.val = 2 := by omega
  rcases hk3 with hk' | hk' | hk'
  · obtain rfl : i = 2 := Fin.ext (by show i.val = 2; omega)
    simp only [if_pos (show 128 * k.val + l.val < 128 by omega)]
    exact Finset.sum_congr rfl fun r _ => mul_comm _ _
  · obtain rfl : i = 1 := Fin.ext (by show i.val = 1; omega)
    simp only [if_neg (show ¬128 * k.val + l.val < 128 by omega), if_pos (show 128 * k.val + l.val < 256 by omega)]
    exact Finset.sum_congr rfl fun r _ => mul_comm _ _
  · obtain rfl : i = 0 := Fin.ext (by show i.val = 0; omega)
    simp only [if_neg (show ¬128 * k.val + l.val < 128 by omega), if_neg (show ¬128 * k.val + l.val < 256 by omega)]
    exact Finset.sum_congr rfl fun r _ => mul_comm _ _

/-- The tokens' summands of one small result. -/
def rowF (c : Dev nD) (i : Fin 8) (j : Fin 5632) (t : Fin 8192) : EReal :=
  if i = 0 then Spec.ahead (aD m c) 2 t j * aU m c t j
  else if i = 1 then Spec.ahead (aD m c) 1 t j * aU m c t j
  else if i = 2 then aD m c t j * aU m c t j
  else if i = 3 then aD m c t j
  else 0

theorem rowF_sum (c : Dev nD) (i : Fin 8) (j : Fin 5632) : ∑ t : Fin 8192, rowF m c i j t = Spec.dcwOf (aU m c) (aD m c) i j := by
  unfold rowF Spec.dcwOf
  split_ifs <;> simp

theorem rowT_eq (c : Dev nD) (t : Fin cfg0.N) (s : Fin 2) (i : Fin 8) (hi : i.val < 3) (x : Fin 704) :
    rowT m c t s i x = ∑ r : Fin 1024, rowF m c i (Spec.col s (part t) x) (tok t r) := by
  have h3 : i = 0 ∨ i = 1 ∨ i = 2 := by omega
  rcases h3 with rfl | rfl | rfl
  · show ∑ r : Fin 1024, En m c t s 2 (ix2 r x) * bU m c t s r x = ∑ r : Fin 1024, Spec.ahead (aD m c) 2 (tok t r) (Spec.col s (part t) x) * aU m c (tok t r) (Spec.col s (part t) x)
    exact Finset.sum_congr rfl fun r _ => by rw [En_eq m c t s 2 (by omega), bU_eq]
  · show ∑ r : Fin 1024, En m c t s 1 (ix2 r x) * bU m c t s r x = ∑ r : Fin 1024, Spec.ahead (aD m c) 1 (tok t r) (Spec.col s (part t) x) * aU m c (tok t r) (Spec.col s (part t) x)
    exact Finset.sum_congr rfl fun r _ => by rw [En_eq m c t s 1 (by omega), bU_eq]
  · show ∑ r : Fin 1024, E m c t s (ix2 r x) * bU m c t s r x = ∑ r : Fin 1024, aD m c (tok t r) (Spec.col s (part t) x) * aU m c (tok t r) (Spec.col s (part t) x)
    exact Finset.sum_congr rfl fun r _ => by rw [E_eq, bU_eq]

theorem rowT_zero (c : Dev nD) (t : Fin cfg0.N) (s : Fin 2) (i : Fin 8) (hi : ¬i.val < 3) (x : Fin 704) :
    rowT m c t s i x = 0 := by
  unfold rowT
  rw [if_neg (by omega), if_neg (by omega), if_neg (by omega)]

theorem sumT_eq (c : Dev nD) (t : Fin cfg0.N) (s : Fin 2) (i : Fin 8) (hi : ¬i.val < 3) (x : Fin 704) :
    sumT m c t s i x = ∑ r : Fin 1024, rowF m c i (Spec.col s (part t) x) (tok t r) := by
  unfold sumT rowF
  simp only [if_neg (show ¬i = 0 by omega), if_neg (show ¬i = 1 by omega), if_neg (show ¬i = 2 by omega)]
  split
  · exact Finset.sum_congr rfl fun r _ => E_eq m c t s r x
  · simp

theorem sumT_zero (c : Dev nD) (t : Fin cfg0.N) (s : Fin 2) (i : Fin 8) (hi : i.val < 3) (x : Fin 704) :
    sumT m c t s i x = 0 := if_neg (by omega)

/-- A point's step of the small results, where no diagonal is written. -/
theorem dcwS_eq (c : Dev nD) (t : Fin cfg0.N) (s : Fin 2) (i : Fin 8) (x : Fin 704) (hL : ¬(i.val < 3 ∧ x.val < 640)) :
    dcwS m c t s i x = dcw0 m c t (ix4 0 s i x) + ∑ r : Fin 1024, rowF m c i (Spec.col s (part t) x) (tok t r) := by
  unfold dcwS
  by_cases hi : i.val < 3
  · rw [if_pos (by omega), sumT_zero m c t s i hi, add_zero, rowT_eq m c t s i hi]
  · rw [rowT_zero m c t s i hi, ite_self, add_zero, sumT_eq m c t s i hi]

theorem dcw_eq (c : Dev nD) (t : Fin cfg0.N) (h1 : t.val % 8 = 7) (s : Fin 2) (i : Fin 8) (x : Fin 704) :
    dcwL m c t s i x = Spec.dcwOf (aU m c) (aD m c) i (Spec.col s (part t) x) := by
  rw [← rowF_sum]
  by_cases hL : i.val < 3 ∧ x.val < 640
  · obtain ⟨j, hj⟩ : ∃ j : Fin 5, j.val = x.val / 128 := ⟨⟨x.val / 128, by omega⟩, rfl⟩
    obtain ⟨l, hl⟩ : ∃ l : Fin 128, l.val = x.val % 128 := ⟨⟨x.val % 128, by omega⟩, rfl⟩
    obtain ⟨k, hk⟩ : ∃ k : Fin 3, k.val + i.val = 2 := ⟨⟨2 - i.val, by omega⟩, by show 2 - i.val + i.val = 2; omega⟩
    have hx : x.val = 128 * j.val + l.val := by omega
    rw [dcwL_diag m c t s i x j l k hx hk]
    unfold diagT
    refine run_sum (fun u => gac0 m c u (ix4 s j l ⟨128 * k.val + l.val, by omega⟩))
      (fun u => gacT m c u s j l ⟨128 * k.val + l.val, by omega⟩) _ t h1 (fun u hu => if_pos hu) (fun u hu => ?_) fun u hu => ?_
    · refine Eq.trans (if_neg hu) ?_
      exact gac_point m c (pred u) (by show ¬(u.val - 1) % 8 = 7; have := u.isLt; omega) s j l _
    · rw [← hu]
      exact (gacT_eq m c u s j l k i x hx hk).trans (rowT_eq m c u s i hL.1 x)
  · unfold dcwL
    rw [dif_neg hL, dcwS_eq m c t s i x hL]
    refine run_sum (fun u => dcw0 m c u (ix4 0 s i x))
      (fun u => ∑ r : Fin 1024, rowF m c i (Spec.col s (part u) x) (tok u r)) _ t h1 (fun u hu => if_pos hu) (fun u hu => ?_) fun u hu => ?_
    · refine Eq.trans (if_neg hu) ?_
      have h7 : ¬(pred u).val % 8 = 7 := by show ¬(u.val - 1) % 8 = 7; have := u.isLt; omega
      by_cases h0 : (pred u).val % 8 = 0
      · exact (dcw_pointA m c (pred u) h0 h7 s i x).trans (dcwS_eq m c (pred u) s i x hL)
      · exact (dcw_pointB m c (pred u) h0 h7 s i x).trans (dcwS_eq m c (pred u) s i x hL)
    · rw [hu]

end Cert.KernelIdeal.Hand
-- ==== Proof.Gate.Arrays.lean ====
module
public import proofs.«01_k».proof.Proof.Gate.Runs
@[expose] public section

/-!
# The kernel's result arrays

Every result array of the kernel, as a formula of the arguments.
-/

set_option maxRecDepth 16384
noncomputable section
namespace Cert.KernelIdeal.Hand
open Cert.KernelIdeal Cert.KernelIdeal.Gen Idealize.ShloMosaic Idealize.ShloMosaic.TcCoe Idealize.SL.Sem
open Idealize.ShloMosaic.Pipeline (Dat)
variable (m : (ℓ : Loc nD τ sig) → Buf (Elt Ideal) ℓ)

theorem col_congr {s s' : Fin 2} {p p' : Fin 4} {x x' : Fin 704} (h0 : s = s') (h1 : p = p') (h2 : x = x') : Spec.col s p x = Spec.col s' p' x' := by
  rw [h0, h1, h2]

/-- The gradient of the convolution's input, as the kernel leaves it. -/
theorem du_array (c : Dev nD) : (dats m 0 c).arrAt 6 cfg0.N =
    fun i : S4x2x8192x704.Idx => Spec.duOf (aCW m c) (aD m c) (i 2) (Spec.col (i 1) (i 0) (i 3)) := by
  refine (dats m 0 c).arrAt_eq_of_covers 6 _ (by decide +kernel) fun t hf y => ?_
  blk_simp [idx t]
  rw [after0_6]
  have hy : y = ix4 0 (y 1 : Fin 2) (y 2 : Fin 1024) (y 3 : Fin 704) := by
    refine (eq_ix4 (n0 := 1) (n1 := 2) (n2 := 1024) (n3 := 704) y).trans ?_
    exact congrArg (fun z : Fin 1 => (ix4 z (y 1 : Fin 2) (y 2 : Fin 1024) (y 3 : Fin 704))) (Subsingleton.elim _ _)
  refine (congrArg (outsAt0 m c t.val t.isLt).1 hy).trans ((du_point m c t (y 1) (y 2) (y 3)).trans ((du_eq m c t (y 1) (y 2) (y 3)).trans ?_))
  refine congrArg₂ (Spec.duOf (aCW m c) (aD m c)) ?_ (col_congr ?_ ?_ ?_)
  all_goals refine Fin.ext ?_; blk_simp [idx t, tok, part]

/-- The gradient of the output weights, as the kernel leaves it. -/
theorem dwo_array (c : Dev nD) : (dats m 0 c).arrAt 7 cfg0.N =
    fun i : S4x1x704x1024.Idx => Spec.dwoOf (aC m c) (aDy m c) (Spec.hcol (i 0) (i 2)) (i 3) := by
  refine (dats m 0 c).arrAt_eq_of_covers 7 _ (by decide +kernel) fun t hf y => ?_
  have h1 := (flush0_7 t).mp hf
  blk_simp [idx t]
  rw [after0_7]
  have hy : y = ix4 0 0 (y 2 : Fin 704) (y 3 : Fin 1024) := by
    refine (eq_ix4 (n0 := 1) (n1 := 1) (n2 := 704) (n3 := 1024) y).trans ?_
    exact congrArg₂ (fun z w : Fin 1 => (ix4 z w (y 2 : Fin 704) (y 3 : Fin 1024))) (Subsingleton.elim _ _) (Subsingleton.elim _ _)
  refine (congrArg (outsAt0 m c t.val t.isLt).2.1 hy).trans ((dwo_point m c t h1 (y 2) (y 3)).trans ((dwo_eq m c t h1 (y 2) (y 3)).trans ?_))
  refine congrArg₂ (Spec.dwoOf (aC m c) (aDy m c)) (congrArg₂ Spec.hcol ?_ ?_) ?_
  all_goals refine Fin.ext ?_; blk_simp [idx t, part]

/-- The gradients of the convolution's weights and bias, as the kernel leaves them. -/
theorem dcw_array (c : Dev nD) : (dats m 0 c).arrAt 8 cfg0.N =
    fun i : S4x2x8x704.Idx => Spec.dcwOf (aU m c) (aD m c) (i 2) (Spec.col (i 1) (i 0) (i 3)) := by
  refine (dats m 0 c).arrAt_eq_of_covers 8 _ (by decide +kernel) fun t hf y => ?_
  have h1 := (flush0_8 t).mp hf
  blk_simp [idx t]
  rw [after0_8]
  have hy : y = ix4 0 (y 1 : Fin 2) (y 2 : Fin 8) (y 3 : Fin 704) := by
    refine (eq_ix4 (n0 := 1) (n1 := 2) (n2 := 8) (n3 := 704) y).trans ?_
    exact congrArg (fun z : Fin 1 => (ix4 z (y 1 : Fin 2) (y 2 : Fin 8) (y 3 : Fin 704))) (Subsingleton.elim _ _)
  refine (congrArg (outsAt0 m c t.val t.isLt).2.2.1 hy).trans ((dcw_pointL m c t h1 (y 1) (y 2) (y 3)).trans ((dcw_eq m c t h1 (y 1) (y 2) (y 3)).trans ?_))
  refine congrArg₂ (Spec.dcwOf (aU m c) (aD m c)) ?_ (col_congr ?_ ?_ ?_)
  all_goals refine Fin.ext ?_; blk_simp [idx t, part]

end Cert.KernelIdeal.Hand
-- ==== Proof.Gate.Ref1.lean ====
module
public import proofs.«01_k».proof.Proof.Gen.ReferenceIdeal.Read
public import proofs.«01_k».proof.Proof.Gate.Spec
@[expose] public section

/-!
# The reference as a formula: the forward lines and the gate's gradient
-/

set_option maxRecDepth 16384
noncomputable section
namespace Cert.ReferenceIdeal.Hand
open Cert.ReferenceIdeal Cert.ReferenceIdeal.Gen Cert.ReferenceIdeal.Read Idealize.ShloMosaic Idealize.ShloMosaic.TcCoe Idealize.SL.Sem
variable (x0 : FVec Ideal S1x8192x1024 .f32) (x1 : FVec Ideal S1024x5632 .f32) (x2 : FVec Ideal S3x5632 .f32)
variable (x3 : FVec Ideal S5632 .f32) (x4 : FVec Ideal S2816x1024 .f32) (x5 : FVec Ideal S1x8192x1024 .f32)

/-- The convolution's input. -/
def rU : Fin 8192 → Fin 5632 → EReal := Spec.uOf (fun t k => x0 (ix3 0 t k)) (fun k j => x1 (ix2 k j))
/-- The convolution's output. -/
def rC : Fin 8192 → Fin 5632 → EReal := Spec.convOf (rU x0 x1) (fun k j => x2 (ix2 k j)) (fun j => x3 (ix1 j))
/-- The gradient of the gate's product. -/
def rDact : Fin 8192 → Fin 2816 → EReal := Spec.dactOf (fun t k => x5 (ix3 0 t k)) (fun y k => x4 (ix2 y k))

theorem v0_at (t : Fin 8192) (j : Fin 5632) : val_main_v0 (F := Ideal) x0 x1 (ix3 0 t j) = rU x0 x1 t j := by
  pointwise [val_main_v0, rU, Spec.uOf]

theorem v2_at (t : Fin 8194) (j : Fin 5632) : val_main_v2 (F := Ideal) x0 x1 (ix3 0 t j) =
    if h : t.val < 2 then 0 else rU x0 x1 ⟨t.val - 2, by omega⟩ j := by
  pointwise [val_main_v2, val_main_v1, val_main_cst]
  split
  · rfl
  · exact v0_at x0 x1 _ j

theorem v19_at (t : Fin 8192) (j : Fin 5632) : val_main_v19 (F := Ideal) x0 x1 (ix3 0 t j) = rU x0 x1 t j := by
  pointwise [val_main_v19]
  refine (v2_at x0 x1 _ j).trans ((dif_neg (by show ¬2 + t.val < 2; omega)).trans ?_)
  exact congrFun (congrArg (rU x0 x1) (Fin.ext (by show 2 + t.val - 2 = t.val; omega))) j

theorem v12_at (t : Fin 8192) (j : Fin 5632) : val_main_v12 (F := Ideal) x0 x1 (ix3 0 t j) = Spec.back (rU x0 x1) 1 t j := by
  pointwise [val_main_v12]
  refine (v2_at x0 x1 _ j).trans ?_
  unfold Spec.back
  by_cases h : t.val < 1
  · rw [dif_pos (by show 1 + t.val < 2; omega), if_pos h]
  · rw [dif_neg (by show ¬1 + t.val < 2; omega), if_neg h]
    exact congrFun (congrArg (rU x0 x1) (Fin.ext (by show 1 + t.val - 2 = t.val - 1; omega))) j

theorem v4_at (t : Fin 8192) (j : Fin 5632) : val_main_v4 (F := Ideal) x0 x1 (ix3 0 t j) = Spec.back (rU x0 x1) 2 t j := by
  pointwise [val_main_v4]
  refine (v2_at x0 x1 _ j).trans ?_
  unfold Spec.back
  by_cases h : t.val < 2
  · rw [dif_pos h, if_pos h]
  · rw [dif_neg h, if_neg h]

theorem v28_at (t : Fin 8192) (j : Fin 5632) : val_main_v28 (F := Ideal) x0 x1 x2 x3 (ix3 0 t j) = rC x0 x1 x2 x3 t j := by
  pointwise [val_main_v28, val_main_v27, val_main_v26, val_main_v25, val_main_v24, val_main_v23, val_main_v22, val_main_v21, val_main_v20,
    val_main_v18, val_main_v17, val_main_v16, val_main_v15, val_main_v14, val_main_v13, val_main_v11, val_main_v10, val_main_cst_1,
    val_main_v9, val_main_v8, val_main_v7, val_main_v6, val_main_v5]
  rw [v19_at, v12_at, v4_at]
  simp [rC, Spec.convOf]

theorem v29_at (t : Fin 8192) (y : Fin 2816) : val_main_v29 (F := Ideal) x0 x1 x2 x3 (ix3 0 t y) = rC x0 x1 x2 x3 t (Spec.colA y) := by
  pointwise [val_main_v29]
  exact v28_at x0 x1 x2 x3 t (Spec.colA y)

theorem v30_at (t : Fin 8192) (y : Fin 2816) : val_main_v30 (F := Ideal) x0 x1 x2 x3 (ix3 0 t y) = rC x0 x1 x2 x3 t (Spec.colB y) := by
  pointwise [val_main_v30]
  exact v28_at x0 x1 x2 x3 t (Spec.colB y)

theorem v31_2_at (t : Fin 8192) (y : Fin 2816) :
    val_main_v31_2 (F := Ideal) x0 x1 x2 x3 (ix3 0 t y) = Spec.sg (rC x0 x1 x2 x3 t (Spec.colA y)) := by
  pointwise [val_main_v31_2, val_main_call0_v4, val_main_call0_v3, val_main_call0_v2, val_main_call0_v1, val_main_call0_v0,
    val_main_call0_cst, val_main_call0_cst_0]
  rw [v29_at]
  simp [Spec.sg]

theorem v31_0_at (t : Fin 8192) (y : Fin 2816) : val_main_v31_0 (F := Ideal) x0 x1 x2 x3 (ix3 0 t y) =
    rC x0 x1 x2 x3 t (Spec.colA y) * Spec.sg (rC x0 x1 x2 x3 t (Spec.colA y)) := by
  pointwise [val_main_v31_0]
  rw [v29_at, v31_2_at]

theorem v31_1_at (t : Fin 8192) (y : Fin 2816) : val_main_v31_1 (F := Ideal) x0 x1 x2 x3 (ix3 0 t y) =
    Spec.sg (rC x0 x1 x2 x3 t (Spec.colA y)) * (1 - Spec.sg (rC x0 x1 x2 x3 t (Spec.colA y))) := by
  pointwise [val_main_v31_1, val_main_call0_v7, val_main_call0_v6, val_main_call0_cst_1]
  rw [v31_2_at]

theorem v32_at (t : Fin 8192) (y : Fin 2816) : val_main_v32 (F := Ideal) x0 x1 x2 x3 (ix3 0 t y) =
    rC x0 x1 x2 x3 t (Spec.colA y) * Spec.sg (rC x0 x1 x2 x3 t (Spec.colA y)) * rC x0 x1 x2 x3 t (Spec.colB y) := by
  pointwise [val_main_v32]
  rw [v31_0_at, v30_at]

theorem v36_at (t : Fin 8192) (y : Fin 2816) : val_main_v36 (F := Ideal) x4 x5 (ix3 0 t y) = rDact x4 x5 t y := by
  pointwise [val_main_v36, rDact, Spec.dactOf]

theorem v37_at (t : Fin 8192) (y : Fin 2816) : val_main_v37 (F := Ideal) x0 x1 x2 x3 x4 x5 (ix3 0 t y) =
    Spec.dbOf (rC x0 x1 x2 x3) (rDact x4 x5) t y := by
  pointwise [val_main_v37]
  rw [v31_0_at, v36_at]
  exact mul_comm _ _

theorem v39_at (t : Fin 8192) (y : Fin 2816) : val_main_v39 (F := Ideal) x0 x1 x2 x3 x4 x5 (ix3 0 t y) =
    rDact x4 x5 t y * rC x0 x1 x2 x3 t (Spec.colB y) * Spec.sg (rC x0 x1 x2 x3 t (Spec.colA y))
      + rC x0 x1 x2 x3 t (Spec.colA y) * (rDact x4 x5 t y * rC x0 x1 x2 x3 t (Spec.colB y))
        * (Spec.sg (rC x0 x1 x2 x3 t (Spec.colA y)) * (1 - Spec.sg (rC x0 x1 x2 x3 t (Spec.colA y)))) := by
  pointwise [val_main_v39, val_main_call1_v2, val_main_call1_v1, val_main_call1_v0, val_main_v38]
  rw [v31_1_at, v31_2_at, v29_at, v30_at, v36_at]

/-- The gradient of the output weights. -/
theorem v35_at (y : Fin 2816) (k : Fin 1024) : val_main_v35 (F := Ideal) x0 x1 x2 x3 x5 (ix2 y k) =
    Spec.dwoOf (rC x0 x1 x2 x3) (fun t k => x5 (ix3 0 t k)) y k := by
  pointwise [val_main_v35, val_main_v34]
  rw [Fin.sum_univ_one]
  exact Finset.sum_congr rfl fun t _ => by rw [v32_at]; exact mul_comm _ _

end Cert.ReferenceIdeal.Hand
-- ==== Proof.Gate.Real.lean ====
module
public import proofs.«01_k».proof.Proof.Gate.Spec
@[expose] public section

/-!
# Where the arguments are finite

With finite arguments every element is a real number, and the two ways to write the gate's gradient agree.
-/

noncomputable section
namespace Cert.Spec
open Idealize.ShloMosaic

/-- The value is a real number. -/
def IsR (x : EReal) : Prop := ∃ r : ℝ, x = (r : EReal)

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.mul {x y : EReal} (hx : IsR x) (hy : IsR y) : IsR (x * y) := by
  obtain ⟨a, rfl⟩ := hx
  obtain ⟨b, rfl⟩ := hy
  exact ⟨a * b, (EReal.coe_mul a b).symm⟩

theorem IsR.zero : IsR 0 := ⟨0, rfl⟩

theorem IsR.sum {n : ℕ} {f : Fin n → EReal} (h : ∀ i, IsR (f i)) : IsR (∑ i, f i) :=
  Finset.sum_induction f IsR (fun _ _ => IsR.add) IsR.zero fun i _ => h i

/-- A value whose absolute value lies below infinity is a real number. -/
theorem IsR.of_abs {x : EReal} (h : max x (-x) < ⊤) : IsR x := by
  induction x with
  | bot => simp at h
  | top => simp at h
  | coe r => exact ⟨r, rfl⟩

theorem IsR.sg {x : EReal} (h : IsR x) : IsR (sg x) := by
  obtain ⟨a, rfl⟩ := h
  refine ⟨1 / (1 + Real.exp (-a)), ?_⟩
  have hp : (0 : ℝ) < 1 + Real.exp (-a) := by positivity
  unfold Spec.sg
  have e : (0 : EReal) - (a : EReal) = ((-a : ℝ) : EReal) := by rw [zero_sub, EReal.coe_neg]
  have e1 : (1 : EReal) + ((Real.exp (-a) : ℝ) : EReal) = ((1 + Real.exp (-a) : ℝ) : EReal) := by rw [EReal.coe_add]; rfl
  rw [e, Ideal.exp_coe, e1, Ideal.div_coe hp.ne', one_mul]

theorem IsR.back {u : Fin 8192 → Fin 5632 → EReal} (h : ∀ t j, IsR (u t j)) (k : ℕ) (t : Fin 8192) (j : Fin 5632) : IsR (back u k t j) := by
  unfold Spec.back
  split
  · exact IsR.zero
  · exact h _ j

theorem IsR.uOf {h : Fin 8192 → Fin 1024 → EReal} {w : Fin 1024 → Fin 5632 → EReal} (hh : ∀ t k, IsR (h t k)) (hw : ∀ k j, IsR (w k j))
    (t : Fin 8192) (j : Fin 5632) : IsR (uOf h w t j) := IsR.sum fun k => (hh t k).mul (hw k j)

theorem IsR.convOf {u : Fin 8192 → Fin 5632 → EReal} {cw : Fin 3 → Fin 5632 → EReal} {cb : Fin 5632 → EReal} (hu : ∀ t j, IsR (u t j))
    (hw : ∀ k j, IsR (cw k j)) (hb : ∀ j, IsR (cb j)) (t : Fin 8192) (j : Fin 5632) : IsR (convOf u cw cb t j) :=
  ((((IsR.back hu 2 t j).mul (hw 0 j)).add ((IsR.back hu 1 t j).mul (hw 1 j))).add ((hu t j).mul (hw 2 j))).add (hb j)

theorem IsR.dactOf {dy : Fin 8192 → Fin 1024 → EReal} {wo : Fin 2816 → Fin 1024 → EReal} (hd : ∀ t k, IsR (dy t k)) (hw : ∀ y k, IsR (wo y k))
    (t : Fin 8192) (y : Fin 2816) : IsR (dactOf dy wo t y) := IsR.sum fun k => (hd t k).mul (hw y k)

/-- The two ways to write the gradient through `a ↦ a · s(a)`: the sum of the two factors' gradients, and the gradient factored. -/
theorem silu_grad {d a s : EReal} (hd : IsR d) (ha : IsR a) (hs : IsR s) :
    d * s + a * d * (s * (1 - s)) = d * (s * (1 + a * (1 - s))) := by
  obtain ⟨d, rfl⟩ := hd
  obtain ⟨a, rfl⟩ := ha
  obtain ⟨s, rfl⟩ := hs
  have h1 : (1 : EReal) = ((1 : ℝ) : EReal) := rfl
  rw [h1]
  simp only [← EReal.coe_mul, ← EReal.coe_add, ← EReal.coe_sub]
  exact congrArg _ (by ring)

end Cert.Spec
-- ==== Proof.Gate.Shift.lean ====
module
public import proofs.«01_k».proof.Proof.Gate.Spec
@[expose] public section

/-!
# A sum over rows moved by some tokens
-/

noncomputable section
namespace Cert.Spec
open Idealize.ShloMosaic

/-- A function of tokens, continued by zero. -/
def ext {N : ℕ} (f : Fin N → EReal) (n : ℕ) : EReal := if h : n < N then f ⟨n, h⟩ else 0

/-- Moving one factor back by `k` places is moving the other ahead. -/
theorem sum_shift_gen {N : ℕ} (u d : Fin N → EReal) (k : ℕ) (hk : k ≤ N) :
    ∑ t : Fin N, (if t.val < k then 0 else ext u (t.val - k) * ext d t.val) = ∑ t : Fin N, ext d (k + t.val) * ext u t.val := by
  rw [Fin.sum_univ_eq_sum_range (fun n => if n < k then 0 else ext u (n - k) * ext d n) N,
    Fin.sum_univ_eq_sum_range (fun n => ext d (k + n) * ext u n) N]
  obtain ⟨n, hn⟩ : ∃ n, N = k + n := ⟨N - k, by omega⟩
  have h1 : Finset.range N = Finset.range (k + n) := by rw [← hn]
  have h2 : Finset.range N = Finset.range (n + k) := by rw [Nat.add_comm n k, ← hn]
  conv_lhs => rw [h1, Finset.sum_range_add]
  conv_rhs => rw [h2, Finset.sum_range_add]
  rw [Finset.sum_eq_zero fun i hi => if_pos (Finset.mem_range.mp hi), zero_add,
    Finset.sum_eq_zero (s := Finset.range k) fun i _ => ?_, add_zero]
  · refine Finset.sum_congr rfl fun i _ => ?_
    rw [if_neg (by omega), Nat.add_sub_cancel_left, mul_comm]
  · rw [ext, dif_neg (by omega), zero_mul]

/-- Moving one factor back by `k` tokens is moving the other ahead. -/
theorem sum_shift (u d : Fin 8192 → Fin 5632 → EReal) (k : ℕ) (hk : k ≤ 8192) (j : Fin 5632) :
    ∑ t : Fin 8192, back u k t j * d t j = ∑ t : Fin 8192, ahead d k t j * u t j := by
  refine Eq.trans (Finset.sum_congr rfl fun t _ => ?_)
    ((sum_shift_gen (fun t => u t j) (fun t => d t j) k hk).trans (Finset.sum_congr rfl fun t _ => ?_))
  · unfold back ext
    by_cases h : t.val < k
    · simp only [if_pos h, zero_mul]
    · simp only [if_neg h, dif_pos t.isLt, dif_pos (show t.val - k < 8192 by omega)]
  · unfold ahead ext
    by_cases h : t.val + k < 8192
    · simp only [dif_pos h, dif_pos (show k + t.val < 8192 by omega), dif_pos t.isLt, Nat.add_comm]
    · simp only [dif_neg h, dif_neg (show ¬k + t.val < 8192 by omega), zero_mul]

end Cert.Spec
-- ==== Proof.Gate.Ref2.lean ====
module
public import proofs.«01_k».proof.Proof.Gate.Ref1
public import proofs.«01_k».proof.Proof.Gate.Real
public import proofs.«01_k».proof.Proof.Gate.Shift
@[expose] public section

/-!
# The reference as a formula: the results
-/

set_option maxRecDepth 16384
noncomputable section
namespace Cert.ReferenceIdeal.Hand
open Cert.ReferenceIdeal Cert.ReferenceIdeal.Gen Cert.ReferenceIdeal.Read Idealize.ShloMosaic Idealize.ShloMosaic.TcCoe Idealize.SL.Sem
variable (x0 : FVec Ideal S1x8192x1024 .f32) (x1 : FVec Ideal S1024x5632 .f32) (x2 : FVec Ideal S3x5632 .f32)
variable (x3 : FVec Ideal S5632 .f32) (x4 : FVec Ideal S2816x1024 .f32) (x5 : FVec Ideal S1x8192x1024 .f32)

omit x0 x1 x2 x3 x4 x5 in
/-- A sum over two axes of one element each. -/
theorem sum_unit (v : S1x1x5632.Idx → EReal) (j : Fin 5632) :
    Ideal.hostReduceAdd reducesTo_S1x1x5632_S5632_d0_1 v 0 (ix1 j) = v (ix3 0 0 j) := by
  have hd : ∀ i : S1x1x5632.Idx, (reducesTo_S1x1x5632_S5632_d0_1.drop i 0).val = (i 2).val := fun i => rfl
  refine (zero_add _).trans ?_
  rw [Finset.sum_filter]
  refine (Finset.sum_eq_single (ix3 0 0 j) (fun i _ hi => if_neg fun e => hi ?_) fun h => absurd (Finset.mem_univ _) h).trans (if_pos ?_)
  · obtain ⟨p, q, k, rfl⟩ : ∃ (p q : Fin 1) (k : Fin 5632), i = ix3 p q k := ⟨_, _, _, eq_ix3 i⟩
    obtain rfl : p = 0 := Subsingleton.elim _ _
    obtain rfl : q = 0 := Subsingleton.elim _ _
    obtain rfl : k = j := Fin.ext ((hd _).symm.trans (congrArg Fin.val (congrFun e 0)))
    rfl
  · funext a
    obtain rfl : a = 0 := Subsingleton.elim (α := Fin 1) _ _
    exact Fin.ext (hd _)

/-- Every argument is finite. -/
structure Fin6 : Prop where
  h0 : ∀ i, Spec.IsR (x0 i)
  h1 : ∀ i, Spec.IsR (x1 i)
  h2 : ∀ i, Spec.IsR (x2 i)
  h3 : ∀ i, Spec.IsR (x3 i)
  h4 : ∀ i, Spec.IsR (x4 i)
  h5 : ∀ i, Spec.IsR (x5 i)

/-- The gradient of the convolution's output. -/
def rD : Fin 8192 → Fin 5632 → EReal := Spec.dcOf (rC x0 x1 x2 x3) (rDact x4 x5)

variable {x0 x1 x2 x3 x4 x5} (H : Fin6 x0 x1 x2 x3 x4 x5)
include H

theorem rC_real (t : Fin 8192) (j : Fin 5632) : Spec.IsR (rC x0 x1 x2 x3 t j) :=
  Spec.IsR.convOf (Spec.IsR.uOf (fun _ _ => H.h0 _) fun _ _ => H.h1 _) (fun _ _ => H.h2 _) (fun _ => H.h3 _) t j

theorem v40_at (t : Fin 8192) (j : Fin 5632) : val_main_v40 (F := Ideal) x0 x1 x2 x3 x4 x5 (ix3 0 t j) = rD x0 x1 x2 x3 x4 x5 t j := by
  pointwise [val_main_v40]
  unfold rD Spec.dcOf
  by_cases h : j.val < 2816
  · rw [dif_pos h, dif_pos h]
    refine (v39_at x0 x1 x2 x3 x4 x5 t ⟨j.val, h⟩).trans ?_
    exact Spec.silu_grad ((Spec.IsR.dactOf (fun _ _ => H.h5 _) (fun _ _ => H.h4 _) t _).mul (rC_real H t _)) (rC_real H t _) (rC_real H t _).sg
  · rw [dif_neg h, dif_neg h]
    exact v37_at x0 x1 x2 x3 x4 x5 t _

/-- The gradient of the convolution's input. -/
theorem v76_at (t : Fin 8192) (j : Fin 5632) : val_main_v76 (F := Ideal) x0 x1 x2 x3 x4 x5 (ix3 0 t j) =
    Spec.duOf (fun k j => x2 (ix2 k j)) (rD x0 x1 x2 x3 x4 x5) t j := by
  pointwise [val_main_v76, val_main_v74, val_main_v73, val_main_v68, val_main_v67, val_main_v63, val_main_v62, val_main_v57, val_main_v56,
    val_main_v52, val_main_v48, val_main_v47, val_main_v22, val_main_v21, val_main_v20, val_main_v15, val_main_v14, val_main_v13,
    val_main_v7, val_main_v6, val_main_v5, val_main_cst_7, val_main_cst_11, val_main_cst_15]
  have h40 : ∀ t j, val_main_v40 (F := Ideal) x0 x1 x2 x3 x4 x5 (ix3 0 t j) = rD x0 x1 x2 x3 x4 x5 t j := v40_at H
  unfold Spec.duOf Spec.ahead
  refine congrArg₂ (· + ·) (congrArg₂ (· + ·) ((congrArg (· * _) (h40 t j)).trans (mul_comm _ _)) ?_) ?_
  · by_cases h : t.val + 1 < 8192
    · rw [dif_pos (by omega), dif_pos h, h40, mul_comm]
      exact congrArg (_ * ·) (congrFun (congrArg (rD x0 x1 x2 x3 x4 x5) (Fin.ext (by show 2 + t.val - 1 = t.val + 1; omega))) j)
    · rw [dif_neg (by omega), dif_neg h, mul_zero]
  · by_cases h : t.val + 2 < 8192
    · rw [dif_pos (by omega), dif_pos h, h40, mul_comm]
      exact congrArg (_ * ·) (congrFun (congrArg (rD x0 x1 x2 x3 x4 x5) (Fin.ext (by show 2 + t.val = t.val + 2; omega))) j)
    · rw [dif_neg (by omega), dif_neg h, mul_zero]

/-- The gradient of the convolution's bias. -/
theorem v43_at (j : Fin 5632) : val_main_v43 (F := Ideal) x0 x1 x2 x3 x4 x5 (ix1 j) = ∑ t : Fin 8192, rD x0 x1 x2 x3 x4 x5 t j := by
  pointwise [val_main_v43, val_main_v42, val_main_v41, val_main_cst_2, val_main_cst_3]
  refine (sum_unit _ j).trans ?_
  pointwise
  exact Finset.sum_congr rfl fun t _ => v40_at H t j

theorem v49_at (j : Fin 5632) : val_main_v49 (F := Ideal) x0 x1 x2 x3 x4 x5 (ix1 j) =
    ∑ t : Fin 8192, rD x0 x1 x2 x3 x4 x5 t j * rU x0 x1 t j := by
  pointwise [val_main_v49, val_main_v46, val_main_v45, val_main_v44, val_main_cst_4, val_main_cst_5]
  refine (sum_unit _ j).trans ?_
  pointwise
  exact Finset.sum_congr rfl fun t _ => by rw [v40_at H, v19_at, mul_comm]

theorem v58_at (j : Fin 5632) : val_main_v58 (F := Ideal) x0 x1 x2 x3 x4 x5 (ix1 j) =
    ∑ t : Fin 8192, Spec.ahead (rD x0 x1 x2 x3 x4 x5) 1 t j * rU x0 x1 t j := by
  pointwise [val_main_v58, val_main_v55, val_main_v54, val_main_v53, val_main_cst_8, val_main_cst_9]
  refine (sum_unit _ j).trans ?_
  pointwise
  refine Eq.trans (Finset.sum_congr rfl fun t _ => ?_) (Spec.sum_shift (rU x0 x1) (rD x0 x1 x2 x3 x4 x5) 1 (by omega) j)
  rw [v40_at H, v12_at]

theorem v69_at (j : Fin 5632) : val_main_v69 (F := Ideal) x0 x1 x2 x3 x4 x5 (ix1 j) =
    ∑ t : Fin 8192, Spec.ahead (rD x0 x1 x2 x3 x4 x5) 2 t j * rU x0 x1 t j := by
  pointwise [val_main_v69, val_main_v66, val_main_v65, val_main_v64, val_main_cst_12, val_main_cst_13]
  refine (sum_unit _ j).trans ?_
  pointwise
  refine Eq.trans (Finset.sum_congr rfl fun t _ => ?_) (Spec.sum_shift (rU x0 x1) (rD x0 x1 x2 x3 x4 x5) 2 (by omega) j)
  rw [v40_at H, v4_at]

/-- The gradients of the convolution's weights and bias. -/
theorem v84_at (i : Fin 8) (j : Fin 5632) : val_main_v84 (F := Ideal) x0 x1 x2 x3 x4 x5 (ix2 i j) =
    Spec.dcwOf (rU x0 x1) (rD x0 x1 x2 x3 x4 x5) i j := by
  pointwise [val_main_v84, val_main_v83, val_main_v82, val_main_v72, val_main_v71, val_main_v70, val_main_v61, val_main_v60, val_main_v59,
    val_main_v51, val_main_v50, val_main_cst_6, val_main_cst_10, val_main_cst_14, val_main_cst_16]
  rw [v43_at H, v49_at H, v58_at H, v69_at H]
  unfold Spec.dcwOf
  generalize ∑ t : Fin 8192, rD x0 x1 x2 x3 x4 x5 t j = a
  generalize ∑ t : Fin 8192, rD x0 x1 x2 x3 x4 x5 t j * rU x0 x1 t j = b
  generalize ∑ t : Fin 8192, Spec.ahead (rD x0 x1 x2 x3 x4 x5) 1 t j * rU x0 x1 t j = e
  generalize ∑ t : Fin 8192, Spec.ahead (rD x0 x1 x2 x3 x4 x5) 2 t j * rU x0 x1 t j = f
  clear H
  obtain ⟨n, hn⟩ := i
  interval_cases n <;> simp

/-- The first result: the gradient of the convolution's input by parts of the columns. -/
theorem v79_at (p : Fin 4) (s : Fin 2) (t : Fin 8192) (x : Fin 704) : @Eq EReal (val_main_v79 (F := Ideal) x0 x1 x2 x3 x4 x5 (ix4 p s t x))
    (Spec.duOf (fun k j => x2 (ix2 k j)) (rD x0 x1 x2 x3 x4 x5) t (Spec.col s p x)) := by
  pointwise [val_main_v79, val_main_v78, val_main_v77]
  refine Eq.trans ?_ (v76_at H t (Spec.col s p x))
  rfl

omit H in
/-- The second result: the gradient of the output weights by parts of the rows. -/
theorem v81_at (p : Fin 4) (x : Fin 704) (k : Fin 1024) : @Eq EReal (val_main_v81 (F := Ideal) x0 x1 x2 x3 x5 (ix4 p 0 x k))
    (Spec.dwoOf (rC x0 x1 x2 x3) (fun t k => x5 (ix3 0 t k)) (Spec.hcol p x) k) := by
  pointwise [val_main_v81, val_main_v80]
  refine Eq.trans ?_ (v35_at x0 x1 x2 x3 x5 (Spec.hcol p x) k)
  rfl

/-- The third result: the gradients of the convolution's weights and bias by parts of the columns. -/
theorem v86_at (p : Fin 4) (s : Fin 2) (i : Fin 8) (x : Fin 704) : val_main_v86 (F := Ideal) x0 x1 x2 x3 x4 x5 (ix4 p s i x) =
    Spec.dcwOf (rU x0 x1) (rD x0 x1 x2 x3 x4 x5) i (Spec.col s p x) := by
  pointwise [val_main_v86, val_main_v85]
  refine Eq.trans ?_ (v84_at H i (Spec.col s p x))
  rfl

end Cert.ReferenceIdeal.Hand
-- ==== Proof.Gate.Equal.lean ====
module
public import proofs.«01_k».proof.Defs
public import proofs.«01_k».proof.Proof.Gate.Arrays
public import proofs.«01_k».proof.Proof.Gate.Ref2
public import Idealize.ShloMosaic.Lib.Claim
@[expose] public section

/-!
# The kernel's results are the reference's

From agreeing finite arguments the three result arrays are equal, so the value claim holds.
-/

set_option maxRecDepth 16384
noncomputable section
namespace Cert.Proof
open Idealize.ShloMosaic Idealize.ShloMosaic.TcCoe Idealize.SL.Sem
open Cert.KernelIdeal.Hand (aH aWI aCW aCB aWO aDy aU aC aD)

/-- The shape facts the finiteness condition names. -/
theorem pre_facts : Cert.Pre_finite.Facts := ⟨by decide, by decide, by decide, by decide, by decide⟩

/-- The single bit of a comparison with infinity says that the value is finite. -/
theorem real_of_bit {s : Shape} (x : FVec Ideal s .f32) (h : (⟨0, ![]⟩ : Shape).BroadcastsInDim s (![] : Fin 0 → Fin s.rank))
    (e : cmpf .olt (Host.absf x) (broadcastInDim s ![] h (constant ⟨0, ![]⟩ .f32 0x7F800000#32)) = fun _ => 1#1) (i : s.Idx) :
    Spec.IsR (x i) := by
  have hi := congrFun e i
  refine Spec.IsR.of_abs ?_
  by_contra hlt
  have hlt' : ¬ (Host.absf x i : EReal) < Ideal.ofBits .f32 0x7F800000#32 := by
    have ht : (Ideal.ofBits .f32 0x7F800000#32 : EReal) = ⊤ := by simp [Ideal.ofBits, Ideal.ieee]
    rw [ht]
    exact hlt
  have hz : cmpf .olt (Host.absf x) (broadcastInDim s ![] h (constant ⟨0, ![]⟩ .f32 0x7F800000#32)) i = 0#1 := by
    pointwise
    exact congrArg BitVec.ofBool (decide_eq_false hlt')
  rw [hz] at hi
  exact absurd hi (by decide)

section
variable (m : (ℓ : Loc Cert.KernelIdeal.nD Cert.KernelIdeal.τ Cert.KernelIdeal.sig) → Buf (Elt Ideal) ℓ)

attribute [local instance] pre_facts

/-- The condition, read at every element of every argument. -/
theorem finite_args (h : Cert.Pre_KernelIdeal_finite m) (c : Dev Cert.KernelIdeal.nD) : Cert.ReferenceIdeal.Hand.Fin6
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5)) := by
  obtain ⟨h0, h1, h2, h3, h4, h5⟩ := h c
  exact ⟨real_of_bit _ _ h0, real_of_bit _ _ h1, real_of_bit _ _ h2, real_of_bit _ _ h3, real_of_bit _ _ h4, real_of_bit _ _ h5⟩

/-- The gradient of the two halves: the reference's result is the kernel's. -/
theorem du_eq (h : Cert.Pre_KernelIdeal_finite m) (c : Dev Cert.KernelIdeal.nD) :
    (Cert.ReferenceIdeal.Read.val_main_v79 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) : Cert.KernelIdeal.S4x2x8192x704.Idx → EReal) =
      (Cert.KernelIdeal.Gen.dats m 0 c).arrAt 6 Cert.KernelIdeal.cfg0.N := by
  refine Eq.trans (funext fun i => ?_) (Cert.KernelIdeal.Hand.du_array m c).symm
  obtain ⟨p, s, t, x, rfl⟩ : ∃ (p : Fin 4) (s : Fin 2) (t : Fin 8192) (x : Fin 704), i = ix4 p s t x := ⟨i 0, i 1, i 2, i 3, eq_ix4 i⟩
  exact Cert.ReferenceIdeal.Hand.v79_at (finite_args m h c) p s t x

/-- The gradient of the output projection: the reference's result is the kernel's. -/
theorem dwo_eq (c : Dev Cert.KernelIdeal.nD) :
    (Cert.ReferenceIdeal.Read.val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) : Cert.KernelIdeal.S4x1x704x1024.Idx → EReal) =
      (Cert.KernelIdeal.Gen.dats m 0 c).arrAt 7 Cert.KernelIdeal.cfg0.N := by
  refine Eq.trans (funext fun i => ?_) (Cert.KernelIdeal.Hand.dwo_array m c).symm
  obtain ⟨p, z, x, k, rfl⟩ : ∃ (p : Fin 4) (z : Fin 1) (x : Fin 704) (k : Fin 1024), i = ix4 p z x k := ⟨i 0, i 1, i 2, i 3, eq_ix4 i⟩
  obtain rfl : z = 0 := Subsingleton.elim _ _
  exact Cert.ReferenceIdeal.Hand.v81_at p x k

/-- The gradient of the filter and its offset: the reference's result is the kernel's. -/
theorem dcw_eq (h : Cert.Pre_KernelIdeal_finite m) (c : Dev Cert.KernelIdeal.nD) :
    (Cert.ReferenceIdeal.Read.val_main_v86 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) : Cert.KernelIdeal.S4x2x8x704.Idx → EReal) =
      (Cert.KernelIdeal.Gen.dats m 0 c).arrAt 8 Cert.KernelIdeal.cfg0.N := by
  refine Eq.trans (funext fun i => ?_) (Cert.KernelIdeal.Hand.dcw_array m c).symm
  obtain ⟨p, s, t, x, rfl⟩ : ∃ (p : Fin 4) (s : Fin 2) (t : Fin 8) (x : Fin 704), i = ix4 p s t x := ⟨i 0, i 1, i 2, i 3, eq_ix4 i⟩
  exact Cert.ReferenceIdeal.Hand.v86_at (finite_args m h c) p s t x

/-- The value claim. -/
theorem algebraic : Cert.algebraic_KernelIdeal_ReferenceIdeal_pre_finite := by
  intro m g m' g' hpre hagree
  refine ⟨fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N, Cert.KernelIdeal.Value.run_blocks m g, ?_⟩
  refine (θ_run Cert.ReferenceIdeal.defs _ _).mono (fun r h c => ?_) (Cert.ReferenceIdeal.Value.run (F := Ideal) m' g')
  obtain ⟨h0, h1, h2, hargs⟩ := h c
  obtain ⟨e0, e1, e2, e3, e4, e5⟩ := hagree c
  refine ⟨h0.trans ?_, h1.trans ?_, h2.trans ?_, hargs⟩
  · rw [Cert.ReferenceIdeal.Read.val_main_v79_eq, e0, e1, e2, e3, e4, e5]
    exact du_eq m hpre c
  · rw [Cert.ReferenceIdeal.Read.val_main_v81_eq, e0, e1, e2, e3, e5]
    exact dwo_eq m c
  · rw [Cert.ReferenceIdeal.Read.val_main_v86_eq, e0, e1, e2, e3, e4, e5]
    exact dcw_eq m hpre c

end
end Cert.Proof
-- ==== Proof.Dwin.Kernel.lean ====
module
public import proofs.«01_k».proof.Proof.Gen.Kernel2Ideal.Value
public import Idealize.ShloMosaic.Lib.Pipeline.ValueKit
public import Idealize.ShloMosaic.Lib.Pipeline.ReadBack
public import Idealize.ShloMosaic.Lib.Pointwise
@[expose] public section

/-!
# The gradient of the up-projection: the kernel's result array

The call multiplies the transpose of the layer's input by the gradient of the convolution's input, one block of 704 columns
at a time, in two halves of the tokens: the first half starts the accumulator and the second is added to it.
-/

set_option maxRecDepth 16384
noncomputable section
namespace Cert.Kernel2Ideal.Hand
open Cert.Kernel2Ideal Cert.Kernel2Ideal.Gen Idealize.ShloMosaic Idealize.ShloMosaic.TcCoe Idealize.SL.Sem
variable (m : (ℓ : Loc nD τ sig) → Buf (Elt Ideal) ℓ)

/-- The layer's input. -/
def aH (c : Dev nD) (t : Fin 8192) (k : Fin 1024) : EReal := m ((c : Thread nD τ).loc main_arg0) (ix3 0 t k)
/-- The gradient of the convolution's input. -/
def aD (c : Dev nD) (t : Fin 8192) (j : Fin 5632) : EReal := m ((c : Thread nD τ).loc main_arg2) (ix3 0 t j)

/-- The gradient of the weights: over all tokens, the input times the gradient. -/
def grad (h : Fin 8192 → Fin 1024 → EReal) (d : Fin 8192 → Fin 5632 → EReal) (k : Fin 1024) (j : Fin 5632) : EReal :=
  ∑ t : Fin 8192, h t k * d t j

/-- The column of the weights at lane `x` of the block that grid points `2n` and `2n + 1` compute. -/
def colOf (n : ℕ) (hn : n < 8) (x : Fin 704) : Fin 5632 := ⟨(n / 2 + 4 * (n % 2)) * 704 + x.val, by omega⟩

theorem V0_eq (c : Dev nD) (t : Fin 8192) (k : Fin 1024) : @Eq EReal (V m c main_v0 (ix3 0 t k)) (aH m c t k) := by
  unfold V
  simp only [hostOps0, StableHlo.after_cons, StableHlo.after_nil]
  after_results_simp
  pointwise [aH]

theorem V4_eq (c : Dev nD) (n : Fin 8) (t : Fin 8192) (x : Fin 704) :
    @Eq EReal (V m c main_v4 (ix3 n t x)) (aD m c t (colOf n.val n.isLt x)) := by
  unfold V
  simp only [hostOps0, StableHlo.after_cons, StableHlo.after_nil]
  after_results_simp
  pointwise [aD, colOf]
  have he : n.val % 2 * 2816 + n.val / 2 * 704 + x.val = (n.val / 2 + 4 * (n.val % 2)) * 704 + x.val := by omega
  simp only [he]

theorem idx : ∀ t : Fin cfg0.N,
    win0_0.index t = ![0, t.val % 2, 0] ∧ win0_1.index t = ![t.val / 2, t.val % 2, 0] ∧
    win0_2.index t = ![0, t.val / 2 / 2 + 4 * (t.val / 2 % 2), 0, 0] :=
  (by decide +kernel : ∀ t : Fin grid0.N, _)

theorem lt16 (t : Fin cfg0.N) : t.val < 16 := lt_of_lt_of_eq t.isLt (show cfg0.N = 16 from N_0)

/-- The token of row `r` at a grid point. -/
def tok (n : ℕ) (r : Fin 4096) : Fin 8192 := ⟨(n % 2) * 4096 + r.val, by omega⟩

theorem b0_eq (c : Dev nD) (t : Fin cfg0.N) (r : Fin 4096) (k : Fin 1024) :
    @Eq EReal (iblk m c 0 t (ix3 0 r k)) (aH m c (tok t.val r) k) := by
  refine Eq.trans ?_ (V0_eq m c (tok t.val r) k)
  blk_ext [iblk, idx t, tok]

theorem b1_eq (c : Dev nD) (t : Fin cfg0.N) (r : Fin 4096) (x : Fin 704) :
    @Eq EReal (iblk m c 1 t (ix3 0 r x)) (aD m c (tok t.val r) (colOf (t.val / 2) (by have := lt16 t; omega) x)) := by
  refine Eq.trans ?_ (V4_eq m c ⟨t.val / 2, by have := lt16 t; omega⟩ (tok t.val r) x)
  blk_ext [iblk, idx t, tok]

/-- The product of a grid point's two blocks. -/
theorem prod_eq (c : Dev nD) (t : Fin cfg0.N) (k : Fin 1024) (x : Fin 704) :
    k0_pay1 (F := Ideal) (iblk m c 0 t) (iblk m c 1 t) (ix2 k x) =
      ∑ r : Fin 4096, aH m c (tok t.val r) k * aD m c (tok t.val r) (colOf (t.val / 2) (by have := lt16 t; omega) x) := by
  have e0 := fun r => b0_eq m c t r k
  have e1 := fun r => b1_eq m c t r x
  generalize iblk m c 0 t = A at e0 ⊢
  generalize iblk m c 1 t = B at e1 ⊢
  pointwise [k0_pay1]
  exact Finset.sum_congr rfl fun r _ => congrArg₂ (fun a b : EReal => a * b) (e0 r) (e1 r)

/-- What the first point of a block leaves in the accumulator. -/
theorem first_eq (c : Dev nD) (t : Fin cfg0.N) (h0 : t.val % 2 = 0) (k : Fin 1024) (x : Fin 704) :
    (outsAt0 m c t.val t.isLt).2 (ix2 k x) = k0_pay1 (F := Ideal) (iblk m c 0 t) (iblk m c 1 t) (ix2 k x) := by
  rw [outsAt0_A m c t h0 (by omega) (by omega)]
  frame_out
  pointwise [k0_pay2]

/-- What the second point of a block writes. -/
theorem second_eq (c : Dev nD) (t : Fin cfg0.N) (h0 : t.val % 2 = 1) (k : Fin 1024) (x : Fin 704) :
    @Eq EReal ((outsAt0 m c t.val t.isLt).1 (ix4 0 0 k x))
      ((outsAt0 m c (t.val - 1) (Nat.lt_of_le_of_lt (Nat.sub_le _ _) t.isLt)).2 (ix2 k x) +
        k0_pay1 (F := Ideal) (iblk m c 0 t) (iblk m c 1 t) (ix2 k x)) := by
  rw [outsAt0_B m c t (by omega) h0 h0]
  frame_out
  simp only [read_unread_whole]
  pointwise [k0_pay4, k0_pay3]

/-- A sum over twice `n` terms in its two halves. -/
theorem sum_two {n N : ℕ} (h : N = n + n) (f : Fin N → EReal) :
    ∑ i, f i = ∑ r : Fin n, f ⟨r.val, by omega⟩ + ∑ r : Fin n, f ⟨n + r.val, by omega⟩ := by
  subst h
  exact Fin.sum_univ_add f

/-- The kernel's result. -/
theorem array (c : Dev nD) : (dats m 0 c).arrAt 2 cfg0.N =
    fun i : S1x8x1024x704.Idx => grad (aH m c) (aD m c) (i 2) ⟨(i 1).val * 704 + (i 3).val, by
      have h1 : (i 1).val < 8 := (i 1).isLt; have h3 : (i 3).val < 704 := (i 3).isLt; omega⟩ := by
  refine (dats m 0 c).arrAt_eq_of_covers 2 _ (by decide +kernel) fun t hf y => ?_
  have h1 := (flush0_2 t).mp hf
  blk_simp [idx t]
  rw [after0_2]
  have hy : y = ix4 0 0 (y 2 : Fin 1024) (y 3 : Fin 704) := by
    refine (eq_ix4 (n0 := 1) (n1 := 1) (n2 := 1024) (n3 := 704) y).trans ?_
    exact congrArg₂ (fun z w : Fin 1 => (ix4 z w (y 2 : Fin 1024) (y 3 : Fin 704))) (Subsingleton.elim _ _) (Subsingleton.elim _ _)
  refine (congrArg (outsAt0 m c t.val t.isLt).1 hy).trans ((second_eq m c t h1 (y 2) (y 3)).trans ?_)
  have hp := first_eq m c ⟨t.val - 1, Nat.lt_of_le_of_lt (Nat.sub_le _ _) t.isLt⟩ (by show (t.val - 1) % 2 = 0; omega) (y 2) (y 3)
  refine (congrArg₂ (fun a b : EReal => a + b) (hp.trans (prod_eq m c _ (y 2) (y 3))) (prod_eq m c t (y 2) (y 3))).trans ?_
  refine Eq.trans ?_ (sum_two (n := 4096) rfl _).symm
  have ht := lt16 t
  refine congrArg₂ (fun a b : EReal => a + b) (Finset.sum_congr rfl fun r _ => ?_) (Finset.sum_congr rfl fun r _ => ?_)
  all_goals refine congrArg₂ (fun a b : EReal => a * b) (congrArg₂ (aH m c) (Fin.ext ?_) (Fin.ext ?_)) (congrArg₂ (aD m c) (Fin.ext ?_) (Fin.ext ?_))
  all_goals blk_simp [idx t, tok, colOf]
  all_goals (dsimp only; omega)

end Cert.Kernel2Ideal.Hand
-- ==== Proof.Dwin.Ref.lean ====
module
public import proofs.«01_k».proof.Proof.Gen.Reference2Ideal.Read
public import Idealize.ShloMosaic.Lib.Pointwise
@[expose] public section

/-!
# The gradient of the up-projection: the reference's result
-/

set_option maxRecDepth 16384
noncomputable section
namespace Cert.Reference2Ideal.Hand
open Cert.Reference2Ideal Cert.Reference2Ideal.Gen Cert.Reference2Ideal.Read Idealize.ShloMosaic Idealize.ShloMosaic.TcCoe Idealize.SL.Sem
variable (x0 : FVec Ideal S1x8192x1024 .f32) (x2 : FVec Ideal S1x8192x5632 .f32)

/-- Every entry of the product contracts all tokens. -/
theorem v1_at (j : Fin 5632) (k : Fin 1024) :
    val_main_v1 (F := Ideal) x0 x2 (ix2 j k) = ∑ t : Fin 8192, x2 (ix3 0 t j) * x0 (ix3 0 t k) := by
  pointwise [val_main_v1]
  exact Fin.sum_univ_one _

/-- The result, block by block. -/
theorem v6_at (n : Fin 8) (k : Fin 1024) (x : Fin 704) :
    @Eq EReal (val_main_v6 (F := Ideal) x0 x2 (ix4 0 n k x))
      (∑ t : Fin 8192, x2 (ix3 0 t ⟨n.val * 704 + x.val, by omega⟩) * x0 (ix3 0 t k)) := by
  pointwise [val_main_v6, val_main_v5, val_main_v4, val_main_v3, val_main_v2]
  exact v1_at x0 x2 _ k

end Cert.Reference2Ideal.Hand
-- ==== Proof.Dwin.Equal.lean ====
module
public import proofs.«01_k».proof.Defs
public import proofs.«01_k».proof.Proof.Dwin.Kernel
public import proofs.«01_k».proof.Proof.Dwin.Ref
public import proofs.«01_k».proof.Proof.Gen.Reference2Ideal.Run
public import Idealize.ShloMosaic.Lib.Claim
@[expose] public section

/-!
# The gradient of the up-projection: the kernel's result is the reference's
-/

set_option maxRecDepth 16384
noncomputable section
namespace Cert.Proof
open Idealize.ShloMosaic Idealize.ShloMosaic.TcCoe Idealize.SL.Sem

/-- The gradient of the up-projection: the reference's result is the kernel's. -/
theorem dwin_eq (m : (ℓ : Loc Cert.Kernel2Ideal.nD Cert.Kernel2Ideal.τ Cert.Kernel2Ideal.sig) → Buf (Elt Ideal) ℓ) (c : Dev Cert.Kernel2Ideal.nD) :
    (Cert.Reference2Ideal.Read.val_main_v6 (F := Ideal)
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg2)) : Cert.Kernel2Ideal.S1x8x1024x704.Idx → EReal) =
      (Cert.Kernel2Ideal.Gen.dats m 0 c).arrAt 2 Cert.Kernel2Ideal.cfg0.N := by
  refine Eq.trans (funext fun i => ?_) (Cert.Kernel2Ideal.Hand.array m c).symm
  obtain ⟨z, n, k, x, rfl⟩ : ∃ (z : Fin 1) (n : Fin 8) (k : Fin 1024) (x : Fin 704), i = ix4 z n k x := ⟨i 0, i 1, i 2, i 3, eq_ix4 i⟩
  obtain rfl : z = 0 := Subsingleton.elim _ _
  refine (Cert.Reference2Ideal.Hand.v6_at _ _ n k x).trans ?_
  exact Finset.sum_congr rfl fun t _ => mul_comm _ _

/-- The value claim of the gradient of the up-projection. -/
theorem dwin_algebraic : Cert.algebraic_Kernel2Ideal_Reference2Ideal := by
  intro m g m' g' _ hagree
  refine ⟨fun c => (Cert.Kernel2Ideal.Gen.dats m 0 c).arrAt 2 Cert.Kernel2Ideal.cfg0.N, Cert.Kernel2Ideal.Value.run_blocks m g, ?_⟩
  refine (θ_run Cert.Reference2Ideal.defs _ _).mono (fun r h c => ?_) (Cert.Reference2Ideal.Value.run (F := Ideal) m' g')
  obtain ⟨h0, hargs⟩ := h c
  obtain ⟨e0, e1, e2⟩ := hagree c
  refine ⟨h0.trans ?_, hargs⟩
  rw [Cert.Reference2Ideal.Read.val_main_v6_eq, e0, e2]
  exact dwin_eq m c

/-- The reference runs to its end, leaves its arguments unchanged, and declares no counter that could stay raised. -/
theorem dwin_reference_frame : Cert.quiescent_Reference2Ideal := fun m g _ =>
  (θ_run Cert.Reference2Ideal.defs _ _).mono
    (fun r h => ⟨fun c => (h c).2, Idealize.ShloMosaic.sem_eq_zero_of_no_sems (by decide) r.2⟩)
    (Cert.Reference2Ideal.Value.run m g)

end Cert.Proof
-- ==== Proof.Down.Spec.lean ====
module
public import Idealize.ShloMosaic.Lib.Pointwise
@[expose] public section

/-!
# A layer norm and the down-projection as formulas

A row of 1024 numbers is centred and divided by its spread. The down-projection adds the product of the gated activation
with the weights to the scaled layer norm of the layer's input.
-/

noncomputable section
namespace Cert.Norm
open Idealize.ShloMosaic

/-- The number of columns. -/
def len : EReal := FloatOps.ofBits (F := Ideal) FTy.f32 0x44800000#32
/-- What is added to the variance. -/
def eps : EReal := FloatOps.ofBits (F := Ideal) FTy.f32 0x3727C5AC#32
/-- The factor of the residual. -/
def alpha : EReal := FloatOps.ofBits (F := Ideal) FTy.f32 0x3FB504F3#32

/-- A row, centred. -/
def cen (r : Fin 1024 → EReal) (k : Fin 1024) : EReal := r k - Ideal.div (∑ i : Fin 1024, r i) len
/-- One over the spread of a row. -/
def fac (r : Fin 1024 → EReal) : EReal := Ideal.rsqrt (Ideal.div (∑ k : Fin 1024, cen r k * cen r k) len + eps)
/-- A row, normalised. -/
def nrm (r : Fin 1024 → EReal) (k : Fin 1024) : EReal := cen r k * fac r

/-- The row that the second layer norm takes: the scaled layer norm of `x` plus the down-projection. -/
def pre (act : Fin 8192 → Fin 2816 → EReal) (x : Fin 8192 → Fin 1024 → EReal) (gm bm : Fin 1024 → EReal)
    (w : Fin 2816 → Fin 1024 → EReal) (t : Fin 8192) (j : Fin 1024) : EReal :=
  alpha * (nrm (x t) j * gm j + bm j) + ∑ k : Fin 2816, act t k * w k j

/-- A sum over `n` parts of `k` terms, part by part. -/
theorem sum_parts {n k N : ℕ} (h : N = n * k) (f : Fin N → EReal) :
    ∑ j, f j = ∑ p : Fin n, ∑ x : Fin k, f ⟨p.val * k + x.val, by
      have := p.isLt; have := x.isLt; subst h; calc p.val * k + x.val < p.val * k + k := by omega
        _ = (p.val + 1) * k := (Nat.succ_mul _ _).symm
        _ ≤ n * k := Nat.mul_le_mul_right _ (by omega)⟩ := by
  subst h
  rw [← Fintype.sum_prod_type', ← Equiv.sum_comp finProdFinEquiv]
  refine Finset.sum_congr rfl fun z _ => congrArg f (Fin.ext ?_)
  show z.2.val + k * z.1.val = z.1.val * k + z.2.val
  rw [Nat.mul_comm, Nat.add_comm]

end Cert.Norm
-- ==== Proof.Dh.Spec.lean ====
module
public import proofs.«01_k».proof.Proof.Down.Spec
public import proofs.«01_k».proof.Proof.Gate.Real
@[expose] public section

/-!
# The gradient of the layer norm as formulas

The gradient of the layer norm's output comes from the up-projection and from the residual. The gradient of the layer
norm's input is written in two ways: as the sum of the derivatives of its steps, and in closed form.
-/

noncomputable section
namespace Cert.Norm
open Idealize.ShloMosaic Cert.Spec

/-- The gradient of the layer norm's output. -/
def dh (w : Fin 1024 → Fin 5632 → EReal) (du : Fin 8192 → Fin 5632 → EReal) (dy : Fin 8192 → Fin 1024 → EReal)
    (t : Fin 8192) (k : Fin 1024) : EReal :=
  ∑ j : Fin 5632, du t j * w k j + alpha * dy t k

/-- The variance of a row plus a small number. -/
def vari (r : Fin 1024 → EReal) : EReal := Ideal.div (∑ k : Fin 1024, cen r k * cen r k) len + eps

/-- The gradient of a row in closed form, from the factor, the normalised row and the gradient `d` of the normalised row. -/
def closed (f : EReal) (h d : Fin 1024 → EReal) (k : Fin 1024) : EReal :=
  f * ((d k - Ideal.div (∑ i : Fin 1024, d i) len) - h k * Ideal.div (∑ i : Fin 1024, d i * h i) len)

/-- Two. -/
def two : EReal := FloatOps.ofBits (F := Ideal) FTy.f32 0x40000000#32
/-- Minus one half. -/
def mhalf : EReal := FloatOps.ofBits (F := Ideal) FTy.f32 0xBF000000#32

/-- The gradient that reaches the mean of the squares, over the number of columns. -/
def dvar (r d : Fin 1024 → EReal) : EReal :=
  Ideal.div ((∑ i : Fin 1024, cen r i * d i) * (mhalf * Ideal.div (fac r) (vari r))) len

/-- The gradient of a row as the sum of the derivatives of the steps. -/
def steps (r d : Fin 1024 → EReal) (k : Fin 1024) : EReal :=
  (d k * fac r + dvar r d * (two * cen r k)) +
    Ideal.div ((∑ i : Fin 1024, -(d i * fac r)) + ∑ i : Fin 1024, -(dvar r d * (two * cen r i))) len

end Cert.Norm
-- ==== Proof.Dh.Kernel.lean ====
module
public import proofs.«01_k».proof.Proof.Gen.Kernel3Ideal.Value
public import proofs.«01_k».proof.Proof.Dh.Spec
public import Idealize.ShloMosaic.Lib.Pipeline.ValueKit
public import Idealize.ShloMosaic.Lib.Pipeline.ReadBack
public import Idealize.ShloMosaic.Lib.Pointwise
@[expose] public section

/-!
# The gradient of the layer norm: the blocks a grid point reads
-/

set_option maxRecDepth 16384
noncomputable section
namespace Cert.Kernel3Ideal.Hand
open Cert.Kernel3Ideal Cert.Kernel3Ideal.Gen Idealize.ShloMosaic Idealize.ShloMosaic.TcCoe Idealize.SL.Sem
variable (m : (ℓ : Loc nD τ sig) → Buf (Elt Ideal) ℓ)

/-- The arguments, as functions of tokens and columns. -/
def aX (c : Dev nD) (t : Fin 8192) (k : Fin 1024) : EReal := m ((c : Thread nD τ).loc main_arg0) (ix3 0 t k)
@[inherit_doc aX]
def aG (c : Dev nD) (j : Fin 1024) : EReal := m ((c : Thread nD τ).loc main_arg1) (ix1 j)
@[inherit_doc aX]
def aW (c : Dev nD) (k : Fin 1024) (j : Fin 5632) : EReal := m ((c : Thread nD τ).loc main_arg3) (ix2 k j)
@[inherit_doc aX]
def aDu (c : Dev nD) (t : Fin 8192) (j : Fin 5632) : EReal := m ((c : Thread nD τ).loc main_arg4) (ix3 0 t j)
@[inherit_doc aX]
def aDy (c : Dev nD) (t : Fin 8192) (k : Fin 1024) : EReal := m ((c : Thread nD τ).loc main_arg5) (ix3 0 t k)

/-- The gradient of the layer norm's output. -/
def aDh (c : Dev nD) : Fin 8192 → Fin 1024 → EReal := Norm.dh (aW m c) (aDu m c) (aDy m c)

/-- The column at lane `x` of block `n`. -/
def col (n : Fin 8) (x : Fin 704) : Fin 5632 := ⟨n.val * 704 + x.val, by omega⟩

/-- The block of columns that position `n` of the gradient holds: the two halves alternate. -/
def pos (n : Fin 8) : Fin 8 := ⟨n.val / 2 + 4 * (n.val % 2), by omega⟩

theorem V22_eq (c : Dev nD) (n : Fin 8) (t : Fin 8192) (x : Fin 704) :
    @Eq EReal (V m c main_v22 (ix3 n t x)) (aDu m c t (col (pos n) x)) := by
  unfold V
  simp only [hostOps0, StableHlo.after_cons, StableHlo.after_nil]
  after_results_simp
  pointwise [aDu, col, pos]
  have he : n.val % 2 * 2816 + n.val / 2 * 704 + x.val = (n.val / 2 + 4 * (n.val % 2)) * 704 + x.val := by omega
  simp only [he]

theorem V26_eq (c : Dev nD) (n : Fin 8) (k : Fin 1024) (x : Fin 704) :
    @Eq EReal (V m c main_v26 (ix4 0 n k x)) (aW m c k (col n x)) := by
  unfold V
  simp only [hostOps0, StableHlo.after_cons, StableHlo.after_nil]
  after_results_simp
  pointwise [aW, col]

theorem V17_eq (c : Dev nD) (t : Fin 8192) (k : Fin 1024) :
    @Eq EReal (V m c main_v17 (ix3 0 t k)) (Norm.nrm (aX m c t) k) := by
  unfold V
  simp only [hostOps0, StableHlo.after_cons, StableHlo.after_nil]
  after_results_simp
  pointwise [Norm.nrm, Norm.cen, Norm.fac, Norm.len, Norm.eps, aX]

theorem V18_eq (c : Dev nD) (t : Fin 8192) : @Eq EReal (V m c main_v18 (ix2 t 0)) (Norm.fac (aX m c t)) := by
  unfold V
  simp only [hostOps0, StableHlo.after_cons, StableHlo.after_nil]
  after_results_simp
  pointwise [Norm.cen, Norm.fac, Norm.len, Norm.eps, aX]

theorem V27_eq (c : Dev nD) (j : Fin 1024) : @Eq EReal (V m c main_v27 (ix2 0 j)) (aG m c j) := by
  unfold V
  simp only [hostOps0, StableHlo.after_cons, StableHlo.after_nil]
  after_results_simp
  pointwise [aG]

theorem Vdy_eq (c : Dev nD) (t : Fin 8192) (k : Fin 1024) : @Eq EReal (V m c main_arg5 (ix3 0 t k)) (aDy m c t k) :=
  congrFun (V_main_arg5 m c) (ix3 0 t k)

/-- The token of row `r` at a grid point. -/
def tok (t : Fin cfg0.N) (r : Fin 256) : Fin 8192 := ⟨t.val * 256 + r.val, by
  have h := lt_of_lt_of_eq t.isLt (show cfg0.N = 32 from N_0); omega⟩

theorem idx : ∀ t : Fin cfg0.N,
    win0_0.index t = ![0, t.val, 0] ∧ win0_1.index t = ![0, 0, 0, 0] ∧ win0_2.index t = ![0, t.val, 0] ∧
    win0_3.index t = ![0, t.val, 0] ∧ win0_4.index t = ![t.val, 0] ∧ win0_5.index t = ![0, 0] ∧
    win0_6.index t = ![0, t.val, 0] ∧ win0_7.index t = ![0, 0] ∧ win0_8.index t = ![0, 0] :=
  (by decide +kernel : ∀ t : Fin grid0.N, _)

theorem b0_eq (c : Dev nD) (t : Fin cfg0.N) (n : Fin 8) (r : Fin 256) (x : Fin 704) :
    @Eq EReal (iblk m c 0 t (ix3 n r x)) (aDu m c (tok t r) (col (pos n) x)) := by
  refine Eq.trans ?_ (V22_eq m c n (tok t r) x)
  blk_ext [iblk, idx t, tok]

theorem b1_eq (c : Dev nD) (t : Fin cfg0.N) (n : Fin 8) (k : Fin 1024) (x : Fin 704) :
    @Eq EReal (iblk m c 1 t (ix4 0 n k x)) (aW m c k (col n x)) := by
  refine Eq.trans ?_ (V26_eq m c n k x)
  blk_ext [iblk, idx t]

theorem b2_eq (c : Dev nD) (t : Fin cfg0.N) (r : Fin 256) (k : Fin 1024) :
    @Eq EReal (iblk m c 2 t (ix3 0 r k)) (aDy m c (tok t r) k) := by
  refine Eq.trans ?_ (Vdy_eq m c (tok t r) k)
  blk_ext [iblk, idx t, tok]

theorem b3_eq (c : Dev nD) (t : Fin cfg0.N) (r : Fin 256) (k : Fin 1024) :
    @Eq EReal (iblk m c 3 t (ix3 0 r k)) (Norm.nrm (aX m c (tok t r)) k) := by
  refine Eq.trans ?_ (V17_eq m c (tok t r) k)
  blk_ext [iblk, idx t, tok]

theorem b4_eq (c : Dev nD) (t : Fin cfg0.N) (r : Fin 256) : @Eq EReal (iblk m c 4 t (ix2 r 0)) (Norm.fac (aX m c (tok t r))) := by
  refine Eq.trans ?_ (V18_eq m c (tok t r))
  blk_ext [iblk, idx t, tok]

theorem b5_eq (c : Dev nD) (t : Fin cfg0.N) (j : Fin 1024) : @Eq EReal (iblk m c 5 t (ix2 0 j)) (aG m c j) := by
  refine Eq.trans ?_ (V27_eq m c j)
  blk_ext [iblk, idx t]

end Cert.Kernel3Ideal.Hand
-- ==== Proof.Dh.Pay.lean ====
module
public import proofs.«01_k».proof.Proof.Gen.Kernel3Ideal.Value
public import proofs.«01_k».proof.Proof.Dh.Spec
public import Idealize.ShloMosaic.Lib.Pipeline.ValueKit
public import Idealize.ShloMosaic.Lib.Pointwise
@[expose] public section

/-!
# The gradient of the layer norm: what one grid point computes from its blocks
-/

set_option maxRecDepth 16384
noncomputable section
namespace Cert.Kernel3Ideal.Hand
open Cert.Kernel3Ideal Cert.Kernel3Ideal.Gen Idealize.ShloMosaic Idealize.ShloMosaic.TcCoe Idealize.SL.Sem

/-- The product of one block of the gradient with one block of the weights, transposed. -/
def prod (v : Vec Ideal S1x256x704 .bf16) (w : Vec Ideal S1x1x1024x704 .bf16) (r : Fin 256) (k : Fin 1024) : EReal :=
  ∑ x : Fin 704, (v (ix3 0 r x) : EReal) * (w (ix4 0 0 k x) : EReal)

theorem pay3_apply (v0 : Vec Ideal S1x256x704 .bf16) (v2 : Vec Ideal S1x1x1024x704 .bf16) (v5 : Vec Ideal S1x256x704 .bf16) (v7 : Vec Ideal S1x1x1024x704 .bf16)
    (v11 : Vec Ideal S1x256x704 .bf16) (v13 : Vec Ideal S1x1x1024x704 .bf16) (v17 : Vec Ideal S1x256x704 .bf16) (v19 : Vec Ideal S1x1x1024x704 .bf16)
    (r : Fin 256) (k : Fin 1024) : @Eq EReal (k0_pay3 (F := Ideal) v0 v2 v5 v7 v11 v13 v17 v19 (ix2 r k))
      (prod v0 v2 r k + prod v5 v7 r k + prod v11 v13 r k + prod v17 v19 r k) := by
  pointwise [k0_pay3, prod]

theorem pay4_apply (v22 : FVec Ideal S256x1024 .f32) (v23 : Vec Ideal S1x256x704 .bf16) (v25 : Vec Ideal S1x1x1024x704 .bf16) (v29 : Vec Ideal S1x256x704 .bf16) (v31 : Vec Ideal S1x1x1024x704 .bf16)
    (v35 : Vec Ideal S1x256x704 .bf16) (v37 : Vec Ideal S1x1x1024x704 .bf16) (v41 : Vec Ideal S1x256x704 .bf16) (v43 : Vec Ideal S1x1x1024x704 .bf16)
    (r : Fin 256) (k : Fin 1024) : @Eq EReal (k0_pay4 (F := Ideal) v22 v23 v25 v29 v31 v35 v37 v41 v43 (ix2 r k))
      (v22 (ix2 r k) + prod v23 v25 r k + prod v29 v31 r k + prod v35 v37 r k + prod v41 v43 r k) := by
  pointwise [k0_pay4, prod]

/-- The gradient of the layer norm's output, from the product and the block of the residual's gradient. -/
def sumH (v46 : FVec Ideal S256x1024 .f32) (v47 : Vec Ideal S1x256x1024 .f32) (r : Fin 256) (k : Fin 1024) : EReal :=
  v46 (ix2 r k) + Norm.alpha * v47 (ix3 0 r k)

variable (v46 : FVec Ideal S256x1024 .f32) (v47 v52 : Vec Ideal S1x256x1024 .f32) (v54 : Vec Ideal S256x1 .f32) (v56 : Vec Ideal S1x1024 .f32)

theorem pay6_apply (r : Fin 256) (k : Fin 1024) : k0_pay6 (F := Ideal) v46 (k0_pay5 v47) (ix2 r k) = sumH v46 v47 r k := by
  pointwise [k0_pay6, k0_pay5, sumH, Norm.alpha]

theorem pay8_apply (k : Fin 1024) : k0_pay8 (F := Ideal) v46 (k0_pay5 v47) v52 (ix2 0 k) = ∑ r : Fin 256, sumH v46 v47 r k * v52 (ix3 0 r k) := by
  pointwise [k0_pay8, k0_pay7]
  simp only [pay6_apply]

theorem pay9_apply (k : Fin 1024) : k0_pay9 (F := Ideal) v46 (k0_pay5 v47) (ix2 0 k) = ∑ r : Fin 256, sumH v46 v47 r k := by
  pointwise [k0_pay9]
  simp only [pay6_apply]

theorem pay10_apply (r : Fin 256) (k : Fin 1024) : k0_pay10 (F := Ideal) v46 (k0_pay5 v47) v52 v54 v56 (ix3 0 r k) =
    Norm.closed (v54 (ix2 r 0)) (fun i => v52 (ix3 0 r i)) (fun i => sumH v46 v47 r i * v56 (ix2 0 i)) k := by
  pointwise [k0_pay10, k0_pay7, Norm.closed, Norm.len]
  simp only [pay6_apply]

theorem pay11_apply (k : Fin 1024) : k0_pay11 (F := Ideal) v46 (k0_pay5 v47) v52 (ix2 0 k) = ∑ r : Fin 256, sumH v46 v47 r k * v52 (ix3 0 r k) := by
  pointwise [k0_pay11]
  exact pay8_apply v46 v47 v52 k

theorem pay12_apply (k : Fin 1024) : k0_pay12 (F := Ideal) v46 (k0_pay5 v47) (ix2 0 k) = ∑ r : Fin 256, sumH v46 v47 r k := by
  pointwise [k0_pay12]
  exact pay9_apply v46 v47 k

theorem pay1_apply (v90 : Vec Ideal S1x1024 .f32) (k : Fin 1024) : k0_pay1 (F := Ideal) (k0_pay8 v46 (k0_pay5 v47) v52) v90 (ix2 0 k) =
    v90 (ix2 0 k) + ∑ r : Fin 256, sumH v46 v47 r k * v52 (ix3 0 r k) := by
  pointwise [k0_pay1]
  rw [pay8_apply]

theorem pay2_apply (v94 : Vec Ideal S1x1024 .f32) (k : Fin 1024) : k0_pay2 (F := Ideal) (k0_pay9 v46 (k0_pay5 v47)) v94 (ix2 0 k) =
    v94 (ix2 0 k) + ∑ r : Fin 256, sumH v46 v47 r k := by
  pointwise [k0_pay2]
  rw [pay9_apply]

end Cert.Kernel3Ideal.Hand
-- ==== Proof.Dh.Steps.lean ====
module
public import proofs.«01_k».proof.Proof.Dh.Kernel
public import proofs.«01_k».proof.Proof.Dh.Pay
@[expose] public section

/-!
# The gradient of the layer norm: one grid point

What a grid point writes, in terms of the arguments. The gradients of the factor and of the offset are running sums over
the grid points.
-/

set_option maxRecDepth 16384
noncomputable section
namespace Cert.Kernel3Ideal.Hand
open Cert.Kernel3Ideal Cert.Kernel3Ideal.Gen Idealize.ShloMosaic Idealize.ShloMosaic.TcCoe Idealize.SL.Sem
variable (m : (ℓ : Loc nD τ sig) → Buf (Elt Ideal) ℓ)

/-- The product of the gradient's blocks with the transposed blocks of the weights, as the kernel adds it up. -/
abbrev mul8 (x0 : Vec Ideal S8x256x704 .bf16) (x1 : Vec Ideal S1x8x1024x704 .bf16) : FVec Ideal S256x1024 .f32 :=
  k0_pay4
    (k0_pay3 (View.ld x0 (Rect.unit ![0, 0, 0] ![1, 256, 704] inb_S8x256x704_S1x256x704_0_0_0))
      (View.ld x1 (Rect.unit ![0, 0, 0, 0] ![1, 1, 1024, 704] inb_S1x8x1024x704_S1x1x1024x704_0_0_0_0))
      (View.ld x0 (Rect.unit ![1, 0, 0] ![1, 256, 704] inb_S8x256x704_S1x256x704_1_0_0))
      (View.ld x1 (Rect.unit ![0, 4, 0, 0] ![1, 1, 1024, 704] inb_S1x8x1024x704_S1x1x1024x704_0_4_0_0))
      (View.ld x0 (Rect.unit ![2, 0, 0] ![1, 256, 704] inb_S8x256x704_S1x256x704_2_0_0))
      (View.ld x1 (Rect.unit ![0, 1, 0, 0] ![1, 1, 1024, 704] inb_S1x8x1024x704_S1x1x1024x704_0_1_0_0))
      (View.ld x0 (Rect.unit ![3, 0, 0] ![1, 256, 704] inb_S8x256x704_S1x256x704_3_0_0))
      (View.ld x1 (Rect.unit ![0, 5, 0, 0] ![1, 1, 1024, 704] inb_S1x8x1024x704_S1x1x1024x704_0_5_0_0)))
    (View.ld x0 (Rect.unit ![4, 0, 0] ![1, 256, 704] inb_S8x256x704_S1x256x704_4_0_0))
    (View.ld x1 (Rect.unit ![0, 2, 0, 0] ![1, 1, 1024, 704] inb_S1x8x1024x704_S1x1x1024x704_0_2_0_0))
    (View.ld x0 (Rect.unit ![5, 0, 0] ![1, 256, 704] inb_S8x256x704_S1x256x704_5_0_0))
    (View.ld x1 (Rect.unit ![0, 6, 0, 0] ![1, 1, 1024, 704] inb_S1x8x1024x704_S1x1x1024x704_0_6_0_0))
    (View.ld x0 (Rect.unit ![6, 0, 0] ![1, 256, 704] inb_S8x256x704_S1x256x704_6_0_0))
    (View.ld x1 (Rect.unit ![0, 3, 0, 0] ![1, 1, 1024, 704] inb_S1x8x1024x704_S1x1x1024x704_0_3_0_0))
    (View.ld x0 (Rect.unit ![7, 0, 0] ![1, 256, 704] inb_S8x256x704_S1x256x704_7_0_0))
    (View.ld x1 (Rect.unit ![0, 7, 0, 0] ![1, 1, 1024, 704] inb_S1x8x1024x704_S1x1x1024x704_0_7_0_0))

theorem mul8_apply (x0 : Vec Ideal S8x256x704 .bf16) (x1 : Vec Ideal S1x8x1024x704 .bf16) (r : Fin 256) (k : Fin 1024) :
    @Eq EReal (mul8 x0 x1 (ix2 r k)) (∑ n : Fin 8, ∑ x : Fin 704, (x0 (ix3 n r x) : EReal) * (x1 (ix4 0 (pos n) k x) : EReal)) := by
  refine (pay4_apply _ _ _ _ _ _ _ _ _ r k).trans ?_
  rw [pay3_apply, Fin.sum_univ_eight]
  pointwise [prod, pos]

/-- Every block of columns is met once. -/
theorem sum_pos (f : Fin 8 → EReal) : ∑ n : Fin 8, f (pos n) = ∑ n : Fin 8, f n :=
  Fintype.sum_bijective pos (by decide) _ _ fun _ => rfl

theorem sumH_eq (c : Dev nD) (t : Fin cfg0.N) (r : Fin 256) (k : Fin 1024) :
    sumH (mul8 (iblk m c 0 t) (iblk m c 1 t)) (iblk m c 2 t) r k = aDh m c (tok t r) k := by
  unfold sumH aDh Norm.dh
  refine congrArg₂ (fun a b : EReal => a + b) ?_ (congrArg (fun a : EReal => Norm.alpha * a) (b2_eq m c t r k))
  refine (mul8_apply _ _ r k).trans ?_
  refine Eq.trans ?_ (Norm.sum_parts (n := 8) (k := 704) rfl _).symm
  refine Eq.trans ?_ (sum_pos fun n => ∑ x : Fin 704, aDu m c (tok t r) (col n x) * aW m c k (col n x))
  refine Finset.sum_congr rfl fun n _ => Finset.sum_congr rfl fun x _ => ?_
  exact congrArg₂ (fun a b : EReal => a * b) (b0_eq m c t n r x) (b1_eq m c t (pos n) k x)

/-- The gradient of the layer norm's input. -/
def aDx (c : Dev nD) (l : Fin 8192) (k : Fin 1024) : EReal :=
  Norm.closed (Norm.fac (aX m c l)) (Norm.nrm (aX m c l)) (fun i => aDh m c l i * aG m c i) k

/-- What a point writes of it. -/
theorem dx_point (c : Dev nD) (t : Fin cfg0.N) (r : Fin 256) (k : Fin 1024) :
    (outsAt0 m c t.val t.isLt).1 (ix3 0 r k) = aDx m c (tok t r) k := by
  have e : k0_pay10 (F := Ideal) (mul8 (iblk m c 0 t) (iblk m c 1 t)) (k0_pay5 (iblk m c 2 t)) (iblk m c 3 t) (iblk m c 4 t) (iblk m c 5 t) (ix3 0 r k) =
      aDx m c (tok t r) k := by
    refine (pay10_apply _ _ _ _ _ r k).trans ?_
    refine congrFun (congr (congrArg₂ Norm.closed (b4_eq m c t r) (funext fun i => b3_eq m c t r i)) (funext fun i => ?_)) k
    exact congrArg₂ (fun a b : EReal => a * b) (sumH_eq m c t r i) (b5_eq m c t i)
  have ht := lt_of_lt_of_eq t.isLt (show cfg0.N = 32 from N_0)
  by_cases h1 : 1 ≤ t.val
  · rw [outsAt0_B m c t (by omega) h1]
    frame_out
    exact e
  · rw [outsAt0_A m c t (by omega) h1]
    frame_out
    exact e

/-- The terms of the gradient of the layer norm's factor. -/
def fG (c : Dev nD) (l : Fin 8192) (k : Fin 1024) : EReal := aDh m c l k * Norm.nrm (aX m c l) k

/-- The sum over the tokens of one grid point. -/
def part (f : Fin 8192 → Fin 1024 → EReal) (n : ℕ) (k : Fin 1024) : EReal := ∑ r : Fin 256, f ⟨n % 32 * 256 + r.val, by omega⟩ k

theorem sum_all (f : Fin 8192 → Fin 1024 → EReal) (k : Fin 1024) : ∑ l : Fin 8192, f l k = ∑ n ∈ Finset.range 32, part f n k := by
  rw [Finset.sum_range]
  refine (Norm.sum_parts (n := 32) (k := 256) rfl _).trans ?_
  refine Finset.sum_congr rfl fun n _ => Finset.sum_congr rfl fun r _ => ?_
  refine congrArg (fun l => f l k) (Fin.ext ?_)
  have := Nat.mod_eq_of_lt n.isLt
  show n.val * 256 + r.val = n.val % 32 * 256 + r.val
  omega

theorem part_eq (f : Fin 8192 → Fin 1024 → EReal) (t : Fin cfg0.N) (k : Fin 1024) : ∑ r : Fin 256, f (tok t r) k = part f t.val k := by
  refine Finset.sum_congr rfl fun r _ => congrArg (fun l => f l k) (Fin.ext ?_)
  have := Nat.mod_eq_of_lt (lt_of_lt_of_eq t.isLt (show cfg0.N = 32 from N_0))
  show t.val * 256 + r.val = t.val % 32 * 256 + r.val
  omega

theorem partG_eq (c : Dev nD) (t : Fin cfg0.N) (k : Fin 1024) :
    ∑ r : Fin 256, sumH (mul8 (iblk m c 0 t) (iblk m c 1 t)) (iblk m c 2 t) r k * (iblk m c 3 t (ix3 0 r k) : EReal) = part (fG m c) t.val k :=
  (Finset.sum_congr rfl fun r _ => congrArg₂ (fun a b : EReal => a * b) (sumH_eq m c t r k) (b3_eq m c t r k)).trans (part_eq (fG m c) t k)

theorem partB_eq (c : Dev nD) (t : Fin cfg0.N) (k : Fin 1024) :
    ∑ r : Fin 256, sumH (mul8 (iblk m c 0 t) (iblk m c 1 t)) (iblk m c 2 t) r k = part (aDh m c) t.val k :=
  (Finset.sum_congr rfl fun r _ => sumH_eq m c t r k).trans (part_eq (aDh m c) t k)

/-- The running sum for the factor. -/
theorem dg_acc (c : Dev nD) (k : Fin 1024) : ∀ (n : ℕ) (hn : n < cfg0.N),
    (outsAt0 m c n hn).2.1 (ix2 0 k) = ∑ s ∈ Finset.range (n + 1), part (fG m c) s k
  | 0, hn => by
    refine Eq.trans ?_ (Finset.sum_range_one _).symm
    refine Eq.trans ?_ (partG_eq m c ⟨0, hn⟩ k)
    rw [outsAt0_A m c ⟨0, hn⟩ rfl (Nat.not_succ_le_zero 0)]
    frame_out
    exact pay11_apply _ _ _ k
  | n + 1, hn => by
    have h32 := lt_of_lt_of_eq hn (show cfg0.N = 32 from N_0)
    rw [Finset.sum_range_succ]
    have e : (outsAt0 m c (n + 1) hn).2.1 (ix2 0 k) = (outsAt0 m c n (Nat.lt_of_succ_lt hn)).2.1 (ix2 0 k) +
        ∑ r : Fin 256, sumH (mul8 (iblk m c 0 ⟨n + 1, hn⟩) (iblk m c 1 ⟨n + 1, hn⟩)) (iblk m c 2 ⟨n + 1, hn⟩) r k * (iblk m c 3 ⟨n + 1, hn⟩ (ix3 0 r k) : EReal) := by
      rw [outsAt0_B m c ⟨n + 1, hn⟩ (by show ¬(n + 1) % 32 = 0; omega) (by show 1 ≤ n + 1; omega)]
      frame_out
      exact pay1_apply _ _ _ _ k
    rw [e, dg_acc c k n _, partG_eq m c ⟨n + 1, hn⟩ k]

/-- The running sum for the offset. -/
theorem db_acc (c : Dev nD) (k : Fin 1024) : ∀ (n : ℕ) (hn : n < cfg0.N),
    (outsAt0 m c n hn).2.2 (ix2 0 k) = ∑ s ∈ Finset.range (n + 1), part (aDh m c) s k
  | 0, hn => by
    refine Eq.trans ?_ (Finset.sum_range_one _).symm
    refine Eq.trans ?_ (partB_eq m c ⟨0, hn⟩ k)
    rw [outsAt0_A m c ⟨0, hn⟩ rfl (Nat.not_succ_le_zero 0)]
    frame_out
    exact pay12_apply _ _ k
  | n + 1, hn => by
    have h32 := lt_of_lt_of_eq hn (show cfg0.N = 32 from N_0)
    rw [Finset.sum_range_succ]
    have e : (outsAt0 m c (n + 1) hn).2.2 (ix2 0 k) = (outsAt0 m c n (Nat.lt_of_succ_lt hn)).2.2 (ix2 0 k) +
        ∑ r : Fin 256, sumH (mul8 (iblk m c 0 ⟨n + 1, hn⟩) (iblk m c 1 ⟨n + 1, hn⟩)) (iblk m c 2 ⟨n + 1, hn⟩) r k := by
      rw [outsAt0_B m c ⟨n + 1, hn⟩ (by show ¬(n + 1) % 32 = 0; omega) (by show 1 ≤ n + 1; omega)]
      frame_out
      exact pay2_apply _ _ _ k
    rw [e, db_acc c k n _, partB_eq m c ⟨n + 1, hn⟩ k]

end Cert.Kernel3Ideal.Hand
-- ==== Proof.Dh.Arrays.lean ====
module
public import proofs.«01_k».proof.Proof.Dh.Steps
@[expose] public section

/-!
# The gradient of the layer norm: the kernel's result arrays

Every result array of the kernel, as a formula of the arguments.
-/

set_option maxRecDepth 16384
noncomputable section
namespace Cert.Kernel3Ideal.Hand
open Cert.Kernel3Ideal Cert.Kernel3Ideal.Gen Idealize.ShloMosaic Idealize.ShloMosaic.TcCoe Idealize.SL.Sem
open Idealize.ShloMosaic.Pipeline (Dat)
variable (m : (ℓ : Loc nD τ sig) → Buf (Elt Ideal) ℓ)

theorem dx_congr (c : Dev nD) {l l' : Fin 8192} {j j' : Fin 1024} (h0 : l = l') (h1 : j = j') : aDx m c l j = aDx m c l' j' := by
  rw [h0, h1]

/-- The gradient of the layer norm's input, as the kernel leaves it. -/
theorem dx_array (c : Dev nD) : (dats m 0 c).arrAt 6 cfg0.N = fun i : S1x8192x1024.Idx => aDx m c (i 1) (i 2) := by
  refine (dats m 0 c).arrAt_eq_of_covers 6 _ (by decide +kernel) fun t hf y => ?_
  blk_simp [idx t]
  rw [after0_6]
  have hy : y = ix3 0 (y 1 : Fin 256) (y 2 : Fin 1024) := by
    refine (eq_ix3 (n0 := 1) (n1 := 256) (n2 := 1024) y).trans ?_
    exact congrArg (fun z : Fin 1 => (ix3 z (y 1 : Fin 256) (y 2 : Fin 1024))) (Subsingleton.elim _ _)
  refine (congrArg (outsAt0 m c t.val t.isLt).1 hy).trans ((dx_point m c t (y 1) (y 2)).trans ?_)
  refine dx_congr m c ?_ ?_
  all_goals refine Fin.ext ?_; blk_simp [idx t, tok]

/-- The gradient of the layer norm's factor. -/
def aDg (c : Dev nD) (k : Fin 1024) : EReal := ∑ l : Fin 8192, fG m c l k
/-- The gradient of the layer norm's offset. -/
def aDb (c : Dev nD) (k : Fin 1024) : EReal := ∑ l : Fin 8192, aDh m c l k

theorem dg_last (c : Dev nD) (t : Fin cfg0.N) (h : t.val % 32 = 31) (k : Fin 1024) : (outsAt0 m c t.val t.isLt).2.1 (ix2 0 k) = aDg m c k := by
  have ht := lt_of_lt_of_eq t.isLt (show cfg0.N = 32 from N_0)
  have e : t.val + 1 = 32 := by omega
  rw [dg_acc m c k t.val t.isLt, e]
  exact (sum_all (fG m c) k).symm

theorem db_last (c : Dev nD) (t : Fin cfg0.N) (h : t.val % 32 = 31) (k : Fin 1024) : (outsAt0 m c t.val t.isLt).2.2 (ix2 0 k) = aDb m c k := by
  have ht := lt_of_lt_of_eq t.isLt (show cfg0.N = 32 from N_0)
  have e : t.val + 1 = 32 := by omega
  rw [db_acc m c k t.val t.isLt, e]
  exact (sum_all (aDh m c) k).symm

/-- The gradient of the layer norm's factor, as the kernel leaves it. -/
theorem dg_array (c : Dev nD) : (dats m 0 c).arrAt 7 cfg0.N = fun i : S1x1024.Idx => aDg m c (i 1) := by
  refine (dats m 0 c).arrAt_eq_of_covers 7 _ (by decide +kernel) fun t hf y => ?_
  have h1 := (flush0_7 t).mp hf
  blk_simp [idx t]
  rw [after0_7]
  have hy : y = ix2 0 (y 1 : Fin 1024) := by
    refine (eq_ix2 (n0 := 1) (n1 := 1024) y).trans ?_
    exact congrArg (fun z : Fin 1 => (ix2 z (y 1 : Fin 1024))) (Subsingleton.elim _ _)
  refine (congrArg (outsAt0 m c t.val t.isLt).2.1 hy).trans ((dg_last m c t h1 (y 1)).trans ?_)
  refine congrArg (aDg m c) ?_
  refine Fin.ext ?_
  blk_simp [idx t]

/-- The gradient of the layer norm's offset, as the kernel leaves it. -/
theorem db_array (c : Dev nD) : (dats m 0 c).arrAt 8 cfg0.N = fun i : S1x1024.Idx => aDb m c (i 1) := by
  refine (dats m 0 c).arrAt_eq_of_covers 8 _ (by decide +kernel) fun t hf y => ?_
  have h1 := (flush0_8 t).mp hf
  blk_simp [idx t]
  rw [after0_8]
  have hy : y = ix2 0 (y 1 : Fin 1024) := by
    refine (eq_ix2 (n0 := 1) (n1 := 1024) y).trans ?_
    exact congrArg (fun z : Fin 1 => (ix2 z (y 1 : Fin 1024))) (Subsingleton.elim _ _)
  refine (congrArg (outsAt0 m c t.val t.isLt).2.2 hy).trans ((db_last m c t h1 (y 1)).trans ?_)
  refine congrArg (aDb m c) ?_
  refine Fin.ext ?_
  blk_simp [idx t]

end Cert.Kernel3Ideal.Hand
-- ==== Proof.Dh.Ref.lean ====
module
public import proofs.«01_k».proof.Proof.Gen.Reference3Ideal.Read
public import proofs.«01_k».proof.Proof.Dh.Spec
@[expose] public section

/-!
# The gradient of the layer norm: the reference's results
-/

set_option maxRecDepth 16384
noncomputable section
namespace Cert.Reference3Ideal.Hand
open Cert.Reference3Ideal Cert.Reference3Ideal.Gen Cert.Reference3Ideal.Read Idealize.ShloMosaic Idealize.ShloMosaic.TcCoe

/-- A sum over axes of one element is that element. -/
theorem reduce_lone {s t u : Shape} {axes : List (Fin s.rank)} (x : FVec Ideal s .f32) (v : FVec Ideal u .f32) (h : s.ReducesTo axes t) (hu : 0 < u.numel)
    (i : s.Idx) (j : t.Idx) (hd : ∀ i' : s.Idx, h.drop i' = j ↔ i' = i) :
    @Eq EReal (Host.reduceAdd x v h hu j) ((v (Shape.Idx.first hu) : EReal) + (x i : EReal)) := by
  show Ideal.hostReduceAdd h x (v (Shape.Idx.first hu)) j = _
  unfold Ideal.hostReduceAdd
  have e : (Finset.univ.filter fun i' : s.Idx => h.drop i' = j) = {i} := by
    ext i'
    simp [hd]
  rw [e, Finset.sum_singleton]

theorem drop_a (i : S1x1x1024.Idx) (j : Fin 1024) : reducesTo_S1x1x1024_S1024_d0_1.drop i = ix1 j ↔ i = ix3 0 0 j := by
  have hv : (reducesTo_S1x1x1024_S1024_d0_1.drop i 0 : ℕ) = i 2 := Shape.ReducesTo.drop_apply_val_of_eq _ i 0 2
  constructor
  · intro h
    obtain ⟨a, b, k, rfl⟩ : ∃ (a b : Fin 1) (k : Fin 1024), i = ix3 a b k := ⟨i 0, i 1, i 2, eq_ix3 i⟩
    obtain rfl : a = 0 := Subsingleton.elim _ _
    obtain rfl : b = 0 := Subsingleton.elim _ _
    rw [h] at hv
    exact congrArg (fun k : Fin 1024 => (ix3 0 0 k : S1x1x1024.Idx)) (Fin.ext hv.symm)
  · rintro rfl
    refine (eq_ix1 (n0 := 1024) _).trans ?_
    exact congrArg (fun k : Fin 1024 => (ix1 k : S1024.Idx)) (Fin.ext hv)

theorem drop_b (i : S1x8192x1.Idx) (j : Fin 8192) : reducesTo_S1x8192x1_S8192_d0_2.drop i = ix1 j ↔ i = ix3 0 j 0 := by
  have hv : (reducesTo_S1x8192x1_S8192_d0_2.drop i 0 : ℕ) = i 1 := Shape.ReducesTo.drop_apply_val_of_eq _ i 0 1
  constructor
  · intro h
    obtain ⟨a, k, b, rfl⟩ : ∃ (a : Fin 1) (k : Fin 8192) (b : Fin 1), i = ix3 a k b := ⟨i 0, i 1, i 2, eq_ix3 i⟩
    obtain rfl : a = 0 := Subsingleton.elim _ _
    obtain rfl : b = 0 := Subsingleton.elim _ _
    rw [h] at hv
    exact congrArg (fun k : Fin 8192 => (ix3 0 k 0 : S1x8192x1.Idx)) (Fin.ext hv.symm)
  · rintro rfl
    refine (eq_ix1 (n0 := 8192) _).trans ?_
    exact congrArg (fun k : Fin 8192 => (ix1 k : S8192.Idx)) (Fin.ext hv)

variable (x0 : (⟨S1x8192x1024, .f32⟩ : BufTy).Contents (Elt Ideal)) (x1 : (⟨S1024, .f32⟩ : BufTy).Contents (Elt Ideal))
  (x3 : (⟨S1024x5632, .f32⟩ : BufTy).Contents (Elt Ideal)) (x4 : (⟨S1x8192x5632, .f32⟩ : BufTy).Contents (Elt Ideal))
  (x5 : (⟨S1x8192x1024, .f32⟩ : BufTy).Contents (Elt Ideal))

/-- The rows of the input. -/
def rX (t : Fin 8192) (k : Fin 1024) : EReal := x0 (ix3 0 t k)
/-- The gradient of the layer norm's output. -/
def rH : Fin 8192 → Fin 1024 → EReal :=
  Norm.dh (fun k j => x3 (ix2 k j)) (fun t j => x4 (ix3 0 t j)) (fun t k => x5 (ix3 0 t k))
/-- The gradient of the normalised rows. -/
def rD (t : Fin 8192) (k : Fin 1024) : EReal := rH x3 x4 x5 t k * x1 (ix1 k)

theorem v5_at (t : Fin 8192) (j : Fin 1024) : val_main_v5 (F := Ideal) x0 (ix3 0 t j) = Norm.cen (rX x0 t) j := by
  pointwise [val_main_v5, val_main_v4, val_main_v3, val_main_v2, val_main_v1, val_main_v0, val_main_cst, val_main_cst_0, Norm.cen, Norm.len, rX]

theorem v14_at (t : Fin 8192) (j : Fin 1024) : val_main_v14 (F := Ideal) x0 (ix3 0 t j) = Norm.cen (rX x0 t) j := by
  pointwise [val_main_v14, val_main_v13, val_main_v3, val_main_v2, val_main_v1, val_main_v0, val_main_cst, val_main_cst_0, Norm.cen, Norm.len, rX]

theorem v16_at (t : Fin 8192) : val_main_v16 (F := Ideal) x0 (ix3 0 t 0) = Norm.vari (rX x0 t) := by
  pointwise [val_main_v16, val_main_v15, val_main_cst_4, val_main_v12, val_main_v11, val_main_cst_3, val_main_v10,
    val_main_v9, val_main_cst_2, val_main_v6, Norm.vari, Norm.len, Norm.eps]
  simp only [v5_at]

theorem v17_at (t : Fin 8192) : val_main_v17 (F := Ideal) x0 (ix3 0 t 0) = Norm.fac (rX x0 t) := by
  pointwise [val_main_v17]
  rw [v16_at]
  rfl

theorem v22_at (t : Fin 8192) (j : Fin 1024) : val_main_v22 (F := Ideal) x0 (ix3 0 t j) = Norm.nrm (rX x0 t) j := by
  pointwise [val_main_v22, val_main_v21, Norm.nrm]
  rw [v14_at, v17_at]

theorem v35_at (t : Fin 8192) (j : Fin 1024) : val_main_v35 (F := Ideal) x3 x4 x5 (ix3 0 t j) = rH x3 x4 x5 t j := by
  refine Eq.trans ?_ (add_comm _ _)
  pointwise [val_main_v35, val_main_v34, val_main_v33, val_main_v32, val_main_cst_7, Norm.alpha]

theorem v43_at (t : Fin 8192) (j : Fin 1024) : val_main_v43 (F := Ideal) x1 x3 x4 x5 (ix3 0 t j) = rD x1 x3 x4 x5 t j := by
  pointwise [val_main_v43, val_main_v42, val_main_v23, rD]
  rw [v35_at]

theorem v49_at (t : Fin 8192) (j : Fin 1024) : val_main_v49 (F := Ideal) x0 x1 x3 x4 x5 (ix3 0 t j) = rD x1 x3 x4 x5 t j * Norm.fac (rX x0 t) := by
  pointwise [val_main_v49, val_main_v48]
  rw [v43_at, v17_at]

theorem v55_at (t : Fin 8192) : val_main_v55 (F := Ideal) x0 x1 x3 x4 x5 (ix3 0 t 0) = Norm.dvar (rX x0 t) (rD x1 x3 x4 x5 t) := by
  pointwise [val_main_v55, val_main_v54, val_main_cst_14, val_main_v50, val_main_v47, val_main_v46, val_main_cst_12, val_main_v45,
    val_main_v20, val_main_v19, val_main_cst_5, val_main_v18, Norm.dvar, Norm.len, Norm.mhalf]
  simp only [v14_at, v43_at, v17_at, v16_at]

theorem v56_at (t : Fin 8192) : val_main_v56 (F := Ideal) x0 x1 x3 x4 x5 (ix1 t) = Norm.dvar (rX x0 t) (rD x1 x3 x4 x5 t) := by
  refine (reduce_lone _ _ _ _ (ix3 0 t 0) (ix1 t) fun i => drop_b i t).trans ?_
  rw [v55_at]
  pointwise [val_main_cst_15]

theorem v59_at (t : Fin 8192) (j : Fin 1024) : val_main_v59 (F := Ideal) x0 x1 x3 x4 x5 (ix3 0 t j) =
    Norm.dvar (rX x0 t) (rD x1 x3 x4 x5 t) * (Norm.two * Norm.cen (rX x0 t) j) := by
  pointwise [val_main_v59, val_main_v58, val_main_v57, val_main_v8, val_main_v7, val_main_cst_1, Norm.two]
  rw [v56_at, v5_at]

theorem v66_at (t : Fin 8192) : val_main_v66 (F := Ideal) x0 x1 x3 x4 x5 (ix3 0 t 0) =
    Ideal.div ((∑ i : Fin 1024, -(rD x1 x3 x4 x5 t i * Norm.fac (rX x0 t))) +
      ∑ i : Fin 1024, -(Norm.dvar (rX x0 t) (rD x1 x3 x4 x5 t) * (Norm.two * Norm.cen (rX x0 t) i))) Norm.len := by
  pointwise [val_main_v66, val_main_v65, val_main_cst_17, val_main_v64, val_main_v53, val_main_v52, val_main_cst_13, val_main_v51,
    val_main_v62, val_main_v61, val_main_cst_16, val_main_v60, Norm.len]
  simp only [v49_at, v59_at]

theorem v67_at (t : Fin 8192) : val_main_v67 (F := Ideal) x0 x1 x3 x4 x5 (ix1 t) =
    Ideal.div ((∑ i : Fin 1024, -(rD x1 x3 x4 x5 t i * Norm.fac (rX x0 t))) +
      ∑ i : Fin 1024, -(Norm.dvar (rX x0 t) (rD x1 x3 x4 x5 t) * (Norm.two * Norm.cen (rX x0 t) i))) Norm.len := by
  refine (reduce_lone _ _ _ _ (ix3 0 t 0) (ix1 t) fun i => drop_b i t).trans ?_
  rw [v66_at]
  pointwise [val_main_cst_18]

/-- The gradient of the layer norm's input. -/
theorem v70_at (t : Fin 8192) (j : Fin 1024) : val_main_v70 (F := Ideal) x0 x1 x3 x4 x5 (ix3 0 t j) =
    Norm.steps (rX x0 t) (rD x1 x3 x4 x5 t) j := by
  pointwise [val_main_v70, val_main_v69, val_main_v68, val_main_v63, Norm.steps]
  rw [v49_at, v59_at, v67_at]

/-- The gradient of the layer norm's factor. -/
theorem v71_at (j : Fin 1024) : val_main_v71 (F := Ideal) x0 x3 x4 x5 (ix2 0 j) =
    ∑ t : Fin 8192, Norm.nrm (rX x0 t) j * rH x3 x4 x5 t j := by
  pointwise [val_main_v71]
  refine (reduce_lone _ _ _ _ (ix3 0 0 j) (ix1 j) fun i => drop_a i j).trans ?_
  pointwise [val_main_cst_11, val_main_v41, val_main_v40, val_main_cst_10, val_main_v39]
  simp only [v22_at, v35_at]

/-- The gradient of the layer norm's offset. -/
theorem v72_at (j : Fin 1024) : val_main_v72 (F := Ideal) x3 x4 x5 (ix2 0 j) = ∑ t : Fin 8192, rH x3 x4 x5 t j := by
  pointwise [val_main_v72]
  refine (reduce_lone _ _ _ _ (ix3 0 0 j) (ix1 j) fun i => drop_a i j).trans ?_
  pointwise [val_main_cst_9, val_main_v37, val_main_v36, val_main_cst_8]
  simp only [v35_at]

end Cert.Reference3Ideal.Hand
-- ==== Proof.Dh.Real.lean ====
module
public import proofs.«01_k».proof.Proof.Dh.Spec
@[expose] public section

/-!
# The two ways to write the gradient of a row agree

Where the row and the gradient are real numbers, the sum of the derivatives of the layer norm's steps is the closed form.
-/

noncomputable section
namespace Cert.Norm
open Idealize.ShloMosaic Cert.Spec

theorem len_eq : len = ((1024 : ℝ) : EReal) := by
  show Ideal.ofBits .f32 0x44800000#32 = _
  simp [Ideal.ofBits, Ideal.ieee]
  rw [← EReal.coe_mul]
  exact congrArg _ (by norm_num)

theorem two_eq : two = ((2 : ℝ) : EReal) := by
  show Ideal.ofBits .f32 0x40000000#32 = _
  simp [Ideal.ofBits, Ideal.ieee]
  rw [← EReal.coe_mul]
  exact congrArg _ (by norm_num)

theorem mhalf_eq : mhalf = ((-(1 / 2) : ℝ) : EReal) := by
  show Ideal.ofBits .f32 0xBF000000#32 = _
  simp [Ideal.ofBits, Ideal.ieee]
  rw [← EReal.coe_mul]
  exact congrArg _ (by norm_num)

theorem eps_pos : ∃ e : ℝ, 0 < e ∧ eps = (e : EReal) := by
  refine ⟨10995116 / 2 ^ 40, by positivity, ?_⟩
  show Ideal.ofBits .f32 0x3727C5AC#32 = _
  simp [Ideal.ofBits, Ideal.ieee]
  rw [← EReal.coe_mul]
  exact congrArg _ (by norm_num)

theorem alpha_real : IsR alpha := by
  refine ⟨11863283 / 2 ^ 23, ?_⟩
  show Ideal.ofBits .f32 0x3FB504F3#32 = _
  simp [Ideal.ofBits, Ideal.ieee]
  rw [← EReal.coe_mul]
  exact congrArg _ (by norm_num)

/-- A sum of real numbers is the real sum. -/
theorem coe_sum {n : ℕ} (f : Fin n → ℝ) : ∑ i, (f i : EReal) = ((∑ i, f i : ℝ) : EReal) :=
  (map_sum (⟨⟨Real.toEReal, rfl⟩, EReal.coe_add⟩ : ℝ →+ EReal) f Finset.univ).symm

/-- A quotient by the number of columns. -/
theorem div_len (x : ℝ) : Ideal.div (x : EReal) len = ((x / 1024 : ℝ) : EReal) := by
  rw [len_eq, Ideal.div_coe (by norm_num), ← EReal.coe_mul]
  exact congrArg _ (by ring)

/-- The identity over the real numbers. -/
theorem identity {N : ℕ} (hN : (N : ℝ) = 1024) (C d : Fin N → ℝ) (f V : ℝ) (hC : ∑ i, C i = 0) (hV : 0 < V) (hf : f * f * V = 1) (k : Fin N) :
    (d k * f + (∑ i, C i * d i) * (-(1 / 2) * (f / V)) / 1024 * (2 * C k)) +
        ((∑ i, -(d i * f)) + ∑ i, -((∑ i, C i * d i) * (-(1 / 2) * (f / V)) / 1024 * (2 * C i))) / 1024 =
      f * ((d k - (∑ i, d i) / 1024) - C k * f * ((∑ i, d i * (C i * f)) / 1024)) := by
  have e1 : ∑ i, -(d i * f) = -((∑ i, d i) * f) := by rw [Finset.sum_neg_distrib, Finset.sum_mul]
  have e2 : ∑ i, -((∑ i, C i * d i) * (-(1 / 2) * (f / V)) / 1024 * (2 * C i)) = 0 := by
    have : ∀ i, -((∑ i, C i * d i) * (-(1 / 2) * (f / V)) / 1024 * (2 * C i)) =
        -((∑ i, C i * d i) * (-(1 / 2) * (f / V)) / 1024 * 2) * C i := fun i => by ring
    rw [Finset.sum_congr rfl fun i _ => this i, ← Finset.mul_sum, hC, mul_zero]
  have e3 : ∑ i, d i * (C i * f) = (∑ i, C i * d i) * f := by
    rw [Finset.sum_mul]
    exact Finset.sum_congr rfl fun i _ => by ring
  have e4 : f / V = f * f * f := by
    rw [div_eq_iff hV.ne']
    calc f = f * (f * f * V) := by rw [hf, mul_one]
      _ = f * f * f * V := by ring
  rw [e1, e2, e3, e4]
  ring

/-- Where a row is real, so are the centred row, the variance and the factor. -/
theorem row_real {r : Fin 1024 → EReal} (h : ∀ i, IsR (r i)) : ∃ (C : Fin 1024 → ℝ) (f V : ℝ), (∀ i, cen r i = (C i : EReal)) ∧
    fac r = (f : EReal) ∧ vari r = (V : EReal) ∧ ∑ i, C i = 0 ∧ 0 < V ∧ f * f * V = 1 := by
  choose a ha using h
  obtain ⟨e, he, hee⟩ := eps_pos
  have hc : ∀ i, cen r i = ((a i - (∑ i, a i) / 1024 : ℝ) : EReal) := fun i => by
    unfold cen
    rw [Finset.sum_congr rfl fun i _ => ha i, coe_sum, div_len, ha i, EReal.coe_sub]
  have hv : vari r = (((∑ i, (a i - (∑ i, a i) / 1024) * (a i - (∑ i, a i) / 1024)) / 1024 + e : ℝ) : EReal) := by
    unfold vari
    rw [Finset.sum_congr rfl fun i _ => by rw [hc i, ← EReal.coe_mul], coe_sum, div_len, hee, EReal.coe_add]
  have hp : 0 < (∑ i, (a i - (∑ i, a i) / 1024) * (a i - (∑ i, a i) / 1024)) / 1024 + e := by
    have : 0 ≤ ∑ i, (a i - (∑ i, a i) / 1024) * (a i - (∑ i, a i) / 1024) := Finset.sum_nonneg fun i _ => mul_self_nonneg _
    positivity
  refine ⟨_, (Real.sqrt ((∑ i, (a i - (∑ i, a i) / 1024) * (a i - (∑ i, a i) / 1024)) / 1024 + e))⁻¹, _, hc, ?_, hv, ?_, hp, ?_⟩
  · show Ideal.rsqrt (vari r) = _
    rw [hv, Ideal.rsqrt_coe, if_neg hp.not_gt, if_neg hp.ne']
  · rw [Finset.sum_sub_distrib, Finset.sum_const, Finset.card_univ, Fintype.card_fin, nsmul_eq_mul]
    push_cast
    ring
  · rw [← mul_inv, Real.mul_self_sqrt hp.le, inv_mul_cancel₀ hp.ne']

/-- The sum of the derivatives of the steps is the closed form. -/
theorem steps_eq {r d : Fin 1024 → EReal} (hr : ∀ i, IsR (r i)) (hd : ∀ i, IsR (d i)) (k : Fin 1024) :
    steps r d k = closed (fac r) (nrm r) d k := by
  obtain ⟨C, f, V, hc, hf, hv, h0, hp, h1⟩ := row_real hr
  choose a ha using hd
  have hs : dvar r d = (((∑ i, C i * a i) * (-(1 / 2) * (f / V)) / 1024 : ℝ) : EReal) := by
    unfold dvar
    rw [Finset.sum_congr rfl fun i _ => by rw [hc i, ha i, ← EReal.coe_mul], coe_sum, hf, hv, mhalf_eq, Ideal.div_coe hp.ne', ← EReal.coe_mul,
      ← EReal.coe_mul, ← EReal.coe_mul, div_len]
    exact congrArg _ (by ring)
  have g1 : ∑ i : Fin 1024, -(d i * fac r) = ((∑ i, -(a i * f) : ℝ) : EReal) := by
    rw [← coe_sum]
    exact Finset.sum_congr rfl fun i _ => by rw [ha i, hf, ← EReal.coe_mul, EReal.coe_neg]
  have g2 : ∑ i : Fin 1024, -(dvar r d * (two * cen r i)) = ((∑ i, -((∑ i, C i * a i) * (-(1 / 2) * (f / V)) / 1024 * (2 * C i)) : ℝ) : EReal) := by
    rw [← coe_sum]
    exact Finset.sum_congr rfl fun i _ => by rw [hs, two_eq, hc i, ← EReal.coe_mul, ← EReal.coe_mul, EReal.coe_neg]
  have g3 : ∑ i : Fin 1024, d i = ((∑ i, a i : ℝ) : EReal) := by
    rw [← coe_sum]
    exact Finset.sum_congr rfl fun i _ => ha i
  have hn : ∀ i, nrm r i = ((C i * f : ℝ) : EReal) := fun i => by
    unfold nrm
    rw [hc i, hf, EReal.coe_mul]
  have g4 : ∑ i : Fin 1024, d i * nrm r i = ((∑ i, a i * (C i * f) : ℝ) : EReal) := by
    rw [← coe_sum]
    exact Finset.sum_congr rfl fun i _ => by rw [ha i, hn i, ← EReal.coe_mul]
  unfold steps closed
  rw [g1, g2, g3, g4, hs, two_eq, hn k, hf, ha k, hc k, ← EReal.coe_add, div_len, div_len, div_len]
  simp only [← EReal.coe_mul, ← EReal.coe_add, ← EReal.coe_sub]
  exact congrArg _ (identity (by norm_num) C a f V h0 hp h1 k)

/-- Where the arguments are real, so is the gradient of the layer norm's output. -/
theorem dh_real {w : Fin 1024 → Fin 5632 → EReal} {du : Fin 8192 → Fin 5632 → EReal} {dy : Fin 8192 → Fin 1024 → EReal} (hw : ∀ k j, IsR (w k j))
    (hu : ∀ t j, IsR (du t j)) (hy : ∀ t k, IsR (dy t k)) (t : Fin 8192) (k : Fin 1024) : IsR (dh w du dy t k) :=
  (IsR.sum fun j => (hu t j).mul (hw k j)).add (alpha_real.mul (hy t k))

end Cert.Norm
-- ==== Proof.Dh.Equal.lean ====
module
public import proofs.«01_k».proof.Defs
public import proofs.«01_k».proof.Proof.Gate.Equal
public import proofs.«01_k».proof.Proof.Dh.Arrays
public import proofs.«01_k».proof.Proof.Dh.Ref
public import proofs.«01_k».proof.Proof.Dh.Real
public import proofs.«01_k».proof.Proof.Gen.Reference3Ideal.Run
public import Idealize.ShloMosaic.Lib.Claim
@[expose] public section

/-!
# The gradient of the layer norm: the kernel's results are the reference's
-/

set_option maxRecDepth 16384
noncomputable section
namespace Cert.Proof
open Idealize.ShloMosaic Idealize.ShloMosaic.TcCoe Idealize.SL.Sem

/-- The shape facts the finiteness condition names. -/
theorem dh_pre_facts : Cert.Pre_finite3.Facts := ⟨by decide, by decide, by decide, by decide⟩

section
variable (m : (ℓ : Loc Cert.Kernel3Ideal.nD Cert.Kernel3Ideal.τ Cert.Kernel3Ideal.sig) → Buf (Elt Ideal) ℓ)

attribute [local instance] dh_pre_facts

open Cert.Kernel3Ideal.Hand (aX aG aW aDu aDy aDh) in
/-- The condition, read at every element of the arguments that the gradient of the input takes. -/
theorem dh_finite (h : Cert.Pre_Kernel3Ideal_finite3 m) (c : Dev Cert.Kernel3Ideal.nD) : (∀ t k, Spec.IsR (aX m c t k)) ∧
    ∀ t k, Spec.IsR (aDh m c t k * aG m c k) := by
  obtain ⟨h0, h1, h3, h4, h5⟩ := h c
  refine ⟨fun t k => real_of_bit _ _ h0 (ix3 0 t k), fun t k => ?_⟩
  exact (Norm.dh_real (w := aW m c) (du := aDu m c) (dy := aDy m c) (fun k j => real_of_bit _ _ h3 (ix2 k j)) (fun t j => real_of_bit _ _ h4 (ix3 0 t j))
    (fun t k => real_of_bit _ _ h5 (ix3 0 t k)) t k).mul (real_of_bit _ _ h1 (ix1 k))

/-- The gradient of the input: the reference's result is the kernel's. -/
theorem dh_dx_eq (h : Cert.Pre_Kernel3Ideal_finite3 m) (c : Dev Cert.Kernel3Ideal.nD) :
    (Cert.Reference3Ideal.Read.val_main_v70 (F := Ideal)
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5)) : Cert.Kernel3Ideal.S1x8192x1024.Idx → EReal) =
      (Cert.Kernel3Ideal.Gen.dats m 0 c).arrAt 6 Cert.Kernel3Ideal.cfg0.N := by
  refine Eq.trans (funext fun i => ?_) (Cert.Kernel3Ideal.Hand.dx_array m c).symm
  obtain ⟨z, t, j, rfl⟩ : ∃ (z : Fin 1) (t : Fin 8192) (j : Fin 1024), i = ix3 z t j := ⟨i 0, i 1, i 2, eq_ix3 i⟩
  obtain rfl : z = 0 := Subsingleton.elim _ _
  refine (Cert.Reference3Ideal.Hand.v70_at _ _ _ _ _ t j).trans ?_
  obtain ⟨hx, hd⟩ := dh_finite m h c
  exact Norm.steps_eq (hx t) (hd t) j

/-- The gradient of the factor: the reference's result is the kernel's. -/
theorem dh_dg_eq (c : Dev Cert.Kernel3Ideal.nD) :
    (Cert.Reference3Ideal.Read.val_main_v71 (F := Ideal)
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5)) : Cert.Kernel3Ideal.S1x1024.Idx → EReal) =
      (Cert.Kernel3Ideal.Gen.dats m 0 c).arrAt 7 Cert.Kernel3Ideal.cfg0.N := by
  refine Eq.trans (funext fun i => ?_) (Cert.Kernel3Ideal.Hand.dg_array m c).symm
  obtain ⟨z, j, rfl⟩ : ∃ (z : Fin 1) (j : Fin 1024), i = ix2 z j := ⟨i 0, i 1, eq_ix2 i⟩
  obtain rfl : z = 0 := Subsingleton.elim _ _
  refine (Cert.Reference3Ideal.Hand.v71_at _ _ _ _ j).trans ?_
  exact Finset.sum_congr rfl fun t _ => mul_comm _ _

/-- The gradient of the offset: the reference's result is the kernel's. -/
theorem dh_db_eq (c : Dev Cert.Kernel3Ideal.nD) :
    (Cert.Reference3Ideal.Read.val_main_v72 (F := Ideal)
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5)) : Cert.Kernel3Ideal.S1x1024.Idx → EReal) =
      (Cert.Kernel3Ideal.Gen.dats m 0 c).arrAt 8 Cert.Kernel3Ideal.cfg0.N := by
  refine Eq.trans (funext fun i => ?_) (Cert.Kernel3Ideal.Hand.db_array m c).symm
  obtain ⟨z, j, rfl⟩ : ∃ (z : Fin 1) (j : Fin 1024), i = ix2 z j := ⟨i 0, i 1, eq_ix2 i⟩
  obtain rfl : z = 0 := Subsingleton.elim _ _
  exact Cert.Reference3Ideal.Hand.v72_at _ _ _ j

/-- The value claim of the gradient of the layer norm. -/
theorem dh_algebraic : Cert.algebraic_Kernel3Ideal_Reference3Ideal_pre_finite3 := by
  intro m g m' g' hpre hagree
  refine ⟨fun c => (Cert.Kernel3Ideal.Gen.dats m 0 c).arrAt 6 Cert.Kernel3Ideal.cfg0.N,
    fun c => (Cert.Kernel3Ideal.Gen.dats m 0 c).arrAt 7 Cert.Kernel3Ideal.cfg0.N,
    fun c => (Cert.Kernel3Ideal.Gen.dats m 0 c).arrAt 8 Cert.Kernel3Ideal.cfg0.N, Cert.Kernel3Ideal.Value.run_blocks m g, ?_⟩
  refine (θ_run Cert.Reference3Ideal.defs _ _).mono (fun r h c => ?_) (Cert.Reference3Ideal.Value.run (F := Ideal) m' g')
  obtain ⟨h0, h1, h2, hargs⟩ := h c
  obtain ⟨e0, e1, e2, e3, e4, e5⟩ := hagree c
  refine ⟨h0.trans ?_, h1.trans ?_, h2.trans ?_, hargs⟩
  · rw [Cert.Reference3Ideal.Read.val_main_v70_eq, e0, e1, e3, e4, e5]
    exact dh_dx_eq m hpre c
  · rw [Cert.Reference3Ideal.Read.val_main_v71_eq, e0, e3, e4, e5]
    exact dh_dg_eq m c
  · rw [Cert.Reference3Ideal.Read.val_main_v72_eq, e3, e4, e5]
    exact dh_db_eq m c

end

/-- The reference runs to its end, leaves its arguments unchanged, and declares no counter that could stay raised. -/
theorem dh_reference_frame : Cert.quiescent_Reference3Ideal := fun m g _ =>
  (θ_run Cert.Reference3Ideal.defs _ _).mono
    (fun r h => ⟨fun c => (h c).2.2.2, Idealize.ShloMosaic.sem_eq_zero_of_no_sems (by decide) r.2⟩)
    (Cert.Reference3Ideal.Value.run m g)

end Cert.Proof
-- ==== Proof.Up.Pay.lean ====
module
public import proofs.«01_k».proof.Proof.Gen.Kernel4Ideal.Value
public import proofs.«01_k».proof.Proof.Gate.Spec
public import Idealize.ShloMosaic.Lib.Pipeline.ValueKit
public import Idealize.ShloMosaic.Lib.Pointwise
@[expose] public section

/-!
# The up-projection and its convolution: the values the body stores, element by element
-/

set_option maxRecDepth 16384
noncomputable section
namespace Cert.Kernel4Ideal.Hand
open Cert.Kernel4Ideal Cert.Kernel4Ideal.Gen Idealize.ShloMosaic Idealize.ShloMosaic.TcCoe Idealize.SL.Sem

/-- Row `r - k` of a block of 1024 rows that follows eight rows. -/
def above (U : FVec Ideal S1024x704 .f32) (ca : FVec Ideal S1x8x704 .f32) (k : ℕ) (r : Fin 1024) (x : Fin 704) : EReal :=
  if k ≤ r.val then U (ix2 ⟨r.val - k, by omega⟩ x)
  else if h : 8 + r.val - k < 8 then ca (ix3 0 ⟨8 + r.val - k, h⟩ x) else 0

/-- One element of the convolution from the rows of a block and the eight rows before. -/
def convB (U : FVec Ideal S1024x704 .f32) (ca : FVec Ideal S1x8x704 .f32) (w0 w1 w2 w3 : FVec Ideal S1x1x704 .f32)
    (r : Fin 1024) (x : Fin 704) : EReal :=
  w0 (ix3 0 0 x) * above U ca 2 r x + w1 (ix3 0 0 x) * above U ca 1 r x + w2 (ix3 0 0 x) * U (ix2 r x) + w3 (ix3 0 0 x)

/-- A rotation of the 1032 rows by one or two places brings the rows before. -/
theorem rot_eq (U : FVec Ideal S1024x704 .f32) (ca : FVec Ideal S1x8x704 .f32) (k : ℕ) (hk : k < 3) (r : Fin 1024) (x : Fin 704) :
    (if h : (8 + r.val + 1032 - k) % 1032 < 8 then ca (ix3 0 ⟨(8 + r.val + 1032 - k) % 1032, h⟩ x)
      else U (ix2 ⟨(8 + r.val + 1032 - k) % 1032 - 8, by omega⟩ x)) = above U ca k r x := by
  unfold above
  by_cases h : k ≤ r.val
  · rw [dif_neg (by omega), if_pos h]
    exact congrArg (fun z => U (ix2 z x)) (Fin.ext (by show (8 + r.val + 1032 - k) % 1032 - 8 = r.val - k; omega))
  · rw [dif_pos (by omega), if_neg h, dif_pos (by omega)]
    exact congrArg (fun z => ca (ix3 0 z x)) (Fin.ext (by show (8 + r.val + 1032 - k) % 1032 = 8 + r.val - k; omega))

theorem pay2_apply (i : S2x8x704.Idx) : k0_pay2 (F := Ideal) i = (0 : EReal) := by
  pointwise [k0_pay2]

/-- The product of a block's rows with the weights: first half. -/
theorem pay4_apply (h : FVec Ideal S1x1024x1024 .bf16) (w : FVec Ideal S1x1x1024x704 .bf16) (r : Fin 1024) (x : Fin 704) :
    @Eq EReal (k0_pay4 (F := Ideal) h w (ix2 r x)) (∑ k : Fin 1024, h (ix3 0 r k) * w (ix4 0 0 k x)) := by
  pointwise [k0_pay4, k0_pay3]

/-- Second half. -/
theorem pay11_apply (h : FVec Ideal S1x1024x1024 .bf16) (w : FVec Ideal S1x1x1024x704 .bf16) (r : Fin 1024) (x : Fin 704) :
    @Eq EReal (k0_pay11 (F := Ideal) (k0_pay3 h) w (ix2 r x)) (∑ k : Fin 1024, h (ix3 0 r k) * w (ix4 0 0 k x)) := by
  pointwise [k0_pay11, k0_pay3]

theorem pay5_apply (h : FVec Ideal S1x1024x1024 .bf16) (w : FVec Ideal S1x1x1024x704 .bf16) (r : Fin 1024) (x : Fin 704) :
    @Eq EReal (k0_pay5 (F := Ideal) h w (ix4 0 0 r x)) (k0_pay4 (F := Ideal) h w (ix2 r x)) := by
  pointwise [k0_pay5]

theorem pay12_apply (h : FVec Ideal S1024x1024 .bf16) (w : FVec Ideal S1x1x1024x704 .bf16) (r : Fin 1024) (x : Fin 704) :
    @Eq EReal (k0_pay12 (F := Ideal) h w (ix4 0 0 r x)) (k0_pay11 (F := Ideal) h w (ix2 r x)) := by
  pointwise [k0_pay12]

/-- The rows carried over: the last eight of the block. -/
theorem pay10_apply (U : FVec Ideal S1024x704 .f32) (r : Fin 8) (x : Fin 704) :
    k0_pay10 U (ix3 0 r x) = U (ix2 ⟨1016 + r.val, by omega⟩ x) := by
  pointwise [k0_pay10]

@[inherit_doc pay10_apply]
theorem pay18_apply (U : FVec Ideal S1024x704 .f32) (r : Fin 8) (x : Fin 704) :
    k0_pay18 U (ix3 0 r x) = U (ix2 ⟨1016 + r.val, by omega⟩ x) := by
  pointwise [k0_pay18]

/-- The convolution: first half. -/
theorem pay8_apply (h : FVec Ideal S1x1024x1024 .bf16) (w : FVec Ideal S1x1x1024x704 .bf16) (ca : FVec Ideal S1x8x704 .f32)
    (w0 w1 w2 w3 : FVec Ideal S1x1x704 .f32) (r : Fin 1024) (x : Fin 704) :
    @Eq EReal (k0_pay8 (F := Ideal) (k0_pay6 h w ca) (k0_pay7 h w ca w0 w1) w2 w3 (ix2 r x)) (convB (k0_pay4 h w) ca w0 w1 w2 w3 r x) := by
  pointwise [k0_pay8, k0_pay7, k0_pay6, convB]
  rw [← rot_eq (k0_pay4 h w) ca 2 (by decide) r x, ← rot_eq (k0_pay4 h w) ca 1 (by decide) r x]

/-- Second half. -/
theorem pay16_apply (h : FVec Ideal S1024x1024 .bf16) (w : FVec Ideal S1x1x1024x704 .bf16) (ca : FVec Ideal S1x8x704 .f32)
    (w0 w1 w2 w3 : FVec Ideal S1x1x704 .f32) (r : Fin 1024) (x : Fin 704) :
    k0_pay16 (k0_pay13 h w ca) (k0_pay14 w0) (k0_pay15 h w ca) w1 w2 w3 (ix2 r x) = convB (k0_pay11 h w) ca w0 w1 w2 w3 r x := by
  pointwise [k0_pay16, k0_pay15, k0_pay14, k0_pay13, convB]
  rw [← rot_eq (k0_pay11 h w) ca 2 (by decide) r x, ← rot_eq (k0_pay11 h w) ca 1 (by decide) r x]

theorem pay9_apply (a : FVec Ideal S1032x704 .f32) (b : FVec Ideal S1024x704 .f32) (w2 w3 : FVec Ideal S1x1x704 .f32) (r : Fin 1024) (x : Fin 704) :
    @Eq EReal (k0_pay9 (F := Ideal) a b w2 w3 (ix4 0 0 r x)) (k0_pay8 a b w2 w3 (ix2 r x)) := by
  pointwise [k0_pay9]

theorem pay17_apply (a : FVec Ideal S1032x704 .f32) (b : FVec Ideal S1x704 .f32) (d : FVec Ideal S1032x704 .f32)
    (w1 w2 w3 : FVec Ideal S1x1x704 .f32) (r : Fin 1024) (x : Fin 704) :
    @Eq EReal (k0_pay17 (F := Ideal) a b d w1 w2 w3 (ix4 0 0 r x)) (k0_pay16 a b d w1 w2 w3 (ix2 r x)) := by
  pointwise [k0_pay17]

/-- The gated activation. -/
theorem pay1_apply (A : FVec Ideal S1024x704 .f32) (a : FVec Ideal S1032x704 .f32) (b : FVec Ideal S1x704 .f32) (d : FVec Ideal S1032x704 .f32)
    (w1 w2 w3 : FVec Ideal S1x1x704 .f32) (r : Fin 1024) (x : Fin 704) :
    @Eq EReal (k0_pay1 (F := Ideal) (k0_pay19 A a b d w1 w2 w3) (ix3 0 r x))
      (A (ix2 r x) * Spec.sg (A (ix2 r x)) * k0_pay16 (F := Ideal) a b d w1 w2 w3 (ix2 r x)) := by
  pointwise [k0_pay1, k0_pay19, Spec.sg]

end Cert.Kernel4Ideal.Hand
-- ==== Proof.Up.Host.lean ====
module
public import proofs.«01_k».proof.Proof.Up.Pay
@[expose] public section

/-!
# The up-projection and its convolution: what the host code leaves for the call, and its blocks
-/

set_option maxRecDepth 16384
noncomputable section
namespace Cert.Kernel4Ideal.Hand
open Cert.Kernel4Ideal Cert.Kernel4Ideal.Gen Idealize.ShloMosaic Idealize.ShloMosaic.TcCoe Idealize.SL.Sem
variable (m : (ℓ : Loc nD τ sig) → Buf (Elt Ideal) ℓ)

/-- The arguments as functions of tokens and columns. -/
def aH (c : Dev nD) (t : Fin 8192) (k : Fin 1024) : EReal := m ((c : Thread nD τ).loc main_arg0) (ix3 0 t k)
@[inherit_doc aH]
def aWI (c : Dev nD) (k : Fin 1024) (j : Fin 5632) : EReal := m ((c : Thread nD τ).loc main_arg1) (ix2 k j)
@[inherit_doc aH]
def aCW (c : Dev nD) (i : Fin 3) (j : Fin 5632) : EReal := m ((c : Thread nD τ).loc main_arg2) (ix2 i j)
@[inherit_doc aH]
def aCB (c : Dev nD) (j : Fin 5632) : EReal := m ((c : Thread nD τ).loc main_arg3) (ix1 j)

/-- The up-projection. -/
def aU (c : Dev nD) : Fin 8192 → Fin 5632 → EReal := Spec.uOf (aH m c) (aWI m c)
/-- Its convolution. -/
def aC (c : Dev nD) : Fin 8192 → Fin 5632 → EReal := Spec.convOf (aU m c) (aCW m c) (aCB m c)

theorem V6_eq (c : Dev nD) (t : Fin 8192) (k : Fin 1024) : @Eq EReal (V m c main_v6 (ix3 0 t k)) (aH m c t k) := by
  unfold V
  simp only [List.flatten_cons, List.flatten_nil, List.append_nil, hostOps0, hostOps0_1, hostOps0_2, hostOps0_3, hostOps0_4, List.cons_append, List.nil_append, StableHlo.after_cons, StableHlo.after_nil]
  after_results_simp
  pointwise [aH]

/-- The weights, in eight parts of columns. -/
theorem V10_eq (c : Dev nD) (p : Fin 8) (k : Fin 1024) (x : Fin 704) :
    @Eq EReal (V m c main_v10 (ix4 0 p k x)) (aWI m c k ⟨p.val * 704 + x.val, by omega⟩) := by
  unfold V
  simp only [List.flatten_cons, List.flatten_nil, List.append_nil, hostOps0, hostOps0_1, hostOps0_2, hostOps0_3, hostOps0_4, List.cons_append, List.nil_append, StableHlo.after_cons, StableHlo.after_nil]
  after_results_simp
  pointwise [aWI]

/-- The convolution's weights, in eight parts of columns. -/
theorem V5_eq (c : Dev nD) (p : Fin 8) (k : Fin 3) (x : Fin 704) :
    @Eq EReal (V m c main_v5 (ix3 p ⟨k.val, by omega⟩ x)) (aCW m c k ⟨p.val * 704 + x.val, by omega⟩) := by
  unfold V
  simp only [List.flatten_cons, List.flatten_nil, List.append_nil, hostOps0, hostOps0_1, hostOps0_2, hostOps0_3, hostOps0_4, List.cons_append, List.nil_append, StableHlo.after_cons, StableHlo.after_nil]
  after_results_simp
  simp only [StableHlo.TRef.toBuf, StableHlo.TRef.ofBuf, cast_eq]
  pointwise [aCW]
  rw [dif_neg (fun h => h.1)]
  have h0 : FloatOps.sitofp (F := Ideal) FTy.f32 (0#32 : BitVec 32) = (0 : EReal) := by simp [FloatOps.sitofp]
  rw [h0]
  exact add_zero _

/-- The convolution's offset, in the row after the weights. -/
theorem V5_bias (c : Dev nD) (p : Fin 8) (x : Fin 704) :
    @Eq EReal (V m c main_v5 (ix3 p 3 x)) (aCB m c ⟨p.val * 704 + x.val, by omega⟩) := by
  unfold V
  simp only [List.flatten_cons, List.flatten_nil, List.append_nil, hostOps0, hostOps0_1, hostOps0_2, hostOps0_3, hostOps0_4, List.cons_append, List.nil_append, StableHlo.after_cons, StableHlo.after_nil]
  after_results_simp
  simp only [StableHlo.TRef.toBuf, StableHlo.TRef.ofBuf, cast_eq]
  pointwise [aCB]
  have h0 : FloatOps.sitofp (F := Ideal) FTy.f32 (0#32 : BitVec 32) = (0 : EReal) := by simp [FloatOps.sitofp]
  rw [h0]
  exact zero_add _

/-- The part of columns a grid point computes. -/
def part (t : Fin cfg0.N) : Fin 4 := ⟨t.val / 8, by have h := lt_of_lt_of_eq t.isLt (show cfg0.N = 32 from N_0); omega⟩

/-- The token of row `r` at a grid point. -/
def tok (t : Fin cfg0.N) (r : Fin 1024) : Fin 8192 := ⟨(t.val % 8) * 1024 + r.val, by omega⟩

theorem idx : ∀ t : Fin cfg0.N,
    win0_0.index t = ![0, t.val % 8, 0] ∧ win0_1.index t = ![0, t.val / 8, 0, 0] ∧
    win0_2.index t = ![0, t.val / 8 + 4, 0, 0] ∧ win0_3.index t = ![t.val / 8, 0, 0] ∧
    win0_4.index t = ![t.val / 8 + 4, 0, 0] ∧ win0_5.index t = ![t.val / 8, 0, t.val % 8, 0] ∧
    win0_6.index t = ![t.val / 8, 0, t.val % 8, 0] ∧ win0_7.index t = ![t.val / 8, t.val % 8, 0] :=
  (by decide +kernel : ∀ t : Fin grid0.N, _)

theorem bH_eq (c : Dev nD) (t : Fin cfg0.N) (r k : Fin 1024) : @Eq EReal (iblk m c 0 t (ix3 0 r k)) (aH m c (tok t r) k) := by
  refine Eq.trans ?_ (V6_eq m c (tok t r) k)
  blk_ext [iblk, idx t, tok]

theorem bW0_eq (c : Dev nD) (t : Fin cfg0.N) (k : Fin 1024) (x : Fin 704) :
    @Eq EReal (iblk m c 1 t (ix4 0 0 k x)) (aWI m c k (Spec.col 0 (part t) x)) := by
  refine Eq.trans ?_ ((V10_eq m c ⟨(part t).val, by omega⟩ k x).trans (congrArg _ (Fin.ext ?_)))
  · blk_ext [iblk, idx t, part]
  · simp [Spec.col]

theorem bW1_eq (c : Dev nD) (t : Fin cfg0.N) (k : Fin 1024) (x : Fin 704) :
    @Eq EReal (iblk m c 2 t (ix4 0 0 k x)) (aWI m c k (Spec.col 1 (part t) x)) := by
  refine Eq.trans ?_ ((V10_eq m c ⟨(part t).val + 4, by omega⟩ k x).trans (congrArg _ (Fin.ext ?_)))
  · blk_ext [iblk, idx t, part]
  · simp [Spec.col]; omega

theorem bK0_eq (c : Dev nD) (t : Fin cfg0.N) (k : Fin 3) (x : Fin 704) :
    @Eq EReal (iblk m c 3 t (ix3 0 ⟨k.val, by omega⟩ x)) (aCW m c k (Spec.col 0 (part t) x)) := by
  refine Eq.trans ?_ ((V5_eq m c ⟨(part t).val, by omega⟩ k x).trans (congrArg _ (Fin.ext ?_)))
  · blk_ext [iblk, idx t, part]
  · simp [Spec.col]

theorem bK1_eq (c : Dev nD) (t : Fin cfg0.N) (k : Fin 3) (x : Fin 704) :
    @Eq EReal (iblk m c 4 t (ix3 0 ⟨k.val, by omega⟩ x)) (aCW m c k (Spec.col 1 (part t) x)) := by
  refine Eq.trans ?_ ((V5_eq m c ⟨(part t).val + 4, by omega⟩ k x).trans (congrArg _ (Fin.ext ?_)))
  · blk_ext [iblk, idx t, part]
  · simp [Spec.col]; omega

theorem bB0_eq (c : Dev nD) (t : Fin cfg0.N) (x : Fin 704) :
    @Eq EReal (iblk m c 3 t (ix3 0 3 x)) (aCB m c (Spec.col 0 (part t) x)) := by
  refine Eq.trans ?_ ((V5_bias m c ⟨(part t).val, by omega⟩ x).trans (congrArg _ (Fin.ext ?_)))
  · blk_ext [iblk, idx t, part]
  · simp [Spec.col]

theorem bB1_eq (c : Dev nD) (t : Fin cfg0.N) (x : Fin 704) :
    @Eq EReal (iblk m c 4 t (ix3 0 3 x)) (aCB m c (Spec.col 1 (part t) x)) := by
  refine Eq.trans ?_ ((V5_bias m c ⟨(part t).val + 4, by omega⟩ x).trans (congrArg _ (Fin.ext ?_)))
  · blk_ext [iblk, idx t, part]
  · simp [Spec.col]; omega

end Cert.Kernel4Ideal.Hand
-- ==== Proof.Up.Steps.lean ====
module
public import proofs.«01_k».proof.Proof.Up.Host
public import proofs.«01_k».proof.Proof.Gate.Pieces
public import Idealize.ShloMosaic.Lib.Pipeline.ReadBack
@[expose] public section

/-!
# The up-projection and its convolution: one grid point

What each buffer holds after one grid point, in terms of the arguments.
-/

set_option maxRecDepth 16384
noncomputable section
namespace Cert.Kernel4Ideal.Hand
open Cert.Kernel4Ideal Cert.Kernel4Ideal.Gen Idealize.ShloMosaic Idealize.ShloMosaic.TcCoe Idealize.SL.Sem
open Cert.KernelIdeal.Hand (exists_ix2 exists_ix3 exists_ix4 canon_case3 canon_case4)
variable (m : (ℓ : Loc nD τ sig) → Buf (Elt Ideal) ℓ)

/-- The up-projection on the block of a point, by half. -/
def U (c : Dev nD) (t : Fin cfg0.N) (s : Fin 2) : FVec Ideal S1024x704 .f32 := fun i => aU m c (tok t (i 0)) (Spec.col s (part t) (i 1))

/-- The point before. -/
def pred (t : Fin cfg0.N) : Fin cfg0.N := ⟨t.val - 1, lt_of_le_of_lt (Nat.sub_le _ _) t.isLt⟩

/-- The rows a point finds: zeros at the first point of a run, else the last rows of the block before. -/
def car (c : Dev nD) (t : Fin cfg0.N) : Vec Ideal S2x8x704 .f32 := fun i =>
  if t.val % 8 = 0 then 0 else U m c (pred t) (i 0) (ix2 ⟨1016 + (i 1).val, by have h : (i 1).val < 8 := (i 1).isLt; omega⟩ (i 2))

/-- The rows a point finds of one half. -/
def carH (c : Dev nD) (t : Fin cfg0.N) (s : Fin 2) : FVec Ideal S1x8x704 .f32 := fun i => car m c t (ix3 s (i 1) (i 2))

theorem U0_eq (c : Dev nD) (t : Fin cfg0.N) : k0_pay4 (F := Ideal) (iblk m c 0 t) (iblk m c 1 t) = U m c t 0 := by
  funext i
  obtain ⟨r, x, rfl⟩ := exists_ix2 i
  refine (pay4_apply _ _ r x).trans ?_
  show _ = ∑ k : Fin 1024, aH m c (tok t r) k * aWI m c k (Spec.col 0 (part t) x)
  refine Finset.sum_congr rfl fun k _ => ?_
  exact congrArg₂ (fun a b : EReal => a * b) (bH_eq m c t r k) (bW0_eq m c t k x)

theorem U1_eq (c : Dev nD) (t : Fin cfg0.N) :
    k0_pay11 (F := Ideal) (k0_pay3 (iblk m c 0 t)) (iblk m c 2 t) = U m c t 1 := by
  funext i
  obtain ⟨r, x, rfl⟩ := exists_ix2 i
  refine (pay11_apply _ _ r x).trans ?_
  show _ = ∑ k : Fin 1024, aH m c (tok t r) k * aWI m c k (Spec.col 1 (part t) x)
  refine Finset.sum_congr rfl fun k _ => ?_
  exact congrArg₂ (fun a b : EReal => a * b) (bH_eq m c t r k) (bW1_eq m c t k x)

theorem ld_car0 (c : Dev nD) (t : Fin cfg0.N) :
    View.ld (car m c t) (Rect.unit ![0, 0, 0] ![1, 8, 704] inb_S2x8x704_S1x8x704_0_0_0) = carH m c t 0 := by
  funext i
  obtain ⟨a, r, x, rfl⟩ := exists_ix3 i
  pointwise [carH]

theorem ld_car1 (c : Dev nD) (t : Fin cfg0.N) :
    View.ld (car m c t) (Rect.unit ![1, 0, 0] ![1, 8, 704] inb_S2x8x704_S1x8x704_1_0_0) = carH m c t 1 := by
  funext i
  obtain ⟨a, r, x, rfl⟩ := exists_ix3 i
  pointwise [carH]

theorem car_fill (c : Dev nD) (t : Fin cfg0.N) (h0 : t.val % 8 = 0) : k0_pay2 (F := Ideal) = car m c t := by
  funext i
  rw [pay2_apply, car, if_pos h0]

/-- The rows a point carries over to the next are the last of its block. -/
theorem car_point (c : Dev nD) (t : Fin cfg0.N) (s : Fin 2) (r : Fin 8) (x : Fin 704) :
    (outsAt0 m c t.val t.isLt).2.2.2 (ix3 s r x) = U m c t s (ix2 ⟨1016 + r.val, by omega⟩ x) := by
  by_cases h0 : t.val % 8 = 0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
    refine canon_case3 _ _ _ _ _ _ _ (fun a b d ha hb hd => ?_) fun n0 => ?_
    · obtain rfl : a = 0 := Subsingleton.elim _ _
      obtain rfl : s = 1 := Fin.ext (by omega)
      obtain rfl : b = r := Fin.ext (by omega)
      obtain rfl : d = x := Fin.ext (by omega)
      rw [pay18_apply, U1_eq]
    · refine canon_case3 _ _ _ _ _ _ _ (fun a b d ha hb hd => ?_) fun n1 => absurd (by omega) n1
      obtain rfl : a = 0 := Subsingleton.elim _ _
      obtain rfl : s = 0 := Fin.ext (by omega)
      obtain rfl : b = r := Fin.ext (by omega)
      obtain rfl : d = x := Fin.ext (by omega)
      rw [pay10_apply, U0_eq]

theorem car_prev (c : Dev nD) (t : Fin cfg0.N) (h0 : ¬t.val % 8 = 0) (h : t.val - 1 < cfg0.N) :
    (outsAt0 m c (t.val - 1) h).2.2.2 = car m c t := by
  funext i
  obtain ⟨s, r, x, rfl⟩ := exists_ix3 i
  rw [car, if_neg h0]
  exact car_point m c (pred t) s r x

/-- The rows above a row of a block are the rows of the tokens before. -/
theorem above_eq (c : Dev nD) (t : Fin cfg0.N) (s : Fin 2) (k : ℕ) (hk : 0 < k) (hk' : k ≤ 2) (r : Fin 1024) (x : Fin 704) :
    above (U m c t s) (carH m c t s) k r x = Spec.back (aU m c) k (tok t r) (Spec.col s (part t) x) := by
  have hN := t.isLt
  have htk : (tok t r).val = (t.val % 8) * 1024 + r.val := rfl
  unfold above Spec.back
  by_cases h : k ≤ r.val
  · rw [if_pos h, if_neg (by rw [htk]; omega)]
    refine congrArg (fun l => aU m c l _) (Fin.ext ?_)
    show (t.val % 8) * 1024 + (r.val - k) = (t.val % 8) * 1024 + r.val - k
    omega
  · rw [if_neg h, dif_pos (by omega)]
    show car m c t (ix3 s _ x) = _
    unfold car
    by_cases h0 : t.val % 8 = 0
    · rw [if_pos h0, if_pos (by rw [htk]; omega)]
    · rw [if_neg h0, if_neg (by rw [htk]; omega)]
      show aU m c (tok (pred t) _) (Spec.col s (part (pred t)) x) = _
      have hp : part (pred t) = part t := Fin.ext (by show (t.val - 1) / 8 = t.val / 8; omega)
      rw [hp]
      refine congrArg (fun l => aU m c l _) (Fin.ext ?_)
      show ((t.val - 1) % 8) * 1024 + (1016 + (8 + r.val - k)) = (t.val % 8) * 1024 + r.val - k
      omega

/-- The convolution on the block of a point: first half. -/
theorem conv0_eq (c : Dev nD) (t : Fin cfg0.N) (r : Fin 1024) (x : Fin 704) :
    convB (U m c t 0) (carH m c t 0)
      (View.ld (Val := Elt Ideal) (S := S1x8x704) (e' := .f32) (iblk m c 3 t) (Rect.unit ![0, 0, 0] ![1, 1, 704] inb_S1x8x704_S1x1x704_0_0_0))
      (View.ld (Val := Elt Ideal) (S := S1x8x704) (e' := .f32) (iblk m c 3 t) (Rect.unit ![0, 1, 0] ![1, 1, 704] inb_S1x8x704_S1x1x704_0_1_0))
      (View.ld (Val := Elt Ideal) (S := S1x8x704) (e' := .f32) (iblk m c 3 t) (Rect.unit ![0, 2, 0] ![1, 1, 704] inb_S1x8x704_S1x1x704_0_2_0))
      (View.ld (Val := Elt Ideal) (S := S1x8x704) (e' := .f32) (iblk m c 3 t) (Rect.unit ![0, 3, 0] ![1, 1, 704] inb_S1x8x704_S1x1x704_0_3_0))
      r x = aC m c (tok t r) (Spec.col 0 (part t) x) := by
  unfold convB aC Spec.convOf
  rw [above_eq m c t 0 2 (by omega) (by omega), above_eq m c t 0 1 (by omega) (by omega)]
  have k0 := bK0_eq m c t 0 x
  have k1 := bK0_eq m c t 1 x
  have k2 := bK0_eq m c t 2 x
  have k3 := bB0_eq m c t x
  generalize iblk m c 3 t = K at k0 k1 k2 k3 ⊢
  rw [← k0, ← k1, ← k2, ← k3]
  pointwise []
  exact congrArg₂ (· + ·) (congrArg₂ (· + ·) (congrArg₂ (· + ·) (mul_comm _ _) (mul_comm _ _)) (mul_comm _ _)) rfl

/-- Second half. -/
theorem conv1_eq (c : Dev nD) (t : Fin cfg0.N) (r : Fin 1024) (x : Fin 704) :
    convB (U m c t 1) (carH m c t 1)
      (View.ld (Val := Elt Ideal) (S := S1x8x704) (e' := .f32) (iblk m c 4 t) (Rect.unit ![0, 0, 0] ![1, 1, 704] inb_S1x8x704_S1x1x704_0_0_0))
      (View.ld (Val := Elt Ideal) (S := S1x8x704) (e' := .f32) (iblk m c 4 t) (Rect.unit ![0, 1, 0] ![1, 1, 704] inb_S1x8x704_S1x1x704_0_1_0))
      (View.ld (Val := Elt Ideal) (S := S1x8x704) (e' := .f32) (iblk m c 4 t) (Rect.unit ![0, 2, 0] ![1, 1, 704] inb_S1x8x704_S1x1x704_0_2_0))
      (View.ld (Val := Elt Ideal) (S := S1x8x704) (e' := .f32) (iblk m c 4 t) (Rect.unit ![0, 3, 0] ![1, 1, 704] inb_S1x8x704_S1x1x704_0_3_0))
      r x = aC m c (tok t r) (Spec.col 1 (part t) x) := by
  unfold convB aC Spec.convOf
  rw [above_eq m c t 1 2 (by omega) (by omega), above_eq m c t 1 1 (by omega) (by omega)]
  have k0 := bK1_eq m c t 0 x
  have k1 := bK1_eq m c t 1 x
  have k2 := bK1_eq m c t 2 x
  have k3 := bB1_eq m c t x
  generalize iblk m c 4 t = K at k0 k1 k2 k3 ⊢
  rw [← k0, ← k1, ← k2, ← k3]
  pointwise []
  exact congrArg₂ (· + ·) (congrArg₂ (· + ·) (congrArg₂ (· + ·) (mul_comm _ _) (mul_comm _ _)) (mul_comm _ _)) rfl

/-- What a point writes of the up-projection. -/
theorem u_point (c : Dev nD) (t : Fin cfg0.N) (s : Fin 2) (r : Fin 1024) (x : Fin 704) :
    @Eq EReal ((outsAt0 m c t.val t.isLt).1 (ix4 0 s r x)) (aU m c (tok t r) (Spec.col s (part t) x)) := by
  by_cases h0 : t.val % 8 = 0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
    refine canon_case4 _ _ _ _ _ _ _ _ (fun a b d e ha hb hd he => ?_) fun n0 => ?_
    · obtain rfl : a = 0 := Subsingleton.elim _ _
      obtain rfl : b = 0 := Subsingleton.elim _ _
      obtain rfl : s = 1 := Fin.ext (by omega)
      obtain rfl : d = r := Fin.ext (by omega)
      obtain rfl : e = x := Fin.ext (by omega)
      refine (pay12_apply _ _ _ _).trans ?_
      rw [U1_eq]
      rfl
    · refine canon_case4 _ _ _ _ _ _ _ _ (fun a b d e ha hb hd he => ?_) fun n1 => absurd (by omega) n1
      obtain rfl : a = 0 := Subsingleton.elim _ _
      obtain rfl : b = 0 := Subsingleton.elim _ _
      obtain rfl : s = 0 := Fin.ext (by omega)
      obtain rfl : d = r := Fin.ext (by omega)
      obtain rfl : e = x := Fin.ext (by omega)
      refine (pay5_apply _ _ _ _).trans ?_
      rw [U0_eq]
      rfl

/-- What a point writes of the convolution. -/
theorem c_point (c : Dev nD) (t : Fin cfg0.N) (s : Fin 2) (r : Fin 1024) (x : Fin 704) :
    @Eq EReal ((outsAt0 m c t.val t.isLt).2.1 (ix4 0 s r x)) (aC m c (tok t r) (Spec.col s (part t) x)) := by
  by_cases h0 : t.val % 8 = 0
  on_goal 1 =>
    rw [outsAt0_A m c t h0]
    frame_open
    simp (disch := decide) only [↓ View.readCov_skip, ↓ View.readCov_cons_toLoadRect, ↓ View.readCov_fill]
    frame_out
    simp only [car_fill m c t h0]
  on_goal 2 =>
    rw [outsAt0_B m c t h0]
    frame_open
    simp (disch := decide) only [↓ View.readCov_skip, ↓ View.readCov_cons_toLoadRect, ↓ View.readCov_fill]
    frame_out
    simp only [read_unread_whole, car_prev m c t h0]
  all_goals
    refine canon_case4 _ _ _ _ _ _ _ _ (fun a b d e ha hb hd he => ?_) fun n0 => ?_
    · obtain rfl : a = 0 := Subsingleton.elim _ _
      obtain rfl : b = 0 := Subsingleton.elim _ _
      obtain rfl : s = 1 := Fin.ext (by omega)
      obtain rfl : d = r := Fin.ext (by omega)
      obtain rfl : e = x := Fin.ext (by omega)
      refine (pay17_apply _ _ _ _ _ _ _ _).trans ((pay16_apply _ _ _ _ _ _ _ _ _).trans ?_)
      simp only [ld_car1, U1_eq]
      exact conv1_eq m c t d e
    · refine canon_case4 _ _ _ _ _ _ _ _ (fun a b d e ha hb hd he => ?_) fun n1 => absurd (by omega) n1
      obtain rfl : a = 0 := Subsingleton.elim _ _
      obtain rfl : b = 0 := Subsingleton.elim _ _
      obtain rfl : s = 0 := Fin.ext (by omega)
      obtain rfl : d = r := Fin.ext (by omega)
      obtain rfl : e = x := Fin.ext (by omega)
      refine (pay9_apply _ _ _ _ _ _).trans ((pay8_apply _ _ _ _ _ _ _ _ _).trans ?_)
      simp only [ld_car0, U0_eq]
      exact conv0_eq m c t d e

/-- What a point writes of the gated activation. -/
theorem act_point (c : Dev nD) (t : Fin cfg0.N) (r : Fin 1024) (x : Fin 704) :
    @Eq EReal ((outsAt0 m c t.val t.isLt).2.2.1 (ix3 0 r x))
      (aC m c (tok t r) (Spec.col 0 (part t) x) * Spec.sg (aC m c (tok t r) (Spec.col 0 (part t) x)) *
        aC m c (tok t r) (Spec.col 1 (part t) x)) := by
  by_cases h0 : t.val % 8 = 0
  on_goal 1 =>
    rw [outsAt0_A m c t h0]
    frame_open
    simp (disch := decide) only [↓ View.readCov_skip, ↓ View.readCov_cons_toLoadRect, ↓ View.readCov_fill]
    frame_out
    simp only [car_fill m c t h0]
  on_goal 2 =>
    rw [outsAt0_B m c t h0]
    frame_open
    simp (disch := decide) only [↓ View.readCov_skip, ↓ View.readCov_cons_toLoadRect, ↓ View.readCov_fill]
    frame_out
    simp only [read_unread_whole, car_prev m c t h0]
  all_goals
    refine (pay1_apply _ _ _ _ _ _ _ _ _).trans ?_
    refine congrArg₂ (fun a b : EReal => a * Spec.sg a * b) ((pay8_apply _ _ _ _ _ _ _ _ _).trans ?_) ((pay16_apply _ _ _ _ _ _ _ _ _).trans ?_)
    · simp only [ld_car0, U0_eq]
      exact conv0_eq m c t r x
    · simp only [ld_car1, U1_eq]
      exact conv1_eq m c t r x

end Cert.Kernel4Ideal.Hand
-- ==== Proof.Up.Arrays.lean ====
module
public import proofs.«01_k».proof.Proof.Up.Steps
@[expose] public section

/-!
# The up-projection and its convolution: the kernel's result arrays

Every result array of the kernel, as a formula of the arguments.
-/

set_option maxRecDepth 16384
noncomputable section
namespace Cert.Kernel4Ideal.Hand
open Cert.Kernel4Ideal Cert.Kernel4Ideal.Gen Idealize.ShloMosaic Idealize.ShloMosaic.TcCoe Idealize.SL.Sem
open Idealize.ShloMosaic.Pipeline (Dat)
variable (m : (ℓ : Loc nD τ sig) → Buf (Elt Ideal) ℓ)

theorem col_congr {s s' : Fin 2} {p p' : Fin 4} {x x' : Fin 704} (h0 : s = s') (h1 : p = p') (h2 : x = x') : Spec.col s p x = Spec.col s' p' x' := by
  rw [h0, h1, h2]

/-- The gated activation of token `l` at column `x` of part `p`. -/
def aG (c : Dev nD) (l : Fin 8192) (p : Fin 4) (x : Fin 704) : EReal :=
  aC m c l (Spec.col 0 p x) * Spec.sg (aC m c l (Spec.col 0 p x)) * aC m c l (Spec.col 1 p x)

theorem aG_congr (c : Dev nD) {l l' : Fin 8192} {p p' : Fin 4} {x x' : Fin 704} (h0 : l = l') (h1 : p = p') (h2 : x = x') :
    aG m c l p x = aG m c l' p' x' := by
  rw [h0, h1, h2]

/-- The up-projection, as the kernel leaves it. -/
theorem u_array (c : Dev nD) : (dats m 0 c).arrAt 5 cfg0.N =
    fun i : S4x2x8192x704.Idx => aU m c (i 2) (Spec.col (i 1) (i 0) (i 3)) := by
  refine (dats m 0 c).arrAt_eq_of_covers 5 _ (by decide +kernel) fun t hf y => ?_
  blk_simp [idx t]
  rw [after0_5]
  have hy : y = ix4 0 (y 1 : Fin 2) (y 2 : Fin 1024) (y 3 : Fin 704) := by
    refine (eq_ix4 (n0 := 1) (n1 := 2) (n2 := 1024) (n3 := 704) y).trans ?_
    exact congrArg (fun z : Fin 1 => (ix4 z (y 1 : Fin 2) (y 2 : Fin 1024) (y 3 : Fin 704))) (Subsingleton.elim _ _)
  refine (congrArg (outsAt0 m c t.val t.isLt).1 hy).trans ((u_point m c t (y 1) (y 2) (y 3)).trans ?_)
  refine congrArg₂ (aU m c) ?_ (col_congr ?_ ?_ ?_)
  all_goals refine Fin.ext ?_; blk_simp [idx t, tok, part]

/-- Its convolution, as the kernel leaves it. -/
theorem c_array (c : Dev nD) : (dats m 0 c).arrAt 6 cfg0.N =
    fun i : S4x2x8192x704.Idx => aC m c (i 2) (Spec.col (i 1) (i 0) (i 3)) := by
  refine (dats m 0 c).arrAt_eq_of_covers 6 _ (by decide +kernel) fun t hf y => ?_
  blk_simp [idx t]
  rw [after0_6]
  have hy : y = ix4 0 (y 1 : Fin 2) (y 2 : Fin 1024) (y 3 : Fin 704) := by
    refine (eq_ix4 (n0 := 1) (n1 := 2) (n2 := 1024) (n3 := 704) y).trans ?_
    exact congrArg (fun z : Fin 1 => (ix4 z (y 1 : Fin 2) (y 2 : Fin 1024) (y 3 : Fin 704))) (Subsingleton.elim _ _)
  refine (congrArg (outsAt0 m c t.val t.isLt).2.1 hy).trans ((c_point m c t (y 1) (y 2) (y 3)).trans ?_)
  refine congrArg₂ (aC m c) ?_ (col_congr ?_ ?_ ?_)
  all_goals refine Fin.ext ?_; blk_simp [idx t, tok, part]

/-- The gated activation, as the kernel leaves it. -/
theorem act_array (c : Dev nD) : (dats m 0 c).arrAt 7 cfg0.N = fun i : S4x8192x704.Idx => aG m c (i 1) (i 0) (i 2) := by
  refine (dats m 0 c).arrAt_eq_of_covers 7 _ (by decide +kernel) fun t hf y => ?_
  blk_simp [idx t]
  rw [after0_7]
  have hy : y = ix3 0 (y 1 : Fin 1024) (y 2 : Fin 704) := by
    refine (eq_ix3 (n0 := 1) (n1 := 1024) (n2 := 704) y).trans ?_
    exact congrArg (fun z : Fin 1 => (ix3 z (y 1 : Fin 1024) (y 2 : Fin 704))) (Subsingleton.elim _ _)
  refine (congrArg (outsAt0 m c t.val t.isLt).2.2.1 hy).trans ((act_point m c t (y 1) (y 2)).trans ?_)
  refine aG_congr m c ?_ ?_ ?_
  all_goals refine Fin.ext ?_; blk_simp [idx t, tok, part]

end Cert.Kernel4Ideal.Hand
-- ==== Proof.Up.Ref.lean ====
module
public import proofs.«01_k».proof.Proof.Gen.Reference4Ideal.Read
public import proofs.«01_k».proof.Proof.Gate.Spec
@[expose] public section

/-!
# The up-projection and its convolution: the reference's results
-/

set_option maxRecDepth 16384
noncomputable section
namespace Cert.Reference4Ideal.Hand
open Cert.Reference4Ideal Cert.Reference4Ideal.Gen Cert.Reference4Ideal.Read Idealize.ShloMosaic Idealize.ShloMosaic.TcCoe

variable (x0 : (⟨S1x8192x1024, .f32⟩ : BufTy).Contents (Elt Ideal)) (x1 : (⟨S1024x5632, .f32⟩ : BufTy).Contents (Elt Ideal))
  (x2 : (⟨S3x5632, .f32⟩ : BufTy).Contents (Elt Ideal)) (x3 : (⟨S5632, .f32⟩ : BufTy).Contents (Elt Ideal))

/-- The up-projection. -/
def rU : Fin 8192 → Fin 5632 → EReal := Spec.uOf (fun t k => x0 (ix3 0 t k)) (fun k j => x1 (ix2 k j))
/-- Its convolution. -/
def rC : Fin 8192 → Fin 5632 → EReal := Spec.convOf (rU x0 x1) (fun k j => x2 (ix2 k j)) (fun j => x3 (ix1 j))

theorem v0_at (t : Fin 8192) (j : Fin 5632) : val_main_v0 (F := Ideal) x0 x1 (ix3 0 t j) = rU x0 x1 t j := by
  pointwise [val_main_v0, rU, Spec.uOf]

theorem v2_at (t : Fin 8194) (j : Fin 5632) : val_main_v2 (F := Ideal) x0 x1 (ix3 0 t j) =
    if h : t.val < 2 then 0 else rU x0 x1 ⟨t.val - 2, by omega⟩ j := by
  pointwise [val_main_v2, val_main_v1, val_main_cst]
  split
  · rfl
  · exact v0_at x0 x1 _ j

theorem v18_at (t : Fin 8192) (j : Fin 5632) : val_main_v18 (F := Ideal) x0 x1 (ix3 0 t j) = rU x0 x1 t j := by
  pointwise [val_main_v18]
  refine (v2_at x0 x1 _ j).trans ((dif_neg (by show ¬2 + t.val < 2; omega)).trans ?_)
  exact congrFun (congrArg (rU x0 x1) (Fin.ext (by show 2 + t.val - 2 = t.val; omega))) j

theorem v11_at (t : Fin 8192) (j : Fin 5632) : val_main_v11 (F := Ideal) x0 x1 (ix3 0 t j) = Spec.back (rU x0 x1) 1 t j := by
  pointwise [val_main_v11]
  refine (v2_at x0 x1 _ j).trans ?_
  unfold Spec.back
  by_cases h : t.val < 1
  · rw [dif_pos (by show 1 + t.val < 2; omega), if_pos h]
  · rw [dif_neg (by show ¬1 + t.val < 2; omega), if_neg h]
    exact congrFun (congrArg (rU x0 x1) (Fin.ext (by show 1 + t.val - 2 = t.val - 1; omega))) j

theorem v3_at (t : Fin 8192) (j : Fin 5632) : val_main_v3 (F := Ideal) x0 x1 (ix3 0 t j) = Spec.back (rU x0 x1) 2 t j := by
  pointwise [val_main_v3]
  refine (v2_at x0 x1 _ j).trans ?_
  unfold Spec.back
  by_cases h : t.val < 2
  · rw [dif_pos h, if_pos h]
  · rw [dif_neg h, if_neg h]

theorem v27_at (t : Fin 8192) (j : Fin 5632) : val_main_v27 (F := Ideal) x0 x1 x2 x3 (ix3 0 t j) = rC x0 x1 x2 x3 t j := by
  pointwise [val_main_v27, val_main_v26, val_main_v25, val_main_v24, val_main_v23, val_main_v22, val_main_v21, val_main_v20, val_main_v19,
    val_main_v17, val_main_v16, val_main_v15, val_main_v14, val_main_v13, val_main_v12, val_main_v10, val_main_cst_0,
    val_main_v9, val_main_v8, val_main_v7, val_main_v6, val_main_v5, val_main_v4]
  rw [v18_at, v11_at, v3_at]
  simp [rC, Spec.convOf]

theorem v28_at (t : Fin 8192) (y : Fin 2816) : val_main_v28 (F := Ideal) x0 x1 x2 x3 (ix3 0 t y) = rC x0 x1 x2 x3 t (Spec.colA y) := by
  pointwise [val_main_v28]
  exact v27_at x0 x1 x2 x3 t (Spec.colA y)

theorem v29_at (t : Fin 8192) (y : Fin 2816) : val_main_v29 (F := Ideal) x0 x1 x2 x3 (ix3 0 t y) = rC x0 x1 x2 x3 t (Spec.colB y) := by
  pointwise [val_main_v29]
  exact v27_at x0 x1 x2 x3 t (Spec.colB y)

theorem v31_at (t : Fin 8192) (y : Fin 2816) : val_main_v31 (F := Ideal) x0 x1 x2 x3 (ix3 0 t y) =
    rC x0 x1 x2 x3 t (Spec.colA y) * Spec.sg (rC x0 x1 x2 x3 t (Spec.colA y)) * rC x0 x1 x2 x3 t (Spec.colB y) := by
  pointwise [val_main_v31, val_main_v30, val_main_call0_v5, val_main_call0_v4, val_main_call0_v3, val_main_call0_v2, val_main_call0_v1,
    val_main_call0_v0, val_main_call0_cst, val_main_call0_cst_0]
  rw [v28_at, v29_at]
  simp [Spec.sg]

/-- The first result: the up-projection, by part and half. -/
theorem v34_at (p : Fin 4) (s : Fin 2) (t : Fin 8192) (x : Fin 704) :
    val_main_v34 (F := Ideal) x0 x1 (ix4 p s t x) = rU x0 x1 t (Spec.col s p x) := by
  pointwise [val_main_v34, val_main_v33, val_main_v32]
  exact v0_at x0 x1 t (Spec.col s p x)

/-- The second result: the convolution, by part and half. -/
theorem v37_at (p : Fin 4) (s : Fin 2) (t : Fin 8192) (x : Fin 704) :
    val_main_v37 (F := Ideal) x0 x1 x2 x3 (ix4 p s t x) = rC x0 x1 x2 x3 t (Spec.col s p x) := by
  pointwise [val_main_v37, val_main_v36, val_main_v35]
  exact v27_at x0 x1 x2 x3 t (Spec.col s p x)

/-- The third result: the gated activation, by part. -/
theorem v40_at (p : Fin 4) (t : Fin 8192) (x : Fin 704) : val_main_v40 (F := Ideal) x0 x1 x2 x3 (ix3 p t x) =
    rC x0 x1 x2 x3 t (Spec.col 0 p x) * Spec.sg (rC x0 x1 x2 x3 t (Spec.col 0 p x)) * rC x0 x1 x2 x3 t (Spec.col 1 p x) := by
  have hA : Spec.colA (Spec.hcol p x) = Spec.col 0 p x := Fin.ext (by simp [Spec.colA, Spec.hcol, Spec.col])
  have hB : Spec.colB (Spec.hcol p x) = Spec.col 1 p x := Fin.ext (by simp [Spec.colB, Spec.hcol, Spec.col]; omega)
  pointwise [val_main_v40, val_main_v39, val_main_v38]
  refine (v31_at x0 x1 x2 x3 t (Spec.hcol p x)).trans ?_
  rw [hA, hB]

end Cert.Reference4Ideal.Hand
-- ==== Proof.Up.Equal.lean ====
module
public import proofs.«01_k».proof.Defs
public import proofs.«01_k».proof.Proof.Up.Arrays
public import proofs.«01_k».proof.Proof.Up.Ref
public import proofs.«01_k».proof.Proof.Gen.Reference4Ideal.Run
public import Idealize.ShloMosaic.Lib.Claim
@[expose] public section

/-!
# The up-projection and its convolution: the kernel's results are the reference's
-/

set_option maxRecDepth 16384
noncomputable section
namespace Cert.Proof
open Idealize.ShloMosaic Idealize.ShloMosaic.TcCoe Idealize.SL.Sem

/-- The up-projection: the reference's result is the kernel's. -/
theorem up_u_eq (m : (ℓ : Loc Cert.Kernel4Ideal.nD Cert.Kernel4Ideal.τ Cert.Kernel4Ideal.sig) → Buf (Elt Ideal) ℓ) (c : Dev Cert.Kernel4Ideal.nD) :
    (Cert.Reference4Ideal.Read.val_main_v34 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1)) : Cert.Kernel4Ideal.S4x2x8192x704.Idx → EReal) =
      (Cert.Kernel4Ideal.Gen.dats m 0 c).arrAt 5 Cert.Kernel4Ideal.cfg0.N := by
  refine Eq.trans (funext fun i => ?_) (Cert.Kernel4Ideal.Hand.u_array m c).symm
  obtain ⟨p, s, t, x, rfl⟩ : ∃ (p : Fin 4) (s : Fin 2) (t : Fin 8192) (x : Fin 704), i = ix4 p s t x := ⟨i 0, i 1, i 2, i 3, eq_ix4 i⟩
  exact Cert.Reference4Ideal.Hand.v34_at _ _ p s t x

/-- Its convolution: the reference's result is the kernel's. -/
theorem up_c_eq (m : (ℓ : Loc Cert.Kernel4Ideal.nD Cert.Kernel4Ideal.τ Cert.Kernel4Ideal.sig) → Buf (Elt Ideal) ℓ) (c : Dev Cert.Kernel4Ideal.nD) :
    (Cert.Reference4Ideal.Read.val_main_v37 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3)) : Cert.Kernel4Ideal.S4x2x8192x704.Idx → EReal) =
      (Cert.Kernel4Ideal.Gen.dats m 0 c).arrAt 6 Cert.Kernel4Ideal.cfg0.N := by
  refine Eq.trans (funext fun i => ?_) (Cert.Kernel4Ideal.Hand.c_array m c).symm
  obtain ⟨p, s, t, x, rfl⟩ : ∃ (p : Fin 4) (s : Fin 2) (t : Fin 8192) (x : Fin 704), i = ix4 p s t x := ⟨i 0, i 1, i 2, i 3, eq_ix4 i⟩
  exact Cert.Reference4Ideal.Hand.v37_at _ _ _ _ p s t x

/-- The gated activation: the reference's result is the kernel's. -/
theorem up_act_eq (m : (ℓ : Loc Cert.Kernel4Ideal.nD Cert.Kernel4Ideal.τ Cert.Kernel4Ideal.sig) → Buf (Elt Ideal) ℓ) (c : Dev Cert.Kernel4Ideal.nD) :
    (Cert.Reference4Ideal.Read.val_main_v40 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3)) : Cert.Kernel4Ideal.S4x8192x704.Idx → EReal) =
      (Cert.Kernel4Ideal.Gen.dats m 0 c).arrAt 7 Cert.Kernel4Ideal.cfg0.N := by
  refine Eq.trans (funext fun i => ?_) (Cert.Kernel4Ideal.Hand.act_array m c).symm
  obtain ⟨p, t, x, rfl⟩ : ∃ (p : Fin 4) (t : Fin 8192) (x : Fin 704), i = ix3 p t x := ⟨i 0, i 1, i 2, eq_ix3 i⟩
  exact Cert.Reference4Ideal.Hand.v40_at _ _ _ _ p t x

/-- The value claim of the up-projection and its convolution. -/
theorem up_algebraic : Cert.algebraic_Kernel4Ideal_Reference4Ideal := by
  intro m g m' g' _ hagree
  refine ⟨fun c => (Cert.Kernel4Ideal.Gen.dats m 0 c).arrAt 5 Cert.Kernel4Ideal.cfg0.N,
    fun c => (Cert.Kernel4Ideal.Gen.dats m 0 c).arrAt 6 Cert.Kernel4Ideal.cfg0.N,
    fun c => (Cert.Kernel4Ideal.Gen.dats m 0 c).arrAt 7 Cert.Kernel4Ideal.cfg0.N, Cert.Kernel4Ideal.Value.run_blocks m g, ?_⟩
  refine (θ_run Cert.Reference4Ideal.defs _ _).mono (fun r h c => ?_) (Cert.Reference4Ideal.Value.run (F := Ideal) m' g')
  obtain ⟨h0, h1, h2, hargs⟩ := h c
  obtain ⟨e0, e1, e2, e3⟩ := hagree c
  refine ⟨h0.trans ?_, h1.trans ?_, h2.trans ?_, hargs⟩
  · rw [Cert.Reference4Ideal.Read.val_main_v34_eq, e0, e1]
    exact up_u_eq m c
  · rw [Cert.Reference4Ideal.Read.val_main_v37_eq, e0, e1, e2, e3]
    exact up_c_eq m c
  · rw [Cert.Reference4Ideal.Read.val_main_v40_eq, e0, e1, e2, e3]
    exact up_act_eq m c

/-- The reference runs to its end, leaves its arguments unchanged, and declares no counter that could stay raised. -/
theorem up_reference_frame : Cert.quiescent_Reference4Ideal := fun m g _ =>
  (θ_run Cert.Reference4Ideal.defs _ _).mono
    (fun r h => ⟨fun c => (h c).2.2.2, Idealize.ShloMosaic.sem_eq_zero_of_no_sems (by decide) r.2⟩)
    (Cert.Reference4Ideal.Value.run m g)

end Cert.Proof
-- ==== Proof.Down.Kernel.lean ====
module
public import proofs.«01_k».proof.Proof.Gen.Kernel5Ideal.Value
public import proofs.«01_k».proof.Proof.Down.Spec
public import Idealize.ShloMosaic.Lib.Pipeline.ValueKit
public import Idealize.ShloMosaic.Lib.Pipeline.ReadBack
public import Idealize.ShloMosaic.Lib.Pointwise
@[expose] public section

/-!
# The down-projection and its layer norm: the blocks a grid point reads
-/

set_option maxRecDepth 16384
noncomputable section
namespace Cert.Kernel5Ideal.Hand
open Cert.Kernel5Ideal Cert.Kernel5Ideal.Gen Idealize.ShloMosaic Idealize.ShloMosaic.TcCoe Idealize.SL.Sem
variable (m : (ℓ : Loc nD τ sig) → Buf (Elt Ideal) ℓ)

/-- The arguments, as functions of tokens and columns. -/
def aAct (c : Dev nD) (t : Fin 8192) (k : Fin 2816) : EReal := m ((c : Thread nD τ).loc main_arg0) (ix3 0 t k)
@[inherit_doc aAct]
def aX (c : Dev nD) (t : Fin 8192) (k : Fin 1024) : EReal := m ((c : Thread nD τ).loc main_arg1) (ix3 0 t k)
@[inherit_doc aAct]
def aGm (c : Dev nD) (j : Fin 1024) : EReal := m ((c : Thread nD τ).loc main_arg2) (ix1 j)
@[inherit_doc aAct]
def aBm (c : Dev nD) (j : Fin 1024) : EReal := m ((c : Thread nD τ).loc main_arg3) (ix1 j)
@[inherit_doc aAct]
def aW (c : Dev nD) (k : Fin 2816) (j : Fin 1024) : EReal := m ((c : Thread nD τ).loc main_arg4) (ix2 k j)
@[inherit_doc aAct]
def aG (c : Dev nD) (j : Fin 1024) : EReal := m ((c : Thread nD τ).loc main_arg5) (ix1 j)
@[inherit_doc aAct]
def aB (c : Dev nD) (j : Fin 1024) : EReal := m ((c : Thread nD τ).loc main_arg6) (ix1 j)

/-- The row that the second layer norm takes. -/
def aY (c : Dev nD) : Fin 8192 → Fin 1024 → EReal := Norm.pre (aAct m c) (aX m c) (aGm m c) (aBm m c) (aW m c)

/-- The column of the activation at lane `x` of part `p`. -/
def hcol (p : Fin 4) (x : Fin 704) : Fin 2816 := ⟨p.val * 704 + x.val, by omega⟩

theorem V21_eq (c : Dev nD) (p : Fin 4) (t : Fin 8192) (x : Fin 704) :
    @Eq EReal (V m c main_v21 (ix3 p t x)) (aAct m c t (hcol p x)) := by
  unfold V
  simp only [hostOps0, StableHlo.after_cons, StableHlo.after_nil]
  after_results_simp
  pointwise [aAct, hcol]

theorem V23_eq (c : Dev nD) (p : Fin 4) (x : Fin 704) (j : Fin 1024) :
    @Eq EReal (V m c main_v23 (ix4 p 0 x j)) (aW m c (hcol p x) j) := by
  unfold V
  simp only [hostOps0, StableHlo.after_cons, StableHlo.after_nil]
  after_results_simp
  pointwise [aW, hcol]

theorem V17_eq (c : Dev nD) (t : Fin 8192) (j : Fin 1024) :
    @Eq EReal (V m c main_v17 (ix3 0 t j)) (Norm.nrm (aX m c t) j) := by
  unfold V
  simp only [hostOps0, StableHlo.after_cons, StableHlo.after_nil]
  after_results_simp
  pointwise [Norm.nrm, Norm.cen, Norm.fac, Norm.len, Norm.eps, aX]

theorem V24_eq (c : Dev nD) (j : Fin 1024) : @Eq EReal (V m c main_v24 (ix2 0 j)) (aGm m c j) := by
  unfold V
  simp only [hostOps0, StableHlo.after_cons, StableHlo.after_nil]
  after_results_simp
  pointwise [aGm]

theorem V25_eq (c : Dev nD) (j : Fin 1024) : @Eq EReal (V m c main_v25 (ix2 0 j)) (aBm m c j) := by
  unfold V
  simp only [hostOps0, StableHlo.after_cons, StableHlo.after_nil]
  after_results_simp
  pointwise [aBm]

theorem V26_eq (c : Dev nD) (j : Fin 1024) : @Eq EReal (V m c main_v26 (ix2 0 j)) (aG m c j) := by
  unfold V
  simp only [hostOps0, StableHlo.after_cons, StableHlo.after_nil]
  after_results_simp
  pointwise [aG]

theorem V27_eq (c : Dev nD) (j : Fin 1024) : @Eq EReal (V m c main_v27 (ix2 0 j)) (aB m c j) := by
  unfold V
  simp only [hostOps0, StableHlo.after_cons, StableHlo.after_nil]
  after_results_simp
  pointwise [aB]

/-- The token of row `r` at a grid point. -/
def tok (t : Fin cfg0.N) (r : Fin 512) : Fin 8192 := ⟨t.val * 512 + r.val, by
  have h := lt_of_lt_of_eq t.isLt (show cfg0.N = 16 from N_0); omega⟩

theorem idx : ∀ t : Fin cfg0.N,
    win0_0.index t = ![0, t.val, 0] ∧ win0_1.index t = ![0, 0, 0, 0] ∧ win0_2.index t = ![0, t.val, 0] ∧
    win0_3.index t = ![0, 0] ∧ win0_4.index t = ![0, 0] ∧ win0_5.index t = ![0, 0] ∧ win0_6.index t = ![0, 0] ∧
    win0_7.index t = ![0, t.val, 0] ∧ win0_8.index t = ![0, t.val, 0] ∧ win0_9.index t = ![t.val, 0] :=
  (by decide +kernel : ∀ t : Fin grid0.N, _)

theorem b0_eq (c : Dev nD) (t : Fin cfg0.N) (p : Fin 4) (r : Fin 512) (x : Fin 704) :
    @Eq EReal (iblk m c 0 t (ix3 p r x)) (aAct m c (tok t r) (hcol p x)) := by
  refine Eq.trans ?_ (V21_eq m c p (tok t r) x)
  blk_ext [iblk, idx t, tok]

theorem b1_eq (c : Dev nD) (t : Fin cfg0.N) (p : Fin 4) (x : Fin 704) (j : Fin 1024) :
    @Eq EReal (iblk m c 1 t (ix4 p 0 x j)) (aW m c (hcol p x) j) := by
  refine Eq.trans ?_ (V23_eq m c p x j)
  blk_ext [iblk, idx t]

theorem b2_eq (c : Dev nD) (t : Fin cfg0.N) (r : Fin 512) (j : Fin 1024) :
    @Eq EReal (iblk m c 2 t (ix3 0 r j)) (Norm.nrm (aX m c (tok t r)) j) := by
  refine Eq.trans ?_ (V17_eq m c (tok t r) j)
  blk_ext [iblk, idx t, tok]

theorem b3_eq (c : Dev nD) (t : Fin cfg0.N) (j : Fin 1024) : @Eq EReal (iblk m c 3 t (ix2 0 j)) (aGm m c j) := by
  refine Eq.trans ?_ (V24_eq m c j)
  blk_ext [iblk, idx t]

theorem b4_eq (c : Dev nD) (t : Fin cfg0.N) (j : Fin 1024) : @Eq EReal (iblk m c 4 t (ix2 0 j)) (aBm m c j) := by
  refine Eq.trans ?_ (V25_eq m c j)
  blk_ext [iblk, idx t]

theorem b5_eq (c : Dev nD) (t : Fin cfg0.N) (j : Fin 1024) : @Eq EReal (iblk m c 5 t (ix2 0 j)) (aG m c j) := by
  refine Eq.trans ?_ (V26_eq m c j)
  blk_ext [iblk, idx t]

theorem b6_eq (c : Dev nD) (t : Fin cfg0.N) (j : Fin 1024) : @Eq EReal (iblk m c 6 t (ix2 0 j)) (aB m c j) := by
  refine Eq.trans ?_ (V27_eq m c j)
  blk_ext [iblk, idx t]

end Cert.Kernel5Ideal.Hand
-- ==== Proof.Down.Pay.lean ====
module
public import proofs.«01_k».proof.Proof.Gen.Kernel5Ideal.Value
public import proofs.«01_k».proof.Proof.Down.Spec
public import Idealize.ShloMosaic.Lib.Pipeline.ValueKit
public import Idealize.ShloMosaic.Lib.Pointwise
@[expose] public section

/-!
# The down-projection and its layer norm: what one grid point computes from its blocks
-/

set_option maxRecDepth 16384
noncomputable section
namespace Cert.Kernel5Ideal.Hand
open Cert.Kernel5Ideal Cert.Kernel5Ideal.Gen Idealize.ShloMosaic Idealize.ShloMosaic.TcCoe Idealize.SL.Sem

/-- A row of the block that the layer norm takes, from the blocks of a grid point. -/
def row (v22 : FVec Ideal S512x1024 .f32) (v23 : Vec Ideal S1x512x1024 .f32) (v25 v29 : Vec Ideal S1x1024 .f32) (r : Fin 512) (j : Fin 1024) : EReal :=
  v22 (ix2 r j) + Norm.alpha * (v23 (ix3 0 r j) * v25 (ix2 0 j) + v29 (ix2 0 j))

theorem pay2_apply (v0 : Vec Ideal S1x512x704 .bf16) (v2 : Vec Ideal S1x1x704x1024 .bf16) (v5 : Vec Ideal S1x512x704 .bf16) (v7 : Vec Ideal S1x1x704x1024 .bf16)
    (v11 : Vec Ideal S1x512x704 .bf16) (v13 : Vec Ideal S1x1x704x1024 .bf16) (v17 : Vec Ideal S1x512x704 .bf16) (v19 : Vec Ideal S1x1x704x1024 .bf16)
    (r : Fin 512) (j : Fin 1024) : @Eq EReal (k0_pay2 (F := Ideal) v0 v2 v5 v7 v11 v13 v17 v19 (ix2 r j))
      (∑ x : Fin 704, (v0 (ix3 0 r x) : EReal) * (v2 (ix4 0 0 x j) : EReal) + ∑ x : Fin 704, (v5 (ix3 0 r x) : EReal) * (v7 (ix4 0 0 x j) : EReal) +
        ∑ x : Fin 704, (v11 (ix3 0 r x) : EReal) * (v13 (ix4 0 0 x j) : EReal) + ∑ x : Fin 704, (v17 (ix3 0 r x) : EReal) * (v19 (ix4 0 0 x j) : EReal)) := by
  pointwise [k0_pay2]

variable (v22 : FVec Ideal S512x1024 .f32) (v23 : Vec Ideal S1x512x1024 .f32) (v25 v29 v56 v60 : Vec Ideal S1x1024 .f32)

theorem pay3_apply (r : Fin 512) (j : Fin 1024) : k0_pay3 (F := Ideal) v22 v23 v25 v29 (ix2 r j) = Norm.cen (row v22 v23 v25 v29 r) j := by
  pointwise [k0_pay3, Norm.cen, row, Norm.len, Norm.alpha]

theorem pay4_apply (r : Fin 512) : k0_pay4 (F := Ideal) v22 v23 v25 v29 (ix2 r 0) = Norm.fac (row v22 v23 v25 v29 r) := by
  pointwise [k0_pay4, Norm.fac, Norm.len, Norm.eps]
  simp only [pay3_apply]

theorem pay5_apply (r : Fin 512) (j : Fin 1024) : k0_pay5 (F := Ideal) v22 v23 v25 v29 (ix2 r j) = Norm.nrm (row v22 v23 v25 v29 r) j := by
  pointwise [k0_pay5, Norm.nrm]
  rw [pay3_apply, pay4_apply]

theorem pay6_apply (r : Fin 512) (j : Fin 1024) : k0_pay6 (F := Ideal) v22 v23 v25 v29 (ix3 0 r j) = Norm.nrm (row v22 v23 v25 v29 r) j := by
  pointwise [k0_pay6]
  exact pay5_apply v22 v23 v25 v29 r j

theorem pay1_apply (r : Fin 512) (j : Fin 1024) :
    @Eq EReal (k0_pay1 (F := Ideal) (k0_pay7 v22 v23 v25 v29 v56) (k0_pay8 v60) (ix3 0 r j))
      (Norm.nrm (row v22 v23 v25 v29 r) j * v56 (ix2 0 j) + v60 (ix2 0 j)) := by
  pointwise [k0_pay1, k0_pay7, k0_pay8]
  rw [pay5_apply]

end Cert.Kernel5Ideal.Hand
-- ==== Proof.Down.Arrays.lean ====
module
public import proofs.«01_k».proof.Proof.Down.Kernel
public import proofs.«01_k».proof.Proof.Down.Pay
@[expose] public section

/-!
# The down-projection and its layer norm: the kernel's result arrays

Every result array of the kernel, as a formula of the arguments.
-/

set_option maxRecDepth 16384
noncomputable section
namespace Cert.Kernel5Ideal.Hand
open Cert.Kernel5Ideal Cert.Kernel5Ideal.Gen Idealize.ShloMosaic Idealize.ShloMosaic.TcCoe Idealize.SL.Sem
open Idealize.ShloMosaic.Pipeline (Dat)
variable (m : (ℓ : Loc nD τ sig) → Buf (Elt Ideal) ℓ)

/-- The row that the layer norm takes, from the whole blocks of a grid point. -/
theorem row_at (x0 : Vec Ideal S4x512x704 .bf16) (x1 : Vec Ideal S4x1x704x1024 .bf16) (x2 : Vec Ideal S1x512x1024 .f32)
    (x3 x4 x5 x6 : Vec Ideal S1x1024 .f32) (r : Fin 512) (j : Fin 1024) :
    row (k0_pay9 x0 x1 x2 x3 x4 x5 x6) (View.ld x2 r0_8) (View.ld x3 r0_9) (View.ld x4 r0_9) r j =
      (∑ p : Fin 4, ∑ x : Fin 704, (x0 (ix3 p r x) : EReal) * (x1 (ix4 p 0 x j) : EReal)) +
        Norm.alpha * (x2 (ix3 0 r j) * x3 (ix2 0 j) + x4 (ix2 0 j)) := by
  unfold row k0_pay9
  rw [pay2_apply, Fin.sum_univ_four]
  pointwise []

theorem row_eq (c : Dev nD) (t : Fin cfg0.N) (r : Fin 512) :
    row (k0_pay9 (iblk m c 0 t) (iblk m c 1 t) (iblk m c 2 t) (iblk m c 3 t) (iblk m c 4 t) (iblk m c 5 t) (iblk m c 6 t))
      (View.ld (iblk m c 2 t) r0_8) (View.ld (iblk m c 3 t) r0_9) (View.ld (iblk m c 4 t) r0_9) r = aY m c (tok t r) := by
  funext j
  refine (row_at _ _ _ _ _ _ _ r j).trans ?_
  refine (add_comm _ _).trans ?_
  unfold aY Norm.pre
  refine congrArg₂ (fun a b : EReal => a + b) (congrArg (fun a : EReal => Norm.alpha * a)
    (congrArg₂ (fun a b : EReal => a + b) (congrArg₂ (fun a b : EReal => a * b) (b2_eq m c t r j) (b3_eq m c t j)) (b4_eq m c t j))) ?_
  refine Eq.trans ?_ (Norm.sum_parts (n := 4) (k := 704) rfl _).symm
  refine Finset.sum_congr rfl fun p _ => Finset.sum_congr rfl fun x _ => ?_
  exact congrArg₂ (fun a b : EReal => a * b) (b0_eq m c t p r x) (b1_eq m c t p x j)

theorem out7_at (x0 : Vec Ideal S4x512x704 .bf16) (x1 : Vec Ideal S4x1x704x1024 .bf16) (x2 : Vec Ideal S1x512x1024 .f32)
    (x3 x4 x5 x6 : Vec Ideal S1x1024 .f32) (r : Fin 512) (j : Fin 1024) :
    @Eq EReal (out0_7 (F := Ideal) x0 x1 x2 x3 x4 x5 x6 (ix3 0 r j))
      (Norm.nrm (row (k0_pay9 x0 x1 x2 x3 x4 x5 x6) (View.ld x2 r0_8) (View.ld x3 r0_9) (View.ld x4 r0_9) r) j * x5 (ix2 0 j) + x6 (ix2 0 j)) := by
  unfold out0_7
  frame_out
  refine (pay1_apply _ _ _ _ _ _ r j).trans ?_
  pointwise []

theorem out8_at (x0 : Vec Ideal S4x512x704 .bf16) (x1 : Vec Ideal S4x1x704x1024 .bf16) (x2 : Vec Ideal S1x512x1024 .f32)
    (x3 x4 x5 x6 : Vec Ideal S1x1024 .f32) (r : Fin 512) (j : Fin 1024) :
    out0_8 (F := Ideal) x0 x1 x2 x3 x4 x5 x6 (ix3 0 r j) =
      Norm.nrm (row (k0_pay9 x0 x1 x2 x3 x4 x5 x6) (View.ld x2 r0_8) (View.ld x3 r0_9) (View.ld x4 r0_9) r) j := by
  unfold out0_8
  frame_out
  exact pay6_apply _ _ _ _ r j

theorem out9_at (x0 : Vec Ideal S4x512x704 .bf16) (x1 : Vec Ideal S4x1x704x1024 .bf16) (x2 : Vec Ideal S1x512x1024 .f32)
    (x3 x4 x5 x6 : Vec Ideal S1x1024 .f32) (r : Fin 512) :
    out0_9 (F := Ideal) x0 x1 x2 x3 x4 x5 x6 (ix2 r 0) =
      Norm.fac (row (k0_pay9 x0 x1 x2 x3 x4 x5 x6) (View.ld x2 r0_8) (View.ld x3 r0_9) (View.ld x4 r0_9) r) := by
  unfold out0_9
  frame_out
  exact pay4_apply _ _ _ _ r

/-- The layer's output at token `l` and column `j`. -/
def aOut (c : Dev nD) (l : Fin 8192) (j : Fin 1024) : EReal := Norm.nrm (aY m c l) j * aG m c j + aB m c j

/-- What a point writes. -/
theorem out_point (c : Dev nD) (t : Fin cfg0.N) (r : Fin 512) (j : Fin 1024) :
    @Eq EReal (out0_7 (F := Ideal) (iblk m c 0 t) (iblk m c 1 t) (iblk m c 2 t) (iblk m c 3 t) (iblk m c 4 t) (iblk m c 5 t) (iblk m c 6 t) (ix3 0 r j)) (aOut m c (tok t r) j) := by
  refine (out7_at _ _ _ _ _ _ _ r j).trans ?_
  exact congr (congrArg₂ (fun (y : Fin 1024 → EReal) (a b : EReal) => Norm.nrm y j * a + b) (row_eq m c t r) (b5_eq m c t j)) (b6_eq m c t j)

@[inherit_doc out_point]
theorem nrm_point (c : Dev nD) (t : Fin cfg0.N) (r : Fin 512) (j : Fin 1024) :
    out0_8 (F := Ideal) (iblk m c 0 t) (iblk m c 1 t) (iblk m c 2 t) (iblk m c 3 t) (iblk m c 4 t) (iblk m c 5 t) (iblk m c 6 t) (ix3 0 r j) = Norm.nrm (aY m c (tok t r)) j :=
  (out8_at _ _ _ _ _ _ _ r j).trans (congrArg (fun y : Fin 1024 → EReal => Norm.nrm y j) (row_eq m c t r))

@[inherit_doc out_point]
theorem fac_point (c : Dev nD) (t : Fin cfg0.N) (r : Fin 512) :
    out0_9 (F := Ideal) (iblk m c 0 t) (iblk m c 1 t) (iblk m c 2 t) (iblk m c 3 t) (iblk m c 4 t) (iblk m c 5 t) (iblk m c 6 t) (ix2 r 0) = Norm.fac (aY m c (tok t r)) :=
  (out9_at _ _ _ _ _ _ _ r).trans (congrArg Norm.fac (row_eq m c t r))

theorem nrm_congr (c : Dev nD) {l l' : Fin 8192} {j j' : Fin 1024} (h0 : l = l') (h1 : j = j') :
    Norm.nrm (aY m c l) j = Norm.nrm (aY m c l') j' := by
  rw [h0, h1]

theorem out_congr (c : Dev nD) {l l' : Fin 8192} {j j' : Fin 1024} (h0 : l = l') (h1 : j = j') : aOut m c l j = aOut m c l' j' := by
  rw [h0, h1]

/-- The layer's output, as the kernel leaves it. -/
theorem out_array (c : Dev nD) : (dats m 0 c).arrAt 7 cfg0.N = fun i : S1x8192x1024.Idx => aOut m c (i 1) (i 2) := by
  refine (dats m 0 c).arrAt_eq_of_covers 7 _ (by decide +kernel) fun t hf y => ?_
  blk_simp [idx t]
  rw [after0_7]
  have hy : y = ix3 0 (y 1 : Fin 512) (y 2 : Fin 1024) := by
    refine (eq_ix3 (n0 := 1) (n1 := 512) (n2 := 1024) y).trans ?_
    exact congrArg (fun z : Fin 1 => (ix3 z (y 1 : Fin 512) (y 2 : Fin 1024))) (Subsingleton.elim _ _)
  refine (congrArg (out0_7 (F := Ideal) (iblk m c 0 t) (iblk m c 1 t) (iblk m c 2 t) (iblk m c 3 t) (iblk m c 4 t) (iblk m c 5 t) (iblk m c 6 t)) hy).trans
    ((out_point m c t (y 1) (y 2)).trans ?_)
  refine out_congr m c ?_ ?_
  all_goals refine Fin.ext ?_; blk_simp [idx t, tok]

/-- The normalised rows, as the kernel leaves them. -/
theorem nrm_array (c : Dev nD) : (dats m 0 c).arrAt 8 cfg0.N = fun i : S1x8192x1024.Idx => Norm.nrm (aY m c (i 1)) (i 2) := by
  refine (dats m 0 c).arrAt_eq_of_covers 8 _ (by decide +kernel) fun t hf y => ?_
  blk_simp [idx t]
  rw [after0_8]
  have hy : y = ix3 0 (y 1 : Fin 512) (y 2 : Fin 1024) := by
    refine (eq_ix3 (n0 := 1) (n1 := 512) (n2 := 1024) y).trans ?_
    exact congrArg (fun z : Fin 1 => (ix3 z (y 1 : Fin 512) (y 2 : Fin 1024))) (Subsingleton.elim _ _)
  refine (congrArg (out0_8 (F := Ideal) (iblk m c 0 t) (iblk m c 1 t) (iblk m c 2 t) (iblk m c 3 t) (iblk m c 4 t) (iblk m c 5 t) (iblk m c 6 t)) hy).trans
    ((nrm_point m c t (y 1) (y 2)).trans ?_)
  refine nrm_congr m c ?_ ?_
  all_goals refine Fin.ext ?_; blk_simp [idx t, tok]

/-- One over the spread of each row, as the kernel leaves it. -/
theorem fac_array (c : Dev nD) : (dats m 0 c).arrAt 9 cfg0.N = fun i : S8192x1.Idx => Norm.fac (aY m c (i 0)) := by
  refine (dats m 0 c).arrAt_eq_of_covers 9 _ (by decide +kernel) fun t hf y => ?_
  blk_simp [idx t]
  rw [after0_9]
  have hy : y = ix2 (y 0 : Fin 512) 0 := by
    refine (eq_ix2 (n0 := 512) (n1 := 1) y).trans ?_
    exact congrArg (fun z : Fin 1 => (ix2 (y 0 : Fin 512) z)) (Subsingleton.elim _ _)
  refine (congrArg (out0_9 (F := Ideal) (iblk m c 0 t) (iblk m c 1 t) (iblk m c 2 t) (iblk m c 3 t) (iblk m c 4 t) (iblk m c 5 t) (iblk m c 6 t)) hy).trans
    ((fac_point m c t (y 0)).trans ?_)
  refine congrArg (fun l => Norm.fac (aY m c l)) ?_
  refine Fin.ext ?_
  blk_simp [idx t, tok]

end Cert.Kernel5Ideal.Hand
-- ==== Proof.Down.Ref.lean ====
module
public import proofs.«01_k».proof.Proof.Gen.Reference5Ideal.Read
public import proofs.«01_k».proof.Proof.Down.Spec
@[expose] public section

/-!
# The down-projection and its layer norm: the reference's results
-/

set_option maxRecDepth 16384
noncomputable section
namespace Cert.Reference5Ideal.Hand
open Cert.Reference5Ideal Cert.Reference5Ideal.Gen Cert.Reference5Ideal.Read Idealize.ShloMosaic Idealize.ShloMosaic.TcCoe

variable (x0 : (⟨S1x8192x2816, .f32⟩ : BufTy).Contents (Elt Ideal)) (x1 : (⟨S1x8192x1024, .f32⟩ : BufTy).Contents (Elt Ideal))
  (x2 x3 : (⟨S1024, .f32⟩ : BufTy).Contents (Elt Ideal)) (x4 : (⟨S2816x1024, .f32⟩ : BufTy).Contents (Elt Ideal))
  (x5 x6 : (⟨S1024, .f32⟩ : BufTy).Contents (Elt Ideal))

/-- The row that the second layer norm takes. -/
def rY : Fin 8192 → Fin 1024 → EReal := Norm.pre (fun t k => x0 (ix3 0 t k)) (fun t k => x1 (ix3 0 t k)) (fun j => x2 (ix1 j))
  (fun j => x3 (ix1 j)) (fun k j => x4 (ix2 k j))

theorem v5_at (t : Fin 8192) (j : Fin 1024) : val_main_v5 (F := Ideal) x1 (ix3 0 t j) = Norm.cen (fun k => x1 (ix3 0 t k)) j := by
  pointwise [val_main_v5, val_main_v4, val_main_v3, val_main_v2, val_main_v1, val_main_v0, val_main_cst, val_main_cst_0, Norm.cen, Norm.len]

theorem v12_at (t : Fin 8192) (j : Fin 1024) : val_main_v12 (F := Ideal) x1 (ix3 0 t j) = Norm.cen (fun k => x1 (ix3 0 t k)) j := by
  pointwise [val_main_v12, val_main_v11, val_main_v3, val_main_v2, val_main_v1, val_main_v0, val_main_cst, val_main_cst_0, Norm.cen, Norm.len]

theorem v15_at (t : Fin 8192) : val_main_v15 (F := Ideal) x1 (ix3 0 t 0) = Norm.fac (fun k => x1 (ix3 0 t k)) := by
  pointwise [val_main_v15, val_main_v14, val_main_v13, val_main_cst_3, val_main_v10, val_main_v9, val_main_cst_2, val_main_v8,
    val_main_v7, val_main_cst_1, val_main_v6, Norm.fac, Norm.len, Norm.eps]
  simp only [v5_at]

theorem v17_at (t : Fin 8192) (j : Fin 1024) : val_main_v17 (F := Ideal) x1 (ix3 0 t j) = Norm.nrm (fun k => x1 (ix3 0 t k)) j := by
  pointwise [val_main_v17, val_main_v16, Norm.nrm]
  rw [v12_at, v15_at]

theorem v27_at (t : Fin 8192) (j : Fin 1024) : val_main_v27 (F := Ideal) x0 x1 x2 x3 x4 (ix3 0 t j) = rY x0 x1 x2 x3 x4 t j := by
  pointwise [val_main_v27, val_main_v26, val_main_v25, val_main_v24, val_main_cst_4, val_main_v23, val_main_v22, val_main_v21, val_main_v20,
    val_main_v19, val_main_v18, rY, Norm.pre, Norm.alpha]
  rw [v17_at]

theorem v33_at (t : Fin 8192) (j : Fin 1024) : val_main_v33 (F := Ideal) x0 x1 x2 x3 x4 (ix3 0 t j) = Norm.cen (rY x0 x1 x2 x3 x4 t) j := by
  pointwise [val_main_v33, val_main_v32, val_main_v31, val_main_v30, val_main_v29, val_main_v28, val_main_cst_5, val_main_cst_6, Norm.cen, Norm.len]
  simp only [v27_at]

theorem v43_at (t : Fin 8192) (j : Fin 1024) : val_main_v43 (F := Ideal) x0 x1 x2 x3 x4 (ix3 0 t j) = Norm.cen (rY x0 x1 x2 x3 x4 t) j := by
  pointwise [val_main_v43, val_main_v42, val_main_v31, val_main_v30, val_main_v29, val_main_v28, val_main_cst_5, val_main_cst_6, Norm.cen, Norm.len]
  simp only [v27_at]

theorem v41_at (t : Fin 8192) : val_main_v41 (F := Ideal) x0 x1 x2 x3 x4 (ix3 0 t 0) = Norm.fac (rY x0 x1 x2 x3 x4 t) := by
  pointwise [val_main_v41, val_main_v40, val_main_v39, val_main_cst_9, val_main_v38, val_main_v37, val_main_cst_8, val_main_v36,
    val_main_v35, val_main_cst_7, val_main_v34, Norm.fac, Norm.len, Norm.eps]
  simp only [v33_at]

theorem v52_at (t : Fin 8192) (j : Fin 1024) : val_main_v52 (F := Ideal) x0 x1 x2 x3 x4 (ix3 0 t j) = Norm.cen (rY x0 x1 x2 x3 x4 t) j := by
  pointwise [val_main_v52, val_main_v51, val_main_v50, val_main_v49, val_main_v48, val_main_v47, val_main_cst_10, val_main_cst_11, Norm.cen, Norm.len]
  simp only [v27_at]

theorem v59_at (t : Fin 8192) (j : Fin 1024) : val_main_v59 (F := Ideal) x0 x1 x2 x3 x4 (ix3 0 t j) = Norm.cen (rY x0 x1 x2 x3 x4 t) j := by
  pointwise [val_main_v59, val_main_v58, val_main_v50, val_main_v49, val_main_v48, val_main_v47, val_main_cst_10, val_main_cst_11, Norm.cen, Norm.len]
  simp only [v27_at]

theorem v62_at (t : Fin 8192) : val_main_v62 (F := Ideal) x0 x1 x2 x3 x4 (ix3 0 t 0) = Norm.fac (rY x0 x1 x2 x3 x4 t) := by
  pointwise [val_main_v62, val_main_v61, val_main_v60, val_main_cst_14, val_main_v57, val_main_v56, val_main_cst_13, val_main_v55,
    val_main_v54, val_main_cst_12, val_main_v53, Norm.fac, Norm.len, Norm.eps]
  simp only [v52_at]

/-- The normalised rows. -/
theorem v45_at (t : Fin 8192) (j : Fin 1024) : val_main_v45 (F := Ideal) x0 x1 x2 x3 x4 (ix3 0 t j) = Norm.nrm (rY x0 x1 x2 x3 x4 t) j := by
  pointwise [val_main_v45, val_main_v44, Norm.nrm]
  rw [v43_at, v41_at]

/-- One over the spread of each row. -/
theorem v46_at (t : Fin 8192) : val_main_v46 (F := Ideal) x0 x1 x2 x3 x4 (ix2 t 0) = Norm.fac (rY x0 x1 x2 x3 x4 t) := by
  pointwise [val_main_v46]
  exact v41_at x0 x1 x2 x3 x4 t

/-- The layer's output. -/
theorem v71_at (t : Fin 8192) (j : Fin 1024) : @Eq EReal (val_main_v71 (F := Ideal) x0 x1 x2 x3 x4 x5 x6 (ix3 0 t j))
    (Norm.nrm (rY x0 x1 x2 x3 x4 t) j * x5 (ix1 j) + x6 (ix1 j)) := by
  pointwise [val_main_v71, val_main_v70, val_main_v69, val_main_v68, val_main_v67, val_main_v66, val_main_v65, val_main_v64, val_main_v63, Norm.nrm]
  rw [v59_at, v62_at]

end Cert.Reference5Ideal.Hand
-- ==== Proof.Down.Equal.lean ====
module
public import proofs.«01_k».proof.Defs
public import proofs.«01_k».proof.Proof.Down.Arrays
public import proofs.«01_k».proof.Proof.Down.Ref
public import proofs.«01_k».proof.Proof.Gen.Reference5Ideal.Run
public import Idealize.ShloMosaic.Lib.Claim
@[expose] public section

/-!
# The down-projection and its layer norm: the kernel's results are the reference's
-/

set_option maxRecDepth 16384
noncomputable section
namespace Cert.Proof
open Idealize.ShloMosaic Idealize.ShloMosaic.TcCoe Idealize.SL.Sem

/-- The layer's output: the reference's result is the kernel's. -/
theorem down_out_eq (m : (ℓ : Loc Cert.Kernel5Ideal.nD Cert.Kernel5Ideal.τ Cert.Kernel5Ideal.sig) → Buf (Elt Ideal) ℓ) (c : Dev Cert.Kernel5Ideal.nD) :
    (Cert.Reference5Ideal.Read.val_main_v71 (F := Ideal)
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4))
      (m ((c.tc : Thread Cert.Kernel5Ideal.nD Cert.Kernel5Ideal.τ).loc Cert.Kernel5Ideal.main_arg5))
      (m ((c.tc : Thread Cert.Kernel5Ideal.nD Cert.Kernel5Ideal.τ).loc Cert.Kernel5Ideal.main_arg6)) : Cert.Kernel5Ideal.S1x8192x1024.Idx → EReal) =
      (Cert.Kernel5Ideal.Gen.dats m 0 c).arrAt 7 Cert.Kernel5Ideal.cfg0.N := by
  refine Eq.trans (funext fun i => ?_) (Cert.Kernel5Ideal.Hand.out_array m c).symm
  obtain ⟨z, t, j, rfl⟩ : ∃ (z : Fin 1) (t : Fin 8192) (j : Fin 1024), i = ix3 z t j := ⟨i 0, i 1, i 2, eq_ix3 i⟩
  obtain rfl : z = 0 := Subsingleton.elim _ _
  exact Cert.Reference5Ideal.Hand.v71_at _ _ _ _ _ _ _ t j

/-- The normalised rows: the reference's result is the kernel's. -/
theorem down_nrm_eq (m : (ℓ : Loc Cert.Kernel5Ideal.nD Cert.Kernel5Ideal.τ Cert.Kernel5Ideal.sig) → Buf (Elt Ideal) ℓ) (c : Dev Cert.Kernel5Ideal.nD) :
    (Cert.Reference5Ideal.Read.val_main_v45 (F := Ideal)
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4)) : Cert.Kernel5Ideal.S1x8192x1024.Idx → EReal) =
      (Cert.Kernel5Ideal.Gen.dats m 0 c).arrAt 8 Cert.Kernel5Ideal.cfg0.N := by
  refine Eq.trans (funext fun i => ?_) (Cert.Kernel5Ideal.Hand.nrm_array m c).symm
  obtain ⟨z, t, j, rfl⟩ : ∃ (z : Fin 1) (t : Fin 8192) (j : Fin 1024), i = ix3 z t j := ⟨i 0, i 1, i 2, eq_ix3 i⟩
  obtain rfl : z = 0 := Subsingleton.elim _ _
  exact Cert.Reference5Ideal.Hand.v45_at _ _ _ _ _ t j

/-- One over the spread of each row: the reference's result is the kernel's. -/
theorem down_fac_eq (m : (ℓ : Loc Cert.Kernel5Ideal.nD Cert.Kernel5Ideal.τ Cert.Kernel5Ideal.sig) → Buf (Elt Ideal) ℓ) (c : Dev Cert.Kernel5Ideal.nD) :
    (Cert.Reference5Ideal.Read.val_main_v46 (F := Ideal)
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4)) : Cert.Kernel5Ideal.S8192x1.Idx → EReal) =
      (Cert.Kernel5Ideal.Gen.dats m 0 c).arrAt 9 Cert.Kernel5Ideal.cfg0.N := by
  refine Eq.trans (funext fun i => ?_) (Cert.Kernel5Ideal.Hand.fac_array m c).symm
  obtain ⟨t, z, rfl⟩ : ∃ (t : Fin 8192) (z : Fin 1), i = ix2 t z := ⟨i 0, i 1, eq_ix2 i⟩
  obtain rfl : z = 0 := Subsingleton.elim _ _
  exact Cert.Reference5Ideal.Hand.v46_at _ _ _ _ _ t

/-- The value claim of the down-projection and its layer norm. -/
theorem down_algebraic : Cert.algebraic_Kernel5Ideal_Reference5Ideal := by
  intro m g m' g' _ hagree
  refine ⟨fun c => (Cert.Kernel5Ideal.Gen.dats m 0 c).arrAt 7 Cert.Kernel5Ideal.cfg0.N,
    fun c => (Cert.Kernel5Ideal.Gen.dats m 0 c).arrAt 8 Cert.Kernel5Ideal.cfg0.N,
    fun c => (Cert.Kernel5Ideal.Gen.dats m 0 c).arrAt 9 Cert.Kernel5Ideal.cfg0.N, Cert.Kernel5Ideal.Value.run_blocks m g, ?_⟩
  refine (θ_run Cert.Reference5Ideal.defs _ _).mono (fun r h c => ?_) (Cert.Reference5Ideal.Value.run (F := Ideal) m' g')
  obtain ⟨h0, h1, h2, hargs⟩ := h c
  obtain ⟨e0, e1, e2, e3, e4, e5, e6⟩ := hagree c
  refine ⟨h0.trans ?_, h1.trans ?_, h2.trans ?_, hargs⟩
  · rw [Cert.Reference5Ideal.Read.val_main_v71_eq, e0, e1, e2, e3, e4, e5, e6]
    exact down_out_eq m c
  · rw [Cert.Reference5Ideal.Read.val_main_v45_eq, e0, e1, e2, e3, e4]
    exact down_nrm_eq m c
  · rw [Cert.Reference5Ideal.Read.val_main_v46_eq, e0, e1, e2, e3, e4]
    exact down_fac_eq m c

/-- The reference runs to its end, leaves its arguments unchanged, and declares no counter that could stay raised. -/
theorem down_reference_frame : Cert.quiescent_Reference5Ideal := fun m g _ =>
  (θ_run Cert.Reference5Ideal.defs _ _).mono
    (fun r h => ⟨fun c => (h c).2.2.2, Idealize.ShloMosaic.sem_eq_zero_of_no_sems (by decide) r.2⟩)
    (Cert.Reference5Ideal.Value.run m g)

end Cert.Proof
-- ==== Proof.Dx.Kernel.lean ====
module
public import proofs.«01_k».proof.Proof.Gen.Kernel6Ideal.Value
public import proofs.«01_k».proof.Proof.Dh.Spec
public import Idealize.ShloMosaic.Lib.Pipeline.ValueKit
public import Idealize.ShloMosaic.Lib.Pipeline.ReadBack
public import Idealize.ShloMosaic.Lib.Pointwise
@[expose] public section

/-!
# The gradient of the step's input: the kernel's result array

A grid point multiplies 256 rows of the gradient of the projections into the HGRN layer by the transposed weights, one of
the eight blocks of 512 columns at a time, and adds the residual's gradient.
-/

set_option maxRecDepth 16384
noncomputable section
namespace Cert.Kernel6Ideal.Hand
open Cert.Kernel6Ideal Cert.Kernel6Ideal.Gen Idealize.ShloMosaic Idealize.ShloMosaic.TcCoe Idealize.SL.Sem
variable (m : (ℓ : Loc nD τ sig) → Buf (Elt Ideal) ℓ)

/-- The weights of the projections. -/
def aW (c : Dev nD) (k : Fin 1024) (j : Fin 4096) : EReal := m ((c : Thread nD τ).loc main_arg1) (ix2 k j)
/-- The gradient of the projections. -/
def aDz (c : Dev nD) (t : Fin 8192) (j : Fin 4096) : EReal := m ((c : Thread nD τ).loc main_arg2) (ix3 0 t j)
/-- The gradient of the residual. -/
def aDy (c : Dev nD) (t : Fin 8192) (k : Fin 1024) : EReal := m ((c : Thread nD τ).loc main_arg3) (ix3 0 t k)

/-- The gradient of the step's input. -/
def aDx (c : Dev nD) (t : Fin 8192) (k : Fin 1024) : EReal := ∑ j : Fin 4096, aDz m c t j * aW m c k j + Norm.alpha * aDy m c t k

/-- The column at lane `x` of block `n`. -/
def col (n : Fin 8) (x : Fin 512) : Fin 4096 := ⟨n.val * 512 + x.val, by omega⟩

theorem V2_eq (c : Dev nD) (n : Fin 8) (t : Fin 8192) (x : Fin 512) : @Eq EReal (V m c main_v2 (ix3 n t x)) (aDz m c t (col n x)) := by
  unfold V
  simp only [hostOps0, StableHlo.after_cons, StableHlo.after_nil]
  after_results_simp
  pointwise [aDz, col]

theorem V6_eq (c : Dev nD) (n : Fin 8) (k : Fin 1024) (x : Fin 512) : @Eq EReal (V m c main_v6 (ix4 0 n k x)) (aW m c k (col n x)) := by
  unfold V
  simp only [hostOps0, StableHlo.after_cons, StableHlo.after_nil]
  after_results_simp
  pointwise [aW, col]

theorem Vdy_eq (c : Dev nD) (t : Fin 8192) (k : Fin 1024) : @Eq EReal (V m c main_arg3 (ix3 0 t k)) (aDy m c t k) :=
  congrFun (V_main_arg3 m c) (ix3 0 t k)

/-- The token of row `r` at a grid point. -/
def tok (t : Fin cfg0.N) (r : Fin 256) : Fin 8192 := ⟨t.val * 256 + r.val, by
  have h := lt_of_lt_of_eq t.isLt (show cfg0.N = 32 from N_0); omega⟩

theorem idx : ∀ t : Fin cfg0.N,
    win0_0.index t = ![0, t.val, 0] ∧ win0_1.index t = ![0, 0, 0, 0] ∧ win0_2.index t = ![0, t.val, 0] ∧ win0_3.index t = ![0, t.val, 0] :=
  (by decide +kernel : ∀ t : Fin grid0.N, _)

theorem b0_eq (c : Dev nD) (t : Fin cfg0.N) (n : Fin 8) (r : Fin 256) (x : Fin 512) :
    @Eq EReal (iblk m c 0 t (ix3 n r x)) (aDz m c (tok t r) (col n x)) := by
  refine Eq.trans ?_ (V2_eq m c n (tok t r) x)
  blk_ext [iblk, idx t, tok]

theorem b1_eq (c : Dev nD) (t : Fin cfg0.N) (n : Fin 8) (k : Fin 1024) (x : Fin 512) :
    @Eq EReal (iblk m c 1 t (ix4 0 n k x)) (aW m c k (col n x)) := by
  refine Eq.trans ?_ (V6_eq m c n k x)
  blk_ext [iblk, idx t]

theorem b2_eq (c : Dev nD) (t : Fin cfg0.N) (r : Fin 256) (k : Fin 1024) : @Eq EReal (iblk m c 2 t (ix3 0 r k)) (aDy m c (tok t r) k) := by
  refine Eq.trans ?_ (Vdy_eq m c (tok t r) k)
  blk_ext [iblk, idx t, tok]

/-- The product of one block of the gradient with one block of the weights, transposed. -/
def prod (v : Vec Ideal S1x256x512 .bf16) (w : Vec Ideal S1x1x1024x512 .bf16) (r : Fin 256) (k : Fin 1024) : EReal :=
  ∑ x : Fin 512, (v (ix3 0 r x) : EReal) * (w (ix4 0 0 k x) : EReal)

theorem pay2_apply (v0 : Vec Ideal S1x256x512 .bf16) (v2 : Vec Ideal S1x1x1024x512 .bf16) (v5 : Vec Ideal S1x256x512 .bf16) (v7 : Vec Ideal S1x1x1024x512 .bf16)
    (v11 : Vec Ideal S1x256x512 .bf16) (v13 : Vec Ideal S1x1x1024x512 .bf16) (v17 : Vec Ideal S1x256x512 .bf16) (v19 : Vec Ideal S1x1x1024x512 .bf16)
    (r : Fin 256) (k : Fin 1024) : @Eq EReal (k0_pay2 (F := Ideal) v0 v2 v5 v7 v11 v13 v17 v19 (ix2 r k))
      (prod v0 v2 r k + prod v5 v7 r k + prod v11 v13 r k + prod v17 v19 r k) := by
  pointwise [k0_pay2, prod]

theorem pay3_apply (v22 : FVec Ideal S256x1024 .f32) (v23 : Vec Ideal S1x256x512 .bf16) (v25 : Vec Ideal S1x1x1024x512 .bf16) (v29 : Vec Ideal S1x256x512 .bf16)
    (v31 : Vec Ideal S1x1x1024x512 .bf16) (v35 : Vec Ideal S1x256x512 .bf16) (v37 : Vec Ideal S1x1x1024x512 .bf16) (v41 : Vec Ideal S1x256x512 .bf16)
    (v43 : Vec Ideal S1x1x1024x512 .bf16) (r : Fin 256) (k : Fin 1024) : @Eq EReal (k0_pay3 (F := Ideal) v22 v23 v25 v29 v31 v35 v37 v41 v43 (ix2 r k))
      (v22 (ix2 r k) + prod v23 v25 r k + prod v29 v31 r k + prod v35 v37 r k + prod v41 v43 r k) := by
  pointwise [k0_pay3, prod]

/-- What a grid point writes, from its whole blocks. -/
theorem out_at (x0 : Vec Ideal S8x256x512 .bf16) (x1 : Vec Ideal S1x8x1024x512 .bf16) (x2 : Vec Ideal S1x256x1024 .f32) (r : Fin 256) (k : Fin 1024) :
    @Eq EReal (out0_3 (F := Ideal) x0 x1 x2 (ix3 0 r k))
      ((∑ n : Fin 8, ∑ x : Fin 512, (x0 (ix3 n r x) : EReal) * (x1 (ix4 0 n k x) : EReal)) + Norm.alpha * x2 (ix3 0 r k)) := by
  unfold out0_3
  frame_out
  pointwise [k0_pay1, k0_pay4, Norm.alpha]
  refine congrArg (fun a : EReal => a + _) ?_
  refine (pay3_apply _ _ _ _ _ _ _ _ _ r k).trans ?_
  rw [pay2_apply, Fin.sum_univ_eight]
  pointwise [prod]

/-- What a grid point writes. -/
theorem point (c : Dev nD) (t : Fin cfg0.N) (r : Fin 256) (k : Fin 1024) :
    @Eq EReal (out0_3 (F := Ideal) (iblk m c 0 t) (iblk m c 1 t) (iblk m c 2 t) (ix3 0 r k)) (aDx m c (tok t r) k) := by
  refine (out_at _ _ _ r k).trans ?_
  refine congrArg₂ (fun a b : EReal => a + b) ?_ (congrArg (fun a : EReal => Norm.alpha * a) (b2_eq m c t r k))
  refine Eq.trans ?_ (Norm.sum_parts (n := 8) (k := 512) rfl _).symm
  refine Finset.sum_congr rfl fun n _ => Finset.sum_congr rfl fun x _ => ?_
  exact congrArg₂ (fun a b : EReal => a * b) (b0_eq m c t n r x) (b1_eq m c t n k x)

/-- The kernel's result. -/
theorem array (c : Dev nD) : (dats m 0 c).arrAt 3 cfg0.N = fun i : S1x8192x1024.Idx => aDx m c (i 1) (i 2) := by
  refine (dats m 0 c).arrAt_eq_of_covers 3 _ (by decide +kernel) fun t hf y => ?_
  blk_simp [idx t]
  rw [after0_3]
  have hy : y = ix3 0 (y 1 : Fin 256) (y 2 : Fin 1024) := by
    refine (eq_ix3 (n0 := 1) (n1 := 256) (n2 := 1024) y).trans ?_
    exact congrArg (fun z : Fin 1 => (ix3 z (y 1 : Fin 256) (y 2 : Fin 1024))) (Subsingleton.elim _ _)
  refine (congrArg (out0_3 (F := Ideal) (iblk m c 0 t) (iblk m c 1 t) (iblk m c 2 t)) hy).trans ((point m c t (y 1) (y 2)).trans ?_)
  refine congrArg₂ (aDx m c) ?_ ?_
  all_goals refine Fin.ext ?_; blk_simp [idx t, tok]

end Cert.Kernel6Ideal.Hand
-- ==== Proof.Dx.Equal.lean ====
module
public import proofs.«01_k».proof.Defs
public import proofs.«01_k».proof.Proof.Dx.Kernel
public import proofs.«01_k».proof.Proof.Gen.Reference6Ideal.Read
public import proofs.«01_k».proof.Proof.Gen.Reference6Ideal.Run
public import Idealize.ShloMosaic.Lib.Claim
@[expose] public section

/-!
# The gradient of the step's input: the kernel's result is the reference's
-/

set_option maxRecDepth 16384
noncomputable section
namespace Cert.Reference6Ideal.Hand
open Cert.Reference6Ideal Cert.Reference6Ideal.Gen Cert.Reference6Ideal.Read Idealize.ShloMosaic Idealize.ShloMosaic.TcCoe Idealize.SL.Sem
variable (x1 : FVec Ideal S1024x4096 .f32) (x2 : FVec Ideal S1x8192x4096 .f32) (x3 : FVec Ideal S1x8192x1024 .f32)

/-- The reference's result. -/
theorem v6_at (t : Fin 8192) (k : Fin 1024) : @Eq EReal (val_main_v6 (F := Ideal) x1 x2 x3 (ix3 0 t k))
    (Norm.alpha * x3 (ix3 0 t k) + ∑ j : Fin 4096, x2 (ix3 0 t j) * x1 (ix2 k j)) := by
  pointwise [val_main_v6, val_main_v5, val_main_v4, val_main_v3, val_main_cst_0, Norm.alpha]

end Cert.Reference6Ideal.Hand

namespace Cert.Proof
open Idealize.ShloMosaic Idealize.ShloMosaic.TcCoe Idealize.SL.Sem

/-- The gradient of the step's input: the reference's result is the kernel's. -/
theorem hgrn_dx_eq (m : (ℓ : Loc Cert.Kernel6Ideal.nD Cert.Kernel6Ideal.τ Cert.Kernel6Ideal.sig) → Buf (Elt Ideal) ℓ) (c : Dev Cert.Kernel6Ideal.nD) :
    (Cert.Reference6Ideal.Read.val_main_v6 (F := Ideal)
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3)) : Cert.Kernel6Ideal.S1x8192x1024.Idx → EReal) =
      (Cert.Kernel6Ideal.Gen.dats m 0 c).arrAt 3 Cert.Kernel6Ideal.cfg0.N := by
  refine Eq.trans (funext fun i => ?_) (Cert.Kernel6Ideal.Hand.array m c).symm
  obtain ⟨z, t, k, rfl⟩ : ∃ (z : Fin 1) (t : Fin 8192) (k : Fin 1024), i = ix3 z t k := ⟨i 0, i 1, i 2, eq_ix3 i⟩
  obtain rfl : z = 0 := Subsingleton.elim _ _
  exact (Cert.Reference6Ideal.Hand.v6_at _ _ _ t k).trans (add_comm _ _)

/-- The value claim of the gradient of the step's input. -/
theorem hgrn_dx_algebraic : Cert.algebraic_Kernel6Ideal_Reference6Ideal := by
  intro m g m' g' _ hagree
  refine ⟨fun c => (Cert.Kernel6Ideal.Gen.dats m 0 c).arrAt 3 Cert.Kernel6Ideal.cfg0.N, Cert.Kernel6Ideal.Value.run_blocks m g, ?_⟩
  refine (θ_run Cert.Reference6Ideal.defs _ _).mono (fun r h c => ?_) (Cert.Reference6Ideal.Value.run (F := Ideal) m' g')
  obtain ⟨h0, hargs⟩ := h c
  obtain ⟨e0, e1, e2, e3⟩ := hagree c
  refine ⟨h0.trans ?_, hargs⟩
  rw [Cert.Reference6Ideal.Read.val_main_v6_eq, e1, e2, e3]
  exact hgrn_dx_eq m c

/-- The reference runs to its end, leaves its arguments unchanged, and declares no counter that could stay raised. -/
theorem hgrn_dx_reference_frame : Cert.quiescent_Reference6Ideal := fun m g _ =>
  (θ_run Cert.Reference6Ideal.defs _ _).mono
    (fun r h => ⟨fun c => (h c).2, Idealize.ShloMosaic.sem_eq_zero_of_no_sems (by decide) r.2⟩)
    (Cert.Reference6Ideal.Value.run m g)

end Cert.Proof
-- ==== Proof.Hdwin.Kernel.lean ====
module
public import proofs.«01_k».proof.Proof.Gen.Kernel7Ideal.Value
public import proofs.«01_k».proof.Proof.Dwin.Kernel
public import Idealize.ShloMosaic.Lib.Pipeline.ValueKit
public import Idealize.ShloMosaic.Lib.Pipeline.ReadBack
public import Idealize.ShloMosaic.Lib.Pointwise
@[expose] public section

/-!
# The gradient of the projections into the HGRN layer: the kernel's result array

The call multiplies the transpose of the layer's input by the gradient of the projections, one block of 512 columns
at a time, in two halves of the tokens: the first half starts the accumulator and the second is added to it.
-/

set_option maxRecDepth 16384
noncomputable section
namespace Cert.Kernel7Ideal.Hand
open Cert.Kernel7Ideal Cert.Kernel7Ideal.Gen Idealize.ShloMosaic Idealize.ShloMosaic.TcCoe Idealize.SL.Sem
variable (m : (ℓ : Loc nD τ sig) → Buf (Elt Ideal) ℓ)

/-- The layer's input. -/
def aH (c : Dev nD) (t : Fin 8192) (k : Fin 1024) : EReal := m ((c : Thread nD τ).loc main_arg0) (ix3 0 t k)
/-- The gradient of the projections. -/
def aD (c : Dev nD) (t : Fin 8192) (j : Fin 4096) : EReal := m ((c : Thread nD τ).loc main_arg2) (ix3 0 t j)

/-- The gradient of the weights: over all tokens, the input times the gradient. -/
def grad (h : Fin 8192 → Fin 1024 → EReal) (d : Fin 8192 → Fin 4096 → EReal) (k : Fin 1024) (j : Fin 4096) : EReal :=
  ∑ t : Fin 8192, h t k * d t j

/-- The column of the weights at lane `x` of the block that grid points `2n` and `2n + 1` compute. -/
def colOf (n : ℕ) (hn : n < 8) (x : Fin 512) : Fin 4096 := ⟨n * 512 + x.val, by omega⟩

theorem V0_eq (c : Dev nD) (t : Fin 8192) (k : Fin 1024) : @Eq EReal (V m c main_v0 (ix3 0 t k)) (aH m c t k) := by
  unfold V
  simp only [hostOps0, StableHlo.after_cons, StableHlo.after_nil]
  after_results_simp
  pointwise [aH]

theorem V3_eq (c : Dev nD) (n : Fin 8) (t : Fin 8192) (x : Fin 512) :
    @Eq EReal (V m c main_v3 (ix3 n t x)) (aD m c t (colOf n.val n.isLt x)) := by
  unfold V
  simp only [hostOps0, StableHlo.after_cons, StableHlo.after_nil]
  after_results_simp
  pointwise [aD, colOf]

theorem idx : ∀ t : Fin cfg0.N,
    win0_0.index t = ![0, t.val % 2, 0] ∧ win0_1.index t = ![t.val / 2, t.val % 2, 0] ∧
    win0_2.index t = ![0, t.val / 2, 0, 0] :=
  (by decide +kernel : ∀ t : Fin grid0.N, _)

theorem lt16 (t : Fin cfg0.N) : t.val < 16 := lt_of_lt_of_eq t.isLt (show cfg0.N = 16 from N_0)

/-- The token of row `r` at a grid point. -/
def tok (n : ℕ) (r : Fin 4096) : Fin 8192 := ⟨(n % 2) * 4096 + r.val, by omega⟩

theorem b0_eq (c : Dev nD) (t : Fin cfg0.N) (r : Fin 4096) (k : Fin 1024) :
    @Eq EReal (iblk m c 0 t (ix3 0 r k)) (aH m c (tok t.val r) k) := by
  refine Eq.trans ?_ (V0_eq m c (tok t.val r) k)
  blk_ext [iblk, idx t, tok]

theorem b1_eq (c : Dev nD) (t : Fin cfg0.N) (r : Fin 4096) (x : Fin 512) :
    @Eq EReal (iblk m c 1 t (ix3 0 r x)) (aD m c (tok t.val r) (colOf (t.val / 2) (by have := lt16 t; omega) x)) := by
  refine Eq.trans ?_ (V3_eq m c ⟨t.val / 2, by have := lt16 t; omega⟩ (tok t.val r) x)
  blk_ext [iblk, idx t, tok]

/-- The product of a grid point's two blocks. -/
theorem prod_eq (c : Dev nD) (t : Fin cfg0.N) (k : Fin 1024) (x : Fin 512) :
    k0_pay1 (F := Ideal) (iblk m c 0 t) (iblk m c 1 t) (ix2 k x) =
      ∑ r : Fin 4096, aH m c (tok t.val r) k * aD m c (tok t.val r) (colOf (t.val / 2) (by have := lt16 t; omega) x) := by
  have e0 := fun r => b0_eq m c t r k
  have e1 := fun r => b1_eq m c t r x
  generalize iblk m c 0 t = A at e0 ⊢
  generalize iblk m c 1 t = B at e1 ⊢
  pointwise [k0_pay1]
  exact Finset.sum_congr rfl fun r _ => congrArg₂ (fun a b : EReal => a * b) (e0 r) (e1 r)

/-- What the first point of a block leaves in the accumulator. -/
theorem first_eq (c : Dev nD) (t : Fin cfg0.N) (h0 : t.val % 2 = 0) (k : Fin 1024) (x : Fin 512) :
    (outsAt0 m c t.val t.isLt).2 (ix2 k x) = k0_pay1 (F := Ideal) (iblk m c 0 t) (iblk m c 1 t) (ix2 k x) := by
  rw [outsAt0_A m c t h0 (by omega) (by omega)]
  frame_out
  pointwise [k0_pay2]

/-- What the second point of a block writes. -/
theorem second_eq (c : Dev nD) (t : Fin cfg0.N) (h0 : t.val % 2 = 1) (k : Fin 1024) (x : Fin 512) :
    @Eq EReal ((outsAt0 m c t.val t.isLt).1 (ix4 0 0 k x))
      ((outsAt0 m c (t.val - 1) (Nat.lt_of_le_of_lt (Nat.sub_le _ _) t.isLt)).2 (ix2 k x) +
        k0_pay1 (F := Ideal) (iblk m c 0 t) (iblk m c 1 t) (ix2 k x)) := by
  rw [outsAt0_B m c t (by omega) h0 h0]
  frame_out
  simp only [read_unread_whole]
  pointwise [k0_pay4, k0_pay3]

/-- The kernel's result. -/
theorem array (c : Dev nD) : (dats m 0 c).arrAt 2 cfg0.N =
    fun i : S1x8x1024x512.Idx => grad (aH m c) (aD m c) (i 2) ⟨(i 1).val * 512 + (i 3).val, by
      have h1 : (i 1).val < 8 := (i 1).isLt; have h3 : (i 3).val < 512 := (i 3).isLt; omega⟩ := by
  refine (dats m 0 c).arrAt_eq_of_covers 2 _ (by decide +kernel) fun t hf y => ?_
  have h1 := (flush0_2 t).mp hf
  blk_simp [idx t]
  rw [after0_2]
  have hy : y = ix4 0 0 (y 2 : Fin 1024) (y 3 : Fin 512) := by
    refine (eq_ix4 (n0 := 1) (n1 := 1) (n2 := 1024) (n3 := 512) y).trans ?_
    exact congrArg₂ (fun z w : Fin 1 => (ix4 z w (y 2 : Fin 1024) (y 3 : Fin 512))) (Subsingleton.elim _ _) (Subsingleton.elim _ _)
  refine (congrArg (outsAt0 m c t.val t.isLt).1 hy).trans ((second_eq m c t h1 (y 2) (y 3)).trans ?_)
  have hp := first_eq m c ⟨t.val - 1, Nat.lt_of_le_of_lt (Nat.sub_le _ _) t.isLt⟩ (by show (t.val - 1) % 2 = 0; omega) (y 2) (y 3)
  refine (congrArg₂ (fun a b : EReal => a + b) (hp.trans (prod_eq m c _ (y 2) (y 3))) (prod_eq m c t (y 2) (y 3))).trans ?_
  refine Eq.trans ?_ (Cert.Kernel2Ideal.Hand.sum_two (n := 4096) rfl _).symm
  have ht := lt16 t
  refine congrArg₂ (fun a b : EReal => a + b) (Finset.sum_congr rfl fun r _ => ?_) (Finset.sum_congr rfl fun r _ => ?_)
  all_goals refine congrArg₂ (fun a b : EReal => a * b) (congrArg₂ (aH m c) (Fin.ext ?_) (Fin.ext ?_)) (congrArg₂ (aD m c) (Fin.ext ?_) (Fin.ext ?_))
  all_goals blk_simp [idx t, tok, colOf]
  all_goals (dsimp only; omega)

end Cert.Kernel7Ideal.Hand
-- ==== Proof.Hdwin.Ref.lean ====
module
public import proofs.«01_k».proof.Proof.Gen.Reference7Ideal.Read
public import Idealize.ShloMosaic.Lib.Pointwise
@[expose] public section

/-!
# The gradient of the projections into the HGRN layer: the reference's result
-/

set_option maxRecDepth 16384
noncomputable section
namespace Cert.Reference7Ideal.Hand
open Cert.Reference7Ideal Cert.Reference7Ideal.Gen Cert.Reference7Ideal.Read Idealize.ShloMosaic Idealize.ShloMosaic.TcCoe Idealize.SL.Sem
variable (x0 : FVec Ideal S1x8192x1024 .f32) (x2 : FVec Ideal S1x8192x4096 .f32)

/-- Every entry of the product contracts all tokens. -/
theorem v1_at (j : Fin 4096) (k : Fin 1024) :
    val_main_v1 (F := Ideal) x0 x2 (ix2 j k) = ∑ t : Fin 8192, x2 (ix3 0 t j) * x0 (ix3 0 t k) := by
  pointwise [val_main_v1]
  exact Fin.sum_univ_one _

/-- The result, block by block. -/
theorem v6_at (n : Fin 8) (k : Fin 1024) (x : Fin 512) :
    @Eq EReal (val_main_v6 (F := Ideal) x0 x2 (ix4 0 n k x))
      (∑ t : Fin 8192, x2 (ix3 0 t ⟨n.val * 512 + x.val, by omega⟩) * x0 (ix3 0 t k)) := by
  pointwise [val_main_v6, val_main_v5, val_main_v4, val_main_v3, val_main_v2]
  exact v1_at x0 x2 _ k

end Cert.Reference7Ideal.Hand
-- ==== Proof.Hdwin.Equal.lean ====
module
public import proofs.«01_k».proof.Defs
public import proofs.«01_k».proof.Proof.Hdwin.Kernel
public import proofs.«01_k».proof.Proof.Hdwin.Ref
public import proofs.«01_k».proof.Proof.Gen.Reference7Ideal.Run
public import Idealize.ShloMosaic.Lib.Claim
@[expose] public section

/-!
# The gradient of the projections into the HGRN layer: the kernel's result is the reference's
-/

set_option maxRecDepth 16384
noncomputable section
namespace Cert.Proof
open Idealize.ShloMosaic Idealize.ShloMosaic.TcCoe Idealize.SL.Sem

/-- The gradient of the projections into the HGRN layer: the reference's result is the kernel's. -/
theorem hgrn_dwin_eq (m : (ℓ : Loc Cert.Kernel7Ideal.nD Cert.Kernel7Ideal.τ Cert.Kernel7Ideal.sig) → Buf (Elt Ideal) ℓ) (c : Dev Cert.Kernel7Ideal.nD) :
    (Cert.Reference7Ideal.Read.val_main_v6 (F := Ideal)
      (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg2)) : Cert.Kernel7Ideal.S1x8x1024x512.Idx → EReal) =
      (Cert.Kernel7Ideal.Gen.dats m 0 c).arrAt 2 Cert.Kernel7Ideal.cfg0.N := by
  refine Eq.trans (funext fun i => ?_) (Cert.Kernel7Ideal.Hand.array m c).symm
  obtain ⟨z, n, k, x, rfl⟩ : ∃ (z : Fin 1) (n : Fin 8) (k : Fin 1024) (x : Fin 512), i = ix4 z n k x := ⟨i 0, i 1, i 2, i 3, eq_ix4 i⟩
  obtain rfl : z = 0 := Subsingleton.elim _ _
  refine (Cert.Reference7Ideal.Hand.v6_at _ _ n k x).trans ?_
  exact Finset.sum_congr rfl fun t _ => mul_comm _ _

/-- The value claim of the gradient of the projections into the HGRN layer. -/
theorem hgrn_dwin_algebraic : Cert.algebraic_Kernel7Ideal_Reference7Ideal := by
  intro m g m' g' _ hagree
  refine ⟨fun c => (Cert.Kernel7Ideal.Gen.dats m 0 c).arrAt 2 Cert.Kernel7Ideal.cfg0.N, Cert.Kernel7Ideal.Value.run_blocks m g, ?_⟩
  refine (θ_run Cert.Reference7Ideal.defs _ _).mono (fun r h c => ?_) (Cert.Reference7Ideal.Value.run (F := Ideal) m' g')
  obtain ⟨h0, hargs⟩ := h c
  obtain ⟨e0, e1, e2⟩ := hagree c
  refine ⟨h0.trans ?_, hargs⟩
  rw [Cert.Reference7Ideal.Read.val_main_v6_eq, e0, e2]
  exact hgrn_dwin_eq m c

/-- The reference runs to its end, leaves its arguments unchanged, and declares no counter that could stay raised. -/
theorem hgrn_dwin_reference_frame : Cert.quiescent_Reference7Ideal := fun m g _ =>
  (θ_run Cert.Reference7Ideal.defs _ _).mono
    (fun r h => ⟨fun c => (h c).2, Idealize.ShloMosaic.sem_eq_zero_of_no_sems (by decide) r.2⟩)
    (Cert.Reference7Ideal.Value.run m g)

end Cert.Proof
-- ==== Proof.Hin.Kernel.lean ====
module
public import proofs.«01_k».proof.Proof.Gen.Kernel8Ideal.Value
public import Idealize.ShloMosaic.Lib.Pipeline.ValueKit
public import Idealize.ShloMosaic.Lib.Pipeline.ReadBack
public import Idealize.ShloMosaic.Lib.Pointwise
public import proofs.«01_k».proof.Proof.Gate.Pieces
@[expose] public section

/-!
# The projections into the HGRN layer: the kernel's result array

A grid point multiplies 512 rows of the input by the weights, one of the eight blocks of 512 columns at a time.
-/

set_option maxRecDepth 16384
noncomputable section
namespace Cert.Kernel8Ideal.Hand
open Cert.Kernel8Ideal Cert.Kernel8Ideal.Gen Idealize.ShloMosaic Idealize.ShloMosaic.TcCoe Idealize.SL.Sem
variable (m : (ℓ : Loc nD τ sig) → Buf (Elt Ideal) ℓ)

/-- The layer's input. -/
def aX (c : Dev nD) (t : Fin 8192) (k : Fin 1024) : EReal := m ((c : Thread nD τ).loc main_arg0) (ix3 0 t k)
/-- The weights of the projections. -/
def aW (c : Dev nD) (k : Fin 1024) (j : Fin 4096) : EReal := m ((c : Thread nD τ).loc main_arg1) (ix2 k j)

/-- The column at lane `x` of block `n`. -/
def col (n : Fin 8) (x : Fin 512) : Fin 4096 := ⟨n.val * 512 + x.val, by omega⟩

/-- The projections, block by block. -/
def aZ (c : Dev nD) (n : Fin 8) (t : Fin 8192) (x : Fin 512) : EReal := ∑ k : Fin 1024, aX m c t k * aW m c k (col n x)

theorem V0_eq (c : Dev nD) (t : Fin 8192) (k : Fin 1024) : @Eq EReal (V m c main_v0 (ix3 0 t k)) (aX m c t k) := by
  unfold V
  simp only [hostOps0, StableHlo.after_cons, StableHlo.after_nil]
  after_results_simp
  pointwise [aX]

theorem V4_eq (c : Dev nD) (n : Fin 8) (k : Fin 1024) (x : Fin 512) : @Eq EReal (V m c main_v4 (ix4 0 n k x)) (aW m c k (col n x)) := by
  unfold V
  simp only [hostOps0, StableHlo.after_cons, StableHlo.after_nil]
  after_results_simp
  pointwise [aW, col]

/-- The token of row `r` at a grid point. -/
def tok (t : Fin cfg0.N) (r : Fin 512) : Fin 8192 := ⟨t.val * 512 + r.val, by
  have h := lt_of_lt_of_eq t.isLt (show cfg0.N = 16 from N_0); omega⟩

theorem idx : ∀ t : Fin cfg0.N,
    win0_0.index t = ![0, t.val, 0] ∧ win0_1.index t = ![0, 0, 0, 0] ∧ win0_2.index t = ![0, t.val, 0] :=
  (by decide +kernel : ∀ t : Fin grid0.N, _)

theorem b0_eq (c : Dev nD) (t : Fin cfg0.N) (r : Fin 512) (k : Fin 1024) : @Eq EReal (iblk m c 0 t (ix3 0 r k)) (aX m c (tok t r) k) := by
  refine Eq.trans ?_ (V0_eq m c (tok t r) k)
  blk_ext [iblk, idx t, tok]

theorem b1_eq (c : Dev nD) (t : Fin cfg0.N) (n : Fin 8) (k : Fin 1024) (x : Fin 512) :
    @Eq EReal (iblk m c 1 t (ix4 0 n k x)) (aW m c k (col n x)) := by
  refine Eq.trans ?_ (V4_eq m c n k x)
  blk_ext [iblk, idx t]

/-- The product of a block of rows and a block of columns. -/
theorem pay_apply (v : Vec Ideal S1x512x1024 .bf16) (w : Vec Ideal S1x1x1024x512 .bf16) (r x : Fin 512) :
    @Eq EReal (k0_pay1 (F := Ideal) v w (ix3 0 r x)) (∑ k : Fin 1024, (v (ix3 0 r k) : EReal) * (w (ix4 0 0 k x) : EReal)) := by
  pointwise [k0_pay1]

/-- What a grid point writes, from its whole blocks: eight pieces, one per block of columns. -/
theorem out_at (x0 : Vec Ideal S1x512x1024 .bf16) (x1 : Vec Ideal S1x8x1024x512 .bf16) (n : Fin 8) (r x : Fin 512) :
    @Eq EReal (out0_2 (F := Ideal) x0 x1 (ix3 n r x)) (∑ k : Fin 1024, (x0 (ix3 0 r k) : EReal) * (x1 (ix4 0 n k x) : EReal)) := by
  unfold out0_2
  refine Cert.KernelIdeal.Hand.canon_case3 _ _ _ _ _ _ _ (fun a b d ha hb hd => ?_) fun n7 =>
    Cert.KernelIdeal.Hand.canon_case3 _ _ _ _ _ _ _ (fun a b d ha hb hd => ?_) fun n6 =>
    Cert.KernelIdeal.Hand.canon_case3 _ _ _ _ _ _ _ (fun a b d ha hb hd => ?_) fun n5 =>
    Cert.KernelIdeal.Hand.canon_case3 _ _ _ _ _ _ _ (fun a b d ha hb hd => ?_) fun n4 =>
    Cert.KernelIdeal.Hand.canon_case3 _ _ _ _ _ _ _ (fun a b d ha hb hd => ?_) fun n3 =>
    Cert.KernelIdeal.Hand.canon_case3 _ _ _ _ _ _ _ (fun a b d ha hb hd => ?_) fun n2 =>
    Cert.KernelIdeal.Hand.canon_case3 _ _ _ _ _ _ _ (fun a b d ha hb hd => ?_) fun n1 =>
    Cert.KernelIdeal.Hand.canon_case3 _ _ _ _ _ _ _ (fun a b d ha hb hd => ?_) fun n0 => absurd n.isLt (by omega)
  all_goals
    obtain rfl : a = 0 := Subsingleton.elim _ _
    obtain rfl : b = r := Fin.ext (by omega)
    obtain rfl : d = x := Fin.ext (by omega)
    refine (pay_apply _ _ b d).trans (Finset.sum_congr rfl fun k _ => congrArg₂ (fun a b : EReal => a * b) ?_ ?_)
  · pointwise []
  · obtain rfl : n = 7 := Fin.ext (by omega)
    pointwise []
  · pointwise []
  · obtain rfl : n = 6 := Fin.ext (by omega)
    pointwise []
  · pointwise []
  · obtain rfl : n = 5 := Fin.ext (by omega)
    pointwise []
  · pointwise []
  · obtain rfl : n = 4 := Fin.ext (by omega)
    pointwise []
  · pointwise []
  · obtain rfl : n = 3 := Fin.ext (by omega)
    pointwise []
  · pointwise []
  · obtain rfl : n = 2 := Fin.ext (by omega)
    pointwise []
  · pointwise []
  · obtain rfl : n = 1 := Fin.ext (by omega)
    pointwise []
  · pointwise []
  · obtain rfl : n = 0 := Fin.ext (by omega)
    pointwise []

/-- What a grid point writes. -/
theorem point (c : Dev nD) (t : Fin cfg0.N) (n : Fin 8) (r x : Fin 512) :
    @Eq EReal (out0_2 (F := Ideal) (iblk m c 0 t) (iblk m c 1 t) (ix3 n r x)) (aZ m c n (tok t r) x) :=
  (out_at _ _ n r x).trans (Finset.sum_congr rfl fun k _ => congrArg₂ (fun a b : EReal => a * b) (b0_eq m c t r k) (b1_eq m c t n k x))

theorem aZ_congr (c : Dev nD) {n n' : Fin 8} {t t' : Fin 8192} {x x' : Fin 512} (h0 : n = n') (h1 : t = t') (h2 : x = x') :
    aZ m c n t x = aZ m c n' t' x' := by
  rw [h0, h1, h2]

/-- The kernel's result. -/
theorem array (c : Dev nD) : (dats m 0 c).arrAt 2 cfg0.N = fun i : S8x8192x512.Idx => aZ m c (i 0) (i 1) (i 2) := by
  refine (dats m 0 c).arrAt_eq_of_covers 2 _ (by decide +kernel) fun t hf y => ?_
  blk_simp [idx t]
  rw [after0_2]
  have hy : y = ix3 (y 0 : Fin 8) (y 1 : Fin 512) (y 2 : Fin 512) := eq_ix3 (n0 := 8) (n1 := 512) (n2 := 512) y
  refine (congrArg (out0_2 (F := Ideal) (iblk m c 0 t) (iblk m c 1 t)) hy).trans ((point m c t (y 0) (y 1) (y 2)).trans ?_)
  refine aZ_congr m c ?_ ?_ ?_
  all_goals refine Fin.ext ?_; blk_simp [idx t, tok]

end Cert.Kernel8Ideal.Hand
-- ==== Proof.Hin.Equal.lean ====
module
public import proofs.«01_k».proof.Defs
public import proofs.«01_k».proof.Proof.Hin.Kernel
public import proofs.«01_k».proof.Proof.Gen.Reference8Ideal.Read
public import proofs.«01_k».proof.Proof.Gen.Reference8Ideal.Run
public import Idealize.ShloMosaic.Lib.Claim
@[expose] public section

/-!
# The projections into the HGRN layer: the kernel's result is the reference's
-/

set_option maxRecDepth 16384
noncomputable section
namespace Cert.Reference8Ideal.Hand
open Cert.Reference8Ideal Cert.Reference8Ideal.Gen Cert.Reference8Ideal.Read Idealize.ShloMosaic Idealize.ShloMosaic.TcCoe Idealize.SL.Sem
variable (x0 : FVec Ideal S1x8192x1024 .f32) (x1 : FVec Ideal S1024x4096 .f32)

/-- The reference's result, block by block. -/
theorem v2_at (n : Fin 8) (t : Fin 8192) (x : Fin 512) : @Eq EReal (val_main_v2 (F := Ideal) x0 x1 (ix3 n t x))
    (∑ k : Fin 1024, x0 (ix3 0 t k) * x1 (ix2 k ⟨n.val * 512 + x.val, by omega⟩)) := by
  pointwise [val_main_v2, val_main_v1, val_main_v0]

end Cert.Reference8Ideal.Hand

namespace Cert.Proof
open Idealize.ShloMosaic Idealize.ShloMosaic.TcCoe Idealize.SL.Sem

/-- The projections: the reference's result is the kernel's. -/
theorem hgrn_in_eq (m : (ℓ : Loc Cert.Kernel8Ideal.nD Cert.Kernel8Ideal.τ Cert.Kernel8Ideal.sig) → Buf (Elt Ideal) ℓ) (c : Dev Cert.Kernel8Ideal.nD) :
    (Cert.Reference8Ideal.Read.val_main_v2 (F := Ideal)
      (m ((c.tc : Thread Cert.Kernel8Ideal.nD Cert.Kernel8Ideal.τ).loc Cert.Kernel8Ideal.main_arg0))
      (m ((c.tc : Thread Cert.Kernel8Ideal.nD Cert.Kernel8Ideal.τ).loc Cert.Kernel8Ideal.main_arg1)) : Cert.Kernel8Ideal.S8x8192x512.Idx → EReal) =
      (Cert.Kernel8Ideal.Gen.dats m 0 c).arrAt 2 Cert.Kernel8Ideal.cfg0.N := by
  refine Eq.trans (funext fun i => ?_) (Cert.Kernel8Ideal.Hand.array m c).symm
  obtain ⟨n, t, x, rfl⟩ : ∃ (n : Fin 8) (t : Fin 8192) (x : Fin 512), i = ix3 n t x := ⟨i 0, i 1, i 2, eq_ix3 i⟩
  exact Cert.Reference8Ideal.Hand.v2_at _ _ n t x

/-- The value claim of the projections. -/
theorem hgrn_in_algebraic : Cert.algebraic_Kernel8Ideal_Reference8Ideal := by
  intro m g m' g' _ hagree
  refine ⟨fun c => (Cert.Kernel8Ideal.Gen.dats m 0 c).arrAt 2 Cert.Kernel8Ideal.cfg0.N, Cert.Kernel8Ideal.Value.run_blocks m g, ?_⟩
  refine (θ_run Cert.Reference8Ideal.defs _ _).mono (fun r h c => ?_) (Cert.Reference8Ideal.Value.run (F := Ideal) m' g')
  obtain ⟨h0, hargs⟩ := h c
  obtain ⟨e0, e1⟩ := hagree c
  refine ⟨h0.trans ?_, hargs⟩
  rw [Cert.Reference8Ideal.Read.val_main_v2_eq, e0, e1]
  exact hgrn_in_eq m c

/-- The reference runs to its end, leaves its arguments unchanged, and declares no counter that could stay raised. -/
theorem hgrn_in_reference_frame : Cert.quiescent_Reference8Ideal := fun m g _ =>
  (θ_run Cert.Reference8Ideal.defs _ _).mono
    (fun r h => ⟨fun c => (h c).2, Idealize.ShloMosaic.sem_eq_zero_of_no_sems (by decide) r.2⟩)
    (Cert.Reference8Ideal.Value.run m g)

end Cert.Proof
-- ==== Proof.Adam.Spec.lean ====
module
public import Idealize.ShloMosaic.Lib.Pointwise
@[expose] public section

/-!
# One AdamW step of one weight as formulas

The gradient is the sum of the parts of the eight devices. The two moments are running averages of the gradient and of its
square, and the step divides the first by the root of the second, both corrected for their start from zero.
-/

noncomputable section
namespace Cert.Adam
open Idealize.ShloMosaic

/-- The constants of the step: the two decay rates with their complements, the two corrections, the small number below the
quotient, the decay of the weights and the negated rate of learning. -/
def beta1 : EReal := FloatOps.ofBits (F := Ideal) FTy.f32 0x3F666666#32
@[inherit_doc beta1]
def rest1 : EReal := FloatOps.ofBits (F := Ideal) FTy.f32 0x3DCCCCCD#32
@[inherit_doc beta1]
def beta2 : EReal := FloatOps.ofBits (F := Ideal) FTy.f32 0x3F7FBE77#32
@[inherit_doc beta1]
def rest2 : EReal := FloatOps.ofBits (F := Ideal) FTy.f32 0x3A83126F#32
@[inherit_doc beta1]
def corr1 : EReal := FloatOps.ofBits (F := Ideal) FTy.f32 0x3F26BD02#32
@[inherit_doc beta1]
def corr2 : EReal := FloatOps.ofBits (F := Ideal) FTy.f32 0x3C231ACC#32
@[inherit_doc beta1]
def small : EReal := FloatOps.ofBits (F := Ideal) FTy.f32 0x322BCC77#32
@[inherit_doc beta1]
def decay : EReal := FloatOps.ofBits (F := Ideal) FTy.f32 0x3C23D70A#32
@[inherit_doc beta1]
def rate : EReal := FloatOps.ofBits (F := Ideal) FTy.f32 0xBA83126F#32

/-- The gradient, from its eight parts. -/
def grad (p : Fin 8 → EReal) : EReal := ∑ s : Fin 8, p s
/-- The first moment. -/
def first (g m : EReal) : EReal := beta1 * m + rest1 * g
/-- The second moment. -/
def second (g v : EReal) : EReal := beta2 * v + rest2 * (g * g)
/-- The change of the weight. -/
def delta (g w m v : EReal) : EReal :=
  rate * (Ideal.div (Ideal.div (first g m) corr1) (Ideal.sqrt (Ideal.div (second g v) corr2) + small) + decay * w)

theorem first_congr {g g' m m' : EReal} (hg : g = g') (hm : m = m') : first g m = first g' m' := by rw [hg, hm]
theorem second_congr {g g' v v' : EReal} (hg : g = g') (hv : v = v') : second g v = second g' v' := by rw [hg, hv]
theorem delta_congr {g g' w w' m m' v v' : EReal} (hg : g = g') (hw : w = w') (hm : m = m') (hv : v = v') :
    delta g w m v = delta g' w' m' v' := by rw [hg, hw, hm, hv]
/-- A formula of a place depends on the place only. -/
theorem at_congr {a b : ℕ} {f : Fin a → Fin b → EReal} {r r' : Fin a} {x x' : Fin b} (h0 : r = r') (h1 : x = x') :
    f r x = f r' x' := by rw [h0, h1]

end Cert.Adam
-- ==== Proof.Adam.Win.lean ====
module
public import proofs.«01_k».proof.Proof.Gen.Kernel9Ideal.Value
public import proofs.«01_k».proof.Proof.Adam.Spec
public import Idealize.ShloMosaic.Lib.Pipeline.ValueKit
public import Idealize.ShloMosaic.Lib.Pipeline.ReadBack
@[expose] public section

/-!
# The AdamW step of the weights of the HGRN layer's projections in: the kernel
-/

set_option maxRecDepth 16384
noncomputable section
namespace Cert.Kernel9Ideal.Hand
open Cert.Kernel9Ideal Cert.Kernel9Ideal.Gen Idealize.ShloMosaic Idealize.ShloMosaic.TcCoe Idealize.SL.Sem
variable (m : (ℓ : Loc nD τ sig) → Buf (Elt Ideal) ℓ)

/-- The gradient, from the parts of the eight devices. -/
def aG (c : Dev nD) (r : Fin 1024) (x : Fin 512) : EReal := Adam.grad fun s => m ((c : Thread nD τ).loc main_arg0) (ix3 s r x)
/-- The weights and the two moments. -/
def aW (c : Dev nD) (r : Fin 1024) (x : Fin 512) : EReal := m ((c : Thread nD τ).loc main_arg1) (ix3 0 r x)
@[inherit_doc aW]
def aM (c : Dev nD) (r : Fin 1024) (x : Fin 512) : EReal := m ((c : Thread nD τ).loc main_arg2) (ix3 0 r x)
@[inherit_doc aW]
def aV (c : Dev nD) (r : Fin 1024) (x : Fin 512) : EReal := m ((c : Thread nD τ).loc main_arg3) (ix3 0 r x)

/-- The change of the weights. -/
def aD (c : Dev nD) (r : Fin 1024) (x : Fin 512) : EReal := Adam.delta (aG m c r x) (aW m c r x) (aM m c r x) (aV m c r x)
/-- The new first moment. -/
def aF (c : Dev nD) (r : Fin 1024) (x : Fin 512) : EReal := Adam.first (aG m c r x) (aM m c r x)
/-- The new second moment. -/
def aS (c : Dev nD) (r : Fin 1024) (x : Fin 512) : EReal := Adam.second (aG m c r x) (aV m c r x)

theorem V0_eq (c : Dev nD) (s : Fin 8) (r : Fin 1024) (x : Fin 512) :
    @Eq EReal (V m c main_v0 (ix3 s r x)) (m ((c : Thread nD τ).loc main_arg0) (ix3 s r x)) := by
  unfold V
  simp only [hostOps0, StableHlo.after_cons, StableHlo.after_nil]
  after_results_simp
  pointwise []

theorem V1_eq (c : Dev nD) (r : Fin 1024) (x : Fin 512) : @Eq EReal (V m c main_v1 (ix2 r x)) (aW m c r x) := by
  unfold V
  simp only [hostOps0, StableHlo.after_cons, StableHlo.after_nil]
  after_results_simp
  pointwise [aW]

theorem V2_eq (c : Dev nD) (r : Fin 1024) (x : Fin 512) : @Eq EReal (V m c main_v2 (ix2 r x)) (aM m c r x) := by
  unfold V
  simp only [hostOps0, StableHlo.after_cons, StableHlo.after_nil]
  after_results_simp
  pointwise [aM]

theorem V3_eq (c : Dev nD) (r : Fin 1024) (x : Fin 512) : @Eq EReal (V m c main_v3 (ix2 r x)) (aV m c r x) := by
  unfold V
  simp only [hostOps0, StableHlo.after_cons, StableHlo.after_nil]
  after_results_simp
  pointwise [aV]

/-- The row of the weights at row `r` of a grid point's block. -/
def row (t : Fin cfg0.N) (r : Fin 256) : Fin 1024 := ⟨t.val * 256 + r.val, by
  have h := lt_of_lt_of_eq t.isLt (show cfg0.N = 4 from N_0); omega⟩

theorem idx : ∀ t : Fin cfg0.N, win0_0.index t = ![0, t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] ∧
    win0_7.index t = ![t.val, 0] :=
  (by decide +kernel : ∀ t : Fin grid0.N, _)

theorem b0_eq (c : Dev nD) (t : Fin cfg0.N) (s : Fin 8) (r : Fin 256) (x : Fin 512) :
    @Eq EReal (iblk m c 0 t (ix3 s r x)) (m ((c : Thread nD τ).loc main_arg0) (ix3 s (row t r) x)) := by
  refine Eq.trans ?_ (V0_eq m c s (row t r) x)
  blk_ext [iblk, idx t, row]

theorem b1_eq (c : Dev nD) (t : Fin cfg0.N) (r : Fin 256) (x : Fin 512) : @Eq EReal (iblk m c 1 t (ix2 r x)) (aW m c (row t r) x) := by
  refine Eq.trans ?_ (V1_eq m c (row t r) x)
  blk_ext [iblk, idx t, row]

theorem b2_eq (c : Dev nD) (t : Fin cfg0.N) (r : Fin 256) (x : Fin 512) : @Eq EReal (iblk m c 2 t (ix2 r x)) (aM m c (row t r) x) := by
  refine Eq.trans ?_ (V2_eq m c (row t r) x)
  blk_ext [iblk, idx t, row]

theorem b3_eq (c : Dev nD) (t : Fin cfg0.N) (r : Fin 256) (x : Fin 512) : @Eq EReal (iblk m c 3 t (ix2 r x)) (aV m c (row t r) x) := by
  refine Eq.trans ?_ (V3_eq m c (row t r) x)
  blk_ext [iblk, idx t, row]

section
variable (x0 : Vec Ideal S8x256x512 .bf16) (x1 x2 x3 : Vec Ideal S256x512 .f32) (r : Fin 256) (x : Fin 512)

/-- The sum of the parts at a grid point. -/
theorem sum_at : @Eq EReal (k0_pay6 (F := Ideal) x0 x1 x2 x3 (ix2 r x)) (Adam.grad fun s => x0 (ix3 s r x)) := by
  unfold Adam.grad k0_pay6
  rw [Fin.sum_univ_eight]
  pointwise [k0_pay4]

theorem first_at (g : FVec Ideal S256x512 .f32) : @Eq EReal (k0_pay1 (F := Ideal) g x2 (ix2 r x)) (Adam.first (g (ix2 r x)) (x2 (ix2 r x))) := by
  pointwise [k0_pay1, Adam.first, Adam.beta1, Adam.rest1]

theorem second_at (g : FVec Ideal S256x512 .f32) : @Eq EReal (k0_pay2 (F := Ideal) g x3 (ix2 r x)) (Adam.second (g (ix2 r x)) (x3 (ix2 r x))) := by
  pointwise [k0_pay2, Adam.second, Adam.beta2, Adam.rest2]

theorem delta_at (g : FVec Ideal S256x512 .f32) : @Eq EReal (k0_pay3 (F := Ideal) g (k0_pay5 x1) x2 x3 (ix2 r x))
    (Adam.delta (g (ix2 r x)) (x1 (ix2 r x)) (x2 (ix2 r x)) (x3 (ix2 r x))) := by
  pointwise [k0_pay3, k0_pay5, Adam.delta, Adam.corr1, Adam.corr2, Adam.small, Adam.decay, Adam.rate]
  rw [first_at, second_at]

end

theorem sum_point (c : Dev nD) (t : Fin cfg0.N) (r : Fin 256) (x : Fin 512) :
    @Eq EReal (k0_pay6 (F := Ideal) (iblk m c 0 t) (iblk m c 1 t) (iblk m c 2 t) (iblk m c 3 t) (ix2 r x)) (aG m c (row t r) x) :=
  (sum_at _ _ _ _ r x).trans (congrArg Adam.grad (funext fun s => b0_eq m c t s r x))

theorem delta_point (c : Dev nD) (t : Fin cfg0.N) (r : Fin 256) (x : Fin 512) :
    @Eq EReal (k0_pay3 (F := Ideal) (k0_pay6 (iblk m c 0 t) (iblk m c 1 t) (iblk m c 2 t) (iblk m c 3 t)) (k0_pay5 (iblk m c 1 t))
      (iblk m c 2 t) (iblk m c 3 t) (ix2 r x)) (aD m c (row t r) x) :=
  (delta_at _ _ _ r x _).trans (Adam.delta_congr (sum_point m c t r x) (b1_eq m c t r x)
    (b2_eq m c t r x) (b3_eq m c t r x))

theorem first_point (c : Dev nD) (t : Fin cfg0.N) (r : Fin 256) (x : Fin 512) :
    @Eq EReal (k0_pay1 (F := Ideal) (k0_pay6 (iblk m c 0 t) (iblk m c 1 t) (iblk m c 2 t) (iblk m c 3 t)) (iblk m c 2 t) (ix2 r x))
      (aF m c (row t r) x) :=
  (first_at _ r x _).trans (Adam.first_congr (sum_point m c t r x) (b2_eq m c t r x))

theorem second_point (c : Dev nD) (t : Fin cfg0.N) (r : Fin 256) (x : Fin 512) :
    @Eq EReal (k0_pay2 (F := Ideal) (k0_pay6 (iblk m c 0 t) (iblk m c 1 t) (iblk m c 2 t) (iblk m c 3 t)) (iblk m c 3 t) (ix2 r x))
      (aS m c (row t r) x) :=
  (second_at _ r x _).trans (Adam.second_congr (sum_point m c t r x) (b3_eq m c t r x))

/-- The gradient, as the kernel leaves it. -/
theorem grad_array (c : Dev nD) : (dats m 0 c).arrAt 4 cfg0.N = fun i : S1024x512.Idx => aG m c (i 0) (i 1) := by
  refine (dats m 0 c).arrAt_eq_of_covers 4 _ (by decide +kernel) fun t hf y => ?_
  blk_simp [idx t]
  rw [after0_4]
  obtain ⟨r, x, rfl⟩ : ∃ (r : Fin 256) (x : Fin 512), y = ix2 r x := ⟨y 0, y 1, eq_ix2 (n0 := 256) (n1 := 512) y⟩
  unfold out0_4
  frame_out
  refine (sum_point m c t r x).trans (Adam.at_congr ?_ ?_)
  all_goals refine Fin.ext ?_; blk_simp [idx t, row]

/-- The change of the weights, as the kernel leaves it. -/
theorem delta_array (c : Dev nD) : (dats m 0 c).arrAt 5 cfg0.N = fun i : S1024x512.Idx => aD m c (i 0) (i 1) := by
  refine (dats m 0 c).arrAt_eq_of_covers 5 _ (by decide +kernel) fun t hf y => ?_
  blk_simp [idx t]
  rw [after0_5]
  obtain ⟨r, x, rfl⟩ : ∃ (r : Fin 256) (x : Fin 512), y = ix2 r x := ⟨y 0, y 1, eq_ix2 (n0 := 256) (n1 := 512) y⟩
  unfold out0_5
  frame_out
  refine (delta_point m c t r x).trans (Adam.at_congr ?_ ?_)
  all_goals refine Fin.ext ?_; blk_simp [idx t, row]

/-- The first moment, as the kernel leaves it. -/
theorem first_array (c : Dev nD) : (dats m 0 c).arrAt 6 cfg0.N = fun i : S1024x512.Idx => aF m c (i 0) (i 1) := by
  refine (dats m 0 c).arrAt_eq_of_covers 6 _ (by decide +kernel) fun t hf y => ?_
  blk_simp [idx t]
  rw [after0_6]
  obtain ⟨r, x, rfl⟩ : ∃ (r : Fin 256) (x : Fin 512), y = ix2 r x := ⟨y 0, y 1, eq_ix2 (n0 := 256) (n1 := 512) y⟩
  unfold out0_6
  frame_out
  refine (first_point m c t r x).trans (Adam.at_congr ?_ ?_)
  all_goals refine Fin.ext ?_; blk_simp [idx t, row]

/-- The second moment, as the kernel leaves it. -/
theorem second_array (c : Dev nD) : (dats m 0 c).arrAt 7 cfg0.N = fun i : S1024x512.Idx => aS m c (i 0) (i 1) := by
  refine (dats m 0 c).arrAt_eq_of_covers 7 _ (by decide +kernel) fun t hf y => ?_
  blk_simp [idx t]
  rw [after0_7]
  obtain ⟨r, x, rfl⟩ : ∃ (r : Fin 256) (x : Fin 512), y = ix2 r x := ⟨y 0, y 1, eq_ix2 (n0 := 256) (n1 := 512) y⟩
  unfold out0_7
  frame_out
  refine (second_point m c t r x).trans (Adam.at_congr ?_ ?_)
  all_goals refine Fin.ext ?_; blk_simp [idx t, row]

end Cert.Kernel9Ideal.Hand
-- ==== Proof.Adam.Ops.lean ====
module
public import proofs.«01_k».proof.Proof.Adam.Spec
public import Idealize.ShloMosaic.Lib.Pointwise
@[expose] public section

/-!
# The array operations of one AdamW step, element by element

The step is the same for every weight, whatever its shape: an element of each result depends on the same element of the
arguments by the formulas of `Spec`.
-/

noncomputable section
namespace Cert.Adam
open Idealize.ShloMosaic

/-- The sum over the first axis. -/
theorem grad_op {a b : ℕ} (p : FVec Ideal ⟨3, ![8, a, b]⟩ .f32) (h : (⟨3, ![8, a, b]⟩ : Shape).ReducesTo [0] ⟨2, ![a, b]⟩)
    (hu : 0 < (⟨0, ![]⟩ : Shape).numel) (r : Fin a) (x : Fin b) :
    @Eq EReal (Host.reduceAdd p (constant ⟨0, ![]⟩ .f32 0x00000000#32) h hu (ix2 r x)) (grad fun s => p (ix3 s r x)) := by
  pointwise [grad]

section
variable {s : Shape} (hb : (⟨0, ![]⟩ : Shape).BroadcastsInDim s ![])

/-- One number at every place. -/
abbrev fill (w : BitVec 32) : FVec Ideal s .f32 := broadcastInDim s ![] hb (constant ⟨0, ![]⟩ .f32 w)

theorem first_op (g m : FVec Ideal s .f32) (i : s.Idx) :
    @Eq EReal (addf (mulf (fill hb 0x3F666666#32) m) (mulf (fill hb 0x3DCCCCCD#32) g) i) (first (g i) (m i)) := rfl

theorem second_op (g v : FVec Ideal s .f32) (i : s.Idx) :
    @Eq EReal (addf (mulf (fill hb 0x3F7FBE77#32) v) (mulf (fill hb 0x3A83126F#32) (mulf g g)) i) (second (g i) (v i)) := rfl

theorem delta_op (g w m v : FVec Ideal s .f32) (i : s.Idx) :
    @Eq EReal (mulf (fill hb 0xBA83126F#32) (addf (Host.divf
        (Host.divf (addf (mulf (fill hb 0x3F666666#32) m) (mulf (fill hb 0x3DCCCCCD#32) g)) (fill hb 0x3F26BD02#32))
        (addf (Host.sqrt (Host.divf (addf (mulf (fill hb 0x3F7FBE77#32) v) (mulf (fill hb 0x3A83126F#32) (mulf g g))) (fill hb 0x3C231ACC#32)))
          (fill hb 0x322BCC77#32)))
        (mulf (fill hb 0x3C23D70A#32) w)) i)
      (delta (g i) (w i) (m i) (v i)) := rfl

end

/-! ## The results of one step, whole -/

section
variable {a b : ℕ} (hb : (⟨0, ![]⟩ : Shape).BroadcastsInDim ⟨2, ![a, b]⟩ ![]) (p : FVec Ideal ⟨3, ![8, a, b]⟩ .f32)
  (h : (⟨3, ![8, a, b]⟩ : Shape).ReducesTo [0] ⟨2, ![a, b]⟩) (hu : 0 < (⟨0, ![]⟩ : Shape).numel)
  (w m v : FVec Ideal ⟨2, ![a, b]⟩ .f32) {W M V : Fin a → Fin b → EReal}

/-- The sum of the parts, as an array. -/
abbrev total : FVec Ideal ⟨2, ![a, b]⟩ .f32 := Host.reduceAdd p (constant ⟨0, ![]⟩ .f32 0x00000000#32) h hu

/-- Two arrays with the same elements are equal. -/
theorem ext2 {f g : (⟨2, ![a, b]⟩ : Shape).Idx → EReal} (hfg : ∀ r x, f (ix2 r x) = g (ix2 r x)) : f = g := by
  funext i
  obtain ⟨r, x, rfl⟩ : ∃ (r : Fin a) (x : Fin b), i = ix2 r x := ⟨i 0, i 1, eq_ix2 i⟩
  exact hfg r x

theorem grad_eq : (total p h hu : (⟨2, ![a, b]⟩ : Shape).Idx → EReal) = fun i => grad fun s => p (ix3 s (i 0) (i 1)) :=
  ext2 fun r x => grad_op p h hu r x

include hb

theorem first_eq (hm : ∀ r x, @Eq EReal (m (ix2 r x)) (M r x)) :
    (addf (mulf (fill hb 0x3F666666#32) m) (mulf (fill hb 0x3DCCCCCD#32) (total p h hu)) : (⟨2, ![a, b]⟩ : Shape).Idx → EReal) =
      fun i => first (grad fun s => p (ix3 s (i 0) (i 1))) (M (i 0) (i 1)) :=
  ext2 fun r x => (first_op hb _ _ _).trans (first_congr (grad_op p h hu r x) (hm r x))

theorem second_eq (hv : ∀ r x, @Eq EReal (v (ix2 r x)) (V r x)) :
    (addf (mulf (fill hb 0x3F7FBE77#32) v) (mulf (fill hb 0x3A83126F#32) (mulf (total p h hu) (total p h hu))) : (⟨2, ![a, b]⟩ : Shape).Idx → EReal) =
      fun i => second (grad fun s => p (ix3 s (i 0) (i 1))) (V (i 0) (i 1)) :=
  ext2 fun r x => (second_op hb _ _ _).trans (second_congr (grad_op p h hu r x) (hv r x))

theorem delta_eq (hw : ∀ r x, @Eq EReal (w (ix2 r x)) (W r x)) (hm : ∀ r x, @Eq EReal (m (ix2 r x)) (M r x))
    (hv : ∀ r x, @Eq EReal (v (ix2 r x)) (V r x)) :
    (mulf (fill hb 0xBA83126F#32) (addf (Host.divf
        (Host.divf (addf (mulf (fill hb 0x3F666666#32) m) (mulf (fill hb 0x3DCCCCCD#32) (total p h hu))) (fill hb 0x3F26BD02#32))
        (addf (Host.sqrt (Host.divf (addf (mulf (fill hb 0x3F7FBE77#32) v)
          (mulf (fill hb 0x3A83126F#32) (mulf (total p h hu) (total p h hu)))) (fill hb 0x3C231ACC#32))) (fill hb 0x322BCC77#32)))
        (mulf (fill hb 0x3C23D70A#32) w)) : (⟨2, ![a, b]⟩ : Shape).Idx → EReal) =
      fun i => delta (grad fun s => p (ix3 s (i 0) (i 1))) (W (i 0) (i 1)) (M (i 0) (i 1)) (V (i 0) (i 1)) :=
  ext2 fun r x => (delta_op hb _ _ _ _ _).trans (delta_congr (grad_op p h hu r x) (hw r x) (hm r x) (hv r x))

end

end Cert.Adam
-- ==== Proof.Adam.WinEqual.lean ====
module
public import proofs.«01_k».proof.Defs
public import proofs.«01_k».proof.Proof.Adam.Win
public import proofs.«01_k».proof.Proof.Adam.Ops
public import proofs.«01_k».proof.Proof.Gen.Reference9Ideal.Run
public import Idealize.ShloMosaic.Lib.Claim
@[expose] public section

/-!
# The AdamW step of the weights of the HGRN layer's projections in: the kernel's results are the reference's
-/

set_option maxRecDepth 16384
noncomputable section
namespace Cert.Proof
open Idealize.ShloMosaic Idealize.ShloMosaic.TcCoe Idealize.SL.Sem Cert.Reference9Ideal

/-- The weights without their first axis. -/
theorem adam_win_at (v : FVec Ideal S1x1024x512 .f32) (h : S1x1024x512.ShapeCasts S1024x512) (r : Fin 1024) (x : Fin 512) :
    @Eq EReal (shapeCast S1024x512 v h (ix2 r x)) (v (ix3 0 r x)) := by
  pointwise []

/-- The value claim of the step. -/
theorem adam_win_algebraic : Cert.algebraic_Kernel9Ideal_Reference9Ideal := by
  intro m g m' g' _ hagree
  refine ⟨fun c => (Cert.Kernel9Ideal.Gen.dats m 0 c).arrAt 4 Cert.Kernel9Ideal.cfg0.N,
    fun c => (Cert.Kernel9Ideal.Gen.dats m 0 c).arrAt 5 Cert.Kernel9Ideal.cfg0.N,
    fun c => (Cert.Kernel9Ideal.Gen.dats m 0 c).arrAt 6 Cert.Kernel9Ideal.cfg0.N,
    fun c => (Cert.Kernel9Ideal.Gen.dats m 0 c).arrAt 7 Cert.Kernel9Ideal.cfg0.N, Cert.Kernel9Ideal.Value.run_blocks m g, ?_⟩
  refine (θ_run Cert.Reference9Ideal.defs _ _).mono (fun r h c => ?_) (Cert.Reference9Ideal.Value.run (F := Ideal) m' g')
  obtain ⟨h0, h1, h2, h3, hargs⟩ := h c
  obtain ⟨e0, e1, e2, e3⟩ := hagree c
  refine ⟨h0.trans ?_, h1.trans ?_, h2.trans ?_, h3.trans ?_, hargs⟩
  · rw [e0]
    exact (Adam.grad_eq _ _ _).trans (Cert.Kernel9Ideal.Hand.grad_array m c).symm
  · rw [e0, e1, e2, e3]
    exact (Adam.delta_eq _ _ _ _ _ _ _ (adam_win_at _ _) (adam_win_at _ _) (adam_win_at _ _)).trans (Cert.Kernel9Ideal.Hand.delta_array m c).symm
  · rw [e0, e2]
    exact (Adam.first_eq _ _ _ _ _ (adam_win_at _ _)).trans (Cert.Kernel9Ideal.Hand.first_array m c).symm
  · rw [e0, e3]
    exact (Adam.second_eq _ _ _ _ _ (adam_win_at _ _)).trans (Cert.Kernel9Ideal.Hand.second_array m c).symm

/-- The reference runs to its end, leaves its arguments unchanged, and declares no counter that could stay raised. -/
theorem adam_win_reference_frame : Cert.quiescent_Reference9Ideal := fun m g _ =>
  (θ_run Cert.Reference9Ideal.defs _ _).mono
    (fun r h => ⟨fun c => (h c).2.2.2.2, Idealize.ShloMosaic.sem_eq_zero_of_no_sems (by decide) r.2⟩)
    (Cert.Reference9Ideal.Value.run m g)

end Cert.Proof
-- ==== Proof.Adam.Wout.lean ====
module
public import proofs.«01_k».proof.Proof.Gen.Kernel10Ideal.Value
public import proofs.«01_k».proof.Proof.Adam.Spec
public import Idealize.ShloMosaic.Lib.Pipeline.ValueKit
public import Idealize.ShloMosaic.Lib.Pipeline.ReadBack
@[expose] public section

/-!
# The AdamW step of a weight of 128 rows on each device: the kernel
-/

set_option maxRecDepth 16384
noncomputable section
namespace Cert.Kernel10Ideal.Hand
open Cert.Kernel10Ideal Cert.Kernel10Ideal.Gen Idealize.ShloMosaic Idealize.ShloMosaic.TcCoe Idealize.SL.Sem
variable (m : (ℓ : Loc nD τ sig) → Buf (Elt Ideal) ℓ)

/-- The gradient, from the parts of the eight devices. -/
def aG (c : Dev nD) (r : Fin 128) (x : Fin 1024) : EReal := Adam.grad fun s => m ((c : Thread nD τ).loc main_arg0) (ix3 s r x)
/-- The weights and the two moments. -/
def aW (c : Dev nD) (r : Fin 128) (x : Fin 1024) : EReal := m ((c : Thread nD τ).loc main_arg1) (ix3 0 r x)
@[inherit_doc aW]
def aM (c : Dev nD) (r : Fin 128) (x : Fin 1024) : EReal := m ((c : Thread nD τ).loc main_arg2) (ix3 0 r x)
@[inherit_doc aW]
def aV (c : Dev nD) (r : Fin 128) (x : Fin 1024) : EReal := m ((c : Thread nD τ).loc main_arg3) (ix3 0 r x)

/-- The change of the weights. -/
def aD (c : Dev nD) (r : Fin 128) (x : Fin 1024) : EReal := Adam.delta (aG m c r x) (aW m c r x) (aM m c r x) (aV m c r x)
/-- The new first moment. -/
def aF (c : Dev nD) (r : Fin 128) (x : Fin 1024) : EReal := Adam.first (aG m c r x) (aM m c r x)
/-- The new second moment. -/
def aS (c : Dev nD) (r : Fin 128) (x : Fin 1024) : EReal := Adam.second (aG m c r x) (aV m c r x)

theorem V0_eq (c : Dev nD) (s : Fin 8) (r : Fin 128) (x : Fin 1024) :
    @Eq EReal (V m c main_v0 (ix3 s r x)) (m ((c : Thread nD τ).loc main_arg0) (ix3 s r x)) := by
  unfold V
  simp only [hostOps0, StableHlo.after_cons, StableHlo.after_nil]
  after_results_simp
  pointwise []

theorem V1_eq (c : Dev nD) (r : Fin 128) (x : Fin 1024) : @Eq EReal (V m c main_v1 (ix2 r x)) (aW m c r x) := by
  unfold V
  simp only [hostOps0, StableHlo.after_cons, StableHlo.after_nil]
  after_results_simp
  pointwise [aW]

theorem V2_eq (c : Dev nD) (r : Fin 128) (x : Fin 1024) : @Eq EReal (V m c main_v2 (ix2 r x)) (aM m c r x) := by
  unfold V
  simp only [hostOps0, StableHlo.after_cons, StableHlo.after_nil]
  after_results_simp
  pointwise [aM]

theorem V3_eq (c : Dev nD) (r : Fin 128) (x : Fin 1024) : @Eq EReal (V m c main_v3 (ix2 r x)) (aV m c r x) := by
  unfold V
  simp only [hostOps0, StableHlo.after_cons, StableHlo.after_nil]
  after_results_simp
  pointwise [aV]

/-- The row of the weights at row `r` of a grid point's block. -/
def row (t : Fin cfg0.N) (r : Fin 128) : Fin 128 := ⟨t.val * 128 + r.val, by
  have h := lt_of_lt_of_eq t.isLt (show cfg0.N = 1 from N_0); omega⟩

theorem idx : ∀ t : Fin cfg0.N, win0_0.index t = ![0, t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] ∧
    win0_7.index t = ![t.val, 0] :=
  (by decide +kernel : ∀ t : Fin grid0.N, _)

theorem b0_eq (c : Dev nD) (t : Fin cfg0.N) (s : Fin 8) (r : Fin 128) (x : Fin 1024) :
    @Eq EReal (iblk m c 0 t (ix3 s r x)) (m ((c : Thread nD τ).loc main_arg0) (ix3 s (row t r) x)) := by
  refine Eq.trans ?_ (V0_eq m c s (row t r) x)
  blk_ext [iblk, idx t, row]

theorem b1_eq (c : Dev nD) (t : Fin cfg0.N) (r : Fin 128) (x : Fin 1024) : @Eq EReal (iblk m c 1 t (ix2 r x)) (aW m c (row t r) x) := by
  refine Eq.trans ?_ (V1_eq m c (row t r) x)
  blk_ext [iblk, idx t, row]

theorem b2_eq (c : Dev nD) (t : Fin cfg0.N) (r : Fin 128) (x : Fin 1024) : @Eq EReal (iblk m c 2 t (ix2 r x)) (aM m c (row t r) x) := by
  refine Eq.trans ?_ (V2_eq m c (row t r) x)
  blk_ext [iblk, idx t, row]

theorem b3_eq (c : Dev nD) (t : Fin cfg0.N) (r : Fin 128) (x : Fin 1024) : @Eq EReal (iblk m c 3 t (ix2 r x)) (aV m c (row t r) x) := by
  refine Eq.trans ?_ (V3_eq m c (row t r) x)
  blk_ext [iblk, idx t, row]

section
variable (x0 : Vec Ideal S8x128x1024 .bf16) (x1 x2 x3 : Vec Ideal S128x1024 .f32) (r : Fin 128) (x : Fin 1024)

/-- The sum of the parts at a grid point. -/
theorem sum_at : @Eq EReal (k0_pay6 (F := Ideal) x0 x1 x2 x3 (ix2 r x)) (Adam.grad fun s => x0 (ix3 s r x)) := by
  unfold Adam.grad k0_pay6
  rw [Fin.sum_univ_eight]
  pointwise [k0_pay4]

theorem first_at (g : FVec Ideal S128x1024 .f32) : @Eq EReal (k0_pay1 (F := Ideal) g x2 (ix2 r x)) (Adam.first (g (ix2 r x)) (x2 (ix2 r x))) := by
  pointwise [k0_pay1, Adam.first, Adam.beta1, Adam.rest1]

theorem second_at (g : FVec Ideal S128x1024 .f32) : @Eq EReal (k0_pay2 (F := Ideal) g x3 (ix2 r x)) (Adam.second (g (ix2 r x)) (x3 (ix2 r x))) := by
  pointwise [k0_pay2, Adam.second, Adam.beta2, Adam.rest2]

theorem delta_at (g : FVec Ideal S128x1024 .f32) : @Eq EReal (k0_pay3 (F := Ideal) g (k0_pay5 x1) x2 x3 (ix2 r x))
    (Adam.delta (g (ix2 r x)) (x1 (ix2 r x)) (x2 (ix2 r x)) (x3 (ix2 r x))) := by
  pointwise [k0_pay3, k0_pay5, Adam.delta, Adam.corr1, Adam.corr2, Adam.small, Adam.decay, Adam.rate]
  rw [first_at, second_at]

end

theorem sum_point (c : Dev nD) (t : Fin cfg0.N) (r : Fin 128) (x : Fin 1024) :
    @Eq EReal (k0_pay6 (F := Ideal) (iblk m c 0 t) (iblk m c 1 t) (iblk m c 2 t) (iblk m c 3 t) (ix2 r x)) (aG m c (row t r) x) :=
  (sum_at _ _ _ _ r x).trans (congrArg Adam.grad (funext fun s => b0_eq m c t s r x))

theorem delta_point (c : Dev nD) (t : Fin cfg0.N) (r : Fin 128) (x : Fin 1024) :
    @Eq EReal (k0_pay3 (F := Ideal) (k0_pay6 (iblk m c 0 t) (iblk m c 1 t) (iblk m c 2 t) (iblk m c 3 t)) (k0_pay5 (iblk m c 1 t))
      (iblk m c 2 t) (iblk m c 3 t) (ix2 r x)) (aD m c (row t r) x) :=
  (delta_at _ _ _ r x _).trans (Adam.delta_congr (sum_point m c t r x) (b1_eq m c t r x)
    (b2_eq m c t r x) (b3_eq m c t r x))

theorem first_point (c : Dev nD) (t : Fin cfg0.N) (r : Fin 128) (x : Fin 1024) :
    @Eq EReal (k0_pay1 (F := Ideal) (k0_pay6 (iblk m c 0 t) (iblk m c 1 t) (iblk m c 2 t) (iblk m c 3 t)) (iblk m c 2 t) (ix2 r x))
      (aF m c (row t r) x) :=
  (first_at _ r x _).trans (Adam.first_congr (sum_point m c t r x) (b2_eq m c t r x))

theorem second_point (c : Dev nD) (t : Fin cfg0.N) (r : Fin 128) (x : Fin 1024) :
    @Eq EReal (k0_pay2 (F := Ideal) (k0_pay6 (iblk m c 0 t) (iblk m c 1 t) (iblk m c 2 t) (iblk m c 3 t)) (iblk m c 3 t) (ix2 r x))
      (aS m c (row t r) x) :=
  (second_at _ r x _).trans (Adam.second_congr (sum_point m c t r x) (b3_eq m c t r x))

/-- The gradient, as the kernel leaves it. -/
theorem grad_array (c : Dev nD) : (dats m 0 c).arrAt 4 cfg0.N = fun i : S128x1024.Idx => aG m c (i 0) (i 1) := by
  refine (dats m 0 c).arrAt_eq_of_covers 4 _ (by decide +kernel) fun t hf y => ?_
  blk_simp [idx t]
  rw [after0_4]
  obtain ⟨r, x, rfl⟩ : ∃ (r : Fin 128) (x : Fin 1024), y = ix2 r x := ⟨y 0, y 1, eq_ix2 (n0 := 128) (n1 := 1024) y⟩
  unfold out0_4
  frame_out
  refine (sum_point m c t r x).trans (Adam.at_congr ?_ ?_)
  all_goals refine Fin.ext ?_; blk_simp [idx t, row]

/-- The change of the weights, as the kernel leaves it. -/
theorem delta_array (c : Dev nD) : (dats m 0 c).arrAt 5 cfg0.N = fun i : S128x1024.Idx => aD m c (i 0) (i 1) := by
  refine (dats m 0 c).arrAt_eq_of_covers 5 _ (by decide +kernel) fun t hf y => ?_
  blk_simp [idx t]
  rw [after0_5]
  obtain ⟨r, x, rfl⟩ : ∃ (r : Fin 128) (x : Fin 1024), y = ix2 r x := ⟨y 0, y 1, eq_ix2 (n0 := 128) (n1 := 1024) y⟩
  unfold out0_5
  frame_out
  refine (delta_point m c t r x).trans (Adam.at_congr ?_ ?_)
  all_goals refine Fin.ext ?_; blk_simp [idx t, row]

/-- The first moment, as the kernel leaves it. -/
theorem first_array (c : Dev nD) : (dats m 0 c).arrAt 6 cfg0.N = fun i : S128x1024.Idx => aF m c (i 0) (i 1) := by
  refine (dats m 0 c).arrAt_eq_of_covers 6 _ (by decide +kernel) fun t hf y => ?_
  blk_simp [idx t]
  rw [after0_6]
  obtain ⟨r, x, rfl⟩ : ∃ (r : Fin 128) (x : Fin 1024), y = ix2 r x := ⟨y 0, y 1, eq_ix2 (n0 := 128) (n1 := 1024) y⟩
  unfold out0_6
  frame_out
  refine (first_point m c t r x).trans (Adam.at_congr ?_ ?_)
  all_goals refine Fin.ext ?_; blk_simp [idx t, row]

/-- The second moment, as the kernel leaves it. -/
theorem second_array (c : Dev nD) : (dats m 0 c).arrAt 7 cfg0.N = fun i : S128x1024.Idx => aS m c (i 0) (i 1) := by
  refine (dats m 0 c).arrAt_eq_of_covers 7 _ (by decide +kernel) fun t hf y => ?_
  blk_simp [idx t]
  rw [after0_7]
  obtain ⟨r, x, rfl⟩ : ∃ (r : Fin 128) (x : Fin 1024), y = ix2 r x := ⟨y 0, y 1, eq_ix2 (n0 := 128) (n1 := 1024) y⟩
  unfold out0_7
  frame_out
  refine (second_point m c t r x).trans (Adam.at_congr ?_ ?_)
  all_goals refine Fin.ext ?_; blk_simp [idx t, row]

end Cert.Kernel10Ideal.Hand
-- ==== Proof.Adam.WoutEqual.lean ====
module
public import proofs.«01_k».proof.Defs
public import proofs.«01_k».proof.Proof.Adam.Wout
public import proofs.«01_k».proof.Proof.Adam.Ops
public import proofs.«01_k».proof.Proof.Gen.Reference10Ideal.Run
public import Idealize.ShloMosaic.Lib.Claim
@[expose] public section

/-!
# The AdamW step of a weight of 128 rows on each device: the kernel's results are the reference's
-/

set_option maxRecDepth 16384
noncomputable section
namespace Cert.Proof
open Idealize.ShloMosaic Idealize.ShloMosaic.TcCoe Idealize.SL.Sem Cert.Reference10Ideal

/-- The weights without their first axis. -/
theorem adam_wout_at (v : FVec Ideal S1x128x1024 .f32) (h : S1x128x1024.ShapeCasts S128x1024) (r : Fin 128) (x : Fin 1024) :
    @Eq EReal (shapeCast S128x1024 v h (ix2 r x)) (v (ix3 0 r x)) := by
  pointwise []

/-- The value claim of the step. -/
theorem adam_wout_algebraic : Cert.algebraic_Kernel10Ideal_Reference10Ideal := by
  intro m g m' g' _ hagree
  refine ⟨fun c => (Cert.Kernel10Ideal.Gen.dats m 0 c).arrAt 4 Cert.Kernel10Ideal.cfg0.N,
    fun c => (Cert.Kernel10Ideal.Gen.dats m 0 c).arrAt 5 Cert.Kernel10Ideal.cfg0.N,
    fun c => (Cert.Kernel10Ideal.Gen.dats m 0 c).arrAt 6 Cert.Kernel10Ideal.cfg0.N,
    fun c => (Cert.Kernel10Ideal.Gen.dats m 0 c).arrAt 7 Cert.Kernel10Ideal.cfg0.N, Cert.Kernel10Ideal.Value.run_blocks m g, ?_⟩
  refine (θ_run Cert.Reference10Ideal.defs _ _).mono (fun r h c => ?_) (Cert.Reference10Ideal.Value.run (F := Ideal) m' g')
  obtain ⟨h0, h1, h2, h3, hargs⟩ := h c
  obtain ⟨e0, e1, e2, e3⟩ := hagree c
  refine ⟨h0.trans ?_, h1.trans ?_, h2.trans ?_, h3.trans ?_, hargs⟩
  · rw [e0]
    exact (Adam.grad_eq _ _ _).trans (Cert.Kernel10Ideal.Hand.grad_array m c).symm
  · rw [e0, e1, e2, e3]
    exact (Adam.delta_eq _ _ _ _ _ _ _ (adam_wout_at _ _) (adam_wout_at _ _) (adam_wout_at _ _)).trans (Cert.Kernel10Ideal.Hand.delta_array m c).symm
  · rw [e0, e2]
    exact (Adam.first_eq _ _ _ _ _ (adam_wout_at _ _)).trans (Cert.Kernel10Ideal.Hand.first_array m c).symm
  · rw [e0, e3]
    exact (Adam.second_eq _ _ _ _ _ (adam_wout_at _ _)).trans (Cert.Kernel10Ideal.Hand.second_array m c).symm

/-- The reference runs to its end, leaves its arguments unchanged, and declares no counter that could stay raised. -/
theorem adam_wout_reference_frame : Cert.quiescent_Reference10Ideal := fun m g _ =>
  (θ_run Cert.Reference10Ideal.defs _ _).mono
    (fun r h => ⟨fun c => (h c).2.2.2.2, Idealize.ShloMosaic.sem_eq_zero_of_no_sems (by decide) r.2⟩)
    (Cert.Reference10Ideal.Value.run m g)

end Cert.Proof
-- ==== Proof.Adam.Wkv.lean ====
module
public import proofs.«01_k».proof.Proof.Gen.Kernel11Ideal.Value
public import proofs.«01_k».proof.Proof.Adam.Spec
public import Idealize.ShloMosaic.Lib.Pipeline.ValueKit
public import Idealize.ShloMosaic.Lib.Pipeline.ReadBack
@[expose] public section

/-!
# The AdamW step of the weight of the shared keys and values: the kernel
-/

set_option maxRecDepth 16384
noncomputable section
namespace Cert.Kernel11Ideal.Hand
open Cert.Kernel11Ideal Cert.Kernel11Ideal.Gen Idealize.ShloMosaic Idealize.ShloMosaic.TcCoe Idealize.SL.Sem
variable (m : (ℓ : Loc nD τ sig) → Buf (Elt Ideal) ℓ)

/-- The gradient, from the parts of the eight devices. -/
def aG (c : Dev nD) (r : Fin 128) (x : Fin 512) : EReal := Adam.grad fun s => m ((c : Thread nD τ).loc main_arg0) (ix3 s r x)
/-- The weights and the two moments. -/
def aW (c : Dev nD) (r : Fin 128) (x : Fin 512) : EReal := m ((c : Thread nD τ).loc main_arg1) (ix2 r x)
@[inherit_doc aW]
def aM (c : Dev nD) (r : Fin 128) (x : Fin 512) : EReal := m ((c : Thread nD τ).loc main_arg2) (ix2 r x)
@[inherit_doc aW]
def aV (c : Dev nD) (r : Fin 128) (x : Fin 512) : EReal := m ((c : Thread nD τ).loc main_arg3) (ix2 r x)

/-- The change of the weights. -/
def aD (c : Dev nD) (r : Fin 128) (x : Fin 512) : EReal := Adam.delta (aG m c r x) (aW m c r x) (aM m c r x) (aV m c r x)
/-- The new first moment. -/
def aF (c : Dev nD) (r : Fin 128) (x : Fin 512) : EReal := Adam.first (aG m c r x) (aM m c r x)
/-- The new second moment. -/
def aS (c : Dev nD) (r : Fin 128) (x : Fin 512) : EReal := Adam.second (aG m c r x) (aV m c r x)

theorem V0_eq (c : Dev nD) (s : Fin 8) (r : Fin 128) (x : Fin 512) :
    @Eq EReal (V m c main_v0 (ix3 s r x)) (m ((c : Thread nD τ).loc main_arg0) (ix3 s r x)) := by
  unfold V
  simp only [hostOps0, StableHlo.after_cons, StableHlo.after_nil]
  after_results_simp
  pointwise []

/-- The row of the weights at row `r` of a grid point's block. -/
def row (t : Fin cfg0.N) (r : Fin 128) : Fin 128 := ⟨t.val * 128 + r.val, by
  have h := lt_of_lt_of_eq t.isLt (show cfg0.N = 1 from N_0); omega⟩

theorem idx : ∀ t : Fin cfg0.N, win0_0.index t = ![0, t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] ∧
    win0_7.index t = ![t.val, 0] :=
  (by decide +kernel : ∀ t : Fin grid0.N, _)

theorem b0_eq (c : Dev nD) (t : Fin cfg0.N) (s : Fin 8) (r : Fin 128) (x : Fin 512) :
    @Eq EReal (iblk m c 0 t (ix3 s r x)) (m ((c : Thread nD τ).loc main_arg0) (ix3 s (row t r) x)) := by
  refine Eq.trans ?_ (V0_eq m c s (row t r) x)
  blk_ext [iblk, idx t, row]

theorem b1_eq (c : Dev nD) (t : Fin cfg0.N) (r : Fin 128) (x : Fin 512) : @Eq EReal (iblk m c 1 t (ix2 r x)) (aW m c (row t r) x) := by
  refine Eq.trans ?_ (congrFun (V_main_arg1 m c) (ix2 (row t r) x))
  blk_ext [iblk, idx t, row]

theorem b2_eq (c : Dev nD) (t : Fin cfg0.N) (r : Fin 128) (x : Fin 512) : @Eq EReal (iblk m c 2 t (ix2 r x)) (aM m c (row t r) x) := by
  refine Eq.trans ?_ (congrFun (V_main_arg2 m c) (ix2 (row t r) x))
  blk_ext [iblk, idx t, row]

theorem b3_eq (c : Dev nD) (t : Fin cfg0.N) (r : Fin 128) (x : Fin 512) : @Eq EReal (iblk m c 3 t (ix2 r x)) (aV m c (row t r) x) := by
  refine Eq.trans ?_ (congrFun (V_main_arg3 m c) (ix2 (row t r) x))
  blk_ext [iblk, idx t, row]

section
variable (x0 : Vec Ideal S8x128x512 .bf16) (x1 x2 x3 : Vec Ideal S128x512 .f32) (r : Fin 128) (x : Fin 512)

/-- The sum of the parts at a grid point. -/
theorem sum_at : @Eq EReal (k0_pay5 (F := Ideal) x0 x1 x2 x3 (ix2 r x)) (Adam.grad fun s => x0 (ix3 s r x)) := by
  unfold Adam.grad k0_pay5
  rw [Fin.sum_univ_eight]
  pointwise [k0_pay4]

theorem first_at (g : FVec Ideal S128x512 .f32) : @Eq EReal (k0_pay1 (F := Ideal) g x2 (ix2 r x)) (Adam.first (g (ix2 r x)) (x2 (ix2 r x))) := by
  pointwise [k0_pay1, Adam.first, Adam.beta1, Adam.rest1]

theorem second_at (g : FVec Ideal S128x512 .f32) : @Eq EReal (k0_pay2 (F := Ideal) g x3 (ix2 r x)) (Adam.second (g (ix2 r x)) (x3 (ix2 r x))) := by
  pointwise [k0_pay2, Adam.second, Adam.beta2, Adam.rest2]

theorem delta_at (g : FVec Ideal S128x512 .f32) : @Eq EReal (k0_pay3 (F := Ideal) g x1 x2 x3 (ix2 r x))
    (Adam.delta (g (ix2 r x)) (x1 (ix2 r x)) (x2 (ix2 r x)) (x3 (ix2 r x))) := by
  pointwise [k0_pay3, Adam.delta, Adam.corr1, Adam.corr2, Adam.small, Adam.decay, Adam.rate]
  rw [first_at, second_at]

end

theorem sum_point (c : Dev nD) (t : Fin cfg0.N) (r : Fin 128) (x : Fin 512) :
    @Eq EReal (k0_pay5 (F := Ideal) (iblk m c 0 t) (iblk m c 1 t) (iblk m c 2 t) (iblk m c 3 t) (ix2 r x)) (aG m c (row t r) x) :=
  (sum_at _ _ _ _ r x).trans (congrArg Adam.grad (funext fun s => b0_eq m c t s r x))

theorem delta_point (c : Dev nD) (t : Fin cfg0.N) (r : Fin 128) (x : Fin 512) :
    @Eq EReal (k0_pay3 (F := Ideal) (k0_pay5 (iblk m c 0 t) (iblk m c 1 t) (iblk m c 2 t) (iblk m c 3 t)) (iblk m c 1 t)
      (iblk m c 2 t) (iblk m c 3 t) (ix2 r x)) (aD m c (row t r) x) :=
  (delta_at _ _ _ r x _).trans (Adam.delta_congr (sum_point m c t r x) (b1_eq m c t r x)
    (b2_eq m c t r x) (b3_eq m c t r x))

theorem first_point (c : Dev nD) (t : Fin cfg0.N) (r : Fin 128) (x : Fin 512) :
    @Eq EReal (k0_pay1 (F := Ideal) (k0_pay5 (iblk m c 0 t) (iblk m c 1 t) (iblk m c 2 t) (iblk m c 3 t)) (iblk m c 2 t) (ix2 r x))
      (aF m c (row t r) x) :=
  (first_at _ r x _).trans (Adam.first_congr (sum_point m c t r x) (b2_eq m c t r x))

theorem second_point (c : Dev nD) (t : Fin cfg0.N) (r : Fin 128) (x : Fin 512) :
    @Eq EReal (k0_pay2 (F := Ideal) (k0_pay5 (iblk m c 0 t) (iblk m c 1 t) (iblk m c 2 t) (iblk m c 3 t)) (iblk m c 3 t) (ix2 r x))
      (aS m c (row t r) x) :=
  (second_at _ r x _).trans (Adam.second_congr (sum_point m c t r x) (b3_eq m c t r x))

/-- The gradient, as the kernel leaves it. -/
theorem grad_array (c : Dev nD) : (dats m 0 c).arrAt 4 cfg0.N = fun i : S128x512.Idx => aG m c (i 0) (i 1) := by
  refine (dats m 0 c).arrAt_eq_of_covers 4 _ (by decide +kernel) fun t hf y => ?_
  blk_simp [idx t]
  rw [after0_4]
  obtain ⟨r, x, rfl⟩ : ∃ (r : Fin 128) (x : Fin 512), y = ix2 r x := ⟨y 0, y 1, eq_ix2 (n0 := 128) (n1 := 512) y⟩
  unfold out0_4
  frame_out
  refine (sum_point m c t r x).trans (Adam.at_congr ?_ ?_)
  all_goals refine Fin.ext ?_; blk_simp [idx t, row]

/-- The change of the weights, as the kernel leaves it. -/
theorem delta_array (c : Dev nD) : (dats m 0 c).arrAt 5 cfg0.N = fun i : S128x512.Idx => aD m c (i 0) (i 1) := by
  refine (dats m 0 c).arrAt_eq_of_covers 5 _ (by decide +kernel) fun t hf y => ?_
  blk_simp [idx t]
  rw [after0_5]
  obtain ⟨r, x, rfl⟩ : ∃ (r : Fin 128) (x : Fin 512), y = ix2 r x := ⟨y 0, y 1, eq_ix2 (n0 := 128) (n1 := 512) y⟩
  unfold out0_5
  frame_out
  refine (delta_point m c t r x).trans (Adam.at_congr ?_ ?_)
  all_goals refine Fin.ext ?_; blk_simp [idx t, row]

/-- The first moment, as the kernel leaves it. -/
theorem first_array (c : Dev nD) : (dats m 0 c).arrAt 6 cfg0.N = fun i : S128x512.Idx => aF m c (i 0) (i 1) := by
  refine (dats m 0 c).arrAt_eq_of_covers 6 _ (by decide +kernel) fun t hf y => ?_
  blk_simp [idx t]
  rw [after0_6]
  obtain ⟨r, x, rfl⟩ : ∃ (r : Fin 128) (x : Fin 512), y = ix2 r x := ⟨y 0, y 1, eq_ix2 (n0 := 128) (n1 := 512) y⟩
  unfold out0_6
  frame_out
  refine (first_point m c t r x).trans (Adam.at_congr ?_ ?_)
  all_goals refine Fin.ext ?_; blk_simp [idx t, row]

/-- The second moment, as the kernel leaves it. -/
theorem second_array (c : Dev nD) : (dats m 0 c).arrAt 7 cfg0.N = fun i : S128x512.Idx => aS m c (i 0) (i 1) := by
  refine (dats m 0 c).arrAt_eq_of_covers 7 _ (by decide +kernel) fun t hf y => ?_
  blk_simp [idx t]
  rw [after0_7]
  obtain ⟨r, x, rfl⟩ : ∃ (r : Fin 128) (x : Fin 512), y = ix2 r x := ⟨y 0, y 1, eq_ix2 (n0 := 128) (n1 := 512) y⟩
  unfold out0_7
  frame_out
  refine (second_point m c t r x).trans (Adam.at_congr ?_ ?_)
  all_goals refine Fin.ext ?_; blk_simp [idx t, row]

end Cert.Kernel11Ideal.Hand
-- ==== Proof.Adam.WkvEqual.lean ====
module
public import proofs.«01_k».proof.Defs
public import proofs.«01_k».proof.Proof.Adam.Wkv
public import proofs.«01_k».proof.Proof.Adam.Ops
public import proofs.«01_k».proof.Proof.Gen.Reference11Ideal.Run
public import Idealize.ShloMosaic.Lib.Claim
@[expose] public section

/-!
# The AdamW step of the weight of the shared keys and values: the kernel's results are the reference's
-/

set_option maxRecDepth 16384
noncomputable section
namespace Cert.Proof
open Idealize.ShloMosaic Idealize.ShloMosaic.TcCoe Idealize.SL.Sem Cert.Reference11Ideal

/-- The value claim of the step. -/
theorem adam_wkv_algebraic : Cert.algebraic_Kernel11Ideal_Reference11Ideal := by
  intro m g m' g' _ hagree
  refine ⟨fun c => (Cert.Kernel11Ideal.Gen.dats m 0 c).arrAt 4 Cert.Kernel11Ideal.cfg0.N,
    fun c => (Cert.Kernel11Ideal.Gen.dats m 0 c).arrAt 5 Cert.Kernel11Ideal.cfg0.N,
    fun c => (Cert.Kernel11Ideal.Gen.dats m 0 c).arrAt 6 Cert.Kernel11Ideal.cfg0.N,
    fun c => (Cert.Kernel11Ideal.Gen.dats m 0 c).arrAt 7 Cert.Kernel11Ideal.cfg0.N, Cert.Kernel11Ideal.Value.run_blocks m g, ?_⟩
  refine (θ_run Cert.Reference11Ideal.defs _ _).mono (fun r h c => ?_) (Cert.Reference11Ideal.Value.run (F := Ideal) m' g')
  obtain ⟨h0, h1, h2, h3, hargs⟩ := h c
  obtain ⟨e0, e1, e2, e3⟩ := hagree c
  refine ⟨h0.trans ?_, h1.trans ?_, h2.trans ?_, h3.trans ?_, hargs⟩
  · rw [e0]
    exact (Adam.grad_eq _ _ _).trans (Cert.Kernel11Ideal.Hand.grad_array m c).symm
  · rw [e0, e1, e2, e3]
    exact (Adam.delta_eq _ _ _ _ _ _ _ (fun _ _ => rfl) (fun _ _ => rfl) (fun _ _ => rfl)).trans (Cert.Kernel11Ideal.Hand.delta_array m c).symm
  · rw [e0, e2]
    exact (Adam.first_eq _ _ _ _ _ (fun _ _ => rfl)).trans (Cert.Kernel11Ideal.Hand.first_array m c).symm
  · rw [e0, e3]
    exact (Adam.second_eq _ _ _ _ _ (fun _ _ => rfl)).trans (Cert.Kernel11Ideal.Hand.second_array m c).symm

/-- The reference runs to its end, leaves its arguments unchanged, and declares no counter that could stay raised. -/
theorem adam_wkv_reference_frame : Cert.quiescent_Reference11Ideal := fun m g _ =>
  (θ_run Cert.Reference11Ideal.defs _ _).mono
    (fun r h => ⟨fun c => (h c).2.2.2.2, Idealize.ShloMosaic.sem_eq_zero_of_no_sems (by decide) r.2⟩)
    (Cert.Reference11Ideal.Value.run m g)

end Cert.Proof
-- ==== Proof.Adam.Up0.lean ====
module
public import proofs.«01_k».proof.Proof.Gen.Kernel12Ideal.Value
public import proofs.«01_k».proof.Proof.Adam.Spec
public import Idealize.ShloMosaic.Lib.Pipeline.ValueKit
public import Idealize.ShloMosaic.Lib.Pipeline.ReadBack
@[expose] public section

/-!
# The AdamW step of the ConvFFN's up-projection in the first layer: the kernel
-/

set_option maxRecDepth 16384
noncomputable section
namespace Cert.Kernel12Ideal.Hand
open Cert.Kernel12Ideal Cert.Kernel12Ideal.Gen Idealize.ShloMosaic Idealize.ShloMosaic.TcCoe Idealize.SL.Sem
variable (m : (ℓ : Loc nD τ sig) → Buf (Elt Ideal) ℓ)

/-- The gradient, from the parts of the eight devices. -/
def aG (c : Dev nD) (r : Fin 1024) (x : Fin 704) : EReal := Adam.grad fun s => m ((c : Thread nD τ).loc main_arg0) (ix3 s r x)
/-- The weights and the two moments. -/
def aW (c : Dev nD) (r : Fin 1024) (x : Fin 704) : EReal := m ((c : Thread nD τ).loc main_arg1) (ix3 0 r x)
@[inherit_doc aW]
def aM (c : Dev nD) (r : Fin 1024) (x : Fin 704) : EReal := m ((c : Thread nD τ).loc main_arg2) (ix3 0 r x)
@[inherit_doc aW]
def aV (c : Dev nD) (r : Fin 1024) (x : Fin 704) : EReal := m ((c : Thread nD τ).loc main_arg3) (ix3 0 r x)

/-- The change of the weights. -/
def aD (c : Dev nD) (r : Fin 1024) (x : Fin 704) : EReal := Adam.delta (aG m c r x) (aW m c r x) (aM m c r x) (aV m c r x)
/-- The new first moment. -/
def aF (c : Dev nD) (r : Fin 1024) (x : Fin 704) : EReal := Adam.first (aG m c r x) (aM m c r x)
/-- The new second moment. -/
def aS (c : Dev nD) (r : Fin 1024) (x : Fin 704) : EReal := Adam.second (aG m c r x) (aV m c r x)

theorem V0_eq (c : Dev nD) (s : Fin 8) (r : Fin 1024) (x : Fin 704) :
    @Eq EReal (V m c main_v0 (ix3 s r x)) (m ((c : Thread nD τ).loc main_arg0) (ix3 s r x)) := by
  unfold V
  simp only [hostOps0, StableHlo.after_cons, StableHlo.after_nil]
  after_results_simp
  pointwise []

/-- The row of the weights at row `r` of a grid point's block. -/
def row (t : Fin cfg0.N) (r : Fin 128) : Fin 1024 := ⟨t.val * 128 + r.val, by
  have h := lt_of_lt_of_eq t.isLt (show cfg0.N = 8 from N_0); omega⟩

theorem idx : ∀ t : Fin cfg0.N, win0_0.index t = ![0, t.val, 0] ∧ win0_1.index t = ![0, t.val, 0] ∧ win0_2.index t = ![0, t.val, 0] ∧
    win0_3.index t = ![0, t.val, 0] ∧ win0_4.index t = ![t.val, 0] ∧ win0_5.index t = ![t.val, 0] ∧ win0_6.index t = ![t.val, 0] ∧
    win0_7.index t = ![t.val, 0] :=
  (by decide +kernel : ∀ t : Fin grid0.N, _)

theorem b0_eq (c : Dev nD) (t : Fin cfg0.N) (s : Fin 8) (r : Fin 128) (x : Fin 704) :
    @Eq EReal (iblk m c 0 t (ix3 s r x)) (m ((c : Thread nD τ).loc main_arg0) (ix3 s (row t r) x)) := by
  refine Eq.trans ?_ (V0_eq m c s (row t r) x)
  blk_ext [iblk, idx t, row]

theorem b1_eq (c : Dev nD) (t : Fin cfg0.N) (r : Fin 128) (x : Fin 704) : @Eq EReal (iblk m c 1 t (ix3 0 r x)) (aW m c (row t r) x) := by
  refine Eq.trans ?_ (congrFun (V_main_arg1 m c) (ix3 0 (row t r) x))
  blk_ext [iblk, idx t, row]

theorem b2_eq (c : Dev nD) (t : Fin cfg0.N) (r : Fin 128) (x : Fin 704) : @Eq EReal (iblk m c 2 t (ix3 0 r x)) (aM m c (row t r) x) := by
  refine Eq.trans ?_ (congrFun (V_main_arg2 m c) (ix3 0 (row t r) x))
  blk_ext [iblk, idx t, row]

theorem b3_eq (c : Dev nD) (t : Fin cfg0.N) (r : Fin 128) (x : Fin 704) : @Eq EReal (iblk m c 3 t (ix3 0 r x)) (aV m c (row t r) x) := by
  refine Eq.trans ?_ (congrFun (V_main_arg3 m c) (ix3 0 (row t r) x))
  blk_ext [iblk, idx t, row]

section
variable (x0 : Vec Ideal S8x128x704 .bf16) (x1 x2 x3 : Vec Ideal S1x128x704 .f32) (r : Fin 128) (x : Fin 704)

/-- The sum of the parts at a grid point. -/
theorem sum_at : @Eq EReal (k0_pay5 (F := Ideal) x0 x1 x2 x3 (ix2 r x)) (Adam.grad fun s => x0 (ix3 s r x)) := by
  unfold Adam.grad k0_pay5
  rw [Fin.sum_univ_eight]
  pointwise [k0_pay1]

theorem first_at (g : FVec Ideal S128x704 .f32) : @Eq EReal (k0_pay2 (F := Ideal) g x2 (ix2 r x)) (Adam.first (g (ix2 r x)) (x2 (ix3 0 r x))) := by
  pointwise [k0_pay2, Adam.first, Adam.beta1, Adam.rest1]

theorem second_at (g : FVec Ideal S128x704 .f32) : @Eq EReal (k0_pay3 (F := Ideal) g x3 (ix2 r x)) (Adam.second (g (ix2 r x)) (x3 (ix3 0 r x))) := by
  pointwise [k0_pay3, Adam.second, Adam.beta2, Adam.rest2]

theorem delta_at (g : FVec Ideal S128x704 .f32) : @Eq EReal (k0_pay4 (F := Ideal) g x1 x2 x3 (ix2 r x))
    (Adam.delta (g (ix2 r x)) (x1 (ix3 0 r x)) (x2 (ix3 0 r x)) (x3 (ix3 0 r x))) := by
  pointwise [k0_pay4, Adam.delta, Adam.corr1, Adam.corr2, Adam.small, Adam.decay, Adam.rate]
  rw [first_at, second_at]

end

theorem sum_point (c : Dev nD) (t : Fin cfg0.N) (r : Fin 128) (x : Fin 704) :
    @Eq EReal (k0_pay5 (F := Ideal) (iblk m c 0 t) (iblk m c 1 t) (iblk m c 2 t) (iblk m c 3 t) (ix2 r x)) (aG m c (row t r) x) :=
  (sum_at _ _ _ _ r x).trans (congrArg Adam.grad (funext fun s => b0_eq m c t s r x))

theorem delta_point (c : Dev nD) (t : Fin cfg0.N) (r : Fin 128) (x : Fin 704) :
    @Eq EReal (k0_pay4 (F := Ideal) (k0_pay5 (iblk m c 0 t) (iblk m c 1 t) (iblk m c 2 t) (iblk m c 3 t)) (iblk m c 1 t)
      (iblk m c 2 t) (iblk m c 3 t) (ix2 r x)) (aD m c (row t r) x) :=
  (delta_at _ _ _ r x _).trans (Adam.delta_congr (sum_point m c t r x) (b1_eq m c t r x)
    (b2_eq m c t r x) (b3_eq m c t r x))

theorem first_point (c : Dev nD) (t : Fin cfg0.N) (r : Fin 128) (x : Fin 704) :
    @Eq EReal (k0_pay2 (F := Ideal) (k0_pay5 (iblk m c 0 t) (iblk m c 1 t) (iblk m c 2 t) (iblk m c 3 t)) (iblk m c 2 t) (ix2 r x))
      (aF m c (row t r) x) :=
  (first_at _ r x _).trans (Adam.first_congr (sum_point m c t r x) (b2_eq m c t r x))

theorem second_point (c : Dev nD) (t : Fin cfg0.N) (r : Fin 128) (x : Fin 704) :
    @Eq EReal (k0_pay3 (F := Ideal) (k0_pay5 (iblk m c 0 t) (iblk m c 1 t) (iblk m c 2 t) (iblk m c 3 t)) (iblk m c 3 t) (ix2 r x))
      (aS m c (row t r) x) :=
  (second_at _ r x _).trans (Adam.second_congr (sum_point m c t r x) (b3_eq m c t r x))

/-- The gradient, as the kernel leaves it. -/
theorem grad_array (c : Dev nD) : (dats m 0 c).arrAt 4 cfg0.N = fun i : S1024x704.Idx => aG m c (i 0) (i 1) := by
  refine (dats m 0 c).arrAt_eq_of_covers 4 _ (by decide +kernel) fun t hf y => ?_
  blk_simp [idx t]
  rw [after0_4]
  obtain ⟨r, x, rfl⟩ : ∃ (r : Fin 128) (x : Fin 704), y = ix2 r x := ⟨y 0, y 1, eq_ix2 (n0 := 128) (n1 := 704) y⟩
  unfold out0_4
  frame_out
  refine (sum_point m c t r x).trans (Adam.at_congr ?_ ?_)
  all_goals refine Fin.ext ?_; blk_simp [idx t, row]

/-- The change of the weights, as the kernel leaves it. -/
theorem delta_array (c : Dev nD) : (dats m 0 c).arrAt 5 cfg0.N = fun i : S1024x704.Idx => aD m c (i 0) (i 1) := by
  refine (dats m 0 c).arrAt_eq_of_covers 5 _ (by decide +kernel) fun t hf y => ?_
  blk_simp [idx t]
  rw [after0_5]
  obtain ⟨r, x, rfl⟩ : ∃ (r : Fin 128) (x : Fin 704), y = ix2 r x := ⟨y 0, y 1, eq_ix2 (n0 := 128) (n1 := 704) y⟩
  unfold out0_5
  frame_out
  refine (delta_point m c t r x).trans (Adam.at_congr ?_ ?_)
  all_goals refine Fin.ext ?_; blk_simp [idx t, row]

/-- The first moment, as the kernel leaves it. -/
theorem first_array (c : Dev nD) : (dats m 0 c).arrAt 6 cfg0.N = fun i : S1024x704.Idx => aF m c (i 0) (i 1) := by
  refine (dats m 0 c).arrAt_eq_of_covers 6 _ (by decide +kernel) fun t hf y => ?_
  blk_simp [idx t]
  rw [after0_6]
  obtain ⟨r, x, rfl⟩ : ∃ (r : Fin 128) (x : Fin 704), y = ix2 r x := ⟨y 0, y 1, eq_ix2 (n0 := 128) (n1 := 704) y⟩
  unfold out0_6
  frame_out
  refine (first_point m c t r x).trans (Adam.at_congr ?_ ?_)
  all_goals refine Fin.ext ?_; blk_simp [idx t, row]

/-- The second moment, as the kernel leaves it. -/
theorem second_array (c : Dev nD) : (dats m 0 c).arrAt 7 cfg0.N = fun i : S1024x704.Idx => aS m c (i 0) (i 1) := by
  refine (dats m 0 c).arrAt_eq_of_covers 7 _ (by decide +kernel) fun t hf y => ?_
  blk_simp [idx t]
  rw [after0_7]
  obtain ⟨r, x, rfl⟩ : ∃ (r : Fin 128) (x : Fin 704), y = ix2 r x := ⟨y 0, y 1, eq_ix2 (n0 := 128) (n1 := 704) y⟩
  unfold out0_7
  frame_out
  refine (second_point m c t r x).trans (Adam.at_congr ?_ ?_)
  all_goals refine Fin.ext ?_; blk_simp [idx t, row]

end Cert.Kernel12Ideal.Hand
-- ==== Proof.Adam.Up0Equal.lean ====
module
public import proofs.«01_k».proof.Defs
public import proofs.«01_k».proof.Proof.Adam.Up0
public import proofs.«01_k».proof.Proof.Adam.Ops
public import proofs.«01_k».proof.Proof.Gen.Reference12Ideal.Run
public import Idealize.ShloMosaic.Lib.Claim
@[expose] public section

/-!
# The AdamW step of the ConvFFN's up-projection in the first layer: the kernel's results are the reference's
-/

set_option maxRecDepth 16384
noncomputable section
namespace Cert.Proof
open Idealize.ShloMosaic Idealize.ShloMosaic.TcCoe Idealize.SL.Sem Cert.Reference12Ideal

/-- The weights of one layer. -/
theorem adam_up0_at (v : FVec Ideal S2x1024x704 .f32) (h : S2x1024x704.Slices ![0, 0, 0] S1x1024x704) (h' : S1x1024x704.ShapeCasts S1024x704) (r : Fin 1024) (x : Fin 704) :
    @Eq EReal (shapeCast S1024x704 (extractStridedSlice S1x1024x704 ![0, 0, 0] v h) h' (ix2 r x)) (v (ix3 0 r x)) := by
  pointwise []

/-- The value claim of the step. -/
theorem adam_up0_algebraic : Cert.algebraic_Kernel12Ideal_Reference12Ideal := by
  intro m g m' g' _ hagree
  refine ⟨fun c => (Cert.Kernel12Ideal.Gen.dats m 0 c).arrAt 4 Cert.Kernel12Ideal.cfg0.N,
    fun c => (Cert.Kernel12Ideal.Gen.dats m 0 c).arrAt 5 Cert.Kernel12Ideal.cfg0.N,
    fun c => (Cert.Kernel12Ideal.Gen.dats m 0 c).arrAt 6 Cert.Kernel12Ideal.cfg0.N,
    fun c => (Cert.Kernel12Ideal.Gen.dats m 0 c).arrAt 7 Cert.Kernel12Ideal.cfg0.N, Cert.Kernel12Ideal.Value.run_blocks m g, ?_⟩
  refine (θ_run Cert.Reference12Ideal.defs _ _).mono (fun r h c => ?_) (Cert.Reference12Ideal.Value.run (F := Ideal) m' g')
  obtain ⟨h0, h1, h2, h3, hargs⟩ := h c
  obtain ⟨e0, e1, e2, e3⟩ := hagree c
  refine ⟨h0.trans ?_, h1.trans ?_, h2.trans ?_, h3.trans ?_, hargs⟩
  · rw [e0]
    exact (Adam.grad_eq _ _ _).trans (Cert.Kernel12Ideal.Hand.grad_array m c).symm
  · rw [e0, e1, e2, e3]
    exact (Adam.delta_eq _ _ _ _ _ _ _ (adam_up0_at _ _ _) (adam_up0_at _ _ _) (adam_up0_at _ _ _)).trans (Cert.Kernel12Ideal.Hand.delta_array m c).symm
  · rw [e0, e2]
    exact (Adam.first_eq _ _ _ _ _ (adam_up0_at _ _ _)).trans (Cert.Kernel12Ideal.Hand.first_array m c).symm
  · rw [e0, e3]
    exact (Adam.second_eq _ _ _ _ _ (adam_up0_at _ _ _)).trans (Cert.Kernel12Ideal.Hand.second_array m c).symm

/-- The reference runs to its end, leaves its arguments unchanged, and declares no counter that could stay raised. -/
theorem adam_up0_reference_frame : Cert.quiescent_Reference12Ideal := fun m g _ =>
  (θ_run Cert.Reference12Ideal.defs _ _).mono
    (fun r h => ⟨fun c => (h c).2.2.2.2, Idealize.ShloMosaic.sem_eq_zero_of_no_sems (by decide) r.2⟩)
    (Cert.Reference12Ideal.Value.run m g)

end Cert.Proof
-- ==== Proof.Adam.Up1.lean ====
module
public import proofs.«01_k».proof.Proof.Gen.Kernel13Ideal.Value
public import proofs.«01_k».proof.Proof.Adam.Spec
public import Idealize.ShloMosaic.Lib.Pipeline.ValueKit
public import Idealize.ShloMosaic.Lib.Pipeline.ReadBack
@[expose] public section

/-!
# The AdamW step of the ConvFFN's up-projection in the second layer: the kernel
-/

set_option maxRecDepth 16384
noncomputable section
namespace Cert.Kernel13Ideal.Hand
open Cert.Kernel13Ideal Cert.Kernel13Ideal.Gen Idealize.ShloMosaic Idealize.ShloMosaic.TcCoe Idealize.SL.Sem
variable (m : (ℓ : Loc nD τ sig) → Buf (Elt Ideal) ℓ)

/-- The gradient, from the parts of the eight devices. -/
def aG (c : Dev nD) (r : Fin 1024) (x : Fin 704) : EReal := Adam.grad fun s => m ((c : Thread nD τ).loc main_arg0) (ix3 s r x)
/-- The weights and the two moments. -/
def aW (c : Dev nD) (r : Fin 1024) (x : Fin 704) : EReal := m ((c : Thread nD τ).loc main_arg1) (ix3 1 r x)
@[inherit_doc aW]
def aM (c : Dev nD) (r : Fin 1024) (x : Fin 704) : EReal := m ((c : Thread nD τ).loc main_arg2) (ix3 1 r x)
@[inherit_doc aW]
def aV (c : Dev nD) (r : Fin 1024) (x : Fin 704) : EReal := m ((c : Thread nD τ).loc main_arg3) (ix3 1 r x)

/-- The change of the weights. -/
def aD (c : Dev nD) (r : Fin 1024) (x : Fin 704) : EReal := Adam.delta (aG m c r x) (aW m c r x) (aM m c r x) (aV m c r x)
/-- The new first moment. -/
def aF (c : Dev nD) (r : Fin 1024) (x : Fin 704) : EReal := Adam.first (aG m c r x) (aM m c r x)
/-- The new second moment. -/
def aS (c : Dev nD) (r : Fin 1024) (x : Fin 704) : EReal := Adam.second (aG m c r x) (aV m c r x)

theorem V0_eq (c : Dev nD) (s : Fin 8) (r : Fin 1024) (x : Fin 704) :
    @Eq EReal (V m c main_v0 (ix3 s r x)) (m ((c : Thread nD τ).loc main_arg0) (ix3 s r x)) := by
  unfold V
  simp only [hostOps0, StableHlo.after_cons, StableHlo.after_nil]
  after_results_simp
  pointwise []

/-- The row of the weights at row `r` of a grid point's block. -/
def row (t : Fin cfg0.N) (r : Fin 128) : Fin 1024 := ⟨t.val * 128 + r.val, by
  have h := lt_of_lt_of_eq t.isLt (show cfg0.N = 8 from N_0); omega⟩

theorem idx : ∀ t : Fin cfg0.N, win0_0.index t = ![0, t.val, 0] ∧ win0_1.index t = ![1, t.val, 0] ∧ win0_2.index t = ![1, t.val, 0] ∧
    win0_3.index t = ![1, t.val, 0] ∧ win0_4.index t = ![t.val, 0] ∧ win0_5.index t = ![t.val, 0] ∧ win0_6.index t = ![t.val, 0] ∧
    win0_7.index t = ![t.val, 0] :=
  (by decide +kernel : ∀ t : Fin grid0.N, _)

theorem b0_eq (c : Dev nD) (t : Fin cfg0.N) (s : Fin 8) (r : Fin 128) (x : Fin 704) :
    @Eq EReal (iblk m c 0 t (ix3 s r x)) (m ((c : Thread nD τ).loc main_arg0) (ix3 s (row t r) x)) := by
  refine Eq.trans ?_ (V0_eq m c s (row t r) x)
  blk_ext [iblk, idx t, row]

theorem b1_eq (c : Dev nD) (t : Fin cfg0.N) (r : Fin 128) (x : Fin 704) : @Eq EReal (iblk m c 1 t (ix3 0 r x)) (aW m c (row t r) x) := by
  refine Eq.trans ?_ (congrFun (V_main_arg1 m c) (ix3 1 (row t r) x))
  blk_ext [iblk, idx t, row]

theorem b2_eq (c : Dev nD) (t : Fin cfg0.N) (r : Fin 128) (x : Fin 704) : @Eq EReal (iblk m c 2 t (ix3 0 r x)) (aM m c (row t r) x) := by
  refine Eq.trans ?_ (congrFun (V_main_arg2 m c) (ix3 1 (row t r) x))
  blk_ext [iblk, idx t, row]

theorem b3_eq (c : Dev nD) (t : Fin cfg0.N) (r : Fin 128) (x : Fin 704) : @Eq EReal (iblk m c 3 t (ix3 0 r x)) (aV m c (row t r) x) := by
  refine Eq.trans ?_ (congrFun (V_main_arg3 m c) (ix3 1 (row t r) x))
  blk_ext [iblk, idx t, row]

section
variable (x0 : Vec Ideal S8x128x704 .bf16) (x1 x2 x3 : Vec Ideal S1x128x704 .f32) (r : Fin 128) (x : Fin 704)

/-- The sum of the parts at a grid point. -/
theorem sum_at : @Eq EReal (k0_pay5 (F := Ideal) x0 x1 x2 x3 (ix2 r x)) (Adam.grad fun s => x0 (ix3 s r x)) := by
  unfold Adam.grad k0_pay5
  rw [Fin.sum_univ_eight]
  pointwise [k0_pay1]

theorem first_at (g : FVec Ideal S128x704 .f32) : @Eq EReal (k0_pay2 (F := Ideal) g x2 (ix2 r x)) (Adam.first (g (ix2 r x)) (x2 (ix3 0 r x))) := by
  pointwise [k0_pay2, Adam.first, Adam.beta1, Adam.rest1]

theorem second_at (g : FVec Ideal S128x704 .f32) : @Eq EReal (k0_pay3 (F := Ideal) g x3 (ix2 r x)) (Adam.second (g (ix2 r x)) (x3 (ix3 0 r x))) := by
  pointwise [k0_pay3, Adam.second, Adam.beta2, Adam.rest2]

theorem delta_at (g : FVec Ideal S128x704 .f32) : @Eq EReal (k0_pay4 (F := Ideal) g x1 x2 x3 (ix2 r x))
    (Adam.delta (g (ix2 r x)) (x1 (ix3 0 r x)) (x2 (ix3 0 r x)) (x3 (ix3 0 r x))) := by
  pointwise [k0_pay4, Adam.delta, Adam.corr1, Adam.corr2, Adam.small, Adam.decay, Adam.rate]
  rw [first_at, second_at]

end

theorem sum_point (c : Dev nD) (t : Fin cfg0.N) (r : Fin 128) (x : Fin 704) :
    @Eq EReal (k0_pay5 (F := Ideal) (iblk m c 0 t) (iblk m c 1 t) (iblk m c 2 t) (iblk m c 3 t) (ix2 r x)) (aG m c (row t r) x) :=
  (sum_at _ _ _ _ r x).trans (congrArg Adam.grad (funext fun s => b0_eq m c t s r x))

theorem delta_point (c : Dev nD) (t : Fin cfg0.N) (r : Fin 128) (x : Fin 704) :
    @Eq EReal (k0_pay4 (F := Ideal) (k0_pay5 (iblk m c 0 t) (iblk m c 1 t) (iblk m c 2 t) (iblk m c 3 t)) (iblk m c 1 t)
      (iblk m c 2 t) (iblk m c 3 t) (ix2 r x)) (aD m c (row t r) x) :=
  (delta_at _ _ _ r x _).trans (Adam.delta_congr (sum_point m c t r x) (b1_eq m c t r x)
    (b2_eq m c t r x) (b3_eq m c t r x))

theorem first_point (c : Dev nD) (t : Fin cfg0.N) (r : Fin 128) (x : Fin 704) :
    @Eq EReal (k0_pay2 (F := Ideal) (k0_pay5 (iblk m c 0 t) (iblk m c 1 t) (iblk m c 2 t) (iblk m c 3 t)) (iblk m c 2 t) (ix2 r x))
      (aF m c (row t r) x) :=
  (first_at _ r x _).trans (Adam.first_congr (sum_point m c t r x) (b2_eq m c t r x))

theorem second_point (c : Dev nD) (t : Fin cfg0.N) (r : Fin 128) (x : Fin 704) :
    @Eq EReal (k0_pay3 (F := Ideal) (k0_pay5 (iblk m c 0 t) (iblk m c 1 t) (iblk m c 2 t) (iblk m c 3 t)) (iblk m c 3 t) (ix2 r x))
      (aS m c (row t r) x) :=
  (second_at _ r x _).trans (Adam.second_congr (sum_point m c t r x) (b3_eq m c t r x))

/-- The gradient, as the kernel leaves it. -/
theorem grad_array (c : Dev nD) : (dats m 0 c).arrAt 4 cfg0.N = fun i : S1024x704.Idx => aG m c (i 0) (i 1) := by
  refine (dats m 0 c).arrAt_eq_of_covers 4 _ (by decide +kernel) fun t hf y => ?_
  blk_simp [idx t]
  rw [after0_4]
  obtain ⟨r, x, rfl⟩ : ∃ (r : Fin 128) (x : Fin 704), y = ix2 r x := ⟨y 0, y 1, eq_ix2 (n0 := 128) (n1 := 704) y⟩
  unfold out0_4
  frame_out
  refine (sum_point m c t r x).trans (Adam.at_congr ?_ ?_)
  all_goals refine Fin.ext ?_; blk_simp [idx t, row]

/-- The change of the weights, as the kernel leaves it. -/
theorem delta_array (c : Dev nD) : (dats m 0 c).arrAt 5 cfg0.N = fun i : S1024x704.Idx => aD m c (i 0) (i 1) := by
  refine (dats m 0 c).arrAt_eq_of_covers 5 _ (by decide +kernel) fun t hf y => ?_
  blk_simp [idx t]
  rw [after0_5]
  obtain ⟨r, x, rfl⟩ : ∃ (r : Fin 128) (x : Fin 704), y = ix2 r x := ⟨y 0, y 1, eq_ix2 (n0 := 128) (n1 := 704) y⟩
  unfold out0_5
  frame_out
  refine (delta_point m c t r x).trans (Adam.at_congr ?_ ?_)
  all_goals refine Fin.ext ?_; blk_simp [idx t, row]

/-- The first moment, as the kernel leaves it. -/
theorem first_array (c : Dev nD) : (dats m 0 c).arrAt 6 cfg0.N = fun i : S1024x704.Idx => aF m c (i 0) (i 1) := by
  refine (dats m 0 c).arrAt_eq_of_covers 6 _ (by decide +kernel) fun t hf y => ?_
  blk_simp [idx t]
  rw [after0_6]
  obtain ⟨r, x, rfl⟩ : ∃ (r : Fin 128) (x : Fin 704), y = ix2 r x := ⟨y 0, y 1, eq_ix2 (n0 := 128) (n1 := 704) y⟩
  unfold out0_6
  frame_out
  refine (first_point m c t r x).trans (Adam.at_congr ?_ ?_)
  all_goals refine Fin.ext ?_; blk_simp [idx t, row]

/-- The second moment, as the kernel leaves it. -/
theorem second_array (c : Dev nD) : (dats m 0 c).arrAt 7 cfg0.N = fun i : S1024x704.Idx => aS m c (i 0) (i 1) := by
  refine (dats m 0 c).arrAt_eq_of_covers 7 _ (by decide +kernel) fun t hf y => ?_
  blk_simp [idx t]
  rw [after0_7]
  obtain ⟨r, x, rfl⟩ : ∃ (r : Fin 128) (x : Fin 704), y = ix2 r x := ⟨y 0, y 1, eq_ix2 (n0 := 128) (n1 := 704) y⟩
  unfold out0_7
  frame_out
  refine (second_point m c t r x).trans (Adam.at_congr ?_ ?_)
  all_goals refine Fin.ext ?_; blk_simp [idx t, row]

end Cert.Kernel13Ideal.Hand
-- ==== Proof.Adam.Up1Equal.lean ====
module
public import proofs.«01_k».proof.Defs
public import proofs.«01_k».proof.Proof.Adam.Up1
public import proofs.«01_k».proof.Proof.Adam.Ops
public import proofs.«01_k».proof.Proof.Gen.Reference13Ideal.Run
public import Idealize.ShloMosaic.Lib.Claim
@[expose] public section

/-!
# The AdamW step of the ConvFFN's up-projection in the second layer: the kernel's results are the reference's
-/

set_option maxRecDepth 16384
noncomputable section
namespace Cert.Proof
open Idealize.ShloMosaic Idealize.ShloMosaic.TcCoe Idealize.SL.Sem Cert.Reference13Ideal

/-- The weights of one layer. -/
theorem adam_up1_at (v : FVec Ideal S2x1024x704 .f32) (h : S2x1024x704.Slices ![1, 0, 0] S1x1024x704) (h' : S1x1024x704.ShapeCasts S1024x704) (r : Fin 1024) (x : Fin 704) :
    @Eq EReal (shapeCast S1024x704 (extractStridedSlice S1x1024x704 ![1, 0, 0] v h) h' (ix2 r x)) (v (ix3 1 r x)) := by
  pointwise []

/-- The value claim of the step. -/
theorem adam_up1_algebraic : Cert.algebraic_Kernel13Ideal_Reference13Ideal := by
  intro m g m' g' _ hagree
  refine ⟨fun c => (Cert.Kernel13Ideal.Gen.dats m 0 c).arrAt 4 Cert.Kernel13Ideal.cfg0.N,
    fun c => (Cert.Kernel13Ideal.Gen.dats m 0 c).arrAt 5 Cert.Kernel13Ideal.cfg0.N,
    fun c => (Cert.Kernel13Ideal.Gen.dats m 0 c).arrAt 6 Cert.Kernel13Ideal.cfg0.N,
    fun c => (Cert.Kernel13Ideal.Gen.dats m 0 c).arrAt 7 Cert.Kernel13Ideal.cfg0.N, Cert.Kernel13Ideal.Value.run_blocks m g, ?_⟩
  refine (θ_run Cert.Reference13Ideal.defs _ _).mono (fun r h c => ?_) (Cert.Reference13Ideal.Value.run (F := Ideal) m' g')
  obtain ⟨h0, h1, h2, h3, hargs⟩ := h c
  obtain ⟨e0, e1, e2, e3⟩ := hagree c
  refine ⟨h0.trans ?_, h1.trans ?_, h2.trans ?_, h3.trans ?_, hargs⟩
  · rw [e0]
    exact (Adam.grad_eq _ _ _).trans (Cert.Kernel13Ideal.Hand.grad_array m c).symm
  · rw [e0, e1, e2, e3]
    exact (Adam.delta_eq _ _ _ _ _ _ _ (adam_up1_at _ _ _) (adam_up1_at _ _ _) (adam_up1_at _ _ _)).trans (Cert.Kernel13Ideal.Hand.delta_array m c).symm
  · rw [e0, e2]
    exact (Adam.first_eq _ _ _ _ _ (adam_up1_at _ _ _)).trans (Cert.Kernel13Ideal.Hand.first_array m c).symm
  · rw [e0, e3]
    exact (Adam.second_eq _ _ _ _ _ (adam_up1_at _ _ _)).trans (Cert.Kernel13Ideal.Hand.second_array m c).symm

/-- The reference runs to its end, leaves its arguments unchanged, and declares no counter that could stay raised. -/
theorem adam_up1_reference_frame : Cert.quiescent_Reference13Ideal := fun m g _ =>
  (θ_run Cert.Reference13Ideal.defs _ _).mono
    (fun r h => ⟨fun c => (h c).2.2.2.2, Idealize.ShloMosaic.sem_eq_zero_of_no_sems (by decide) r.2⟩)
    (Cert.Reference13Ideal.Value.run m g)

end Cert.Proof
-- ==== Proof.Adam.Down0.lean ====
module
public import proofs.«01_k».proof.Proof.Gen.Kernel14Ideal.Value
public import proofs.«01_k».proof.Proof.Adam.Spec
public import Idealize.ShloMosaic.Lib.Pipeline.ValueKit
public import Idealize.ShloMosaic.Lib.Pipeline.ReadBack
@[expose] public section

/-!
# The AdamW step of the ConvFFN's down-projection in the first layer: the kernel
-/

set_option maxRecDepth 16384
noncomputable section
namespace Cert.Kernel14Ideal.Hand
open Cert.Kernel14Ideal Cert.Kernel14Ideal.Gen Idealize.ShloMosaic Idealize.ShloMosaic.TcCoe Idealize.SL.Sem
variable (m : (ℓ : Loc nD τ sig) → Buf (Elt Ideal) ℓ)

/-- The gradient, from the parts of the eight devices. -/
def aG (c : Dev nD) (r : Fin 352) (x : Fin 1024) : EReal := Adam.grad fun s => m ((c : Thread nD τ).loc main_arg0) (ix3 s r x)
/-- The weights and the two moments. -/
def aW (c : Dev nD) (r : Fin 352) (x : Fin 1024) : EReal := m ((c : Thread nD τ).loc main_arg1) (ix3 0 r x)
@[inherit_doc aW]
def aM (c : Dev nD) (r : Fin 352) (x : Fin 1024) : EReal := m ((c : Thread nD τ).loc main_arg2) (ix3 0 r x)
@[inherit_doc aW]
def aV (c : Dev nD) (r : Fin 352) (x : Fin 1024) : EReal := m ((c : Thread nD τ).loc main_arg3) (ix3 0 r x)

/-- The change of the weights. -/
def aD (c : Dev nD) (r : Fin 352) (x : Fin 1024) : EReal := Adam.delta (aG m c r x) (aW m c r x) (aM m c r x) (aV m c r x)
/-- The new first moment. -/
def aF (c : Dev nD) (r : Fin 352) (x : Fin 1024) : EReal := Adam.first (aG m c r x) (aM m c r x)
/-- The new second moment. -/
def aS (c : Dev nD) (r : Fin 352) (x : Fin 1024) : EReal := Adam.second (aG m c r x) (aV m c r x)

theorem V0_eq (c : Dev nD) (s : Fin 8) (r : Fin 352) (x : Fin 1024) :
    @Eq EReal (V m c main_v0 (ix3 s r x)) (m ((c : Thread nD τ).loc main_arg0) (ix3 s r x)) := by
  unfold V
  simp only [hostOps0, StableHlo.after_cons, StableHlo.after_nil]
  after_results_simp
  pointwise []

/-- The row of the weights at row `r` of a grid point's block. -/
def row (t : Fin cfg0.N) (r : Fin 32) : Fin 352 := ⟨t.val * 32 + r.val, by
  have h := lt_of_lt_of_eq t.isLt (show cfg0.N = 11 from N_0); omega⟩

theorem idx : ∀ t : Fin cfg0.N, win0_0.index t = ![0, t.val, 0] ∧ win0_1.index t = ![0, t.val, 0] ∧ win0_2.index t = ![0, t.val, 0] ∧
    win0_3.index t = ![0, t.val, 0] ∧ win0_4.index t = ![t.val, 0] ∧ win0_5.index t = ![t.val, 0] ∧ win0_6.index t = ![t.val, 0] ∧
    win0_7.index t = ![t.val, 0] :=
  (by decide +kernel : ∀ t : Fin grid0.N, _)

theorem b0_eq (c : Dev nD) (t : Fin cfg0.N) (s : Fin 8) (r : Fin 32) (x : Fin 1024) :
    @Eq EReal (iblk m c 0 t (ix3 s r x)) (m ((c : Thread nD τ).loc main_arg0) (ix3 s (row t r) x)) := by
  refine Eq.trans ?_ (V0_eq m c s (row t r) x)
  blk_ext [iblk, idx t, row]

theorem b1_eq (c : Dev nD) (t : Fin cfg0.N) (r : Fin 32) (x : Fin 1024) : @Eq EReal (iblk m c 1 t (ix3 0 r x)) (aW m c (row t r) x) := by
  refine Eq.trans ?_ (congrFun (V_main_arg1 m c) (ix3 0 (row t r) x))
  blk_ext [iblk, idx t, row]

theorem b2_eq (c : Dev nD) (t : Fin cfg0.N) (r : Fin 32) (x : Fin 1024) : @Eq EReal (iblk m c 2 t (ix3 0 r x)) (aM m c (row t r) x) := by
  refine Eq.trans ?_ (congrFun (V_main_arg2 m c) (ix3 0 (row t r) x))
  blk_ext [iblk, idx t, row]

theorem b3_eq (c : Dev nD) (t : Fin cfg0.N) (r : Fin 32) (x : Fin 1024) : @Eq EReal (iblk m c 3 t (ix3 0 r x)) (aV m c (row t r) x) := by
  refine Eq.trans ?_ (congrFun (V_main_arg3 m c) (ix3 0 (row t r) x))
  blk_ext [iblk, idx t, row]

section
variable (x0 : Vec Ideal S8x32x1024 .bf16) (x1 x2 x3 : Vec Ideal S1x32x1024 .f32) (r : Fin 32) (x : Fin 1024)

/-- The sum of the parts at a grid point. -/
theorem sum_at : @Eq EReal (k0_pay5 (F := Ideal) x0 x1 x2 x3 (ix2 r x)) (Adam.grad fun s => x0 (ix3 s r x)) := by
  unfold Adam.grad k0_pay5
  rw [Fin.sum_univ_eight]
  pointwise [k0_pay1]

theorem first_at (g : FVec Ideal S32x1024 .f32) : @Eq EReal (k0_pay2 (F := Ideal) g x2 (ix2 r x)) (Adam.first (g (ix2 r x)) (x2 (ix3 0 r x))) := by
  pointwise [k0_pay2, Adam.first, Adam.beta1, Adam.rest1]

theorem second_at (g : FVec Ideal S32x1024 .f32) : @Eq EReal (k0_pay3 (F := Ideal) g x3 (ix2 r x)) (Adam.second (g (ix2 r x)) (x3 (ix3 0 r x))) := by
  pointwise [k0_pay3, Adam.second, Adam.beta2, Adam.rest2]

theorem delta_at (g : FVec Ideal S32x1024 .f32) : @Eq EReal (k0_pay4 (F := Ideal) g x1 x2 x3 (ix2 r x))
    (Adam.delta (g (ix2 r x)) (x1 (ix3 0 r x)) (x2 (ix3 0 r x)) (x3 (ix3 0 r x))) := by
  pointwise [k0_pay4, Adam.delta, Adam.corr1, Adam.corr2, Adam.small, Adam.decay, Adam.rate]
  rw [first_at, second_at]

end

theorem sum_point (c : Dev nD) (t : Fin cfg0.N) (r : Fin 32) (x : Fin 1024) :
    @Eq EReal (k0_pay5 (F := Ideal) (iblk m c 0 t) (iblk m c 1 t) (iblk m c 2 t) (iblk m c 3 t) (ix2 r x)) (aG m c (row t r) x) :=
  (sum_at _ _ _ _ r x).trans (congrArg Adam.grad (funext fun s => b0_eq m c t s r x))

theorem delta_point (c : Dev nD) (t : Fin cfg0.N) (r : Fin 32) (x : Fin 1024) :
    @Eq EReal (k0_pay4 (F := Ideal) (k0_pay5 (iblk m c 0 t) (iblk m c 1 t) (iblk m c 2 t) (iblk m c 3 t)) (iblk m c 1 t)
      (iblk m c 2 t) (iblk m c 3 t) (ix2 r x)) (aD m c (row t r) x) :=
  (delta_at _ _ _ r x _).trans (Adam.delta_congr (sum_point m c t r x) (b1_eq m c t r x)
    (b2_eq m c t r x) (b3_eq m c t r x))

theorem first_point (c : Dev nD) (t : Fin cfg0.N) (r : Fin 32) (x : Fin 1024) :
    @Eq EReal (k0_pay2 (F := Ideal) (k0_pay5 (iblk m c 0 t) (iblk m c 1 t) (iblk m c 2 t) (iblk m c 3 t)) (iblk m c 2 t) (ix2 r x))
      (aF m c (row t r) x) :=
  (first_at _ r x _).trans (Adam.first_congr (sum_point m c t r x) (b2_eq m c t r x))

theorem second_point (c : Dev nD) (t : Fin cfg0.N) (r : Fin 32) (x : Fin 1024) :
    @Eq EReal (k0_pay3 (F := Ideal) (k0_pay5 (iblk m c 0 t) (iblk m c 1 t) (iblk m c 2 t) (iblk m c 3 t)) (iblk m c 3 t) (ix2 r x))
      (aS m c (row t r) x) :=
  (second_at _ r x _).trans (Adam.second_congr (sum_point m c t r x) (b3_eq m c t r x))

/-- The gradient, as the kernel leaves it. -/
theorem grad_array (c : Dev nD) : (dats m 0 c).arrAt 4 cfg0.N = fun i : S352x1024.Idx => aG m c (i 0) (i 1) := by
  refine (dats m 0 c).arrAt_eq_of_covers 4 _ (by decide +kernel) fun t hf y => ?_
  blk_simp [idx t]
  rw [after0_4]
  obtain ⟨r, x, rfl⟩ : ∃ (r : Fin 32) (x : Fin 1024), y = ix2 r x := ⟨y 0, y 1, eq_ix2 (n0 := 32) (n1 := 1024) y⟩
  unfold out0_4
  frame_out
  refine (sum_point m c t r x).trans (Adam.at_congr ?_ ?_)
  all_goals refine Fin.ext ?_; blk_simp [idx t, row]

/-- The change of the weights, as the kernel leaves it. -/
theorem delta_array (c : Dev nD) : (dats m 0 c).arrAt 5 cfg0.N = fun i : S352x1024.Idx => aD m c (i 0) (i 1) := by
  refine (dats m 0 c).arrAt_eq_of_covers 5 _ (by decide +kernel) fun t hf y => ?_
  blk_simp [idx t]
  rw [after0_5]
  obtain ⟨r, x, rfl⟩ : ∃ (r : Fin 32) (x : Fin 1024), y = ix2 r x := ⟨y 0, y 1, eq_ix2 (n0 := 32) (n1 := 1024) y⟩
  unfold out0_5
  frame_out
  refine (delta_point m c t r x).trans (Adam.at_congr ?_ ?_)
  all_goals refine Fin.ext ?_; blk_simp [idx t, row]

/-- The first moment, as the kernel leaves it. -/
theorem first_array (c : Dev nD) : (dats m 0 c).arrAt 6 cfg0.N = fun i : S352x1024.Idx => aF m c (i 0) (i 1) := by
  refine (dats m 0 c).arrAt_eq_of_covers 6 _ (by decide +kernel) fun t hf y => ?_
  blk_simp [idx t]
  rw [after0_6]
  obtain ⟨r, x, rfl⟩ : ∃ (r : Fin 32) (x : Fin 1024), y = ix2 r x := ⟨y 0, y 1, eq_ix2 (n0 := 32) (n1 := 1024) y⟩
  unfold out0_6
  frame_out
  refine (first_point m c t r x).trans (Adam.at_congr ?_ ?_)
  all_goals refine Fin.ext ?_; blk_simp [idx t, row]

/-- The second moment, as the kernel leaves it. -/
theorem second_array (c : Dev nD) : (dats m 0 c).arrAt 7 cfg0.N = fun i : S352x1024.Idx => aS m c (i 0) (i 1) := by
  refine (dats m 0 c).arrAt_eq_of_covers 7 _ (by decide +kernel) fun t hf y => ?_
  blk_simp [idx t]
  rw [after0_7]
  obtain ⟨r, x, rfl⟩ : ∃ (r : Fin 32) (x : Fin 1024), y = ix2 r x := ⟨y 0, y 1, eq_ix2 (n0 := 32) (n1 := 1024) y⟩
  unfold out0_7
  frame_out
  refine (second_point m c t r x).trans (Adam.at_congr ?_ ?_)
  all_goals refine Fin.ext ?_; blk_simp [idx t, row]

end Cert.Kernel14Ideal.Hand
-- ==== Proof.Adam.Down0Equal.lean ====
module
public import proofs.«01_k».proof.Defs
public import proofs.«01_k».proof.Proof.Adam.Down0
public import proofs.«01_k».proof.Proof.Adam.Ops
public import proofs.«01_k».proof.Proof.Gen.Reference14Ideal.Run
public import Idealize.ShloMosaic.Lib.Claim
@[expose] public section

/-!
# The AdamW step of the ConvFFN's down-projection in the first layer: the kernel's results are the reference's
-/

set_option maxRecDepth 16384
noncomputable section
namespace Cert.Proof
open Idealize.ShloMosaic Idealize.ShloMosaic.TcCoe Idealize.SL.Sem Cert.Reference14Ideal

/-- The weights of one layer. -/
theorem adam_down0_at (v : FVec Ideal S2x352x1024 .f32) (h : S2x352x1024.Slices ![0, 0, 0] S1x352x1024) (h' : S1x352x1024.ShapeCasts S352x1024) (r : Fin 352) (x : Fin 1024) :
    @Eq EReal (shapeCast S352x1024 (extractStridedSlice S1x352x1024 ![0, 0, 0] v h) h' (ix2 r x)) (v (ix3 0 r x)) := by
  pointwise []

/-- The value claim of the step. -/
theorem adam_down0_algebraic : Cert.algebraic_Kernel14Ideal_Reference14Ideal := by
  intro m g m' g' _ hagree
  refine ⟨fun c => (Cert.Kernel14Ideal.Gen.dats m 0 c).arrAt 4 Cert.Kernel14Ideal.cfg0.N,
    fun c => (Cert.Kernel14Ideal.Gen.dats m 0 c).arrAt 5 Cert.Kernel14Ideal.cfg0.N,
    fun c => (Cert.Kernel14Ideal.Gen.dats m 0 c).arrAt 6 Cert.Kernel14Ideal.cfg0.N,
    fun c => (Cert.Kernel14Ideal.Gen.dats m 0 c).arrAt 7 Cert.Kernel14Ideal.cfg0.N, Cert.Kernel14Ideal.Value.run_blocks m g, ?_⟩
  refine (θ_run Cert.Reference14Ideal.defs _ _).mono (fun r h c => ?_) (Cert.Reference14Ideal.Value.run (F := Ideal) m' g')
  obtain ⟨h0, h1, h2, h3, hargs⟩ := h c
  obtain ⟨e0, e1, e2, e3⟩ := hagree c
  refine ⟨h0.trans ?_, h1.trans ?_, h2.trans ?_, h3.trans ?_, hargs⟩
  · rw [e0]
    exact (Adam.grad_eq _ _ _).trans (Cert.Kernel14Ideal.Hand.grad_array m c).symm
  · rw [e0, e1, e2, e3]
    exact (Adam.delta_eq _ _ _ _ _ _ _ (adam_down0_at _ _ _) (adam_down0_at _ _ _) (adam_down0_at _ _ _)).trans (Cert.Kernel14Ideal.Hand.delta_array m c).symm
  · rw [e0, e2]
    exact (Adam.first_eq _ _ _ _ _ (adam_down0_at _ _ _)).trans (Cert.Kernel14Ideal.Hand.first_array m c).symm
  · rw [e0, e3]
    exact (Adam.second_eq _ _ _ _ _ (adam_down0_at _ _ _)).trans (Cert.Kernel14Ideal.Hand.second_array m c).symm

/-- The reference runs to its end, leaves its arguments unchanged, and declares no counter that could stay raised. -/
theorem adam_down0_reference_frame : Cert.quiescent_Reference14Ideal := fun m g _ =>
  (θ_run Cert.Reference14Ideal.defs _ _).mono
    (fun r h => ⟨fun c => (h c).2.2.2.2, Idealize.ShloMosaic.sem_eq_zero_of_no_sems (by decide) r.2⟩)
    (Cert.Reference14Ideal.Value.run m g)

end Cert.Proof
-- ==== Proof.Adam.Down1.lean ====
module
public import proofs.«01_k».proof.Proof.Gen.Kernel15Ideal.Value
public import proofs.«01_k».proof.Proof.Adam.Spec
public import Idealize.ShloMosaic.Lib.Pipeline.ValueKit
public import Idealize.ShloMosaic.Lib.Pipeline.ReadBack
@[expose] public section

/-!
# The AdamW step of the ConvFFN's down-projection in the second layer: the kernel
-/

set_option maxRecDepth 16384
noncomputable section
namespace Cert.Kernel15Ideal.Hand
open Cert.Kernel15Ideal Cert.Kernel15Ideal.Gen Idealize.ShloMosaic Idealize.ShloMosaic.TcCoe Idealize.SL.Sem
variable (m : (ℓ : Loc nD τ sig) → Buf (Elt Ideal) ℓ)

/-- The gradient, from the parts of the eight devices. -/
def aG (c : Dev nD) (r : Fin 352) (x : Fin 1024) : EReal := Adam.grad fun s => m ((c : Thread nD τ).loc main_arg0) (ix3 s r x)
/-- The weights and the two moments. -/
def aW (c : Dev nD) (r : Fin 352) (x : Fin 1024) : EReal := m ((c : Thread nD τ).loc main_arg1) (ix3 1 r x)
@[inherit_doc aW]
def aM (c : Dev nD) (r : Fin 352) (x : Fin 1024) : EReal := m ((c : Thread nD τ).loc main_arg2) (ix3 1 r x)
@[inherit_doc aW]
def aV (c : Dev nD) (r : Fin 352) (x : Fin 1024) : EReal := m ((c : Thread nD τ).loc main_arg3) (ix3 1 r x)

/-- The change of the weights. -/
def aD (c : Dev nD) (r : Fin 352) (x : Fin 1024) : EReal := Adam.delta (aG m c r x) (aW m c r x) (aM m c r x) (aV m c r x)
/-- The new first moment. -/
def aF (c : Dev nD) (r : Fin 352) (x : Fin 1024) : EReal := Adam.first (aG m c r x) (aM m c r x)
/-- The new second moment. -/
def aS (c : Dev nD) (r : Fin 352) (x : Fin 1024) : EReal := Adam.second (aG m c r x) (aV m c r x)

theorem V0_eq (c : Dev nD) (s : Fin 8) (r : Fin 352) (x : Fin 1024) :
    @Eq EReal (V m c main_v0 (ix3 s r x)) (m ((c : Thread nD τ).loc main_arg0) (ix3 s r x)) := by
  unfold V
  simp only [hostOps0, StableHlo.after_cons, StableHlo.after_nil]
  after_results_simp
  pointwise []

/-- The row of the weights at row `r` of a grid point's block. -/
def row (t : Fin cfg0.N) (r : Fin 32) : Fin 352 := ⟨t.val * 32 + r.val, by
  have h := lt_of_lt_of_eq t.isLt (show cfg0.N = 11 from N_0); omega⟩

theorem idx : ∀ t : Fin cfg0.N, win0_0.index t = ![0, t.val, 0] ∧ win0_1.index t = ![1, t.val, 0] ∧ win0_2.index t = ![1, t.val, 0] ∧
    win0_3.index t = ![1, t.val, 0] ∧ win0_4.index t = ![t.val, 0] ∧ win0_5.index t = ![t.val, 0] ∧ win0_6.index t = ![t.val, 0] ∧
    win0_7.index t = ![t.val, 0] :=
  (by decide +kernel : ∀ t : Fin grid0.N, _)

theorem b0_eq (c : Dev nD) (t : Fin cfg0.N) (s : Fin 8) (r : Fin 32) (x : Fin 1024) :
    @Eq EReal (iblk m c 0 t (ix3 s r x)) (m ((c : Thread nD τ).loc main_arg0) (ix3 s (row t r) x)) := by
  refine Eq.trans ?_ (V0_eq m c s (row t r) x)
  blk_ext [iblk, idx t, row]

theorem b1_eq (c : Dev nD) (t : Fin cfg0.N) (r : Fin 32) (x : Fin 1024) : @Eq EReal (iblk m c 1 t (ix3 0 r x)) (aW m c (row t r) x) := by
  refine Eq.trans ?_ (congrFun (V_main_arg1 m c) (ix3 1 (row t r) x))
  blk_ext [iblk, idx t, row]

theorem b2_eq (c : Dev nD) (t : Fin cfg0.N) (r : Fin 32) (x : Fin 1024) : @Eq EReal (iblk m c 2 t (ix3 0 r x)) (aM m c (row t r) x) := by
  refine Eq.trans ?_ (congrFun (V_main_arg2 m c) (ix3 1 (row t r) x))
  blk_ext [iblk, idx t, row]

theorem b3_eq (c : Dev nD) (t : Fin cfg0.N) (r : Fin 32) (x : Fin 1024) : @Eq EReal (iblk m c 3 t (ix3 0 r x)) (aV m c (row t r) x) := by
  refine Eq.trans ?_ (congrFun (V_main_arg3 m c) (ix3 1 (row t r) x))
  blk_ext [iblk, idx t, row]

section
variable (x0 : Vec Ideal S8x32x1024 .bf16) (x1 x2 x3 : Vec Ideal S1x32x1024 .f32) (r : Fin 32) (x : Fin 1024)

/-- The sum of the parts at a grid point. -/
theorem sum_at : @Eq EReal (k0_pay5 (F := Ideal) x0 x1 x2 x3 (ix2 r x)) (Adam.grad fun s => x0 (ix3 s r x)) := by
  unfold Adam.grad k0_pay5
  rw [Fin.sum_univ_eight]
  pointwise [k0_pay1]

theorem first_at (g : FVec Ideal S32x1024 .f32) : @Eq EReal (k0_pay2 (F := Ideal) g x2 (ix2 r x)) (Adam.first (g (ix2 r x)) (x2 (ix3 0 r x))) := by
  pointwise [k0_pay2, Adam.first, Adam.beta1, Adam.rest1]

theorem second_at (g : FVec Ideal S32x1024 .f32) : @Eq EReal (k0_pay3 (F := Ideal) g x3 (ix2 r x)) (Adam.second (g (ix2 r x)) (x3 (ix3 0 r x))) := by
  pointwise [k0_pay3, Adam.second, Adam.beta2, Adam.rest2]

theorem delta_at (g : FVec Ideal S32x1024 .f32) : @Eq EReal (k0_pay4 (F := Ideal) g x1 x2 x3 (ix2 r x))
    (Adam.delta (g (ix2 r x)) (x1 (ix3 0 r x)) (x2 (ix3 0 r x)) (x3 (ix3 0 r x))) := by
  pointwise [k0_pay4, Adam.delta, Adam.corr1, Adam.corr2, Adam.small, Adam.decay, Adam.rate]
  rw [first_at, second_at]

end

theorem sum_point (c : Dev nD) (t : Fin cfg0.N) (r : Fin 32) (x : Fin 1024) :
    @Eq EReal (k0_pay5 (F := Ideal) (iblk m c 0 t) (iblk m c 1 t) (iblk m c 2 t) (iblk m c 3 t) (ix2 r x)) (aG m c (row t r) x) :=
  (sum_at _ _ _ _ r x).trans (congrArg Adam.grad (funext fun s => b0_eq m c t s r x))

theorem delta_point (c : Dev nD) (t : Fin cfg0.N) (r : Fin 32) (x : Fin 1024) :
    @Eq EReal (k0_pay4 (F := Ideal) (k0_pay5 (iblk m c 0 t) (iblk m c 1 t) (iblk m c 2 t) (iblk m c 3 t)) (iblk m c 1 t)
      (iblk m c 2 t) (iblk m c 3 t) (ix2 r x)) (aD m c (row t r) x) :=
  (delta_at _ _ _ r x _).trans (Adam.delta_congr (sum_point m c t r x) (b1_eq m c t r x)
    (b2_eq m c t r x) (b3_eq m c t r x))

theorem first_point (c : Dev nD) (t : Fin cfg0.N) (r : Fin 32) (x : Fin 1024) :
    @Eq EReal (k0_pay2 (F := Ideal) (k0_pay5 (iblk m c 0 t) (iblk m c 1 t) (iblk m c 2 t) (iblk m c 3 t)) (iblk m c 2 t) (ix2 r x))
      (aF m c (row t r) x) :=
  (first_at _ r x _).trans (Adam.first_congr (sum_point m c t r x) (b2_eq m c t r x))

theorem second_point (c : Dev nD) (t : Fin cfg0.N) (r : Fin 32) (x : Fin 1024) :
    @Eq EReal (k0_pay3 (F := Ideal) (k0_pay5 (iblk m c 0 t) (iblk m c 1 t) (iblk m c 2 t) (iblk m c 3 t)) (iblk m c 3 t) (ix2 r x))
      (aS m c (row t r) x) :=
  (second_at _ r x _).trans (Adam.second_congr (sum_point m c t r x) (b3_eq m c t r x))

/-- The gradient, as the kernel leaves it. -/
theorem grad_array (c : Dev nD) : (dats m 0 c).arrAt 4 cfg0.N = fun i : S352x1024.Idx => aG m c (i 0) (i 1) := by
  refine (dats m 0 c).arrAt_eq_of_covers 4 _ (by decide +kernel) fun t hf y => ?_
  blk_simp [idx t]
  rw [after0_4]
  obtain ⟨r, x, rfl⟩ : ∃ (r : Fin 32) (x : Fin 1024), y = ix2 r x := ⟨y 0, y 1, eq_ix2 (n0 := 32) (n1 := 1024) y⟩
  unfold out0_4
  frame_out
  refine (sum_point m c t r x).trans (Adam.at_congr ?_ ?_)
  all_goals refine Fin.ext ?_; blk_simp [idx t, row]

/-- The change of the weights, as the kernel leaves it. -/
theorem delta_array (c : Dev nD) : (dats m 0 c).arrAt 5 cfg0.N = fun i : S352x1024.Idx => aD m c (i 0) (i 1) := by
  refine (dats m 0 c).arrAt_eq_of_covers 5 _ (by decide +kernel) fun t hf y => ?_
  blk_simp [idx t]
  rw [after0_5]
  obtain ⟨r, x, rfl⟩ : ∃ (r : Fin 32) (x : Fin 1024), y = ix2 r x := ⟨y 0, y 1, eq_ix2 (n0 := 32) (n1 := 1024) y⟩
  unfold out0_5
  frame_out
  refine (delta_point m c t r x).trans (Adam.at_congr ?_ ?_)
  all_goals refine Fin.ext ?_; blk_simp [idx t, row]

/-- The first moment, as the kernel leaves it. -/
theorem first_array (c : Dev nD) : (dats m 0 c).arrAt 6 cfg0.N = fun i : S352x1024.Idx => aF m c (i 0) (i 1) := by
  refine (dats m 0 c).arrAt_eq_of_covers 6 _ (by decide +kernel) fun t hf y => ?_
  blk_simp [idx t]
  rw [after0_6]
  obtain ⟨r, x, rfl⟩ : ∃ (r : Fin 32) (x : Fin 1024), y = ix2 r x := ⟨y 0, y 1, eq_ix2 (n0 := 32) (n1 := 1024) y⟩
  unfold out0_6
  frame_out
  refine (first_point m c t r x).trans (Adam.at_congr ?_ ?_)
  all_goals refine Fin.ext ?_; blk_simp [idx t, row]

/-- The second moment, as the kernel leaves it. -/
theorem second_array (c : Dev nD) : (dats m 0 c).arrAt 7 cfg0.N = fun i : S352x1024.Idx => aS m c (i 0) (i 1) := by
  refine (dats m 0 c).arrAt_eq_of_covers 7 _ (by decide +kernel) fun t hf y => ?_
  blk_simp [idx t]
  rw [after0_7]
  obtain ⟨r, x, rfl⟩ : ∃ (r : Fin 32) (x : Fin 1024), y = ix2 r x := ⟨y 0, y 1, eq_ix2 (n0 := 32) (n1 := 1024) y⟩
  unfold out0_7
  frame_out
  refine (second_point m c t r x).trans (Adam.at_congr ?_ ?_)
  all_goals refine Fin.ext ?_; blk_simp [idx t, row]

end Cert.Kernel15Ideal.Hand
-- ==== Proof.Adam.Down1Equal.lean ====
module
public import proofs.«01_k».proof.Defs
public import proofs.«01_k».proof.Proof.Adam.Down1
public import proofs.«01_k».proof.Proof.Adam.Ops
public import proofs.«01_k».proof.Proof.Gen.Reference15Ideal.Run
public import Idealize.ShloMosaic.Lib.Claim
@[expose] public section

/-!
# The AdamW step of the ConvFFN's down-projection in the second layer: the kernel's results are the reference's
-/

set_option maxRecDepth 16384
noncomputable section
namespace Cert.Proof
open Idealize.ShloMosaic Idealize.ShloMosaic.TcCoe Idealize.SL.Sem Cert.Reference15Ideal

/-- The weights of one layer. -/
theorem adam_down1_at (v : FVec Ideal S2x352x1024 .f32) (h : S2x352x1024.Slices ![1, 0, 0] S1x352x1024) (h' : S1x352x1024.ShapeCasts S352x1024) (r : Fin 352) (x : Fin 1024) :
    @Eq EReal (shapeCast S352x1024 (extractStridedSlice S1x352x1024 ![1, 0, 0] v h) h' (ix2 r x)) (v (ix3 1 r x)) := by
  pointwise []

/-- The value claim of the step. -/
theorem adam_down1_algebraic : Cert.algebraic_Kernel15Ideal_Reference15Ideal := by
  intro m g m' g' _ hagree
  refine ⟨fun c => (Cert.Kernel15Ideal.Gen.dats m 0 c).arrAt 4 Cert.Kernel15Ideal.cfg0.N,
    fun c => (Cert.Kernel15Ideal.Gen.dats m 0 c).arrAt 5 Cert.Kernel15Ideal.cfg0.N,
    fun c => (Cert.Kernel15Ideal.Gen.dats m 0 c).arrAt 6 Cert.Kernel15Ideal.cfg0.N,
    fun c => (Cert.Kernel15Ideal.Gen.dats m 0 c).arrAt 7 Cert.Kernel15Ideal.cfg0.N, Cert.Kernel15Ideal.Value.run_blocks m g, ?_⟩
  refine (θ_run Cert.Reference15Ideal.defs _ _).mono (fun r h c => ?_) (Cert.Reference15Ideal.Value.run (F := Ideal) m' g')
  obtain ⟨h0, h1, h2, h3, hargs⟩ := h c
  obtain ⟨e0, e1, e2, e3⟩ := hagree c
  refine ⟨h0.trans ?_, h1.trans ?_, h2.trans ?_, h3.trans ?_, hargs⟩
  · rw [e0]
    exact (Adam.grad_eq _ _ _).trans (Cert.Kernel15Ideal.Hand.grad_array m c).symm
  · rw [e0, e1, e2, e3]
    exact (Adam.delta_eq _ _ _ _ _ _ _ (adam_down1_at _ _ _) (adam_down1_at _ _ _) (adam_down1_at _ _ _)).trans (Cert.Kernel15Ideal.Hand.delta_array m c).symm
  · rw [e0, e2]
    exact (Adam.first_eq _ _ _ _ _ (adam_down1_at _ _ _)).trans (Cert.Kernel15Ideal.Hand.first_array m c).symm
  · rw [e0, e3]
    exact (Adam.second_eq _ _ _ _ _ (adam_down1_at _ _ _)).trans (Cert.Kernel15Ideal.Hand.second_array m c).symm

/-- The reference runs to its end, leaves its arguments unchanged, and declares no counter that could stay raised. -/
theorem adam_down1_reference_frame : Cert.quiescent_Reference15Ideal := fun m g _ =>
  (θ_run Cert.Reference15Ideal.defs _ _).mono
    (fun r h => ⟨fun c => (h c).2.2.2.2, Idealize.ShloMosaic.sem_eq_zero_of_no_sems (by decide) r.2⟩)
    (Cert.Reference15Ideal.Value.run m g)

end Cert.Proof
-- ==== Proof.Adam.Small.lean ====
module
public import proofs.«01_k».proof.Proof.Gen.Kernel16Ideal.Value
public import proofs.«01_k».proof.Proof.Adam.Spec
public import Idealize.ShloMosaic.Lib.Pipeline.ValueKit
public import Idealize.ShloMosaic.Lib.Pipeline.ReadBack
@[expose] public section

/-!
# The AdamW step of the small weights, packed in rows: the kernel
-/

set_option maxRecDepth 16384
noncomputable section
namespace Cert.Kernel16Ideal.Hand
open Cert.Kernel16Ideal Cert.Kernel16Ideal.Gen Idealize.ShloMosaic Idealize.ShloMosaic.TcCoe Idealize.SL.Sem
variable (m : (ℓ : Loc nD τ sig) → Buf (Elt Ideal) ℓ)

/-- The gradient, the weights and the two moments. -/
def aG (c : Dev nD) (r : Fin 224) (x : Fin 128) : EReal := m ((c : Thread nD τ).loc main_arg0) (ix2 r x)
@[inherit_doc aG]
def aW (c : Dev nD) (r : Fin 224) (x : Fin 128) : EReal := m ((c : Thread nD τ).loc main_arg1) (ix2 r x)
@[inherit_doc aG]
def aM (c : Dev nD) (r : Fin 224) (x : Fin 128) : EReal := m ((c : Thread nD τ).loc main_arg2) (ix2 r x)
@[inherit_doc aG]
def aV (c : Dev nD) (r : Fin 224) (x : Fin 128) : EReal := m ((c : Thread nD τ).loc main_arg3) (ix2 r x)

theorem V0_eq (c : Dev nD) (r : Fin 224) (x : Fin 128) : @Eq EReal (V m c main_v0 (ix3 0 r x)) (aG m c r x) := by
  unfold V
  simp only [hostOps0, StableHlo.after_cons, StableHlo.after_nil]
  after_results_simp
  pointwise [aG]

/-- The row of the weights at row `r` of a grid point's block. -/
def row (t : Fin cfg0.N) (r : Fin 32) : Fin 224 := ⟨t.val * 32 + r.val, by
  have h := lt_of_lt_of_eq t.isLt (show cfg0.N = 7 from N_0); omega⟩

theorem idx : ∀ t : Fin cfg0.N, win0_0.index t = ![0, t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] ∧
    win0_7.index t = ![t.val, 0] :=
  (by decide +kernel : ∀ t : Fin grid0.N, _)

theorem b0_eq (c : Dev nD) (t : Fin cfg0.N) (r : Fin 32) (x : Fin 128) : @Eq EReal (iblk m c 0 t (ix3 0 r x)) (aG m c (row t r) x) := by
  refine Eq.trans ?_ (V0_eq m c (row t r) x)
  blk_ext [iblk, idx t, row]

theorem b1_eq (c : Dev nD) (t : Fin cfg0.N) (r : Fin 32) (x : Fin 128) : @Eq EReal (iblk m c 1 t (ix2 r x)) (aW m c (row t r) x) := by
  refine Eq.trans ?_ (congrFun (V_main_arg1 m c) (ix2 (row t r) x))
  blk_ext [iblk, idx t, row]

theorem b2_eq (c : Dev nD) (t : Fin cfg0.N) (r : Fin 32) (x : Fin 128) : @Eq EReal (iblk m c 2 t (ix2 r x)) (aM m c (row t r) x) := by
  refine Eq.trans ?_ (congrFun (V_main_arg2 m c) (ix2 (row t r) x))
  blk_ext [iblk, idx t, row]

theorem b3_eq (c : Dev nD) (t : Fin cfg0.N) (r : Fin 32) (x : Fin 128) : @Eq EReal (iblk m c 3 t (ix2 r x)) (aV m c (row t r) x) := by
  refine Eq.trans ?_ (congrFun (V_main_arg3 m c) (ix2 (row t r) x))
  blk_ext [iblk, idx t, row]

section
variable (x0 : Vec Ideal S1x32x128 .f32) (x1 x2 x3 : Vec Ideal S32x128 .f32) (r : Fin 32) (x : Fin 128)

theorem grad_at : @Eq EReal (k0_pay1 (F := Ideal) x0 (ix2 r x)) (x0 (ix3 0 r x)) := by
  pointwise [k0_pay1]

theorem first_at : @Eq EReal (k0_pay2 (F := Ideal) x0 x2 (ix2 r x)) (Adam.first (x0 (ix3 0 r x)) (x2 (ix2 r x))) := by
  pointwise [k0_pay2, k0_pay1, Adam.first, Adam.beta1, Adam.rest1]

theorem second_at : @Eq EReal (k0_pay3 (F := Ideal) x0 x3 (ix2 r x)) (Adam.second (x0 (ix3 0 r x)) (x3 (ix2 r x))) := by
  pointwise [k0_pay3, k0_pay1, Adam.second, Adam.beta2, Adam.rest2]

theorem delta_at : @Eq EReal (k0_pay4 (F := Ideal) x0 x1 x2 x3 (ix2 r x))
    (Adam.delta (x0 (ix3 0 r x)) (x1 (ix2 r x)) (x2 (ix2 r x)) (x3 (ix2 r x))) := by
  pointwise [k0_pay4, Adam.delta, Adam.corr1, Adam.corr2, Adam.small, Adam.decay, Adam.rate]
  rw [first_at, second_at]

end

theorem grad_point (c : Dev nD) (t : Fin cfg0.N) (r : Fin 32) (x : Fin 128) :
    @Eq EReal (k0_pay1 (F := Ideal) (iblk m c 0 t) (ix2 r x)) (aG m c (row t r) x) :=
  (grad_at _ r x).trans (b0_eq m c t r x)

theorem delta_point (c : Dev nD) (t : Fin cfg0.N) (r : Fin 32) (x : Fin 128) :
    @Eq EReal (k0_pay4 (F := Ideal) (iblk m c 0 t) (iblk m c 1 t) (iblk m c 2 t) (iblk m c 3 t) (ix2 r x))
      (Adam.delta (aG m c (row t r) x) (aW m c (row t r) x) (aM m c (row t r) x) (aV m c (row t r) x)) :=
  (delta_at _ _ _ _ r x).trans (Adam.delta_congr (b0_eq m c t r x) (b1_eq m c t r x) (b2_eq m c t r x) (b3_eq m c t r x))

theorem first_point (c : Dev nD) (t : Fin cfg0.N) (r : Fin 32) (x : Fin 128) :
    @Eq EReal (k0_pay2 (F := Ideal) (iblk m c 0 t) (iblk m c 2 t) (ix2 r x)) (Adam.first (aG m c (row t r) x) (aM m c (row t r) x)) :=
  (first_at _ _ r x).trans (Adam.first_congr (b0_eq m c t r x) (b2_eq m c t r x))

theorem second_point (c : Dev nD) (t : Fin cfg0.N) (r : Fin 32) (x : Fin 128) :
    @Eq EReal (k0_pay3 (F := Ideal) (iblk m c 0 t) (iblk m c 3 t) (ix2 r x)) (Adam.second (aG m c (row t r) x) (aV m c (row t r) x)) :=
  (second_at _ _ r x).trans (Adam.second_congr (b0_eq m c t r x) (b3_eq m c t r x))

/-- The gradient, as the kernel leaves it. -/
theorem grad_array (c : Dev nD) : (dats m 0 c).arrAt 4 cfg0.N = fun i : S224x128.Idx => aG m c (i 0) (i 1) := by
  refine (dats m 0 c).arrAt_eq_of_covers 4 _ (by decide +kernel) fun t hf y => ?_
  blk_simp [idx t]
  rw [after0_4]
  obtain ⟨r, x, rfl⟩ : ∃ (r : Fin 32) (x : Fin 128), y = ix2 r x := ⟨y 0, y 1, eq_ix2 (n0 := 32) (n1 := 128) y⟩
  unfold out0_4
  frame_out
  refine (grad_point m c t r x).trans (Adam.at_congr (f := aG m c) ?_ ?_)
  all_goals refine Fin.ext ?_; blk_simp [idx t, row]

/-- The change of the weights, as the kernel leaves it. -/
theorem delta_array (c : Dev nD) : (dats m 0 c).arrAt 5 cfg0.N =
    fun i : S224x128.Idx => Adam.delta (aG m c (i 0) (i 1)) (aW m c (i 0) (i 1)) (aM m c (i 0) (i 1)) (aV m c (i 0) (i 1)) := by
  refine (dats m 0 c).arrAt_eq_of_covers 5 _ (by decide +kernel) fun t hf y => ?_
  blk_simp [idx t]
  rw [after0_5]
  obtain ⟨r, x, rfl⟩ : ∃ (r : Fin 32) (x : Fin 128), y = ix2 r x := ⟨y 0, y 1, eq_ix2 (n0 := 32) (n1 := 128) y⟩
  unfold out0_5
  frame_out
  refine (delta_point m c t r x).trans (Adam.at_congr (f := fun r x => Adam.delta (aG m c r x) (aW m c r x) (aM m c r x) (aV m c r x)) ?_ ?_)
  all_goals refine Fin.ext ?_; blk_simp [idx t, row]

/-- The first moment, as the kernel leaves it. -/
theorem first_array (c : Dev nD) : (dats m 0 c).arrAt 6 cfg0.N =
    fun i : S224x128.Idx => Adam.first (aG m c (i 0) (i 1)) (aM m c (i 0) (i 1)) := by
  refine (dats m 0 c).arrAt_eq_of_covers 6 _ (by decide +kernel) fun t hf y => ?_
  blk_simp [idx t]
  rw [after0_6]
  obtain ⟨r, x, rfl⟩ : ∃ (r : Fin 32) (x : Fin 128), y = ix2 r x := ⟨y 0, y 1, eq_ix2 (n0 := 32) (n1 := 128) y⟩
  unfold out0_6
  frame_out
  refine (first_point m c t r x).trans (Adam.at_congr (f := fun r x => Adam.first (aG m c r x) (aM m c r x)) ?_ ?_)
  all_goals refine Fin.ext ?_; blk_simp [idx t, row]

/-- The second moment, as the kernel leaves it. -/
theorem second_array (c : Dev nD) : (dats m 0 c).arrAt 7 cfg0.N =
    fun i : S224x128.Idx => Adam.second (aG m c (i 0) (i 1)) (aV m c (i 0) (i 1)) := by
  refine (dats m 0 c).arrAt_eq_of_covers 7 _ (by decide +kernel) fun t hf y => ?_
  blk_simp [idx t]
  rw [after0_7]
  obtain ⟨r, x, rfl⟩ : ∃ (r : Fin 32) (x : Fin 128), y = ix2 r x := ⟨y 0, y 1, eq_ix2 (n0 := 32) (n1 := 128) y⟩
  unfold out0_7
  frame_out
  refine (second_point m c t r x).trans (Adam.at_congr (f := fun r x => Adam.second (aG m c r x) (aV m c r x)) ?_ ?_)
  all_goals refine Fin.ext ?_; blk_simp [idx t, row]

end Cert.Kernel16Ideal.Hand
-- ==== Proof.Adam.SmallEqual.lean ====
module
public import proofs.«01_k».proof.Defs
public import proofs.«01_k».proof.Proof.Adam.Small
public import proofs.«01_k».proof.Proof.Adam.Ops
public import proofs.«01_k».proof.Proof.Gen.Reference16Ideal.Run
public import Idealize.ShloMosaic.Lib.Claim
@[expose] public section

/-!
# The AdamW step of the small weights: the kernel's results are the reference's
-/

set_option maxRecDepth 16384
noncomputable section
namespace Cert.Proof
open Idealize.ShloMosaic Idealize.ShloMosaic.TcCoe Idealize.SL.Sem Cert.Reference16Ideal

/-- The value claim of the step. -/
theorem adam_small_algebraic : Cert.algebraic_Kernel16Ideal_Reference16Ideal := by
  intro m g m' g' _ hagree
  refine ⟨fun c => (Cert.Kernel16Ideal.Gen.dats m 0 c).arrAt 4 Cert.Kernel16Ideal.cfg0.N,
    fun c => (Cert.Kernel16Ideal.Gen.dats m 0 c).arrAt 5 Cert.Kernel16Ideal.cfg0.N,
    fun c => (Cert.Kernel16Ideal.Gen.dats m 0 c).arrAt 6 Cert.Kernel16Ideal.cfg0.N,
    fun c => (Cert.Kernel16Ideal.Gen.dats m 0 c).arrAt 7 Cert.Kernel16Ideal.cfg0.N, Cert.Kernel16Ideal.Value.run_blocks m g, ?_⟩
  refine (θ_run Cert.Reference16Ideal.defs _ _).mono (fun r h c => ?_) (Cert.Reference16Ideal.Value.run (F := Ideal) m' g')
  obtain ⟨h0, h1, h2, h3, hargs⟩ := h c
  obtain ⟨e0, e1, e2, e3⟩ := hagree c
  refine ⟨h0.trans ?_, h1.trans ?_, h2.trans ?_, h3.trans ?_, h0, hargs.2⟩
  · rw [e0]
    refine Eq.trans (funext fun i => ?_) (Cert.Kernel16Ideal.Hand.grad_array m c).symm
    exact congrArg (m _) (eq_ix2 i)
  · rw [e0, e1, e2, e3]
    exact Eq.trans (Adam.ext2 fun r x => Adam.delta_op _ _ _ _ _ _) (Cert.Kernel16Ideal.Hand.delta_array m c).symm
  · rw [e0, e2]
    exact Eq.trans (Adam.ext2 fun r x => Adam.first_op _ _ _ _) (Cert.Kernel16Ideal.Hand.first_array m c).symm
  · rw [e0, e3]
    exact Eq.trans (Adam.ext2 fun r x => Adam.second_op _ _ _ _) (Cert.Kernel16Ideal.Hand.second_array m c).symm

/-- The reference runs to its end, leaves its arguments unchanged, and declares no counter that could stay raised. -/
theorem adam_small_reference_frame : Cert.quiescent_Reference16Ideal := fun m g _ =>
  (θ_run Cert.Reference16Ideal.defs _ _).mono
    (fun r h => ⟨fun c => (h c).2.2.2.2, Idealize.ShloMosaic.sem_eq_zero_of_no_sems (by decide) r.2⟩)
    (Cert.Reference16Ideal.Value.run m g)

end Cert.Proof
-- ==== Proof.Adam.Parts.lean ====
module
public import proofs.«01_k».proof.Defs
public import proofs.«01_k».proof.Proof.Adam.Ops
public import proofs.«01_k».proof.Proof.Gen.Kernel17Ideal.Value
public import proofs.«01_k».proof.Proof.Gen.Reference17Ideal.Run
public import Idealize.ShloMosaic.Lib.Pipeline.ReadBack
public import Idealize.ShloMosaic.Lib.Claim
@[expose] public section

/-!
# The sum of the devices' parts of the small gradients and of the loss
-/

set_option maxRecDepth 16384
noncomputable section
namespace Cert.Proof
open Idealize.ShloMosaic Idealize.ShloMosaic.TcCoe Idealize.SL.Sem Cert.Reference17Ideal

/-- An element of the kernel's result is the sum of the eight parts at its place. -/
theorem parts_at (p : Vec Ideal S8x464x128 .f32) (r : Fin 464) (x : Fin 128) :
    @Eq EReal (Cert.Kernel17Ideal.Value.G1 p (ix2 r x)) (Adam.grad fun s => p (ix3 s r x)) := by
  unfold Adam.grad
  rw [Fin.sum_univ_eight]
  pointwise [Cert.Kernel17Ideal.Gen.k0_pay1]

/-- The value claim of the sum. -/
theorem parts_algebraic : Cert.algebraic_Kernel17Ideal_Reference17Ideal := by
  intro m g m' g' _ hagree
  refine ⟨_, Cert.Kernel17Ideal.Value.run m g, ?_⟩
  refine (θ_run Cert.Reference17Ideal.defs _ _).mono (fun r h c => ⟨(h c).1.trans ?_, (h c).2⟩)
    (Cert.Reference17Ideal.Value.run (F := Ideal) m' g')
  rw [hagree c]
  exact Adam.ext2 fun r x => (Adam.grad_op _ _ _ r x).trans (parts_at _ r x).symm

/-- The reference runs to its end, leaves its argument unchanged, and declares no counter that could stay raised. -/
theorem parts_reference_frame : Cert.quiescent_Reference17Ideal := fun m g _ =>
  (θ_run Cert.Reference17Ideal.defs _ _).mono
    (fun r h => ⟨fun c => (h c).2, Idealize.ShloMosaic.sem_eq_zero_of_no_sems (by decide) r.2⟩)
    (Cert.Reference17Ideal.Value.run m g)

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gate.Equal
public import proofs.«01_k».proof.Proof.Dwin.Equal
public import proofs.«01_k».proof.Proof.Dh.Equal
public import proofs.«01_k».proof.Proof.Up.Equal
public import proofs.«01_k».proof.Proof.Down.Equal
public import proofs.«01_k».proof.Proof.Dx.Equal
public import proofs.«01_k».proof.Proof.Hdwin.Equal
public import proofs.«01_k».proof.Proof.Hin.Equal
public import proofs.«01_k».proof.Proof.Adam.WinEqual
public import proofs.«01_k».proof.Proof.Adam.WoutEqual
public import proofs.«01_k».proof.Proof.Adam.WkvEqual
public import proofs.«01_k».proof.Proof.Adam.Up0Equal
public import proofs.«01_k».proof.Proof.Adam.Up1Equal
public import proofs.«01_k».proof.Proof.Adam.Down0Equal
public import proofs.«01_k».proof.Proof.Adam.Down1Equal
public import proofs.«01_k».proof.Proof.Adam.SmallEqual
public import proofs.«01_k».proof.Proof.Adam.Parts
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import Idealize.ShloMosaic.Adequacy
public import Idealize.ShloMosaic.Init

@[expose] public section

noncomputable section

namespace Cert.Proof

open Idealize.ShloMosaic Idealize.SL.Sem Cert.Kernel

/-- The reference runs to its end, leaves its arguments unchanged, and declares no counter that could stay raised. -/
theorem reference_frame : Cert.quiescent_ReferenceIdeal := fun m g _ =>
  (θ_run Cert.ReferenceIdeal.defs _ _).mono
    (fun r h => ⟨fun c => (h c).2.2.2, Idealize.ShloMosaic.sem_eq_zero_of_no_sems (by decide) r.2⟩)
    (Cert.ReferenceIdeal.Value.run m g)

/-- Every claim. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts,
    Cert.Reference4Ideal.Gen.facts, Cert.Kernel5.Gen.facts, Cert.Kernel5Ideal.Gen.facts,
    Cert.Reference5Ideal.Gen.facts, Cert.Kernel6.Gen.facts, Cert.Kernel6Ideal.Gen.facts,
    Cert.Reference6Ideal.Gen.facts, Cert.Kernel7.Gen.facts, Cert.Kernel7Ideal.Gen.facts,
    Cert.Reference7Ideal.Gen.facts, Cert.Kernel8.Gen.facts, Cert.Kernel8Ideal.Gen.facts,
    Cert.Reference8Ideal.Gen.facts, Cert.Kernel9.Gen.facts, Cert.Kernel9Ideal.Gen.facts,
    Cert.Reference9Ideal.Gen.facts, Cert.Kernel10.Gen.facts, Cert.Kernel10Ideal.Gen.facts,
    Cert.Reference10Ideal.Gen.facts, Cert.Kernel11.Gen.facts, Cert.Kernel11Ideal.Gen.facts,
    Cert.Reference11Ideal.Gen.facts, Cert.Kernel12.Gen.facts, Cert.Kernel12Ideal.Gen.facts,
    Cert.Reference12Ideal.Gen.facts, Cert.Kernel13.Gen.facts, Cert.Kernel13Ideal.Gen.facts,
    Cert.Reference13Ideal.Gen.facts, Cert.Kernel14.Gen.facts, Cert.Kernel14Ideal.Gen.facts,
    Cert.Reference14Ideal.Gen.facts, Cert.Kernel15.Gen.facts, Cert.Kernel15Ideal.Gen.facts,
    Cert.Reference15Ideal.Gen.facts, Cert.Kernel16.Gen.facts, Cert.Kernel16Ideal.Gen.facts,
    Cert.Reference16Ideal.Gen.facts, Cert.Kernel17.Gen.facts, Cert.Kernel17Ideal.Gen.facts,
    Cert.Reference17Ideal.Gen.facts, pre_facts, dh_pre_facts,
    fun m g _ => Cert.Kernel.Gen.frame m g,
    fun m g _ => Cert.KernelIdeal.Gen.frame m g,
    fun m g _ => Cert.KernelIdeal.Gen.frame m g,
    reference_frame,
    fun m g _ => reference_frame m g trivial,
    fun m g _ => Cert.Kernel2.Gen.frame m g,
    fun m g _ => Cert.Kernel2Ideal.Gen.frame m g,
    dwin_reference_frame,
    fun m g _ => Cert.Kernel3.Gen.frame m g,
    fun m g _ => Cert.Kernel3Ideal.Gen.frame m g,
    fun m g _ => Cert.Kernel3Ideal.Gen.frame m g,
    dh_reference_frame,
    fun m g _ => dh_reference_frame m g trivial,
    fun m g _ => Cert.Kernel4.Gen.frame m g,
    fun m g _ => Cert.Kernel4Ideal.Gen.frame m g,
    up_reference_frame,
    fun m g _ => Cert.Kernel5.Gen.frame m g,
    fun m g _ => Cert.Kernel5Ideal.Gen.frame m g,
    down_reference_frame,
    fun m g _ => Cert.Kernel6.Gen.frame m g,
    fun m g _ => Cert.Kernel6Ideal.Gen.frame m g,
    hgrn_dx_reference_frame,
    fun m g _ => Cert.Kernel7.Gen.frame m g,
    fun m g _ => Cert.Kernel7Ideal.Gen.frame m g,
    hgrn_dwin_reference_frame,
    fun m g _ => Cert.Kernel8.Gen.frame m g,
    fun m g _ => Cert.Kernel8Ideal.Gen.frame m g,
    hgrn_in_reference_frame,
    fun m g _ => Cert.Kernel9.Gen.frame m g,
    fun m g _ => Cert.Kernel9Ideal.Gen.frame m g,
    adam_win_reference_frame,
    fun m g _ => Cert.Kernel10.Gen.frame m g,
    fun m g _ => Cert.Kernel10Ideal.Gen.frame m g,
    adam_wout_reference_frame,
    fun m g _ => Cert.Kernel11.Gen.frame m g,
    fun m g _ => Cert.Kernel11Ideal.Gen.frame m g,
    adam_wkv_reference_frame,
    fun m g _ => Cert.Kernel12.Gen.frame m g,
    fun m g _ => Cert.Kernel12Ideal.Gen.frame m g,
    adam_up0_reference_frame,
    fun m g _ => Cert.Kernel13.Gen.frame m g,
    fun m g _ => Cert.Kernel13Ideal.Gen.frame m g,
    adam_up1_reference_frame,
    fun m g _ => Cert.Kernel14.Gen.frame m g,
    fun m g _ => Cert.Kernel14Ideal.Gen.frame m g,
    adam_down0_reference_frame,
    fun m g _ => Cert.Kernel15.Gen.frame m g,
    fun m g _ => Cert.Kernel15Ideal.Gen.frame m g,
    adam_down1_reference_frame,
    fun m g _ => Cert.Kernel16.Gen.frame m g,
    fun m g _ => Cert.Kernel16Ideal.Gen.frame m g,
    adam_small_reference_frame,
    fun m g _ => Cert.Kernel17.Gen.frame m g,
    fun m g _ => Cert.Kernel17Ideal.Gen.frame m g,
    parts_reference_frame,
    trivial,
    algebraic,
    trivial,
    dwin_algebraic,
    trivial,
    dh_algebraic,
    trivial,
    up_algebraic,
    trivial,
    down_algebraic,
    trivial,
    hgrn_dx_algebraic,
    trivial,
    hgrn_dwin_algebraic,
    trivial,
    hgrn_in_algebraic,
    trivial,
    adam_win_algebraic,
    trivial,
    adam_wout_algebraic,
    trivial,
    adam_wkv_algebraic,
    trivial,
    adam_up0_algebraic,
    trivial,
    adam_up1_algebraic,
    trivial,
    adam_down0_algebraic,
    trivial,
    adam_down1_algebraic,
    trivial,
    adam_small_algebraic,
    trivial,
    parts_algebraic⟩

end Cert.Proof

end
